-- ==== Defs.lean ====
def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwQkv (m : (ℓ : Loc Cert.DwQkv.nD Cert.DwQkv.τ Cert.DwQkv.sig) → Buf (Elt Bits) ℓ) : Prop :=
  True

def Pre_DwQkvIdeal (m : (ℓ : Loc Cert.DwQkvIdeal.nD Cert.DwQkvIdeal.τ Cert.DwQkvIdeal.sig) → Buf (Elt Ideal) ℓ) : Prop :=
  True

def Pre_DwQkvRefIdeal (m : (ℓ : Loc Cert.DwQkvRefIdeal.nD Cert.DwQkvRefIdeal.τ Cert.DwQkvRefIdeal.sig) → Buf (Elt Ideal) ℓ) : Prop :=
  True

def Pre_Da (m : (ℓ : Loc Cert.Da.nD Cert.Da.τ Cert.Da.sig) → Buf (Elt Bits) ℓ) : Prop :=
  True

def Pre_DaIdeal (m : (ℓ : Loc Cert.DaIdeal.nD Cert.DaIdeal.τ Cert.DaIdeal.sig) → Buf (Elt Ideal) ℓ) : Prop :=
  True

def Pre_DaRefIdeal (m : (ℓ : Loc Cert.DaRefIdeal.nD Cert.DaRefIdeal.τ Cert.DaRefIdeal.sig) → Buf (Elt Ideal) ℓ) : Prop :=
  True

def Pre_DaRef (m : (ℓ : Loc Cert.DaRef.nD Cert.DaRef.τ Cert.DaRef.sig) → Buf (Elt Bits) ℓ) : Prop :=
  True

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnRefIdeal (m : (ℓ : Loc Cert.LnRefIdeal.nD Cert.LnRefIdeal.τ Cert.LnRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2)
      ∧ r.2.mem ((c.tc : Thread Cert.DwOut.nD Cert.DwOut.τ).loc Cert.DwOut.main_arg3) = m ((c.tc : Thread Cert.DwOut.nD Cert.DwOut.τ).loc Cert.DwOut.main_arg3))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
      ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2)
      ∧ r.2.mem ((c.tc : Thread Cert.DwOutRefIdeal.nD Cert.DwOutRefIdeal.τ).loc Cert.DwOutRefIdeal.main_arg3) = m ((c.tc : Thread Cert.DwOutRefIdeal.nD Cert.DwOutRefIdeal.τ).loc Cert.DwOutRefIdeal.main_arg3))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2)
      ∧ r.2.mem ((c.tc : Thread Cert.DwIn.nD Cert.DwIn.τ).loc Cert.DwIn.main_arg3) = m ((c.tc : Thread Cert.DwIn.nD Cert.DwIn.τ).loc Cert.DwIn.main_arg3)
      ∧ r.2.mem ((c.tc : Thread Cert.DwIn.nD Cert.DwIn.τ).loc Cert.DwIn.main_arg4) = m ((c.tc : Thread Cert.DwIn.nD Cert.DwIn.τ).loc Cert.DwIn.main_arg4))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
      ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
      ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2)
      ∧ r.2.mem ((c.tc : Thread Cert.DwInRefIdeal.nD Cert.DwInRefIdeal.τ).loc Cert.DwInRefIdeal.main_arg3) = m ((c.tc : Thread Cert.DwInRefIdeal.nD Cert.DwInRefIdeal.τ).loc Cert.DwInRefIdeal.main_arg3)
      ∧ r.2.mem ((c.tc : Thread Cert.DwInRefIdeal.nD Cert.DwInRefIdeal.τ).loc Cert.DwInRefIdeal.main_arg4) = m ((c.tc : Thread Cert.DwInRefIdeal.nD Cert.DwInRefIdeal.τ).loc Cert.DwInRefIdeal.main_arg4))
      ∧ r.2.sem = fun _ => 0)

def quiescent_DwQkv [hDwQkv : Cert.DwQkv.Facts] : Prop :=
  ∀ (m : (ℓ : Loc Cert.DwQkv.nD Cert.DwQkv.τ Cert.DwQkv.sig) → Buf (Elt Bits) ℓ) (g : Dev Cert.DwQkv.nD → PrngReg), Pre_DwQkv m →
    θ_run (Cert.DwQkv.defs (F := Bits)) (onTc (τ := Cert.DwQkv.τ) (Cert.DwQkv.main (F := Bits))) ⟨m, fun _ => 0, g⟩ (fun r => (∀ c : Dev Cert.DwQkv.nD,
      r.2.mem ((c.tc : Thread Cert.DwQkv.nD Cert.DwQkv.τ).loc Cert.DwQkv.main_arg0) = m ((c.tc : Thread Cert.DwQkv.nD Cert.DwQkv.τ).loc Cert.DwQkv.main_arg0)
      ∧ r.2.mem ((c.tc : Thread Cert.DwQkv.nD Cert.DwQkv.τ).loc Cert.DwQkv.main_arg1) = m ((c.tc : Thread Cert.DwQkv.nD Cert.DwQkv.τ).loc Cert.DwQkv.main_arg1)
      ∧ r.2.mem ((c.tc : Thread Cert.DwQkv.nD Cert.DwQkv.τ).loc Cert.DwQkv.main_arg2) = m ((c.tc : Thread Cert.DwQkv.nD Cert.DwQkv.τ).loc Cert.DwQkv.main_arg2)
      ∧ r.2.mem ((c.tc : Thread Cert.DwQkv.nD Cert.DwQkv.τ).loc Cert.DwQkv.main_arg3) = m ((c.tc : Thread Cert.DwQkv.nD Cert.DwQkv.τ).loc Cert.DwQkv.main_arg3)
      ∧ r.2.mem ((c.tc : Thread Cert.DwQkv.nD Cert.DwQkv.τ).loc Cert.DwQkv.main_arg4) = m ((c.tc : Thread Cert.DwQkv.nD Cert.DwQkv.τ).loc Cert.DwQkv.main_arg4))
      ∧ r.2.sem = fun _ => 0)

def quiescent_DwQkvIdeal [hDwQkvIdeal : Cert.DwQkvIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg), Pre_DwQkvIdeal m →
    θ_run (Cert.DwQkvIdeal.defs (F := Ideal)) (onTc (τ := Cert.DwQkvIdeal.τ) (Cert.DwQkvIdeal.main (F := Ideal))) ⟨m, fun _ => 0, g⟩ (fun r => (∀ c : Dev Cert.DwQkvIdeal.nD,
      r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
      ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
      ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2)
      ∧ r.2.mem ((c.tc : Thread Cert.DwQkvIdeal.nD Cert.DwQkvIdeal.τ).loc Cert.DwQkvIdeal.main_arg3) = m ((c.tc : Thread Cert.DwQkvIdeal.nD Cert.DwQkvIdeal.τ).loc Cert.DwQkvIdeal.main_arg3)
      ∧ r.2.mem ((c.tc : Thread Cert.DwQkvIdeal.nD Cert.DwQkvIdeal.τ).loc Cert.DwQkvIdeal.main_arg4) = m ((c.tc : Thread Cert.DwQkvIdeal.nD Cert.DwQkvIdeal.τ).loc Cert.DwQkvIdeal.main_arg4))
      ∧ r.2.sem = fun _ => 0)

def quiescent_DwQkvRefIdeal [hDwQkvRefIdeal : Cert.DwQkvRefIdeal.Facts] : Prop :=
  ∀ (m : (ℓ : Loc Cert.DwQkvRefIdeal.nD Cert.DwQkvRefIdeal.τ Cert.DwQkvRefIdeal.sig) → Buf (Elt Ideal) ℓ) (g : Dev Cert.DwQkvRefIdeal.nD → PrngReg), Pre_DwQkvRefIdeal m →
    θ_run (Cert.DwQkvRefIdeal.defs (F := Ideal)) (onTc (τ := Cert.DwQkvRefIdeal.τ) (Cert.DwQkvRefIdeal.main (F := Ideal))) ⟨m, fun _ => 0, g⟩ (fun r => (∀ c : Dev Cert.DwQkvRefIdeal.nD,
      r.2.mem ((c.tc : Thread Cert.DwQkvRefIdeal.nD Cert.DwQkvRefIdeal.τ).loc Cert.DwQkvRefIdeal.main_arg0) = m ((c.tc : Thread Cert.DwQkvRefIdeal.nD Cert.DwQkvRefIdeal.τ).loc Cert.DwQkvRefIdeal.main_arg0)
      ∧ r.2.mem ((c.tc : Thread Cert.DwQkvRefIdeal.nD Cert.DwQkvRefIdeal.τ).loc Cert.DwQkvRefIdeal.main_arg1) = m ((c.tc : Thread Cert.DwQkvRefIdeal.nD Cert.DwQkvRefIdeal.τ).loc Cert.DwQkvRefIdeal.main_arg1)
      ∧ r.2.mem ((c.tc : Thread Cert.DwQkvRefIdeal.nD Cert.DwQkvRefIdeal.τ).loc Cert.DwQkvRefIdeal.main_arg2) = m ((c.tc : Thread Cert.DwQkvRefIdeal.nD Cert.DwQkvRefIdeal.τ).loc Cert.DwQkvRefIdeal.main_arg2)
      ∧ r.2.mem ((c.tc : Thread Cert.DwQkvRefIdeal.nD Cert.DwQkvRefIdeal.τ).loc Cert.DwQkvRefIdeal.main_arg3) = m ((c.tc : Thread Cert.DwQkvRefIdeal.nD Cert.DwQkvRefIdeal.τ).loc Cert.DwQkvRefIdeal.main_arg3)
      ∧ r.2.mem ((c.tc : Thread Cert.DwQkvRefIdeal.nD Cert.DwQkvRefIdeal.τ).loc Cert.DwQkvRefIdeal.main_arg4) = m ((c.tc : Thread Cert.DwQkvRefIdeal.nD Cert.DwQkvRefIdeal.τ).loc Cert.DwQkvRefIdeal.main_arg4))
      ∧ r.2.sem = fun _ => 0)

def quiescent_Da [hDa : Cert.Da.Facts] : Prop :=
  ∀ (m : (ℓ : Loc Cert.Da.nD Cert.Da.τ Cert.Da.sig) → Buf (Elt Bits) ℓ) (g : Dev Cert.Da.nD → PrngReg), Pre_Da m →
    θ_run (Cert.Da.defs (F := Bits)) (onTc (τ := Cert.Da.τ) (Cert.Da.main (F := Bits))) ⟨m, fun _ => 0, g⟩ (fun r => (∀ c : Dev Cert.Da.nD,
      r.2.mem ((c.tc : Thread Cert.Da.nD Cert.Da.τ).loc Cert.Da.main_arg0) = m ((c.tc : Thread Cert.Da.nD Cert.Da.τ).loc Cert.Da.main_arg0)
      ∧ r.2.mem ((c.tc : Thread Cert.Da.nD Cert.Da.τ).loc Cert.Da.main_arg1) = m ((c.tc : Thread Cert.Da.nD Cert.Da.τ).loc Cert.Da.main_arg1)
      ∧ r.2.mem ((c.tc : Thread Cert.Da.nD Cert.Da.τ).loc Cert.Da.main_arg2) = m ((c.tc : Thread Cert.Da.nD Cert.Da.τ).loc Cert.Da.main_arg2)
      ∧ r.2.mem ((c.tc : Thread Cert.Da.nD Cert.Da.τ).loc Cert.Da.main_arg3) = m ((c.tc : Thread Cert.Da.nD Cert.Da.τ).loc Cert.Da.main_arg3)
      ∧ r.2.mem ((c.tc : Thread Cert.Da.nD Cert.Da.τ).loc Cert.Da.main_arg4) = m ((c.tc : Thread Cert.Da.nD Cert.Da.τ).loc Cert.Da.main_arg4)
      ∧ r.2.mem ((c.tc : Thread Cert.Da.nD Cert.Da.τ).loc Cert.Da.main_arg5) = m ((c.tc : Thread Cert.Da.nD Cert.Da.τ).loc Cert.Da.main_arg5))
      ∧ r.2.sem = fun _ => 0)

def quiescent_DaIdeal [hDaIdeal : Cert.DaIdeal.Facts] : Prop :=
  ∀ (m : (ℓ : Loc Cert.DaIdeal.nD Cert.DaIdeal.τ Cert.DaIdeal.sig) → Buf (Elt Ideal) ℓ) (g : Dev Cert.DaIdeal.nD → PrngReg), Pre_DaIdeal m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
      ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
      ∧ r.2.mem ((c.tc : Thread Cert.DaIdeal.nD Cert.DaIdeal.τ).loc Cert.DaIdeal.main_arg3) = m ((c.tc : Thread Cert.DaIdeal.nD Cert.DaIdeal.τ).loc Cert.DaIdeal.main_arg3)
      ∧ r.2.mem ((c.tc : Thread Cert.DaIdeal.nD Cert.DaIdeal.τ).loc Cert.DaIdeal.main_arg4) = m ((c.tc : Thread Cert.DaIdeal.nD Cert.DaIdeal.τ).loc Cert.DaIdeal.main_arg4)
      ∧ r.2.mem ((c.tc : Thread Cert.DaIdeal.nD Cert.DaIdeal.τ).loc Cert.DaIdeal.main_arg5) = m ((c.tc : Thread Cert.DaIdeal.nD Cert.DaIdeal.τ).loc Cert.DaIdeal.main_arg5))
      ∧ r.2.sem = fun _ => 0)

def quiescent_DaRefIdeal [hDaRefIdeal : Cert.DaRefIdeal.Facts] : Prop :=
  ∀ (m : (ℓ : Loc Cert.DaRefIdeal.nD Cert.DaRefIdeal.τ Cert.DaRefIdeal.sig) → Buf (Elt Ideal) ℓ) (g : Dev Cert.DaRefIdeal.nD → PrngReg), Pre_DaRefIdeal m →
    θ_run (Cert.DaRefIdeal.defs (F := Ideal)) (onTc (τ := Cert.DaRefIdeal.τ) (Cert.DaRefIdeal.main (F := Ideal))) ⟨m, fun _ => 0, g⟩ (fun r => (∀ c : Dev Cert.DaRefIdeal.nD,
      r.2.mem ((c.tc : Thread Cert.DaRefIdeal.nD Cert.DaRefIdeal.τ).loc Cert.DaRefIdeal.main_arg0) = m ((c.tc : Thread Cert.DaRefIdeal.nD Cert.DaRefIdeal.τ).loc Cert.DaRefIdeal.main_arg0)
      ∧ r.2.mem ((c.tc : Thread Cert.DaRefIdeal.nD Cert.DaRefIdeal.τ).loc Cert.DaRefIdeal.main_arg1) = m ((c.tc : Thread Cert.DaRefIdeal.nD Cert.DaRefIdeal.τ).loc Cert.DaRefIdeal.main_arg1)
      ∧ r.2.mem ((c.tc : Thread Cert.DaRefIdeal.nD Cert.DaRefIdeal.τ).loc Cert.DaRefIdeal.main_arg2) = m ((c.tc : Thread Cert.DaRefIdeal.nD Cert.DaRefIdeal.τ).loc Cert.DaRefIdeal.main_arg2)
      ∧ r.2.mem ((c.tc : Thread Cert.DaRefIdeal.nD Cert.DaRefIdeal.τ).loc Cert.DaRefIdeal.main_arg3) = m ((c.tc : Thread Cert.DaRefIdeal.nD Cert.DaRefIdeal.τ).loc Cert.DaRefIdeal.main_arg3)
      ∧ r.2.mem ((c.tc : Thread Cert.DaRefIdeal.nD Cert.DaRefIdeal.τ).loc Cert.DaRefIdeal.main_arg4) = m ((c.tc : Thread Cert.DaRefIdeal.nD Cert.DaRefIdeal.τ).loc Cert.DaRefIdeal.main_arg4)
      ∧ r.2.mem ((c.tc : Thread Cert.DaRefIdeal.nD Cert.DaRefIdeal.τ).loc Cert.DaRefIdeal.main_arg5) = m ((c.tc : Thread Cert.DaRefIdeal.nD Cert.DaRefIdeal.τ).loc Cert.DaRefIdeal.main_arg5))
      ∧ r.2.sem = fun _ => 0)

def quiescent_DaRef [hDaRef : Cert.DaRef.Facts] : Prop :=
  ∀ (m : (ℓ : Loc Cert.DaRef.nD Cert.DaRef.τ Cert.DaRef.sig) → Buf (Elt Bits) ℓ) (g : Dev Cert.DaRef.nD → PrngReg), Pre_DaRef m →
    θ_run (Cert.DaRef.defs (F := Bits)) (onTc (τ := Cert.DaRef.τ) (Cert.DaRef.main (F := Bits))) ⟨m, fun _ => 0, g⟩ (fun r => (∀ c : Dev Cert.DaRef.nD,
      r.2.mem ((c.tc : Thread Cert.DaRef.nD Cert.DaRef.τ).loc Cert.DaRef.main_arg0) = m ((c.tc : Thread Cert.DaRef.nD Cert.DaRef.τ).loc Cert.DaRef.main_arg0)
      ∧ r.2.mem ((c.tc : Thread Cert.DaRef.nD Cert.DaRef.τ).loc Cert.DaRef.main_arg1) = m ((c.tc : Thread Cert.DaRef.nD Cert.DaRef.τ).loc Cert.DaRef.main_arg1)
      ∧ r.2.mem ((c.tc : Thread Cert.DaRef.nD Cert.DaRef.τ).loc Cert.DaRef.main_arg2) = m ((c.tc : Thread Cert.DaRef.nD Cert.DaRef.τ).loc Cert.DaRef.main_arg2)
      ∧ r.2.mem ((c.tc : Thread Cert.DaRef.nD Cert.DaRef.τ).loc Cert.DaRef.main_arg3) = m ((c.tc : Thread Cert.DaRef.nD Cert.DaRef.τ).loc Cert.DaRef.main_arg3)
      ∧ r.2.mem ((c.tc : Thread Cert.DaRef.nD Cert.DaRef.τ).loc Cert.DaRef.main_arg4) = m ((c.tc : Thread Cert.DaRef.nD Cert.DaRef.τ).loc Cert.DaRef.main_arg4)
      ∧ r.2.mem ((c.tc : Thread Cert.DaRef.nD Cert.DaRef.τ).loc Cert.DaRef.main_arg5) = m ((c.tc : Thread Cert.DaRef.nD Cert.DaRef.τ).loc Cert.DaRef.main_arg5))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2)
      ∧ r.2.mem ((c.tc : Thread Cert.Ln.nD Cert.Ln.τ).loc Cert.Ln.main_arg3) = m ((c.tc : Thread Cert.Ln.nD Cert.Ln.τ).loc Cert.Ln.main_arg3)
      ∧ r.2.mem ((c.tc : Thread Cert.Ln.nD Cert.Ln.τ).loc Cert.Ln.main_arg4) = m ((c.tc : Thread Cert.Ln.nD Cert.Ln.τ).loc Cert.Ln.main_arg4)
      ∧ r.2.mem ((c.tc : Thread Cert.Ln.nD Cert.Ln.τ).loc Cert.Ln.main_arg5) = m ((c.tc : Thread Cert.Ln.nD Cert.Ln.τ).loc Cert.Ln.main_arg5)
      ∧ r.2.mem ((c.tc : Thread Cert.Ln.nD Cert.Ln.τ).loc Cert.Ln.main_arg6) = m ((c.tc : Thread Cert.Ln.nD Cert.Ln.τ).loc Cert.Ln.main_arg6)
      ∧ r.2.mem ((c.tc : Thread Cert.Ln.nD Cert.Ln.τ).loc Cert.Ln.main_arg7) = m ((c.tc : Thread Cert.Ln.nD Cert.Ln.τ).loc Cert.Ln.main_arg7)
      ∧ r.2.mem ((c.tc : Thread Cert.Ln.nD Cert.Ln.τ).loc Cert.Ln.main_arg8) = m ((c.tc : Thread Cert.Ln.nD Cert.Ln.τ).loc Cert.Ln.main_arg8)
      ∧ r.2.mem ((c.tc : Thread Cert.Ln.nD Cert.Ln.τ).loc Cert.Ln.main_arg9) = m ((c.tc : Thread Cert.Ln.nD Cert.Ln.τ).loc Cert.Ln.main_arg9)
      ∧ r.2.mem ((c.tc : Thread Cert.Ln.nD Cert.Ln.τ).loc Cert.Ln.main_arg10) = m ((c.tc : Thread Cert.Ln.nD Cert.Ln.τ).loc Cert.Ln.main_arg10))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
      ∧ r.2.mem ((c.tc : Thread Cert.LnIdeal.nD Cert.LnIdeal.τ).loc Cert.LnIdeal.main_arg4) = m ((c.tc : Thread Cert.LnIdeal.nD Cert.LnIdeal.τ).loc Cert.LnIdeal.main_arg4)
      ∧ r.2.mem ((c.tc : Thread Cert.LnIdeal.nD Cert.LnIdeal.τ).loc Cert.LnIdeal.main_arg5) = m ((c.tc : Thread Cert.LnIdeal.nD Cert.LnIdeal.τ).loc Cert.LnIdeal.main_arg5)
      ∧ r.2.mem ((c.tc : Thread Cert.LnIdeal.nD Cert.LnIdeal.τ).loc Cert.LnIdeal.main_arg6) = m ((c.tc : Thread Cert.LnIdeal.nD Cert.LnIdeal.τ).loc Cert.LnIdeal.main_arg6)
      ∧ r.2.mem ((c.tc : Thread Cert.LnIdeal.nD Cert.LnIdeal.τ).loc Cert.LnIdeal.main_arg7) = m ((c.tc : Thread Cert.LnIdeal.nD Cert.LnIdeal.τ).loc Cert.LnIdeal.main_arg7)
      ∧ r.2.mem ((c.tc : Thread Cert.LnIdeal.nD Cert.LnIdeal.τ).loc Cert.LnIdeal.main_arg8) = m ((c.tc : Thread Cert.LnIdeal.nD Cert.LnIdeal.τ).loc Cert.LnIdeal.main_arg8)
      ∧ r.2.mem ((c.tc : Thread Cert.LnIdeal.nD Cert.LnIdeal.τ).loc Cert.LnIdeal.main_arg9) = m ((c.tc : Thread Cert.LnIdeal.nD Cert.LnIdeal.τ).loc Cert.LnIdeal.main_arg9)
      ∧ r.2.mem ((c.tc : Thread Cert.LnIdeal.nD Cert.LnIdeal.τ).loc Cert.LnIdeal.main_arg10) = m ((c.tc : Thread Cert.LnIdeal.nD Cert.LnIdeal.τ).loc Cert.LnIdeal.main_arg10))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3)
      ∧ r.2.mem ((c.tc : Thread Cert.LnRefIdeal.nD Cert.LnRefIdeal.τ).loc Cert.LnRefIdeal.main_arg4) = m ((c.tc : Thread Cert.LnRefIdeal.nD Cert.LnRefIdeal.τ).loc Cert.LnRefIdeal.main_arg4)
      ∧ r.2.mem ((c.tc : Thread Cert.LnRefIdeal.nD Cert.LnRefIdeal.τ).loc Cert.LnRefIdeal.main_arg5) = m ((c.tc : Thread Cert.LnRefIdeal.nD Cert.LnRefIdeal.τ).loc Cert.LnRefIdeal.main_arg5)
      ∧ r.2.mem ((c.tc : Thread Cert.LnRefIdeal.nD Cert.LnRefIdeal.τ).loc Cert.LnRefIdeal.main_arg6) = m ((c.tc : Thread Cert.LnRefIdeal.nD Cert.LnRefIdeal.τ).loc Cert.LnRefIdeal.main_arg6)
      ∧ r.2.mem ((c.tc : Thread Cert.LnRefIdeal.nD Cert.LnRefIdeal.τ).loc Cert.LnRefIdeal.main_arg7) = m ((c.tc : Thread Cert.LnRefIdeal.nD Cert.LnRefIdeal.τ).loc Cert.LnRefIdeal.main_arg7)
      ∧ r.2.mem ((c.tc : Thread Cert.LnRefIdeal.nD Cert.LnRefIdeal.τ).loc Cert.LnRefIdeal.main_arg8) = m ((c.tc : Thread Cert.LnRefIdeal.nD Cert.LnRefIdeal.τ).loc Cert.LnRefIdeal.main_arg8)
      ∧ r.2.mem ((c.tc : Thread Cert.LnRefIdeal.nD Cert.LnRefIdeal.τ).loc Cert.LnRefIdeal.main_arg9) = m ((c.tc : Thread Cert.LnRefIdeal.nD Cert.LnRefIdeal.τ).loc Cert.LnRefIdeal.main_arg9)
      ∧ r.2.mem ((c.tc : Thread Cert.LnRefIdeal.nD Cert.LnRefIdeal.τ).loc Cert.LnRefIdeal.main_arg10) = m ((c.tc : Thread Cert.LnRefIdeal.nD Cert.LnRefIdeal.τ).loc Cert.LnRefIdeal.main_arg10))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4)
      ∧ r.2.mem ((c.tc : Thread Cert.Dh.nD Cert.Dh.τ).loc Cert.Dh.main_arg5) = m ((c.tc : Thread Cert.Dh.nD Cert.Dh.τ).loc Cert.Dh.main_arg5)
      ∧ r.2.mem ((c.tc : Thread Cert.Dh.nD Cert.Dh.τ).loc Cert.Dh.main_arg6) = m ((c.tc : Thread Cert.Dh.nD Cert.Dh.τ).loc Cert.Dh.main_arg6))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
      ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
      ∧ r.2.mem ((c.tc : Thread Cert.DhIdeal.nD Cert.DhIdeal.τ).loc Cert.DhIdeal.main_arg6) = m ((c.tc : Thread Cert.DhIdeal.nD Cert.DhIdeal.τ).loc Cert.DhIdeal.main_arg6))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4)
      ∧ r.2.mem ((c.tc : Thread Cert.DhRefIdeal.nD Cert.DhRefIdeal.τ).loc Cert.DhRefIdeal.main_arg5) = m ((c.tc : Thread Cert.DhRefIdeal.nD Cert.DhRefIdeal.τ).loc Cert.DhRefIdeal.main_arg5)
      ∧ r.2.mem ((c.tc : Thread Cert.DhRefIdeal.nD Cert.DhRefIdeal.τ).loc Cert.DhRefIdeal.main_arg6) = m ((c.tc : Thread Cert.DhRefIdeal.nD Cert.DhRefIdeal.τ).loc Cert.DhRefIdeal.main_arg6))
      ∧ r.2.sem = fun _ => 0)

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)
      ∧ m' ((c.tc : Thread Cert.DwOutRefIdeal.nD Cert.DwOutRefIdeal.τ).loc Cert.DwOutRefIdeal.main_arg3) = m ((c.tc : Thread Cert.DwOutIdeal.nD Cert.DwOutIdeal.τ).loc Cert.DwOutIdeal.main_arg3)) →
    ∃ (v0 : (c : Dev Cert.DwOutIdeal.nD) → Buf (Elt Ideal) ((c.tc : Thread Cert.DwOutIdeal.nD Cert.DwOutIdeal.τ).loc Cert.DwOutIdeal.main_v8)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v8) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
          ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v4) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2)
          ∧ r.2.mem ((c.tc : Thread Cert.DwOutRefIdeal.nD Cert.DwOutRefIdeal.τ).loc Cert.DwOutRefIdeal.main_arg3) = m' ((c.tc : Thread Cert.DwOutRefIdeal.nD Cert.DwOutRefIdeal.τ).loc Cert.DwOutRefIdeal.main_arg3))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)
      ∧ m' ((c.tc : Thread Cert.DwInRefIdeal.nD Cert.DwInRefIdeal.τ).loc Cert.DwInRefIdeal.main_arg3) = m ((c.tc : Thread Cert.DwInIdeal.nD Cert.DwInIdeal.τ).loc Cert.DwInIdeal.main_arg3)
      ∧ m' ((c.tc : Thread Cert.DwInRefIdeal.nD Cert.DwInRefIdeal.τ).loc Cert.DwInRefIdeal.main_arg4) = m ((c.tc : Thread Cert.DwInIdeal.nD Cert.DwInIdeal.τ).loc Cert.DwInIdeal.main_arg4)) →
    ∃ (v0 : (c : Dev Cert.DwInIdeal.nD) → Buf (Elt Ideal) ((c.tc : Thread Cert.DwInIdeal.nD Cert.DwInIdeal.τ).loc Cert.DwInIdeal.main_v10)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v10) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
          ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
          ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v5) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2)
          ∧ r.2.mem ((c.tc : Thread Cert.DwInRefIdeal.nD Cert.DwInRefIdeal.τ).loc Cert.DwInRefIdeal.main_arg3) = m' ((c.tc : Thread Cert.DwInRefIdeal.nD Cert.DwInRefIdeal.τ).loc Cert.DwInRefIdeal.main_arg3)
          ∧ r.2.mem ((c.tc : Thread Cert.DwInRefIdeal.nD Cert.DwInRefIdeal.τ).loc Cert.DwInRefIdeal.main_arg4) = m' ((c.tc : Thread Cert.DwInRefIdeal.nD Cert.DwInRefIdeal.τ).loc Cert.DwInRefIdeal.main_arg4))

def preserves_DwQkv_DwQkvIdeal : Prop :=
  True

def algebraic_DwQkvIdeal_DwQkvRefIdeal [hDwQkvIdeal : Cert.DwQkvIdeal.Facts] [hDwQkvRefIdeal : Cert.DwQkvRefIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg)
    (m' : (ℓ : Loc Cert.DwQkvRefIdeal.nD Cert.DwQkvRefIdeal.τ Cert.DwQkvRefIdeal.sig) → Buf (Elt Ideal) ℓ) (g' : Dev Cert.DwQkvRefIdeal.nD → PrngReg), Pre_DwQkvIdeal m →
    (∀ c : Dev Cert.DwQkvIdeal.nD,
      m' ((c.tc : Thread Cert.DwQkvRefIdeal.nD Cert.DwQkvRefIdeal.τ).loc Cert.DwQkvRefIdeal.main_arg0) = m ((c.tc : Thread Cert.DwQkvIdeal.nD Cert.DwQkvIdeal.τ).loc Cert.DwQkvIdeal.main_arg0)
      ∧ m' ((c.tc : Thread Cert.DwQkvRefIdeal.nD Cert.DwQkvRefIdeal.τ).loc Cert.DwQkvRefIdeal.main_arg1) = m ((c.tc : Thread Cert.DwQkvIdeal.nD Cert.DwQkvIdeal.τ).loc Cert.DwQkvIdeal.main_arg1)
      ∧ m' ((c.tc : Thread Cert.DwQkvRefIdeal.nD Cert.DwQkvRefIdeal.τ).loc Cert.DwQkvRefIdeal.main_arg2) = m ((c.tc : Thread Cert.DwQkvIdeal.nD Cert.DwQkvIdeal.τ).loc Cert.DwQkvIdeal.main_arg2)
      ∧ m' ((c.tc : Thread Cert.DwQkvRefIdeal.nD Cert.DwQkvRefIdeal.τ).loc Cert.DwQkvRefIdeal.main_arg3) = m ((c.tc : Thread Cert.DwQkvIdeal.nD Cert.DwQkvIdeal.τ).loc Cert.DwQkvIdeal.main_arg3)
      ∧ m' ((c.tc : Thread Cert.DwQkvRefIdeal.nD Cert.DwQkvRefIdeal.τ).loc Cert.DwQkvRefIdeal.main_arg4) = m ((c.tc : Thread Cert.DwQkvIdeal.nD Cert.DwQkvIdeal.τ).loc Cert.DwQkvIdeal.main_arg4)) →
    ∃ (v0 : (c : Dev Cert.DwQkvIdeal.nD) → Buf (Elt Ideal) ((c.tc : Thread Cert.DwQkvIdeal.nD Cert.DwQkvIdeal.τ).loc Cert.DwQkvIdeal.main_v11)),
      θ_run (Cert.DwQkvIdeal.defs (F := Ideal)) (onTc (τ := Cert.DwQkvIdeal.τ) (Cert.DwQkvIdeal.main (F := Ideal))) ⟨m, fun _ => 0, g⟩ (fun r => ∀ c : Dev Cert.DwQkvIdeal.nD,
          r.2.mem ((c.tc : Thread Cert.DwQkvIdeal.nD Cert.DwQkvIdeal.τ).loc Cert.DwQkvIdeal.main_v11) = v0 c
          ∧ r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
          ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
          ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2)
          ∧ r.2.mem ((c.tc : Thread Cert.DwQkvIdeal.nD Cert.DwQkvIdeal.τ).loc Cert.DwQkvIdeal.main_arg3) = m ((c.tc : Thread Cert.DwQkvIdeal.nD Cert.DwQkvIdeal.τ).loc Cert.DwQkvIdeal.main_arg3)
          ∧ r.2.mem ((c.tc : Thread Cert.DwQkvIdeal.nD Cert.DwQkvIdeal.τ).loc Cert.DwQkvIdeal.main_arg4) = m ((c.tc : Thread Cert.DwQkvIdeal.nD Cert.DwQkvIdeal.τ).loc Cert.DwQkvIdeal.main_arg4))
      ∧ θ_run (Cert.DwQkvRefIdeal.defs (F := Ideal)) (onTc (τ := Cert.DwQkvRefIdeal.τ) (Cert.DwQkvRefIdeal.main (F := Ideal))) ⟨m', fun _ => 0, g'⟩ (fun r => ∀ c : Dev Cert.DwQkvRefIdeal.nD,
          r.2.mem ((c.tc : Thread Cert.DwQkvRefIdeal.nD Cert.DwQkvRefIdeal.τ).loc Cert.DwQkvRefIdeal.main_v7) = v0 c
          ∧ r.2.mem ((c.tc : Thread Cert.DwQkvRefIdeal.nD Cert.DwQkvRefIdeal.τ).loc Cert.DwQkvRefIdeal.main_arg0) = m' ((c.tc : Thread Cert.DwQkvRefIdeal.nD Cert.DwQkvRefIdeal.τ).loc Cert.DwQkvRefIdeal.main_arg0)
          ∧ r.2.mem ((c.tc : Thread Cert.DwQkvRefIdeal.nD Cert.DwQkvRefIdeal.τ).loc Cert.DwQkvRefIdeal.main_arg1) = m' ((c.tc : Thread Cert.DwQkvRefIdeal.nD Cert.DwQkvRefIdeal.τ).loc Cert.DwQkvRefIdeal.main_arg1)
          ∧ r.2.mem ((c.tc : Thread Cert.DwQkvRefIdeal.nD Cert.DwQkvRefIdeal.τ).loc Cert.DwQkvRefIdeal.main_arg2) = m' ((c.tc : Thread Cert.DwQkvRefIdeal.nD Cert.DwQkvRefIdeal.τ).loc Cert.DwQkvRefIdeal.main_arg2)
          ∧ r.2.mem ((c.tc : Thread Cert.DwQkvRefIdeal.nD Cert.DwQkvRefIdeal.τ).loc Cert.DwQkvRefIdeal.main_arg3) = m' ((c.tc : Thread Cert.DwQkvRefIdeal.nD Cert.DwQkvRefIdeal.τ).loc Cert.DwQkvRefIdeal.main_arg3)
          ∧ r.2.mem ((c.tc : Thread Cert.DwQkvRefIdeal.nD Cert.DwQkvRefIdeal.τ).loc Cert.DwQkvRefIdeal.main_arg4) = m' ((c.tc : Thread Cert.DwQkvRefIdeal.nD Cert.DwQkvRefIdeal.τ).loc Cert.DwQkvRefIdeal.main_arg4))

def preserves_Da_DaIdeal : Prop :=
  IdealRules.named_const.Statement Cert.DaIdeal.κ "gelu_ca" .f32 0x3D122279#32 ((35677408136300126361 / 1000000000000000000000 : ℝ) : EReal)
  ∧ IdealRules.named_const.Statement Cert.DaIdeal.κ "gelu_c" .f32 0x3F4C422A#32 ((3989422804014327 / 5000000000000000 : ℝ) : EReal)
  ∧ IdealRules.named_const.Statement Cert.DaIdeal.κ "gelu_3_half_ca" .f32 0x3D5B33B6#32 ((107032224408900379083 / 2000000000000000000000 : ℝ) : EReal)
  ∧ IdealRules.named_const.Statement Cert.DaIdeal.κ "gelu_half_c" .f32 0x3ECC422A#32 ((3989422804014327 / 10000000000000000 : ℝ) : EReal)

def algebraic_DaIdeal_DaRefIdeal [hDaIdeal : Cert.DaIdeal.Facts] [hDaRefIdeal : Cert.DaRefIdeal.Facts] : Prop :=
  ∀ (m : (ℓ : Loc Cert.DaIdeal.nD Cert.DaIdeal.τ Cert.DaIdeal.sig) → Buf (Elt Ideal) ℓ) (g : Dev Cert.DaIdeal.nD → PrngReg)
    (m' : (ℓ : Loc Cert.DaRefIdeal.nD Cert.DaRefIdeal.τ Cert.DaRefIdeal.sig) → Buf (Elt Ideal) ℓ) (g' : Dev Cert.DaRefIdeal.nD → PrngReg), Pre_DaIdeal m →
    (∀ c : Dev Cert.DaIdeal.nD,
      m' ((c.tc : Thread Cert.DaRefIdeal.nD Cert.DaRefIdeal.τ).loc Cert.DaRefIdeal.main_arg0) = m ((c.tc : Thread Cert.DaIdeal.nD Cert.DaIdeal.τ).loc Cert.DaIdeal.main_arg0)
      ∧ m' ((c.tc : Thread Cert.DaRefIdeal.nD Cert.DaRefIdeal.τ).loc Cert.DaRefIdeal.main_arg1) = m ((c.tc : Thread Cert.DaIdeal.nD Cert.DaIdeal.τ).loc Cert.DaIdeal.main_arg1)
      ∧ m' ((c.tc : Thread Cert.DaRefIdeal.nD Cert.DaRefIdeal.τ).loc Cert.DaRefIdeal.main_arg2) = m ((c.tc : Thread Cert.DaIdeal.nD Cert.DaIdeal.τ).loc Cert.DaIdeal.main_arg2)
      ∧ m' ((c.tc : Thread Cert.DaRefIdeal.nD Cert.DaRefIdeal.τ).loc Cert.DaRefIdeal.main_arg3) = m ((c.tc : Thread Cert.DaIdeal.nD Cert.DaIdeal.τ).loc Cert.DaIdeal.main_arg3)
      ∧ m' ((c.tc : Thread Cert.DaRefIdeal.nD Cert.DaRefIdeal.τ).loc Cert.DaRefIdeal.main_arg4) = m ((c.tc : Thread Cert.DaIdeal.nD Cert.DaIdeal.τ).loc Cert.DaIdeal.main_arg4)
      ∧ m' ((c.tc : Thread Cert.DaRefIdeal.nD Cert.DaRefIdeal.τ).loc Cert.DaRefIdeal.main_arg5) = m ((c.tc : Thread Cert.DaIdeal.nD Cert.DaIdeal.τ).loc Cert.DaIdeal.main_arg5)) →
    ∃ (v0 : (c : Dev Cert.DaIdeal.nD) → Buf (Elt Ideal) ((c.tc : Thread Cert.DaIdeal.nD Cert.DaIdeal.τ).loc Cert.DaIdeal.main_v7_0)),
      θ_run (Cert.DaIdeal.defs (F := Ideal)) (onTc (τ := Cert.DaIdeal.τ) (Cert.DaIdeal.main (F := Ideal))) ⟨m, fun _ => 0, g⟩ (fun r => ∀ c : Dev Cert.DaIdeal.nD,
          r.2.mem ((c.tc : Thread Cert.DaIdeal.nD Cert.DaIdeal.τ).loc Cert.DaIdeal.main_v7_0) = v0 c
          ∧ r.2.mem ((c.tc : Thread Cert.DaIdeal.nD Cert.DaIdeal.τ).loc Cert.DaIdeal.main_arg0) = m ((c.tc : Thread Cert.DaIdeal.nD Cert.DaIdeal.τ).loc Cert.DaIdeal.main_arg0)
          ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
          ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
          ∧ r.2.mem ((c.tc : Thread Cert.DaIdeal.nD Cert.DaIdeal.τ).loc Cert.DaIdeal.main_arg3) = m ((c.tc : Thread Cert.DaIdeal.nD Cert.DaIdeal.τ).loc Cert.DaIdeal.main_arg3)
          ∧ r.2.mem ((c.tc : Thread Cert.DaIdeal.nD Cert.DaIdeal.τ).loc Cert.DaIdeal.main_arg4) = m ((c.tc : Thread Cert.DaIdeal.nD Cert.DaIdeal.τ).loc Cert.DaIdeal.main_arg4)
          ∧ r.2.mem ((c.tc : Thread Cert.DaIdeal.nD Cert.DaIdeal.τ).loc Cert.DaIdeal.main_arg5) = m ((c.tc : Thread Cert.DaIdeal.nD Cert.DaIdeal.τ).loc Cert.DaIdeal.main_arg5))
      ∧ θ_run (Cert.DaRefIdeal.defs (F := Ideal)) (onTc (τ := Cert.DaRefIdeal.τ) (Cert.DaRefIdeal.main (F := Ideal))) ⟨m', fun _ => 0, g'⟩ (fun r => ∀ c : Dev Cert.DaRefIdeal.nD,
          r.2.mem ((c.tc : Thread Cert.DaRefIdeal.nD Cert.DaRefIdeal.τ).loc Cert.DaRefIdeal.main_v5) = v0 c
          ∧ r.2.mem ((c.tc : Thread Cert.DaRefIdeal.nD Cert.DaRefIdeal.τ).loc Cert.DaRefIdeal.main_arg0) = m' ((c.tc : Thread Cert.DaRefIdeal.nD Cert.DaRefIdeal.τ).loc Cert.DaRefIdeal.main_arg0)
          ∧ r.2.mem ((c.tc : Thread Cert.DaRefIdeal.nD Cert.DaRefIdeal.τ).loc Cert.DaRefIdeal.main_arg1) = m' ((c.tc : Thread Cert.DaRefIdeal.nD Cert.DaRefIdeal.τ).loc Cert.DaRefIdeal.main_arg1)
          ∧ r.2.mem ((c.tc : Thread Cert.DaRefIdeal.nD Cert.DaRefIdeal.τ).loc Cert.DaRefIdeal.main_arg2) = m' ((c.tc : Thread Cert.DaRefIdeal.nD Cert.DaRefIdeal.τ).loc Cert.DaRefIdeal.main_arg2)
          ∧ r.2.mem ((c.tc : Thread Cert.DaRefIdeal.nD Cert.DaRefIdeal.τ).loc Cert.DaRefIdeal.main_arg3) = m' ((c.tc : Thread Cert.DaRefIdeal.nD Cert.DaRefIdeal.τ).loc Cert.DaRefIdeal.main_arg3)
          ∧ r.2.mem ((c.tc : Thread Cert.DaRefIdeal.nD Cert.DaRefIdeal.τ).loc Cert.DaRefIdeal.main_arg4) = m' ((c.tc : Thread Cert.DaRefIdeal.nD Cert.DaRefIdeal.τ).loc Cert.DaRefIdeal.main_arg4)
          ∧ r.2.mem ((c.tc : Thread Cert.DaRefIdeal.nD Cert.DaRefIdeal.τ).loc Cert.DaRefIdeal.main_arg5) = m' ((c.tc : Thread Cert.DaRefIdeal.nD Cert.DaRefIdeal.τ).loc Cert.DaRefIdeal.main_arg5))

def preserves_DaRef_DaRefIdeal : Prop :=
  IdealRules.named_const.Statement Cert.DaRefIdeal.κ "gelu_a" .f32 0x3D372713#32 ((8943 / 200000 : ℝ) : EReal)
  ∧ IdealRules.named_const.Statement Cert.DaRefIdeal.κ "gelu_c" .f32 0x3F4C422A#32 ((3989422804014327 / 5000000000000000 : ℝ) : EReal)
  ∧ IdealRules.named_const.Statement Cert.DaRefIdeal.κ "gelu_3a" .f32 0x3E095D4F#32 ((26829 / 200000 : ℝ) : EReal)

def preserves_Ln_LnIdeal : Prop :=
  IdealRules.named_const.Statement Cert.LnIdeal.κ "inv_d" .f32 0x39924925#32 ((1 / 3584 : ℝ) : EReal)

def algebraic_LnIdeal_LnRefIdeal [hLnIdeal : Cert.LnIdeal.Facts] [hLnRefIdeal : Cert.LnRefIdeal.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)
      ∧ m' ((c.tc : Thread Cert.LnRefIdeal.nD Cert.LnRefIdeal.τ).loc Cert.LnRefIdeal.main_arg3) = m ((c.tc : Thread Cert.LnIdeal.nD Cert.LnIdeal.τ).loc Cert.LnIdeal.main_arg3)
      ∧ m' ((c.tc : Thread Cert.LnRefIdeal.nD Cert.LnRefIdeal.τ).loc Cert.LnRefIdeal.main_arg4) = m ((c.tc : Thread Cert.LnIdeal.nD Cert.LnIdeal.τ).loc Cert.LnIdeal.main_arg4)
      ∧ m' ((c.tc : Thread Cert.LnRefIdeal.nD Cert.LnRefIdeal.τ).loc Cert.LnRefIdeal.main_arg5) = m ((c.tc : Thread Cert.LnIdeal.nD Cert.LnIdeal.τ).loc Cert.LnIdeal.main_arg5)
      ∧ m' ((c.tc : Thread Cert.LnRefIdeal.nD Cert.LnRefIdeal.τ).loc Cert.LnRefIdeal.main_arg6) = m ((c.tc : Thread Cert.LnIdeal.nD Cert.LnIdeal.τ).loc Cert.LnIdeal.main_arg6)
      ∧ m' ((c.tc : Thread Cert.LnRefIdeal.nD Cert.LnRefIdeal.τ).loc Cert.LnRefIdeal.main_arg7) = m ((c.tc : Thread Cert.LnIdeal.nD Cert.LnIdeal.τ).loc Cert.LnIdeal.main_arg7)
      ∧ m' ((c.tc : Thread Cert.LnRefIdeal.nD Cert.LnRefIdeal.τ).loc Cert.LnRefIdeal.main_arg8) = m ((c.tc : Thread Cert.LnIdeal.nD Cert.LnIdeal.τ).loc Cert.LnIdeal.main_arg8)
      ∧ m' ((c.tc : Thread Cert.LnRefIdeal.nD Cert.LnRefIdeal.τ).loc Cert.LnRefIdeal.main_arg9) = m ((c.tc : Thread Cert.LnIdeal.nD Cert.LnIdeal.τ).loc Cert.LnIdeal.main_arg9)
      ∧ m' ((c.tc : Thread Cert.LnRefIdeal.nD Cert.LnRefIdeal.τ).loc Cert.LnRefIdeal.main_arg10) = m ((c.tc : Thread Cert.LnIdeal.nD Cert.LnIdeal.τ).loc Cert.LnIdeal.main_arg10)) →
    ∃ (v0 : (c : Dev Cert.LnIdeal.nD) → Buf (Elt Ideal) ((c.tc : Thread Cert.LnIdeal.nD Cert.LnIdeal.τ).loc Cert.LnIdeal.main_v16_0)) (v1 : (c : Dev Cert.LnIdeal.nD) → Buf (Elt Ideal) ((c.tc : Thread Cert.LnIdeal.nD Cert.LnIdeal.τ).loc Cert.LnIdeal.main_v16_1)) (v2 : (c : Dev Cert.LnIdeal.nD) → Buf (Elt Ideal) ((c.tc : Thread Cert.LnIdeal.nD Cert.LnIdeal.τ).loc Cert.LnIdeal.main_v16_2)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v16_0) = v0 c
          ∧ r.2.mem ((c.tc : Thread Cert.LnIdeal.nD Cert.LnIdeal.τ).loc Cert.LnIdeal.main_v16_1) = v1 c
          ∧ r.2.mem ((c.tc : Thread Cert.LnIdeal.nD Cert.LnIdeal.τ).loc Cert.LnIdeal.main_v16_2) = v2 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
          ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
          ∧ r.2.mem ((c.tc : Thread Cert.LnIdeal.nD Cert.LnIdeal.τ).loc Cert.LnIdeal.main_arg4) = m ((c.tc : Thread Cert.LnIdeal.nD Cert.LnIdeal.τ).loc Cert.LnIdeal.main_arg4)
          ∧ r.2.mem ((c.tc : Thread Cert.LnIdeal.nD Cert.LnIdeal.τ).loc Cert.LnIdeal.main_arg5) = m ((c.tc : Thread Cert.LnIdeal.nD Cert.LnIdeal.τ).loc Cert.LnIdeal.main_arg5)
          ∧ r.2.mem ((c.tc : Thread Cert.LnIdeal.nD Cert.LnIdeal.τ).loc Cert.LnIdeal.main_arg6) = m ((c.tc : Thread Cert.LnIdeal.nD Cert.LnIdeal.τ).loc Cert.LnIdeal.main_arg6)
          ∧ r.2.mem ((c.tc : Thread Cert.LnIdeal.nD Cert.LnIdeal.τ).loc Cert.LnIdeal.main_arg7) = m ((c.tc : Thread Cert.LnIdeal.nD Cert.LnIdeal.τ).loc Cert.LnIdeal.main_arg7)
          ∧ r.2.mem ((c.tc : Thread Cert.LnIdeal.nD Cert.LnIdeal.τ).loc Cert.LnIdeal.main_arg8) = m ((c.tc : Thread Cert.LnIdeal.nD Cert.LnIdeal.τ).loc Cert.LnIdeal.main_arg8)
          ∧ r.2.mem ((c.tc : Thread Cert.LnIdeal.nD Cert.LnIdeal.τ).loc Cert.LnIdeal.main_arg9) = m ((c.tc : Thread Cert.LnIdeal.nD Cert.LnIdeal.τ).loc Cert.LnIdeal.main_arg9)
          ∧ r.2.mem ((c.tc : Thread Cert.LnIdeal.nD Cert.LnIdeal.τ).loc Cert.LnIdeal.main_arg10) = m ((c.tc : Thread Cert.LnIdeal.nD Cert.LnIdeal.τ).loc Cert.LnIdeal.main_arg10))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v11_0) = v0 c
          ∧ r.2.mem ((c.tc : Thread Cert.LnRefIdeal.nD Cert.LnRefIdeal.τ).loc Cert.LnRefIdeal.main_v11_1) = v1 c
          ∧ r.2.mem ((c.tc : Thread Cert.LnRefIdeal.nD Cert.LnRefIdeal.τ).loc Cert.LnRefIdeal.main_v11_2) = v2 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2)
          ∧ r.2.mem ((c.tc : Thread Cert.LnRefIdeal.nD Cert.LnRefIdeal.τ).loc Cert.LnRefIdeal.main_arg3) = m' ((c.tc : Thread Cert.LnRefIdeal.nD Cert.LnRefIdeal.τ).loc Cert.LnRefIdeal.main_arg3)
          ∧ r.2.mem ((c.tc : Thread Cert.LnRefIdeal.nD Cert.LnRefIdeal.τ).loc Cert.LnRefIdeal.main_arg4) = m' ((c.tc : Thread Cert.LnRefIdeal.nD Cert.LnRefIdeal.τ).loc Cert.LnRefIdeal.main_arg4)
          ∧ r.2.mem ((c.tc : Thread Cert.LnRefIdeal.nD Cert.LnRefIdeal.τ).loc Cert.LnRefIdeal.main_arg5) = m' ((c.tc : Thread Cert.LnRefIdeal.nD Cert.LnRefIdeal.τ).loc Cert.LnRefIdeal.main_arg5)
          ∧ r.2.mem ((c.tc : Thread Cert.LnRefIdeal.nD Cert.LnRefIdeal.τ).loc Cert.LnRefIdeal.main_arg6) = m' ((c.tc : Thread Cert.LnRefIdeal.nD Cert.LnRefIdeal.τ).loc Cert.LnRefIdeal.main_arg6)
          ∧ r.2.mem ((c.tc : Thread Cert.LnRefIdeal.nD Cert.LnRefIdeal.τ).loc Cert.LnRefIdeal.main_arg7) = m' ((c.tc : Thread Cert.LnRefIdeal.nD Cert.LnRefIdeal.τ).loc Cert.LnRefIdeal.main_arg7)
          ∧ r.2.mem ((c.tc : Thread Cert.LnRefIdeal.nD Cert.LnRefIdeal.τ).loc Cert.LnRefIdeal.main_arg8) = m' ((c.tc : Thread Cert.LnRefIdeal.nD Cert.LnRefIdeal.τ).loc Cert.LnRefIdeal.main_arg8)
          ∧ r.2.mem ((c.tc : Thread Cert.LnRefIdeal.nD Cert.LnRefIdeal.τ).loc Cert.LnRefIdeal.main_arg9) = m' ((c.tc : Thread Cert.LnRefIdeal.nD Cert.LnRefIdeal.τ).loc Cert.LnRefIdeal.main_arg9)
          ∧ r.2.mem ((c.tc : Thread Cert.LnRefIdeal.nD Cert.LnRefIdeal.τ).loc Cert.LnRefIdeal.main_arg10) = m' ((c.tc : Thread Cert.LnRefIdeal.nD Cert.LnRefIdeal.τ).loc Cert.LnRefIdeal.main_arg10))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)
      ∧ m' ((c.tc : Thread Cert.DhRefIdeal.nD Cert.DhRefIdeal.τ).loc Cert.DhRefIdeal.main_arg4) = m ((c.tc : Thread Cert.DhIdeal.nD Cert.DhIdeal.τ).loc Cert.DhIdeal.main_arg4)
      ∧ m' ((c.tc : Thread Cert.DhRefIdeal.nD Cert.DhRefIdeal.τ).loc Cert.DhRefIdeal.main_arg5) = m ((c.tc : Thread Cert.DhIdeal.nD Cert.DhIdeal.τ).loc Cert.DhIdeal.main_arg5)
      ∧ m' ((c.tc : Thread Cert.DhRefIdeal.nD Cert.DhRefIdeal.τ).loc Cert.DhRefIdeal.main_arg6) = m ((c.tc : Thread Cert.DhIdeal.nD Cert.DhIdeal.τ).loc Cert.DhIdeal.main_arg6)) →
    ∃ (v0 : (c : Dev Cert.DhIdeal.nD) → Buf (Elt Ideal) ((c.tc : Thread Cert.DhIdeal.nD Cert.DhIdeal.τ).loc Cert.DhIdeal.main_v7_0)) (v1 : (c : Dev Cert.DhIdeal.nD) → Buf (Elt Ideal) ((c.tc : Thread Cert.DhIdeal.nD Cert.DhIdeal.τ).loc Cert.DhIdeal.main_v7_1)) (v2 : (c : Dev Cert.DhIdeal.nD) → Buf (Elt Ideal) ((c.tc : Thread Cert.DhIdeal.nD Cert.DhIdeal.τ).loc Cert.DhIdeal.main_v7_2)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v7_0) = v0 c
          ∧ r.2.mem ((c.tc : Thread Cert.DhIdeal.nD Cert.DhIdeal.τ).loc Cert.DhIdeal.main_v7_1) = v1 c
          ∧ r.2.mem ((c.tc : Thread Cert.DhIdeal.nD Cert.DhIdeal.τ).loc Cert.DhIdeal.main_v7_2) = v2 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
          ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
          ∧ r.2.mem ((c.tc : Thread Cert.DhIdeal.nD Cert.DhIdeal.τ).loc Cert.DhIdeal.main_arg6) = m ((c.tc : Thread Cert.DhIdeal.nD Cert.DhIdeal.τ).loc Cert.DhIdeal.main_arg6))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v2_0) = v0 c
          ∧ r.2.mem ((c.tc : Thread Cert.DhRefIdeal.nD Cert.DhRefIdeal.τ).loc Cert.DhRefIdeal.main_v2_1) = v1 c
          ∧ r.2.mem ((c.tc : Thread Cert.DhRefIdeal.nD Cert.DhRefIdeal.τ).loc Cert.DhRefIdeal.main_v2_2) = v2 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3)
          ∧ r.2.mem ((c.tc : Thread Cert.DhRefIdeal.nD Cert.DhRefIdeal.τ).loc Cert.DhRefIdeal.main_arg4) = m' ((c.tc : Thread Cert.DhRefIdeal.nD Cert.DhRefIdeal.τ).loc Cert.DhRefIdeal.main_arg4)
          ∧ r.2.mem ((c.tc : Thread Cert.DhRefIdeal.nD Cert.DhRefIdeal.τ).loc Cert.DhRefIdeal.main_arg5) = m' ((c.tc : Thread Cert.DhRefIdeal.nD Cert.DhRefIdeal.τ).loc Cert.DhRefIdeal.main_arg5)
          ∧ r.2.mem ((c.tc : Thread Cert.DhRefIdeal.nD Cert.DhRefIdeal.τ).loc Cert.DhRefIdeal.main_arg6) = m' ((c.tc : Thread Cert.DhRefIdeal.nD Cert.DhRefIdeal.τ).loc Cert.DhRefIdeal.main_arg6))

def Claim : Prop :=
  ∃ (hDwOut : Cert.DwOut.Facts) (hDwOutIdeal : Cert.DwOutIdeal.Facts) (hDwOutRefIdeal : Cert.DwOutRefIdeal.Facts) (hDwIn : Cert.DwIn.Facts) (hDwInIdeal : Cert.DwInIdeal.Facts) (hDwInRefIdeal : Cert.DwInRefIdeal.Facts) (hDwQkv : Cert.DwQkv.Facts) (hDwQkvIdeal : Cert.DwQkvIdeal.Facts) (hDwQkvRefIdeal : Cert.DwQkvRefIdeal.Facts) (hDa : Cert.Da.Facts) (hDaIdeal : Cert.DaIdeal.Facts) (hDaRefIdeal : Cert.DaRefIdeal.Facts) (hDaRef : Cert.DaRef.Facts) (hLn : Cert.Ln.Facts) (hLnIdeal : Cert.LnIdeal.Facts) (hLnRefIdeal : Cert.LnRefIdeal.Facts) (hDh : Cert.Dh.Facts) (hDhIdeal : Cert.DhIdeal.Facts) (hDhRefIdeal : Cert.DhRefIdeal.Facts),
    quiescent_DwOut (hDwOut := hDwOut)
    ∧ quiescent_DwOutIdeal (hDwOutIdeal := hDwOutIdeal)
    ∧ quiescent_DwOutRefIdeal (hDwOutRefIdeal := hDwOutRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DwQkv (hDwQkv := hDwQkv)
    ∧ quiescent_DwQkvIdeal (hDwQkvIdeal := hDwQkvIdeal)
    ∧ quiescent_DwQkvRefIdeal (hDwQkvRefIdeal := hDwQkvRefIdeal)
    ∧ quiescent_Da (hDa := hDa)
    ∧ quiescent_DaIdeal (hDaIdeal := hDaIdeal)
    ∧ quiescent_DaRefIdeal (hDaRefIdeal := hDaRefIdeal)
    ∧ quiescent_DaRef (hDaRef := hDaRef)
    ∧ quiescent_Ln (hLn := hLn)
    ∧ quiescent_LnIdeal (hLnIdeal := hLnIdeal)
    ∧ quiescent_LnRefIdeal (hLnRefIdeal := hLnRefIdeal)
    ∧ quiescent_Dh (hDh := hDh)
    ∧ quiescent_DhIdeal (hDhIdeal := hDhIdeal)
    ∧ quiescent_DhRefIdeal (hDhRefIdeal := hDhRefIdeal)
    ∧ preserves_DwOut_DwOutIdeal
    ∧ algebraic_DwOutIdeal_DwOutRefIdeal (hDwOutIdeal := hDwOutIdeal) (hDwOutRefIdeal := hDwOutRefIdeal)
    ∧ preserves_DwIn_DwInIdeal
    ∧ algebraic_DwInIdeal_DwInRefIdeal (hDwInIdeal := hDwInIdeal) (hDwInRefIdeal := hDwInRefIdeal)
    ∧ preserves_DwQkv_DwQkvIdeal
    ∧ algebraic_DwQkvIdeal_DwQkvRefIdeal (hDwQkvIdeal := hDwQkvIdeal) (hDwQkvRefIdeal := hDwQkvRefIdeal)
    ∧ preserves_Da_DaIdeal
    ∧ algebraic_DaIdeal_DaRefIdeal (hDaIdeal := hDaIdeal) (hDaRefIdeal := hDaRefIdeal)
    ∧ preserves_DaRef_DaRefIdeal
    ∧ preserves_Ln_LnIdeal
    ∧ algebraic_LnIdeal_LnRefIdeal (hLnIdeal := hLnIdeal) (hLnRefIdeal := hLnRefIdeal)
    ∧ preserves_Dh_DhIdeal
    ∧ algebraic_DhIdeal_DhRefIdeal (hDhIdeal := hDhIdeal) (hDhRefIdeal := hDhRefIdeal)
-- ==== DwOut.lean ====
abbrev S5x1024x18944 : Shape := ⟨3, ![5, 1024, 18944]⟩
abbrev S5x1024 : Shape := ⟨2, ![5, 1024]⟩
abbrev S5x1024x3584 : Shape := ⟨3, ![5, 1024, 3584]⟩
abbrev S5120x18944 : Shape := ⟨2, ![5120, 18944]⟩
abbrev S5120x1 : Shape := ⟨2, ![5120, 1]⟩
abbrev S5120x128 : Shape := ⟨2, ![5120, 128]⟩
abbrev S5120x3584 : Shape := ⟨2, ![5120, 3584]⟩
abbrev S18944x3584 : Shape := ⟨2, ![18944, 3584]⟩
abbrev S5120x256 : Shape := ⟨2, ![5120, 256]⟩
abbrev S256x3584 : Shape := ⟨2, ![256, 3584]⟩

abbrev nBuf : Space → Nat
  | .hbm => 13
  | .vmem => 6
  | .smem => 0
  | _ => 0

abbrev bufTy : (tb : Table) → Fin (tcTables nBuf tb) → BufTy
  | .hbm, ⟨0, _⟩ => ⟨S5x1024x18944, .fp8e4m3⟩
  | .hbm, ⟨1, _⟩ => ⟨S5x1024, .f32⟩
  | .hbm, ⟨2, _⟩ => ⟨S5x1024x3584, .fp8e5m2⟩
  | .hbm, ⟨3, _⟩ => ⟨S5x1024, .f32⟩
  | .hbm, ⟨4, _⟩ => ⟨S5120x18944, .fp8e4m3⟩
  | .hbm, ⟨5, _⟩ => ⟨S5120x1, .f32⟩
  | .hbm, ⟨6, _⟩ => ⟨S5120x128, .f32⟩
  | .hbm, ⟨7, _⟩ => ⟨S5120x1, .f32⟩
  | .hbm, ⟨8, _⟩ => ⟨S5120x128, .f32⟩
  | .hbm, ⟨9, _⟩ => ⟨S5120x128, .f32⟩
  | .hbm, ⟨10, _⟩ => ⟨S5120x128, .bf16⟩
  | .hbm, ⟨11, _⟩ => ⟨S5120x3584, .fp8e5m2⟩
  | .hbm, ⟨12, _⟩ => ⟨S18944x3584, .bf16⟩
  | .local _ .vmem, ⟨0, _⟩ => ⟨S5120x256, .fp8e4m3⟩
  | .local _ .vmem, ⟨1, _⟩ => ⟨S5120x256, .fp8e4m3⟩
  | .local _ .vmem, ⟨2, _⟩ => ⟨S5120x128, .bf16⟩
  | .local _ .vmem, ⟨3, _⟩ => ⟨S5120x3584, .fp8e5m2⟩
  | .local _ .vmem, ⟨4, _⟩ => ⟨S256x3584, .bf16⟩
  | .local _ .vmem, ⟨5, _⟩ => ⟨S256x3584, .bf16⟩
  | _, _ => ⟨S5x1024x18944, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![74], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5120x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5120x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5120x3584 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DwOutRefIdeal.lean ====
abbrev S5x1024x18944 : Shape := ⟨3, ![5, 1024, 18944]⟩
abbrev S5x1024 : Shape := ⟨2, ![5, 1024]⟩
abbrev S5x1024x3584 : Shape := ⟨3, ![5, 1024, 3584]⟩
abbrev S5120x18944 : Shape := ⟨2, ![5120, 18944]⟩
abbrev S5120x1 : Shape := ⟨2, ![5120, 1]⟩
abbrev S5120x3584 : Shape := ⟨2, ![5120, 3584]⟩
abbrev S18944x3584 : Shape := ⟨2, ![18944, 3584]⟩

abbrev nBuf : Space → Nat
  | .hbm => 9
  | .vmem => 5
  | .smem => 0
  | _ => 0

abbrev bufTy : (tb : Table) → Fin (tcTables nBuf tb) → BufTy
  | .hbm, ⟨0, _⟩ => ⟨S5x1024x18944, .fp8e4m3⟩
  | .hbm, ⟨1, _⟩ => ⟨S5x1024, .f32⟩
  | .hbm, ⟨2, _⟩ => ⟨S5x1024x3584, .fp8e5m2⟩
  | .hbm, ⟨3, _⟩ => ⟨S5x1024, .f32⟩
  | .hbm, ⟨4, _⟩ => ⟨S5120x18944, .fp8e4m3⟩
  | .hbm, ⟨5, _⟩ => ⟨S5120x1, .f32⟩
  | .hbm, ⟨6, _⟩ => ⟨S5120x3584, .fp8e5m2⟩
  | .hbm, ⟨7, _⟩ => ⟨S5120x1, .f32⟩
  | .hbm, ⟨8, _⟩ => ⟨S18944x3584, .bf16⟩
  | .local _ .vmem, ⟨0, _⟩ => ⟨S5120x18944, .fp8e4m3⟩
  | .local _ .vmem, ⟨1, _⟩ => ⟨S5120x1, .f32⟩
  | .local _ .vmem, ⟨2, _⟩ => ⟨S5120x3584, .fp8e5m2⟩
  | .local _ .vmem, ⟨3, _⟩ => ⟨S5120x1, .f32⟩
  | .local _ .vmem, ⟨4, _⟩ => ⟨S18944x3584, .bf16⟩
  | _, _ => ⟨S5x1024x18944, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S5120x18944 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x3584 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18944x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== DwIn.lean ====
abbrev S5x1024x3584 : Shape := ⟨3, ![5, 1024, 3584]⟩
abbrev S5x1024 : Shape := ⟨2, ![5, 1024]⟩
abbrev S3584 : Shape := ⟨1, ![3584]⟩
abbrev S5x1024x18944 : Shape := ⟨3, ![5, 1024, 18944]⟩
abbrev S5120x3584 : Shape := ⟨2, ![5120, 3584]⟩
abbrev S5120x1 : Shape := ⟨2, ![5120, 1]⟩
abbrev S5120x128 : Shape := ⟨2, ![5120, 128]⟩
abbrev S3584x1 : Shape := ⟨2, ![3584, 1]⟩
abbrev S3584x128 : Shape := ⟨2, ![3584, 128]⟩
abbrev S5120x18944 : Shape := ⟨2, ![5120, 18944]⟩
abbrev S3584x18944 : Shape := ⟨2, ![3584, 18944]⟩
abbrev S5120x512 : Shape := ⟨2, ![5120, 512]⟩
abbrev S3584x512 : Shape := ⟨2, ![3584, 512]⟩
abbrev S3584x5120 : Shape := ⟨2, ![3584, 5120]⟩
abbrev S2x256x3584 : Shape := ⟨3, ![2, 256, 3584]⟩
abbrev S2 : Shape := ⟨1, ![2]⟩
abbrev S1 : Shape := ⟨1, ![1]⟩
abbrev S_ : Shape := ⟨0, ![]⟩
abbrev S1x256x3584 : Shape := ⟨3, ![1, 256, 3584]⟩
abbrev S256x3584 : Shape := ⟨2, ![256, 3584]⟩
abbrev S256x128 : Shape := ⟨2, ![256, 128]⟩
abbrev S3584x256 : Shape := ⟨2, ![3584, 256]⟩
abbrev S512x5120 : Shape := ⟨2, ![512, 5120]⟩
abbrev S512x512 : Shape := ⟨2, ![512, 512]⟩
abbrev S512x128 : Shape := ⟨2, ![512, 128]⟩

abbrev nBuf : Space → Nat
  | .hbm => 16
  | .vmem => 8
  | .smem => 0
  | _ => 0

abbrev bufTy : (tb : Table) → Fin (tcTables nBuf tb) → BufTy
  | .hbm, ⟨0, _⟩ => ⟨S5x1024x3584, .fp8e4m3⟩
  | .hbm, ⟨1, _⟩ => ⟨S5x1024, .f32⟩
  | .hbm, ⟨2, _⟩ => ⟨S3584, .f32⟩
  | .hbm, ⟨3, _⟩ => ⟨S5x1024x18944, .fp8e5m2⟩
  | .hbm, ⟨4, _⟩ => ⟨S5x1024, .f32⟩
  | .hbm, ⟨5, _⟩ => ⟨S5120x3584, .fp8e4m3⟩
  | .hbm, ⟨6, _⟩ => ⟨S5120x1, .f32⟩
  | .hbm, ⟨7, _⟩ => ⟨S5120x128, .f32⟩
  | .hbm, ⟨8, _⟩ => ⟨S5120x1, .f32⟩
  | .hbm, ⟨9, _⟩ => ⟨S5120x128, .f32⟩
  | .hbm, ⟨10, _⟩ => ⟨S5120x128, .f32⟩
  | .hbm, ⟨11, _⟩ => ⟨S5120x128, .bf16⟩
  | .hbm, ⟨12, _⟩ => ⟨S3584x1, .f32⟩
  | .hbm, ⟨13, _⟩ => ⟨S3584x128, .f32⟩
  | .hbm, ⟨14, _⟩ => ⟨S5120x18944, .fp8e5m2⟩
  | .hbm, ⟨15, _⟩ => ⟨S3584x18944, .bf16⟩
  | .local _ .vmem, ⟨0, _⟩ => ⟨S5120x128, .bf16⟩
  | .local _ .vmem, ⟨1, _⟩ => ⟨S3584x128, .f32⟩
  | .local _ .vmem, ⟨2, _⟩ => ⟨S5120x512, .fp8e5m2⟩
  | .local _ .vmem, ⟨3, _⟩ => ⟨S5120x512, .fp8e5m2⟩
  | .local _ .vmem, ⟨4, _⟩ => ⟨S3584x512, .bf16⟩
  | .local _ .vmem, ⟨5, _⟩ => ⟨S3584x512, .bf16⟩
  | .local _ .vmem, ⟨6, _⟩ => ⟨S3584x5120, .bf16⟩
  | .local _ .vmem, ⟨7, _⟩ => ⟨S2x256x3584, .fp8e4m3⟩
  | _, _ => ⟨S5x1024x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![37], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S5120x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3584x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5120x512 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3584x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DwInRefIdeal.lean ====
abbrev S5x1024x3584 : Shape := ⟨3, ![5, 1024, 3584]⟩
abbrev S5x1024 : Shape := ⟨2, ![5, 1024]⟩
abbrev S3584 : Shape := ⟨1, ![3584]⟩
abbrev S5x1024x18944 : Shape := ⟨3, ![5, 1024, 18944]⟩
abbrev S5120x18944 : Shape := ⟨2, ![5120, 18944]⟩
abbrev S5120x3584 : Shape := ⟨2, ![5120, 3584]⟩
abbrev S5120x1 : Shape := ⟨2, ![5120, 1]⟩
abbrev S3584x1 : Shape := ⟨2, ![3584, 1]⟩
abbrev S3584x18944 : Shape := ⟨2, ![3584, 18944]⟩

abbrev nBuf : Space → Nat
  | .hbm => 11
  | .vmem => 6
  | .smem => 0
  | _ => 0

abbrev bufTy : (tb : Table) → Fin (tcTables nBuf tb) → BufTy
  | .hbm, ⟨0, _⟩ => ⟨S5x1024x3584, .fp8e4m3⟩
  | .hbm, ⟨1, _⟩ => ⟨S5x1024, .f32⟩
  | .hbm, ⟨2, _⟩ => ⟨S3584, .f32⟩
  | .hbm, ⟨3, _⟩ => ⟨S5x1024x18944, .fp8e5m2⟩
  | .hbm, ⟨4, _⟩ => ⟨S5x1024, .f32⟩
  | .hbm, ⟨5, _⟩ => ⟨S5120x18944, .fp8e5m2⟩
  | .hbm, ⟨6, _⟩ => ⟨S5120x3584, .fp8e4m3⟩
  | .hbm, ⟨7, _⟩ => ⟨S5120x1, .f32⟩
  | .hbm, ⟨8, _⟩ => ⟨S3584x1, .f32⟩
  | .hbm, ⟨9, _⟩ => ⟨S5120x1, .f32⟩
  | .hbm, ⟨10, _⟩ => ⟨S3584x18944, .bf16⟩
  | .local _ .vmem, ⟨0, _⟩ => ⟨S5120x3584, .fp8e4m3⟩
  | .local _ .vmem, ⟨1, _⟩ => ⟨S5120x1, .f32⟩
  | .local _ .vmem, ⟨2, _⟩ => ⟨S3584x1, .f32⟩
  | .local _ .vmem, ⟨3, _⟩ => ⟨S5120x18944, .fp8e5m2⟩
  | .local _ .vmem, ⟨4, _⟩ => ⟨S5120x1, .f32⟩
  | .local _ .vmem, ⟨5, _⟩ => ⟨S3584x18944, .bf16⟩
  | _, _ => ⟨S5x1024x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S5120x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x18944 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3584x18944 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== DwQkv.lean ====
abbrev S5x1024x3584 : Shape := ⟨3, ![5, 1024, 3584]⟩
abbrev S5x1024 : Shape := ⟨2, ![5, 1024]⟩
abbrev S3584 : Shape := ⟨1, ![3584]⟩
abbrev S5x1024x3x28x128 : Shape := ⟨5, ![5, 1024, 3, 28, 128]⟩
abbrev S5x3x28x1024x128 : Shape := ⟨5, ![5, 3, 28, 1024, 128]⟩
abbrev S5x84x1024x128 : Shape := ⟨4, ![5, 84, 1024, 128]⟩
abbrev S5120x3584 : Shape := ⟨2, ![5120, 3584]⟩
abbrev S5120x1 : Shape := ⟨2, ![5120, 1]⟩
abbrev S5120x128 : Shape := ⟨2, ![5120, 128]⟩
abbrev S3584x1 : Shape := ⟨2, ![3584, 1]⟩
abbrev S3584x128 : Shape := ⟨2, ![3584, 128]⟩
abbrev S84x3584x128 : Shape := ⟨3, ![84, 3584, 128]⟩
abbrev S5x4x1024x128 : Shape := ⟨4, ![5, 4, 1024, 128]⟩
abbrev S4x3584x128 : Shape := ⟨3, ![4, 3584, 128]⟩
abbrev S3584x5120 : Shape := ⟨2, ![3584, 5120]⟩
abbrev S2x256x3584 : Shape := ⟨3, ![2, 256, 3584]⟩
abbrev S2 : Shape := ⟨1, ![2]⟩
abbrev S1 : Shape := ⟨1, ![1]⟩
abbrev S_ : Shape := ⟨0, ![]⟩
abbrev S1x256x3584 : Shape := ⟨3, ![1, 256, 3584]⟩
abbrev S256x3584 : Shape := ⟨2, ![256, 3584]⟩
abbrev S256x128 : Shape := ⟨2, ![256, 128]⟩
abbrev S3584x256 : Shape := ⟨2, ![3584, 256]⟩
abbrev S1x1x1024x128 : Shape := ⟨4, ![1, 1, 1024, 128]⟩
abbrev S1024x128 : Shape := ⟨2, ![1024, 128]⟩
abbrev S1024x512 : Shape := ⟨2, ![1024, 512]⟩
abbrev S512x1024 : Shape := ⟨2, ![512, 1024]⟩
abbrev S512x512 : Shape := ⟨2, ![512, 512]⟩
abbrev S512x128 : Shape := ⟨2, ![512, 128]⟩
abbrev S1x512x128 : Shape := ⟨3, ![1, 512, 128]⟩

abbrev nBuf : Space → Nat
  | .hbm => 17
  | .vmem => 8
  | .smem => 0
  | _ => 0

abbrev bufTy : (tb : Table) → Fin (tcTables nBuf tb) → BufTy
  | .hbm, ⟨0, _⟩ => ⟨S5x1024x3584, .fp8e4m3⟩
  | .hbm, ⟨1, _⟩ => ⟨S5x1024, .f32⟩
  | .hbm, ⟨2, _⟩ => ⟨S3584, .f32⟩
  | .hbm, ⟨3, _⟩ => ⟨S5x1024x3x28x128, .fp8e5m2⟩
  | .hbm, ⟨4, _⟩ => ⟨S5x1024, .f32⟩
  | .hbm, ⟨5, _⟩ => ⟨S5x3x28x1024x128, .fp8e5m2⟩
  | .hbm, ⟨6, _⟩ => ⟨S5x84x1024x128, .fp8e5m2⟩
  | .hbm, ⟨7, _⟩ => ⟨S5120x3584, .fp8e4m3⟩
  | .hbm, ⟨8, _⟩ => ⟨S5120x1, .f32⟩
  | .hbm, ⟨9, _⟩ => ⟨S5120x128, .f32⟩
  | .hbm, ⟨10, _⟩ => ⟨S5120x1, .f32⟩
  | .hbm, ⟨11, _⟩ => ⟨S5120x128, .f32⟩
  | .hbm, ⟨12, _⟩ => ⟨S5120x128, .f32⟩
  | .hbm, ⟨13, _⟩ => ⟨S5120x128, .bf16⟩
  | .hbm, ⟨14, _⟩ => ⟨S3584x1, .f32⟩
  | .hbm, ⟨15, _⟩ => ⟨S3584x128, .f32⟩
  | .hbm, ⟨16, _⟩ => ⟨S84x3584x128, .bf16⟩
  | .local _ .vmem, ⟨0, _⟩ => ⟨S5120x128, .bf16⟩
  | .local _ .vmem, ⟨1, _⟩ => ⟨S3584x128, .f32⟩
  | .local _ .vmem, ⟨2, _⟩ => ⟨S5x4x1024x128, .fp8e5m2⟩
  | .local _ .vmem, ⟨3, _⟩ => ⟨S5x4x1024x128, .fp8e5m2⟩
  | .local _ .vmem, ⟨4, _⟩ => ⟨S4x3584x128, .bf16⟩
  | .local _ .vmem, ⟨5, _⟩ => ⟨S4x3584x128, .bf16⟩
  | .local _ .vmem, ⟨6, _⟩ => ⟨S3584x5120, .bf16⟩
  | .local _ .vmem, ⟨7, _⟩ => ⟨S2x256x3584, .fp8e4m3⟩
  | _, _ => ⟨S5x1024x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![21], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S5120x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3584x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5x4x1024x128 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x3584x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DwQkvRefIdeal.lean ====
abbrev S5x1024x3584 : Shape := ⟨3, ![5, 1024, 3584]⟩
abbrev S5x1024 : Shape := ⟨2, ![5, 1024]⟩
abbrev S3584 : Shape := ⟨1, ![3584]⟩
abbrev S5x1024x3x28x128 : Shape := ⟨5, ![5, 1024, 3, 28, 128]⟩
abbrev S5120x10752 : Shape := ⟨2, ![5120, 10752]⟩
abbrev S5120x3584 : Shape := ⟨2, ![5120, 3584]⟩
abbrev S5120x1 : Shape := ⟨2, ![5120, 1]⟩
abbrev S3584x1 : Shape := ⟨2, ![3584, 1]⟩
abbrev S3584x10752 : Shape := ⟨2, ![3584, 10752]⟩
abbrev S3584x84x128 : Shape := ⟨3, ![3584, 84, 128]⟩
abbrev S84x3584x128 : Shape := ⟨3, ![84, 3584, 128]⟩

abbrev nBuf : Space → Nat
  | .hbm => 13
  | .vmem => 6
  | .smem => 0
  | _ => 0

abbrev bufTy : (tb : Table) → Fin (tcTables nBuf tb) → BufTy
  | .hbm, ⟨0, _⟩ => ⟨S5x1024x3584, .fp8e4m3⟩
  | .hbm, ⟨1, _⟩ => ⟨S5x1024, .f32⟩
  | .hbm, ⟨2, _⟩ => ⟨S3584, .f32⟩
  | .hbm, ⟨3, _⟩ => ⟨S5x1024x3x28x128, .fp8e5m2⟩
  | .hbm, ⟨4, _⟩ => ⟨S5x1024, .f32⟩
  | .hbm, ⟨5, _⟩ => ⟨S5120x10752, .fp8e5m2⟩
  | .hbm, ⟨6, _⟩ => ⟨S5120x3584, .fp8e4m3⟩
  | .hbm, ⟨7, _⟩ => ⟨S5120x1, .f32⟩
  | .hbm, ⟨8, _⟩ => ⟨S3584x1, .f32⟩
  | .hbm, ⟨9, _⟩ => ⟨S5120x1, .f32⟩
  | .hbm, ⟨10, _⟩ => ⟨S3584x10752, .bf16⟩
  | .hbm, ⟨11, _⟩ => ⟨S3584x84x128, .bf16⟩
  | .hbm, ⟨12, _⟩ => ⟨S84x3584x128, .bf16⟩
  | .local _ .vmem, ⟨0, _⟩ => ⟨S5120x3584, .fp8e4m3⟩
  | .local _ .vmem, ⟨1, _⟩ => ⟨S5120x1, .f32⟩
  | .local _ .vmem, ⟨2, _⟩ => ⟨S3584x1, .f32⟩
  | .local _ .vmem, ⟨3, _⟩ => ⟨S5120x10752, .fp8e5m2⟩
  | .local _ .vmem, ⟨4, _⟩ => ⟨S5120x1, .f32⟩
  | .local _ .vmem, ⟨5, _⟩ => ⟨S3584x10752, .bf16⟩
  | _, _ => ⟨S5x1024x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S5120x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x10752 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3584x10752 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Da.lean ====
abbrev S5x1024x3584 : Shape := ⟨3, ![5, 1024, 3584]⟩
abbrev S5x1024 : Shape := ⟨2, ![5, 1024]⟩
abbrev S18944x3584 : Shape := ⟨2, ![18944, 3584]⟩
abbrev S3584 : Shape := ⟨1, ![3584]⟩
abbrev S5x1024x18944 : Shape := ⟨3, ![5, 1024, 18944]⟩
abbrev S5120x3584 : Shape := ⟨2, ![5120, 3584]⟩
abbrev S5120x1 : Shape := ⟨2, ![5120, 1]⟩
abbrev S5120x128 : Shape := ⟨2, ![5120, 128]⟩
abbrev S1x3584 : Shape := ⟨2, ![1, 3584]⟩
abbrev S5120x18944 : Shape := ⟨2, ![5120, 18944]⟩
abbrev S1024x3584 : Shape := ⟨2, ![1024, 3584]⟩
abbrev S1024x128 : Shape := ⟨2, ![1024, 128]⟩
abbrev S512x3584 : Shape := ⟨2, ![512, 3584]⟩
abbrev S1024x512 : Shape := ⟨2, ![1024, 512]⟩
abbrev S256x512 : Shape := ⟨2, ![256, 512]⟩
abbrev S256x128 : Shape := ⟨2, ![256, 128]⟩
abbrev S256x3584 : Shape := ⟨2, ![256, 3584]⟩

abbrev nBuf : Space → Nat
  | .hbm => 15
  | .vmem => 17
  | .smem => 0
  | _ => 0

abbrev bufTy : (tb : Table) → Fin (tcTables nBuf tb) → BufTy
  | .hbm, ⟨0, _⟩ => ⟨S5x1024x3584, .fp8e5m2⟩
  | .hbm, ⟨1, _⟩ => ⟨S5x1024, .f32⟩
  | .hbm, ⟨2, _⟩ => ⟨S18944x3584, .fp8e4m3⟩
  | .hbm, ⟨3, _⟩ => ⟨S3584, .f32⟩
  | .hbm, ⟨4, _⟩ => ⟨S5x1024x18944, .fp8e4m3⟩
  | .hbm, ⟨5, _⟩ => ⟨S5x1024, .f32⟩
  | .hbm, ⟨6, _⟩ => ⟨S5120x3584, .fp8e5m2⟩
  | .hbm, ⟨7, _⟩ => ⟨S5120x1, .f32⟩
  | .hbm, ⟨8, _⟩ => ⟨S5120x128, .f32⟩
  | .hbm, ⟨9, _⟩ => ⟨S1x3584, .f32⟩
  | .hbm, ⟨10, _⟩ => ⟨S5120x18944, .fp8e4m3⟩
  | .hbm, ⟨11, _⟩ => ⟨S5120x1, .f32⟩
  | .hbm, ⟨12, _⟩ => ⟨S5120x128, .f32⟩
  | .hbm, ⟨13, _⟩ => ⟨S5120x18944, .f32⟩
  | .hbm, ⟨14, _⟩ => ⟨S5120x128, .f32⟩
  | .local _ .vmem, ⟨0, _⟩ => ⟨S1024x3584, .fp8e5m2⟩
  | .local _ .vmem, ⟨1, _⟩ => ⟨S1024x3584, .fp8e5m2⟩
  | .local _ .vmem, ⟨2, _⟩ => ⟨S1024x128, .f32⟩
  | .local _ .vmem, ⟨3, _⟩ => ⟨S1024x128, .f32⟩
  | .local _ .vmem, ⟨4, _⟩ => ⟨S512x3584, .fp8e4m3⟩
  | .local _ .vmem, ⟨5, _⟩ => ⟨S512x3584, .fp8e4m3⟩
  | .local _ .vmem, ⟨6, _⟩ => ⟨S1x3584, .f32⟩
  | .local _ .vmem, ⟨7, _⟩ => ⟨S1024x512, .fp8e4m3⟩
  | .local _ .vmem, ⟨8, _⟩ => ⟨S1024x512, .fp8e4m3⟩
  | .local _ .vmem, ⟨9, _⟩ => ⟨S1024x128, .f32⟩
  | .local _ .vmem, ⟨10, _⟩ => ⟨S1024x128, .f32⟩
  | .local _ .vmem, ⟨11, _⟩ => ⟨S1024x512, .f32⟩
  | .local _ .vmem, ⟨12, _⟩ => ⟨S1024x512, .f32⟩
  | .local _ .vmem, ⟨13, _⟩ => ⟨S1024x128, .f32⟩
  | .local _ .vmem, ⟨14, _⟩ => ⟨S1024x128, .f32⟩
  | .local _ .vmem, ⟨15, _⟩ => ⟨S1024x3584, .bf16⟩
  | .local _ .vmem, ⟨16, _⟩ => ⟨S1024x512, .f32⟩
  | _, _ => ⟨S5x1024x3584, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![186], ![false]⟩

def cc0_transform_0 (i : grid0.Coords) : Fin 2 → Nat :=
  let arg0 : BitVec 32 := BitVec.ofNat 32 (i 0).val
  let c184_i32 : BitVec 32 := 184#32
  let v0 : BitVec 32 := Scalar.minsi arg0 c184_i32
  let c37_i32 : BitVec 32 := 37#32
  let v1 : BitVec 32 := Scalar.divsi v0 c37_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c37_i32 c0_i32_1
  let v8 : BitVec 32 := Scalar.extui v7
  let c0_i32_2 : BitVec 32 := 0#32
  let v9 : BitVec 1 := Scalar.cmpi .slt c37_i32 c0_i32_2
  let v10 : BitVec 32 := Scalar.extui v9
  let v11 : BitVec 32 := Scalar.subi v8 v10
  let v12 : BitVec 1 := Scalar.cmpi .ne v6 v11
  let v13 : BitVec 32 := Scalar.remsi v0 c37_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c37_i32 : BitVec 32 := 37#32
  let v2 : BitVec 32 := Scalar.divsi v1 c37_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c37_i32 c0_i32_2
  let v9 : BitVec 32 := Scalar.extui v8
  let c0_i32_3 : BitVec 32 := 0#32
  let v10 : BitVec 1 := Scalar.cmpi .slt c37_i32 c0_i32_3
  let v11 : BitVec 32 := Scalar.extui v10
  let v12 : BitVec 32 := Scalar.subi v9 v11
  let v13 : BitVec 1 := Scalar.cmpi .ne v7 v12
  let v14 : BitVec 32 := Scalar.remsi v1 c37_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

def cc0_transform_2 (i : grid0.Coords) : Fin 2 → Nat :=
  let arg0 : BitVec 32 := BitVec.ofNat 32 (i 0).val
  let c184_i32 : BitVec 32 := 184#32
  let v0 : BitVec 32 := Scalar.minsi arg0 c184_i32
  let c37_i32 : BitVec 32 := 37#32
  let c0_i32 : BitVec 32 := 0#32
  let v1 : BitVec 1 := Scalar.cmpi .eq c37_i32 c0_i32
  let c1_i32 : BitVec 32 := 1#32
  let v2 : BitVec 32 := Scalar.select v1 c1_i32 c37_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c37_i32 : BitVec 32 := 37#32
  let v2 : BitVec 32 := Scalar.divsi v1 c37_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c37_i32 c0_i32_2
  let v9 : BitVec 32 := Scalar.extui v8
  let c0_i32_3 : BitVec 32 := 0#32
  let v10 : BitVec 1 := Scalar.cmpi .slt c37_i32 c0_i32_3
  let v11 : BitVec 32 := Scalar.extui v10
  let v12 : BitVec 32 := Scalar.subi v9 v11
  let v13 : BitVec 1 := Scalar.cmpi .ne v7 v12
  let v14 : BitVec 32 := Scalar.remsi v1 c37_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c37_i32_8 : BitVec 32 := 37#32
  let c0_i32_9 : BitVec 32 := 0#32
  let v21 : BitVec 1 := Scalar.cmpi .eq c37_i32_8 c0_i32_9
  let c1_i32_10 : BitVec 32 := 1#32
  let v22 : BitVec 32 := Scalar.select v21 c1_i32_10 c37_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, v30.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c37_i32 : BitVec 32 := 37#32
  let v2 : BitVec 32 := Scalar.divsi v1 c37_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c37_i32 c0_i32_2
  let v9 : BitVec 32 := Scalar.extui v8
  let c0_i32_3 : BitVec 32 := 0#32
  let v10 : BitVec 1 := Scalar.cmpi .slt c37_i32 c0_i32_3
  let v11 : BitVec 32 := Scalar.extui v10
  let v12 : BitVec 32 := Scalar.subi v9 v11
  let v13 : BitVec 1 := Scalar.cmpi .ne v7 v12
  let v14 : BitVec 32 := Scalar.remsi v1 c37_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c37_i32 : BitVec 32 := 37#32
  let v2 : BitVec 32 := Scalar.divsi v1 c37_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c37_i32 c0_i32_2
  let v9 : BitVec 32 := Scalar.extui v8
  let c0_i32_3 : BitVec 32 := 0#32
  let v10 : BitVec 1 := Scalar.cmpi .slt c37_i32 c0_i32_3
  let v11 : BitVec 32 := Scalar.extui v10
  let v12 : BitVec 32 := Scalar.subi v9 v11
  let v13 : BitVec 1 := Scalar.cmpi .ne v7 v12
  let v14 : BitVec 32 := Scalar.remsi v1 c37_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c37_i32_8 : BitVec 32 := 37#32
  let c0_i32_9 : BitVec 32 := 0#32
  let v21 : BitVec 1 := Scalar.cmpi .eq c37_i32_8 c0_i32_9
  let c1_i32_10 : BitVec 32 := 1#32
  let v22 : BitVec 32 := Scalar.select v21 c1_i32_10 c37_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, v30.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c37_i32 : BitVec 32 := 37#32
  let v2 : BitVec 32 := Scalar.divsi v1 c37_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c37_i32 c0_i32_2
  let v9 : BitVec 32 := Scalar.extui v8
  let c0_i32_3 : BitVec 32 := 0#32
  let v10 : BitVec 1 := Scalar.cmpi .slt c37_i32 c0_i32_3
  let v11 : BitVec 32 := Scalar.extui v10
  let v12 : BitVec 32 := Scalar.subi v9 v11
  let v13 : BitVec 1 := Scalar.cmpi .ne v7 v12
  let v14 : BitVec 32 := Scalar.remsi v1 c37_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

abbrev stage0_0 : Fin 2 → Memref sig .tc .vmem S1024x3584 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3584 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DaIdeal.lean ====
variable {F : FTy → Type} [FloatOps F] [Named F]
def κ : String → Option EReal := fun
  | "gelu_3_half_ca" => some ((107032224408900379083 / 2000000000000000000000 : ℝ) : EReal)
  | "gelu_c" => some ((3989422804014327 / 5000000000000000 : ℝ) : EReal)
  | "gelu_ca" => some ((35677408136300126361 / 1000000000000000000000 : ℝ) : EReal)
  | "gelu_half_c" => some ((3989422804014327 / 10000000000000000 : ℝ) : EReal)
  | _ => none
-- ==== DaRefIdeal.lean ====
variable {F : FTy → Type} [FloatOps F] [Named F]
def κ : String → Option EReal := fun
  | "gelu_3a" => some ((26829 / 200000 : ℝ) : EReal)
  | "gelu_a" => some ((8943 / 200000 : ℝ) : EReal)
  | "gelu_c" => some ((3989422804014327 / 5000000000000000 : ℝ) : EReal)
  | _ => none
-- ==== DaRef.lean ====
abbrev S5x1024x3584 : Shape := ⟨3, ![5, 1024, 3584]⟩
abbrev S5x1024 : Shape := ⟨2, ![5, 1024]⟩
abbrev S18944x3584 : Shape := ⟨2, ![18944, 3584]⟩
abbrev S3584 : Shape := ⟨1, ![3584]⟩
abbrev S5x1024x18944 : Shape := ⟨3, ![5, 1024, 18944]⟩
abbrev S5120x3584 : Shape := ⟨2, ![5120, 3584]⟩
abbrev S5120x1 : Shape := ⟨2, ![5120, 1]⟩
abbrev S1x3584 : Shape := ⟨2, ![1, 3584]⟩
abbrev S5120x18944 : Shape := ⟨2, ![5120, 18944]⟩

abbrev nBuf : Space → Nat
  | .hbm => 12
  | .vmem => 7
  | .smem => 0
  | _ => 0

abbrev bufTy : (tb : Table) → Fin (tcTables nBuf tb) → BufTy
  | .hbm, ⟨0, _⟩ => ⟨S5x1024x3584, .fp8e5m2⟩
  | .hbm, ⟨1, _⟩ => ⟨S5x1024, .f32⟩
  | .hbm, ⟨2, _⟩ => ⟨S18944x3584, .fp8e4m3⟩
  | .hbm, ⟨3, _⟩ => ⟨S3584, .f32⟩
  | .hbm, ⟨4, _⟩ => ⟨S5x1024x18944, .fp8e4m3⟩
  | .hbm, ⟨5, _⟩ => ⟨S5x1024, .f32⟩
  | .hbm, ⟨6, _⟩ => ⟨S5120x3584, .fp8e5m2⟩
  | .hbm, ⟨7, _⟩ => ⟨S5120x1, .f32⟩
  | .hbm, ⟨8, _⟩ => ⟨S1x3584, .f32⟩
  | .hbm, ⟨9, _⟩ => ⟨S5120x18944, .fp8e4m3⟩
  | .hbm, ⟨10, _⟩ => ⟨S5120x1, .f32⟩
  | .hbm, ⟨11, _⟩ => ⟨S5120x18944, .f32⟩
  | .local _ .vmem, ⟨0, _⟩ => ⟨S5120x3584, .fp8e5m2⟩
  | .local _ .vmem, ⟨1, _⟩ => ⟨S5120x1, .f32⟩
  | .local _ .vmem, ⟨2, _⟩ => ⟨S18944x3584, .fp8e4m3⟩
  | .local _ .vmem, ⟨3, _⟩ => ⟨S1x3584, .f32⟩
  | .local _ .vmem, ⟨4, _⟩ => ⟨S5120x18944, .fp8e4m3⟩
  | .local _ .vmem, ⟨5, _⟩ => ⟨S5120x1, .f32⟩
  | .local _ .vmem, ⟨6, _⟩ => ⟨S5120x18944, .f32⟩
  | _, _ => ⟨S5x1024x3584, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S5120x3584 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18944x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x18944 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5120x18944 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Ln.lean ====
abbrev S5x1024x3584 : Shape := ⟨3, ![5, 1024, 3584]⟩
abbrev S5x1024 : Shape := ⟨2, ![5, 1024]⟩
abbrev S3584 : Shape := ⟨1, ![3584]⟩
abbrev S5120x3584 : Shape := ⟨2, ![5120, 3584]⟩
abbrev S5120x1 : Shape := ⟨2, ![5120, 1]⟩
abbrev S5120x128 : Shape := ⟨2, ![5120, 128]⟩
abbrev S1x3584 : Shape := ⟨2, ![1, 3584]⟩
abbrev S256x3584 : Shape := ⟨2, ![256, 3584]⟩
abbrev S256x128 : Shape := ⟨2, ![256, 128]⟩
abbrev S256 : Shape := ⟨1, ![256]⟩
abbrev S256x1 : Shape := ⟨2, ![256, 1]⟩

abbrev nBuf : Space → Nat
  | .hbm => 30
  | .vmem => 24
  | .smem => 0
  | _ => 0

abbrev bufTy : (tb : Table) → Fin (tcTables nBuf tb) → BufTy
  | .hbm, ⟨0, _⟩ => ⟨S5x1024x3584, .f32⟩
  | .hbm, ⟨1, _⟩ => ⟨S5x1024, .f32⟩
  | .hbm, ⟨2, _⟩ => ⟨S5x1024x3584, .f32⟩
  | .hbm, ⟨3, _⟩ => ⟨S5x1024, .f32⟩
  | .hbm, ⟨4, _⟩ => ⟨S5x1024x3584, .fp8e4m3⟩
  | .hbm, ⟨5, _⟩ => ⟨S5x1024, .f32⟩
  | .hbm, ⟨6, _⟩ => ⟨S5x1024x3584, .fp8e5m2⟩
  | .hbm, ⟨7, _⟩ => ⟨S5x1024, .f32⟩
  | .hbm, ⟨8, _⟩ => ⟨S5x1024, .f32⟩
  | .hbm, ⟨9, _⟩ => ⟨S3584, .f32⟩
  | .hbm, ⟨10, _⟩ => ⟨S3584, .f32⟩
  | .hbm, ⟨11, _⟩ => ⟨S5120x3584, .f32⟩
  | .hbm, ⟨12, _⟩ => ⟨S5120x1, .f32⟩
  | .hbm, ⟨13, _⟩ => ⟨S5120x128, .f32⟩
  | .hbm, ⟨14, _⟩ => ⟨S5120x3584, .f32⟩
  | .hbm, ⟨15, _⟩ => ⟨S5120x1, .f32⟩
  | .hbm, ⟨16, _⟩ => ⟨S5120x128, .f32⟩
  | .hbm, ⟨17, _⟩ => ⟨S5120x3584, .fp8e4m3⟩
  | .hbm, ⟨18, _⟩ => ⟨S5120x1, .f32⟩
  | .hbm, ⟨19, _⟩ => ⟨S5120x128, .f32⟩
  | .hbm, ⟨20, _⟩ => ⟨S5120x3584, .fp8e5m2⟩
  | .hbm, ⟨21, _⟩ => ⟨S5120x1, .f32⟩
  | .hbm, ⟨22, _⟩ => ⟨S5120x128, .f32⟩
  | .hbm, ⟨23, _⟩ => ⟨S5120x1, .f32⟩
  | .hbm, ⟨24, _⟩ => ⟨S5120x128, .f32⟩
  | .hbm, ⟨25, _⟩ => ⟨S1x3584, .f32⟩
  | .hbm, ⟨26, _⟩ => ⟨S1x3584, .f32⟩
  | .hbm, ⟨27, _⟩ => ⟨S5120x3584, .bf16⟩
  | .hbm, ⟨28, _⟩ => ⟨S1x3584, .f32⟩
  | .hbm, ⟨29, _⟩ => ⟨S1x3584, .f32⟩
  | .local _ .vmem, ⟨0, _⟩ => ⟨S256x3584, .f32⟩
  | .local _ .vmem, ⟨1, _⟩ => ⟨S256x3584, .f32⟩
  | .local _ .vmem, ⟨2, _⟩ => ⟨S256x128, .f32⟩
  | .local _ .vmem, ⟨3, _⟩ => ⟨S256x128, .f32⟩
  | .local _ .vmem, ⟨4, _⟩ => ⟨S256x3584, .f32⟩
  | .local _ .vmem, ⟨5, _⟩ => ⟨S256x3584, .f32⟩
  | .local _ .vmem, ⟨6, _⟩ => ⟨S256x128, .f32⟩
  | .local _ .vmem, ⟨7, _⟩ => ⟨S256x128, .f32⟩
  | .local _ .vmem, ⟨8, _⟩ => ⟨S256x3584, .fp8e4m3⟩
  | .local _ .vmem, ⟨9, _⟩ => ⟨S256x3584, .fp8e4m3⟩
  | .local _ .vmem, ⟨10, _⟩ => ⟨S256x128, .f32⟩
  | .local _ .vmem, ⟨11, _⟩ => ⟨S256x128, .f32⟩
  | .local _ .vmem, ⟨12, _⟩ => ⟨S256x3584, .fp8e5m2⟩
  | .local _ .vmem, ⟨13, _⟩ => ⟨S256x3584, .fp8e5m2⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S1x3584, .f32⟩
  | .local _ .vmem, ⟨19, _⟩ => ⟨S1x3584, .f32⟩
  | .local _ .vmem, ⟨20, _⟩ => ⟨S256x3584, .bf16⟩
  | .local _ .vmem, ⟨21, _⟩ => ⟨S256x3584, .bf16⟩
  | .local _ .vmem, ⟨22, _⟩ => ⟨S1x3584, .f32⟩
  | .local _ .vmem, ⟨23, _⟩ => ⟨S1x3584, .f32⟩
  | _, _ => ⟨S5x1024x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3584 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3584 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x3584 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3584 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x3584 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x3584 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x3584 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== LnIdeal.lean ====
variable {F : FTy → Type} [FloatOps F] [Named F]
def κ : String → Option EReal := fun
  | "inv_d" => some ((1 / 3584 : ℝ) : EReal)
  | _ => none
-- ==== LnRefIdeal.lean ====
abbrev S5x1024x3584 : Shape := ⟨3, ![5, 1024, 3584]⟩
abbrev S5x1024 : Shape := ⟨2, ![5, 1024]⟩
abbrev S3584 : Shape := ⟨1, ![3584]⟩
abbrev S5120x3584 : Shape := ⟨2, ![5120, 3584]⟩
abbrev S5120x1 : Shape := ⟨2, ![5120, 1]⟩
abbrev S1x3584 : Shape := ⟨2, ![1, 3584]⟩
abbrev S5120 : Shape := ⟨1, ![5120]⟩

abbrev nBuf : Space → Nat
  | .hbm => 25
  | .vmem => 14
  | .smem => 0
  | _ => 0

abbrev bufTy : (tb : Table) → Fin (tcTables nBuf tb) → BufTy
  | .hbm, ⟨0, _⟩ => ⟨S5x1024x3584, .f32⟩
  | .hbm, ⟨1, _⟩ => ⟨S5x1024, .f32⟩
  | .hbm, ⟨2, _⟩ => ⟨S5x1024x3584, .f32⟩
  | .hbm, ⟨3, _⟩ => ⟨S5x1024, .f32⟩
  | .hbm, ⟨4, _⟩ => ⟨S5x1024x3584, .fp8e4m3⟩
  | .hbm, ⟨5, _⟩ => ⟨S5x1024, .f32⟩
  | .hbm, ⟨6, _⟩ => ⟨S5x1024x3584, .fp8e5m2⟩
  | .hbm, ⟨7, _⟩ => ⟨S5x1024, .f32⟩
  | .hbm, ⟨8, _⟩ => ⟨S5x1024, .f32⟩
  | .hbm, ⟨9, _⟩ => ⟨S3584, .f32⟩
  | .hbm, ⟨10, _⟩ => ⟨S3584, .f32⟩
  | .hbm, ⟨11, _⟩ => ⟨S5120x3584, .f32⟩
  | .hbm, ⟨12, _⟩ => ⟨S5120x1, .f32⟩
  | .hbm, ⟨13, _⟩ => ⟨S5120x3584, .f32⟩
  | .hbm, ⟨14, _⟩ => ⟨S5120x1, .f32⟩
  | .hbm, ⟨15, _⟩ => ⟨S5120x3584, .fp8e4m3⟩
  | .hbm, ⟨16, _⟩ => ⟨S5120x1, .f32⟩
  | .hbm, ⟨17, _⟩ => ⟨S5120x3584, .fp8e5m2⟩
  | .hbm, ⟨18, _⟩ => ⟨S5120x1, .f32⟩
  | .hbm, ⟨19, _⟩ => ⟨S5120x1, .f32⟩
  | .hbm, ⟨20, _⟩ => ⟨S1x3584, .f32⟩
  | .hbm, ⟨21, _⟩ => ⟨S1x3584, .f32⟩
  | .hbm, ⟨22, _⟩ => ⟨S5120x3584, .bf16⟩
  | .hbm, ⟨23, _⟩ => ⟨S1x3584, .f32⟩
  | .hbm, ⟨24, _⟩ => ⟨S1x3584, .f32⟩
  | .local _ .vmem, ⟨0, _⟩ => ⟨S5120x3584, .f32⟩
  | .local _ .vmem, ⟨1, _⟩ => ⟨S5120x1, .f32⟩
  | .local _ .vmem, ⟨2, _⟩ => ⟨S5120x3584, .f32⟩
  | .local _ .vmem, ⟨3, _⟩ => ⟨S5120x1, .f32⟩
  | .local _ .vmem, ⟨4, _⟩ => ⟨S5120x3584, .fp8e4m3⟩
  | .local _ .vmem, ⟨5, _⟩ => ⟨S5120x1, .f32⟩
  | .local _ .vmem, ⟨6, _⟩ => ⟨S5120x3584, .fp8e5m2⟩
  | .local _ .vmem, ⟨7, _⟩ => ⟨S5120x1, .f32⟩
  | .local _ .vmem, ⟨8, _⟩ => ⟨S5120x1, .f32⟩
  | .local _ .vmem, ⟨9, _⟩ => ⟨S1x3584, .f32⟩
  | .local _ .vmem, ⟨10, _⟩ => ⟨S1x3584, .f32⟩
  | .local _ .vmem, ⟨11, _⟩ => ⟨S5120x3584, .bf16⟩
  | .local _ .vmem, ⟨12, _⟩ => ⟨S1x3584, .f32⟩
  | .local _ .vmem, ⟨13, _⟩ => ⟨S1x3584, .f32⟩
  | _, _ => ⟨S5x1024x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S5120x3584 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5120x3584 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5120x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5120x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x3584 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x3584 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S5120x3584 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x3584 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x3584 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Dh.lean ====
abbrev S5x1024x18944 : Shape := ⟨3, ![5, 1024, 18944]⟩
abbrev S5120x128 : Shape := ⟨2, ![5120, 128]⟩
abbrev S3584x18944 : Shape := ⟨2, ![3584, 18944]⟩
abbrev S18944 : Shape := ⟨1, ![18944]⟩
abbrev S5x1024x3x28x128 : Shape := ⟨5, ![5, 1024, 3, 28, 128]⟩
abbrev S3584x3x28x128 : Shape := ⟨4, ![3584, 3, 28, 128]⟩
abbrev S3x28x128 : Shape := ⟨3, ![3, 28, 128]⟩
abbrev S5x3x28x1024x128 : Shape := ⟨5, ![5, 3, 28, 1024, 128]⟩
abbrev S5x84x1024x128 : Shape := ⟨4, ![5, 84, 1024, 128]⟩
abbrev S3x28x3584x128 : Shape := ⟨4, ![3, 28, 3584, 128]⟩
abbrev S84x3584x128 : Shape := ⟨3, ![84, 3584, 128]⟩
abbrev S5120x18944 : Shape := ⟨2, ![5120, 18944]⟩
abbrev S1x18944 : Shape := ⟨2, ![1, 18944]⟩
abbrev S1x10752 : Shape := ⟨2, ![1, 10752]⟩
abbrev S5120x3584 : Shape := ⟨2, ![5120, 3584]⟩
abbrev S1024x512 : Shape := ⟨2, ![1024, 512]⟩
abbrev S1024x128 : Shape := ⟨2, ![1024, 128]⟩
abbrev S3584x512 : Shape := ⟨2, ![3584, 512]⟩
abbrev S1x512 : Shape := ⟨2, ![1, 512]⟩
abbrev S1x4x1024x128 : Shape := ⟨4, ![1, 4, 1024, 128]⟩
abbrev S4x3584x128 : Shape := ⟨3, ![4, 3584, 128]⟩
abbrev S1024x3584 : Shape := ⟨2, ![1024, 3584]⟩
abbrev S2 : Shape := ⟨1, ![2]⟩
abbrev S1 : Shape := ⟨1, ![1]⟩
abbrev S_ : Shape := ⟨0, ![]⟩
abbrev S1024 : Shape := ⟨1, ![1024]⟩
abbrev S1024x1 : Shape := ⟨2, ![1024, 1]⟩
abbrev S1024x256 : Shape := ⟨2, ![1024, 256]⟩
abbrev S1x1x1024x128 : Shape := ⟨4, ![1, 1, 1024, 128]⟩
abbrev S1x3584x128 : Shape := ⟨3, ![1, 3584, 128]⟩
abbrev S3584x128 : Shape := ⟨2, ![3584, 128]⟩

abbrev nBuf : Space → Nat
  | .hbm => 18
  | .vmem => 21
  | .smem => 0
  | _ => 0

abbrev bufTy : (tb : Table) → Fin (tcTables nBuf tb) → BufTy
  | .hbm, ⟨0, _⟩ => ⟨S5x1024x18944, .f32⟩
  | .hbm, ⟨1, _⟩ => ⟨S5120x128, .f32⟩
  | .hbm, ⟨2, _⟩ => ⟨S3584x18944, .fp8e4m3⟩
  | .hbm, ⟨3, _⟩ => ⟨S18944, .f32⟩
  | .hbm, ⟨4, _⟩ => ⟨S5x1024x3x28x128, .fp8e5m2⟩
  | .hbm, ⟨5, _⟩ => ⟨S3584x3x28x128, .fp8e4m3⟩
  | .hbm, ⟨6, _⟩ => ⟨S3x28x128, .f32⟩
  | .hbm, ⟨7, _⟩ => ⟨S5x3x28x1024x128, .fp8e5m2⟩
  | .hbm, ⟨8, _⟩ => ⟨S5x84x1024x128, .fp8e5m2⟩
  | .hbm, ⟨9, _⟩ => ⟨S3x28x3584x128, .fp8e4m3⟩
  | .hbm, ⟨10, _⟩ => ⟨S84x3584x128, .fp8e4m3⟩
  | .hbm, ⟨11, _⟩ => ⟨S5120x18944, .f32⟩
  | .hbm, ⟨12, _⟩ => ⟨S1x18944, .f32⟩
  | .hbm, ⟨13, _⟩ => ⟨S1x10752, .f32⟩
  | .hbm, ⟨14, _⟩ => ⟨S5120x18944, .fp8e5m2⟩
  | .hbm, ⟨15, _⟩ => ⟨S5120x128, .f32⟩
  | .hbm, ⟨16, _⟩ => ⟨S5120x3584, .f32⟩
  | .hbm, ⟨17, _⟩ => ⟨S5120x3584, .f32⟩
  | .local _ .vmem, ⟨0, _⟩ => ⟨S1024x512, .f32⟩
  | .local _ .vmem, ⟨1, _⟩ => ⟨S1024x512, .f32⟩
  | .local _ .vmem, ⟨2, _⟩ => ⟨S1024x128, .f32⟩
  | .local _ .vmem, ⟨3, _⟩ => ⟨S1024x128, .f32⟩
  | .local _ .vmem, ⟨4, _⟩ => ⟨S3584x512, .fp8e4m3⟩
  | .local _ .vmem, ⟨5, _⟩ => ⟨S3584x512, .fp8e4m3⟩
  | .local _ .vmem, ⟨6, _⟩ => ⟨S1x512, .f32⟩
  | .local _ .vmem, ⟨7, _⟩ => ⟨S1x512, .f32⟩
  | .local _ .vmem, ⟨8, _⟩ => ⟨S1x4x1024x128, .fp8e5m2⟩
  | .local _ .vmem, ⟨9, _⟩ => ⟨S1x4x1024x128, .fp8e5m2⟩
  | .local _ .vmem, ⟨10, _⟩ => ⟨S4x3584x128, .fp8e4m3⟩
  | .local _ .vmem, ⟨11, _⟩ => ⟨S4x3584x128, .fp8e4m3⟩
  | .local _ .vmem, ⟨12, _⟩ => ⟨S1x512, .f32⟩
  | .local _ .vmem, ⟨13, _⟩ => ⟨S1x512, .f32⟩
  | .local _ .vmem, ⟨14, _⟩ => ⟨S1024x512, .fp8e5m2⟩
  | .local _ .vmem, ⟨15, _⟩ => ⟨S1024x512, .fp8e5m2⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x3584, .f32⟩
  | .local _ .vmem, ⟨20, _⟩ => ⟨S1024x3584, .f32⟩
  | _, _ => ⟨S5x1024x18944, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![5, 58], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_8 : BitVec 32 := 0#32
  let v18 : BitVec 1 := Scalar.cmpi .sgt arg0 c0_i32_8
  let v19 : BitVec 32 := Scalar.extui v18
  let c0_i32_9 : BitVec 32 := 0#32
  let v20 : BitVec 1 := Scalar.cmpi .ne v19 c0_i32_9
  v20

def k0_off1 (i : grid0.Coords) : Fin 2 → Nat :=
  let arg0 : BitVec 32 := BitVec.ofNat 32 (i 0).val
  let c1_i32_28 : BitVec 32 := 1#32
  let v75 : BitVec 32 := Scalar.subi arg0 c1_i32_28
  let c1024_i32 : BitVec 32 := 1024#32
  let v76 : BitVec 32 := Scalar.muli v75 c1024_i32
  let c0_i32_30 : BitVec 32 := 0#32
  ![v76.toNat, 0]
def k0_cond3 (i : grid0.Coords) : BitVec 1 :=
  let arg1 : BitVec 32 := BitVec.ofNat 32 (i 1).val
  let c37_i32 : BitVec 32 := 37#32
  let v3 : BitVec 1 := Scalar.cmpi .eq arg1 c37_i32
  let v4 : BitVec 32 := Scalar.extui v3
  let c0_i32_1 : BitVec 32 := 0#32
  let v5 : BitVec 1 := Scalar.cmpi .ne v4 c0_i32_1
  v5

def k0_cond4 (i : grid0.Coords) : BitVec 1 :=
  let arg0 : BitVec 32 := BitVec.ofNat 32 (i 0).val
  let c0_i32_8 : BitVec 32 := 0#32
  let v18 : BitVec 1 := Scalar.cmpi .sgt arg0 c0_i32_8
  let v19 : BitVec 32 := Scalar.extui v18
  let c0_i32_9 : BitVec 32 := 0#32
  let v20 : BitVec 1 := Scalar.cmpi .ne v19 c0_i32_9
  v20

def k0_off2 (i : grid0.Coords) : Fin 2 → Nat :=
  let arg0 : BitVec 32 := BitVec.ofNat 32 (i 0).val
  let c1_i32 : BitVec 32 := 1#32
  let v25 : BitVec 32 := Scalar.subi arg0 c1_i32
  let c1024_i32 : BitVec 32 := 1024#32
  let v26 : BitVec 32 := Scalar.muli v25 c1024_i32
  let c0_i32_12 : BitVec 32 := 0#32
  ![v26.toNat, 0]
def k0_cond7 (i : grid0.Coords) : BitVec 1 :=
  let arg1 : BitVec 32 := BitVec.ofNat 32 (i 1).val
  let c36_i32 : BitVec 32 := 36#32
  let v12 : BitVec 1 := Scalar.cmpi .eq arg1 c36_i32
  let v13 : BitVec 32 := Scalar.extui v12
  let c0_i32_6 : BitVec 32 := 0#32
  let v14 : BitVec 1 := Scalar.cmpi .ne v13 c0_i32_6
  v14

def k0_off3 (i : grid0.Coords) : Fin 2 → Nat :=
  let arg0 : BitVec 32 := BitVec.ofNat 32 (i 0).val
  let c1024_i32 : BitVec 32 := 1024#32
  let v18 : BitVec 32 := Scalar.muli arg0 c1024_i32
  let c0_i32_9 : BitVec 32 := 0#32
  ![v18.toNat, 0]
def k0_cond8 (i : grid0.Coords) : BitVec 1 :=
  let arg1 : BitVec 32 := BitVec.ofNat 32 (i 1).val
  let c57_i32 : BitVec 32 := 57#32
  let v15 : BitVec 1 := Scalar.cmpi .eq arg1 c57_i32
  let v16 : BitVec 32 := Scalar.extui v15
  let c0_i32_7 : BitVec 32 := 0#32
  let v17 : BitVec 1 := Scalar.cmpi .ne v16 c0_i32_7
  v17

def k0_off4 (i : grid0.Coords) : Fin 2 → Nat :=
  let arg0 : BitVec 32 := BitVec.ofNat 32 (i 0).val
  let c1024_i32 : BitVec 32 := 1024#32
  let v18 : BitVec 32 := Scalar.muli arg0 c1024_i32
  let c0_i32_8 : BitVec 32 := 0#32
  ![v18.toNat, 0]
def k0_cond9 (i : grid0.Coords) : BitVec 1 :=
  let arg0 : BitVec 32 := BitVec.ofNat 32 (i 0).val
  let c4_i32 : BitVec 32 := 4#32
  let v22 : BitVec 1 := Scalar.cmpi .eq arg0 c4_i32
  let v23 : BitVec 32 := Scalar.extui v22
  let c0_i32_9 : BitVec 32 := 0#32
  let v24 : BitVec 1 := Scalar.cmpi .ne v23 c0_i32_9
  v24

def k0_off5 (i : grid0.Coords) : Fin 2 → Nat :=
  let arg0 : BitVec 32 := BitVec.ofNat 32 (i 0).val
  let c1024_i32_10 : BitVec 32 := 1024#32
  let v25 : BitVec 32 := Scalar.muli arg0 c1024_i32_10
  let c0_i32_12 : BitVec 32 := 0#32
  ![v25.toNat, 0]
def k0_cond5 (i : grid0.Coords) : BitVec 1 :=
  let arg1 : BitVec 32 := BitVec.ofNat 32 (i 1).val
  let c37_i32_2 : BitVec 32 := 37#32
  let v6 : BitVec 1 := Scalar.cmpi .slt arg1 c37_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.minsi arg1 c36_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.minsi arg1 c36_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.minsi arg1 c36_i32
  let c0_i32 : BitVec 32 := 0#32
  let c0_i32_0 : BitVec 32 := 0#32
  ![c0_i32.toNat, v0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c37_i32 : BitVec 32 := 37#32
  let v17 : BitVec 32 := Scalar.subi arg1 c37_i32
  let c0_i32_5 : BitVec 32 := 0#32
  let v18 : BitVec 32 := Scalar.maxsi v17 c0_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg0 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v16.toNat, v18.toNat, v28.toNat, c0_i32_12.toNat]

def cc0_transform_5 (i : grid0.Coords) : Fin 3 → Nat :=
  let arg0 : BitVec 32 := BitVec.ofNat 32 (i 0).val
  let arg1 : BitVec 32 := BitVec.ofNat 32 (i 1).val
  let c37_i32 : BitVec 32 := 37#32
  let v0 : BitVec 32 := Scalar.subi arg1 c37_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c37_i32 : BitVec 32 := 37#32
  let v0 : BitVec 32 := Scalar.subi arg1 c37_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.minsi arg1 c36_i32
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3584x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x4x1024x128 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x3584x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== DhRefIdeal.lean ====
abbrev S5x1024x18944 : Shape := ⟨3, ![5, 1024, 18944]⟩
abbrev S5120x128 : Shape := ⟨2, ![5120, 128]⟩
abbrev S3584x18944 : Shape := ⟨2, ![3584, 18944]⟩
abbrev S18944 : Shape := ⟨1, ![18944]⟩
abbrev S5x1024x3x28x128 : Shape := ⟨5, ![5, 1024, 3, 28, 128]⟩
abbrev S3584x3x28x128 : Shape := ⟨4, ![3584, 3, 28, 128]⟩
abbrev S3x28x128 : Shape := ⟨3, ![3, 28, 128]⟩
abbrev S5120x18944 : Shape := ⟨2, ![5120, 18944]⟩
abbrev S1x18944 : Shape := ⟨2, ![1, 18944]⟩
abbrev S5120x3584 : Shape := ⟨2, ![5120, 3584]⟩
abbrev S5120 : Shape := ⟨1, ![5120]⟩
abbrev S5120x1 : Shape := ⟨2, ![5120, 1]⟩
abbrev S1x256 : Shape := ⟨2, ![1, 256]⟩
abbrev S5120x256 : Shape := ⟨2, ![5120, 256]⟩

abbrev nBuf : Space → Nat
  | .hbm => 12
  | .vmem => 7
  | .smem => 0
  | _ => 0

abbrev bufTy : (tb : Table) → Fin (tcTables nBuf tb) → BufTy
  | .hbm, ⟨0, _⟩ => ⟨S5x1024x18944, .f32⟩
  | .hbm, ⟨1, _⟩ => ⟨S5120x128, .f32⟩
  | .hbm, ⟨2, _⟩ => ⟨S3584x18944, .fp8e4m3⟩
  | .hbm, ⟨3, _⟩ => ⟨S18944, .f32⟩
  | .hbm, ⟨4, _⟩ => ⟨S5x1024x3x28x128, .fp8e5m2⟩
  | .hbm, ⟨5, _⟩ => ⟨S3584x3x28x128, .fp8e4m3⟩
  | .hbm, ⟨6, _⟩ => ⟨S3x28x128, .f32⟩
  | .hbm, ⟨7, _⟩ => ⟨S5120x18944, .f32⟩
  | .hbm, ⟨8, _⟩ => ⟨S1x18944, .f32⟩
  | .hbm, ⟨9, _⟩ => ⟨S5120x18944, .fp8e5m2⟩
  | .hbm, ⟨10, _⟩ => ⟨S5120x128, .f32⟩
  | .hbm, ⟨11, _⟩ => ⟨S5120x3584, .f32⟩
  | .local _ .vmem, ⟨0, _⟩ => ⟨S5120x18944, .f32⟩
  | .local _ .vmem, ⟨1, _⟩ => ⟨S5120x128, .f32⟩
  | .local _ .vmem, ⟨2, _⟩ => ⟨S3584x18944, .fp8e4m3⟩
  | .local _ .vmem, ⟨3, _⟩ => ⟨S1x18944, .f32⟩
  | .local _ .vmem, ⟨4, _⟩ => ⟨S5120x18944, .fp8e5m2⟩
  | .local _ .vmem, ⟨5, _⟩ => ⟨S5120x128, .f32⟩
  | .local _ .vmem, ⟨6, _⟩ => ⟨S5120x3584, .f32⟩
  | _, _ => ⟨S5x1024x18944, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S5120x18944 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x18944 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x18944 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x18944 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5120x3584 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Tokens.lean ====
module

public import Idealize.ShloMosaic.Lib.Pipeline.ValueKit
public import Idealize.ShloMosaic.Lib.Pointwise
public import Idealize.ShloMosaic.Lib.Claim

@[expose] public section

noncomputable section

open Idealize.ShloMosaic

/-! The 5 x 1024 tokens of the problem laid out as 5120 rows: what a reshape reads at a row. -/

namespace Tokens

/-- The batch of a row. -/
abbrev tb (k : Fin 5120) : Fin 5 := ⟨k.val / 1024, by omega⟩
/-- The position of a row in its batch. -/
abbrev ts (k : Fin 5120) : Fin 1024 := ⟨k.val % 1024, by omega⟩

/-- An array `[5, 1024, n]` reshaped to `[5120, n]`, read at row `k` and column `f`. -/
theorem cast3 {α : Type} {n : Nat} (x : (⟨3, ![5, 1024, n]⟩ : Shape).Idx → α)
    (h : (⟨3, ![5, 1024, n]⟩ : Shape).ShapeCasts ⟨2, ![5120, n]⟩) (k : Fin 5120) (f : Fin n) :
    shapeCast ⟨2, ![5120, n]⟩ x h (ix2 k f) = x (ix3 (tb k) (ts k) f) := by
  unfold shapeCast
  refine congrArg x (Shape.reshapeEquiv_eq_of_rowMajor h ?_)
  rw [Shape.rowMajor_val_three, Shape.rowMajor_val_two]
  show (k.val / 1024 * 1024 + k.val % 1024) * n + f.val = k.val * n + f.val
  rw [Nat.div_add_mod']

/-- An array `[5, 1024]` reshaped to one column `[5120, 1]`, read at row `k`. -/
theorem cast2 {α : Type} (x : (⟨2, ![5, 1024]⟩ : Shape).Idx → α)
    (h : (⟨2, ![5, 1024]⟩ : Shape).ShapeCasts ⟨2, ![5120, 1]⟩) (k : Fin 5120) (u : Fin 1) :
    shapeCast ⟨2, ![5120, 1]⟩ x h (ix2 k u) = x (ix2 (tb k) (ts k)) := by
  unfold shapeCast
  refine congrArg x (Shape.reshapeEquiv_eq_of_rowMajor h ?_)
  rw [Shape.rowMajor_val_two, Shape.rowMajor_val_two]
  show k.val / 1024 * 1024 + k.val % 1024 = k.val * 1 + u.val
  omega

/-- A token array's scale per row, copied along `l` lanes, read at a row and a lane. -/
theorem lanes {α : Type} {l : Nat} (x : (⟨2, ![5, 1024]⟩ : Shape).Idx → α)
    (h : (⟨2, ![5, 1024]⟩ : Shape).ShapeCasts ⟨2, ![5120, 1]⟩)
    (hb : (⟨2, ![5120, 1]⟩ : Shape).BroadcastsInDim ⟨2, ![5120, l]⟩ (![0, 1] : Fin 2 → Fin 2)) (k : Fin 5120) (u : Fin l) :
    broadcastInDim (⟨2, ![5120, l]⟩ : Shape) (![0, 1] : Fin 2 → Fin 2) hb (shapeCast ⟨2, ![5120, 1]⟩ x h) (ix2 k u) = x (ix2 (tb k) (ts k)) := by
  refine (broadcastInDim_apply _ hb _ (ix2 k u) (ix2 k (0 : Fin 1)) fun a => ?_).trans (cast2 x h k 0)
  match a with
  | ⟨0, _⟩ => rfl
  | ⟨1, _⟩ => rfl

/-- A vector `[n]` reshaped to one column `[n, 1]`, read at row `k`. -/
theorem cast1 {α : Type} {n : Nat} (x : (⟨1, ![n]⟩ : Shape).Idx → α)
    (h : (⟨1, ![n]⟩ : Shape).ShapeCasts ⟨2, ![n, 1]⟩) (k : Fin n) (u : Fin 1) :
    shapeCast ⟨2, ![n, 1]⟩ x h (ix2 k u) = x (ix1 k) := by
  unfold shapeCast
  refine congrArg x (Shape.reshapeEquiv_eq_of_rowMajor h ?_)
  rw [Shape.rowMajor_val_one, Shape.rowMajor_val_two]
  show k.val = k.val * 1 + u.val
  omega

/-- A vector `[n]` reshaped to one column and copied along `l` lanes, read at a row and a lane. -/
theorem lanes1 {α : Type} {n l : Nat} (x : (⟨1, ![n]⟩ : Shape).Idx → α)
    (h : (⟨1, ![n]⟩ : Shape).ShapeCasts ⟨2, ![n, 1]⟩)
    (hb : (⟨2, ![n, 1]⟩ : Shape).BroadcastsInDim ⟨2, ![n, l]⟩ (![0, 1] : Fin 2 → Fin 2)) (k : Fin n) (u : Fin l) :
    broadcastInDim (⟨2, ![n, l]⟩ : Shape) (![0, 1] : Fin 2 → Fin 2) hb (shapeCast ⟨2, ![n, 1]⟩ x h) (ix2 k u) = x (ix1 k) := by
  refine (broadcastInDim_apply _ hb _ (ix2 k u) (ix2 k (0 : Fin 1)) fun a => ?_).trans (cast1 x h k 0)
  match a with
  | ⟨0, _⟩ =>
    show k.val = if n = 1 then 0 else k.val
    split
    · have := k.isLt; omega
    · rfl
  | ⟨1, _⟩ => rfl

end Tokens
end
-- ==== Proof.DwOutValue.lean ====
/- The gradient of the MLP's output weight over the extended reals: entry by entry, the sum over the tokens of activation
   times scale times gradient times scale. -/
module

public import proofs.«01_k».proof.Proof.Gen.DwOutIdeal.Value
public import proofs.«01_k».proof.Proof.Tokens
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DwOutIdeal.ArrayValue

open Cert.DwOutIdeal Cert.DwOutIdeal.Gen

variable (m : (ℓ : Loc nD τ sig) → Buf (Elt Ideal) ℓ)

/-- Every window's block index, in the grid point. -/
theorem idx : ∀ t : Fin cfg0.N, win0_0.index t = ![0, t.val] ∧ win0_1.index t = ![0, 0] ∧ win0_2.index t = ![0, 0]
    ∧ win0_3.index t = ![t.val, 0] :=
  (by decide +kernel : ∀ t : Fin grid0.N, _)

open Tokens

/-- The first operand of the call: the activation codes, two dimensions. -/
theorem V0 (c : Dev nD) (k : Fin 5120) (f : Fin 18944) : V m c main_v0 (ix2 k f) = m ((c : Thread nD τ).loc main_arg0) (ix3 (tb k) (ts k) f) := by
  have h : V m c main_v0 = shapeCast S5120x18944 (m ((c : Thread nD τ).loc main_arg0)) shapeCasts_S5x1024x18944_S5120x18944 := by
    entry_read
    rfl
  rw [h]
  exact cast3 _ _ k f

/-- The third operand of the call: the gradient codes, two dimensions. -/
theorem V7 (c : Dev nD) (k : Fin 5120) (f : Fin 3584) : V m c main_v7 (ix2 k f) = m ((c : Thread nD τ).loc main_arg2) (ix3 (tb k) (ts k) f) := by
  have h : V m c main_v7 = shapeCast S5120x3584 (m ((c : Thread nD τ).loc main_arg2)) shapeCasts_S5x1024x3584_S5120x3584 := by
    entry_read
    rfl
  rw [h]
  exact cast3 _ _ k f

/-- The second operand of the call: the product of the two row scales, the same in every lane. -/
theorem V6 (c : Dev nD) (k : Fin 5120) (l : Fin 128) : V m c main_v6 (ix2 k l) =
    (show EReal from m ((c : Thread nD τ).loc main_arg1) (ix2 (tb k) (ts k))) * m ((c : Thread nD τ).loc main_arg3) (ix2 (tb k) (ts k)) := by
  have h : V m c main_v6 = (truncf .bf16 (mulf
    (broadcastInDim S5120x128 ![0, 1] bcast_S5120x1_S5120x128_0_1 (shapeCast S5120x1 (m ((c : Thread nD τ).loc main_arg1)) shapeCasts_S5x1024_S5120x1))
    (broadcastInDim S5120x128 ![0, 1] bcast_S5120x1_S5120x128_0_1 (shapeCast S5120x1 (m ((c : Thread nD τ).loc main_arg3)) shapeCasts_S5x1024_S5120x1)) : FVec Ideal S5120x128 .f32) bitsLt_bf16_f32) := by
    entry_read
    rfl
  rw [h]
  exact congrArg₂ (fun x y : EReal => x * y) (lanes _ _ _ k l) (lanes _ _ _ k l)

/-- The block of activation codes at point `t`. -/
theorem rd0 (c : Dev nD) (t : Fin cfg0.N) (k : Fin 5120) (f : Fin 256) : iblk m c 0 t (ix2 k f) =
    m ((c : Thread nD τ).loc main_arg0) (ix3 (tb k) (ts k) (⟨t.val * 256 + f.val, by have : t.val < 74 := t.isLt; omega⟩ : Fin 18944)) := by
  blk_simp [iblk]
  refine Eq.trans ?_ (V0 m c k _)
  blk_ext [idx t]

/-- The block of row scales at point `t`. -/
theorem rd1 (c : Dev nD) (t : Fin cfg0.N) (k : Fin 5120) (l : Fin 128) : iblk m c 1 t (ix2 k l) =
    (show EReal from m ((c : Thread nD τ).loc main_arg1) (ix2 (tb k) (ts k))) * m ((c : Thread nD τ).loc main_arg3) (ix2 (tb k) (ts k)) := by
  blk_simp [iblk]
  refine Eq.trans ?_ (V6 m c k l)
  blk_ext [idx t]

/-- The block of gradient codes at point `t`. -/
theorem rd2 (c : Dev nD) (t : Fin cfg0.N) (k : Fin 5120) (d : Fin 3584) : iblk m c 2 t (ix2 k d) =
    m ((c : Thread nD τ).loc main_arg2) (ix3 (tb k) (ts k) d) := by
  blk_simp [iblk]
  refine Eq.trans ?_ (V7 m c k d)
  blk_ext [idx t]

/-- The weight gradient: the sum over the tokens of the scaled hidden row times the output gradient. -/
def G (g : FVec Ideal S5x1024x18944 .fp8e4m3) (gs : FVec Ideal S5x1024 .f32) (dy : FVec Ideal S5x1024x3584 .fp8e5m2)
    (ds : FVec Ideal S5x1024 .f32) : FVec Ideal S18944x3584 .bf16 := fun i =>
  ∑ k : Fin 5120, (((g (ix3 (tb k) (ts k) (i 0)) : EReal) * (gs (ix2 (tb k) (ts k)) * ds (ix2 (tb k) (ts k))))
    * dy (ix3 (tb k) (ts k) (i 1)) : EReal)

/-- What the body stores at point `t`: the block of `G` there. -/
theorem point (c : Dev nD) (t : Fin cfg0.N) (y) : k0_pay1 (iblk m c 0 t) (iblk m c 1 t) (iblk m c 2 t) y
    = G (m ((c : Thread nD τ).loc main_arg0)) (m ((c : Thread nD τ).loc main_arg1)) (m ((c : Thread nD τ).loc main_arg2)) (m ((c : Thread nD τ).loc main_arg3)) (((cfg0.win 3).blk t).view.emb y) := by
  pointwise [k0_pay1]
  refine Finset.sum_congr rfl fun k _ => ?_
  have hy : (y 0).val < 256 := (y 0).isLt
  have ht : t.val < 74 := t.isLt
  have h0 : ((cfg0.win 3).blk t).view.emb y = ix2 (⟨t.val * 256 + (y 0).val, by omega⟩ : Fin 18944) (y 1) := by
    blk_ext [idx t]
  rw [h0]
  have h1 : (if h : (y 0).val < 128 then iblk m c 1 t (ix2 k (⟨(y 0).val, h⟩ : Fin 128)) else iblk m c 1 t (ix2 k (⟨(y 0).val - 128, by omega⟩ : Fin 128)))
      = (show EReal from m ((c : Thread nD τ).loc main_arg1) (ix2 (tb k) (ts k))) * m ((c : Thread nD τ).loc main_arg3) (ix2 (tb k) (ts k)) := by
    split <;> exact rd1 m c t k _
  exact congrArg₂ (fun x y : EReal => x * y) (congrArg₂ (fun x y : EReal => x * y) (rd0 m c t k (y 0)) h1) (rd2 m c t k (y 1))

/-- The array the call leaves is `G` of the arguments. -/
theorem final (c : Dev nD) : (dats m 0 c).arrAt 3 (cfgs 0).N
    = G (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t _ y => ?_
  blk_simp
  rw [after0_3]; frame_out
  exact point m c t y

end Cert.DwOutIdeal.ArrayValue
end
-- ==== Proof.DwOutRefValue.lean ====
/- The reference of the MLP output weight gradient leaves the same array. -/
module

public import proofs.«01_k».proof.Proof.Gen.DwOutRefIdeal.Value
public import proofs.«01_k».proof.Proof.DwOutValue

@[expose] public section

set_option maxRecDepth 16384

noncomputable section

open Idealize.ShloMosaic Idealize.ShloMosaic.TcCoe Idealize.SL.Sem
open Idealize.ShloMosaic.Pipeline (Dat)

namespace Cert.DwOutRefIdeal.ArrayValue

open Cert.DwOutRefIdeal Cert.DwOutRefIdeal.Gen Tokens

variable (m : (ℓ : Loc nD τ sig) → Buf (Elt Ideal) ℓ)

/-- Every window is its whole array at the one grid point. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The reference's activation codes, two dimensions. -/
theorem V0 (c : Dev nD) (k : Fin 5120) (f : Fin 18944) : V m c main_v0 (ix2 k f) = m ((c : Thread nD τ).loc main_arg0) (ix3 (tb k) (ts k) f) := by
  have h : V m c main_v0 = shapeCast S5120x18944 (m ((c : Thread nD τ).loc main_arg0)) shapeCasts_S5x1024x18944_S5120x18944 := by
    entry_read
    rfl
  rw [h]
  exact cast3 _ _ k f

/-- The reference's activation scales, one column. -/
theorem V1 (c : Dev nD) (k : Fin 5120) (f : Fin 1) : V m c main_v1 (ix2 k f) = m ((c : Thread nD τ).loc main_arg1) (ix2 (tb k) (ts k)) := by
  have h : V m c main_v1 = shapeCast S5120x1 (m ((c : Thread nD τ).loc main_arg1)) shapeCasts_S5x1024_S5120x1 := by
    entry_read
    rfl
  rw [h]
  exact cast2 _ _ k f

/-- The reference's gradient codes, two dimensions. -/
theorem V2 (c : Dev nD) (k : Fin 5120) (f : Fin 3584) : V m c main_v2 (ix2 k f) = m ((c : Thread nD τ).loc main_arg2) (ix3 (tb k) (ts k) f) := by
  have h : V m c main_v2 = shapeCast S5120x3584 (m ((c : Thread nD τ).loc main_arg2)) shapeCasts_S5x1024x3584_S5120x3584 := by
    entry_read
    rfl
  rw [h]
  exact cast3 _ _ k f

/-- The reference's gradient scales, one column. -/
theorem V3 (c : Dev nD) (k : Fin 5120) (f : Fin 1) : V m c main_v3 (ix2 k f) = m ((c : Thread nD τ).loc main_arg3) (ix2 (tb k) (ts k)) := by
  have h : V m c main_v3 = shapeCast S5120x1 (m ((c : Thread nD τ).loc main_arg3)) shapeCasts_S5x1024_S5120x1 := by
    entry_read
    rfl
  rw [h]
  exact cast2 _ _ k f

/-- The body's payload read at an index. -/
theorem payload (x0 : FVec Ideal S5120x18944 .fp8e4m3) (x1 : FVec Ideal S5120x1 .f32) (x2 : FVec Ideal S5120x3584 .fp8e5m2) (x3 : FVec Ideal S5120x1 .f32)
    (y : S18944x3584.Idx) : k0_pay1 (F := Ideal) x0 x1 x2 x3 y
      = (∑ k : Fin 5120, ((x0 (ix2 k (y 0)) : EReal) * x1 (ix2 k 0)) * (x2 (ix2 k (y 1)) * x3 (ix2 k 0)) : EReal) := by
  pointwise [k0_pay1]

/-- What the reference leaves in its result is the same sum over the tokens. -/
theorem final (c : Dev nD) : (dats m 0 c).arrAt 4 (cfgs 0).N
    = Cert.DwOutIdeal.ArrayValue.G (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  have h0 : ((cfg0.win 4).blk t).view.emb y = y := by
    blk_ext [idx t]
  have h1 : ∀ (k : Fin 5120) (f : Fin 18944), iblk m c 0 t (ix2 k f) = m ((c : Thread nD τ).loc main_arg0) (ix3 (tb k) (ts k) f) := fun k f => by
    blk_simp [iblk]
    refine Eq.trans ?_ (V0 m c k f)
    blk_ext [idx t]
  have h2 : ∀ (k : Fin 5120) (f : Fin 1), iblk m c 1 t (ix2 k f) = m ((c : Thread nD τ).loc main_arg1) (ix2 (tb k) (ts k)) := fun k f => by
    blk_simp [iblk]
    refine Eq.trans ?_ (V1 m c k f)
    blk_ext [idx t]
  have h3 : ∀ (k : Fin 5120) (f : Fin 3584), iblk m c 2 t (ix2 k f) = m ((c : Thread nD τ).loc main_arg2) (ix3 (tb k) (ts k) f) := fun k f => by
    blk_simp [iblk]
    refine Eq.trans ?_ (V2 m c k f)
    blk_ext [idx t]
  have h4 : ∀ (k : Fin 5120) (f : Fin 1), iblk m c 3 t (ix2 k f) = m ((c : Thread nD τ).loc main_arg3) (ix2 (tb k) (ts k)) := fun k f => by
    blk_simp [iblk]
    refine Eq.trans ?_ (V3 m c k f)
    blk_ext [idx t]
  refine Eq.trans ?_ (congrArg _ h0.symm)
  refine (Cert.DwOutRefIdeal.ArrayValue.payload _ _ _ _ y).trans ?_
  show (_ : EReal) = ∑ k : Fin 5120, _
  refine Finset.sum_congr rfl fun k _ => ?_
  refine (congrArg₂ (fun x y : EReal => x * y) (congrArg₂ (fun x y : EReal => x * y) (h1 k (y 0)) (h2 k 0)) (congrArg₂ (fun x y : EReal => x * y) (h3 k (y 1)) (h4 k 0))).trans ?_
  show (_ : EReal) * _ * (_ * _) = _ * (_ * _) * _
  ac_rfl

end Cert.DwOutRefIdeal.ArrayValue
end
-- ==== Proof.DwInIdealRuns.lean ====
/- What the hand-written runs of `proofs.«01_k».proof.DwInIdeal`'s kernel body share: the program up to the kernel
   region, the blocks the input windows hold, the condition of the body's branch over the grid points, the staging
   and scratch memrefs, and the invariant of a body that copies from main memory itself. -/
module

public import proofs.«01_k».proof.Proof.Gen.DwInIdeal.Frame
public import proofs.«01_k».proof.Proof.Gen.DwInIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.DwInIdeal.Hand

open Cert.DwInIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 37 = 0 :=
  (fun t => by
    have ht : t.val < 37 := Nat.lt_of_lt_of_eq t.isLt N_0
    have e0 : (grid0.coords t 0).val = t.val / 1 % 37 := Pipeline.Grid.coords_val t 0 (by decide) rfl
    simp only [cond0_0, e0]
    word_cmp
   : ∀ t : Fin grid0.N, cond0_0 (grid0.coords t) ↔ t.val % 37 = 0)

/-! ## The kernel body on any staging memrefs: a subtype the run finds -/

/-- Each window's current staging memref at point `t`, spelled as the pipeline passes it (`bodyAt0`), and its wholeness. -/
abbrev ms0_0 (t : Fin cfg0.N) : Memref sig .tc .vmem S5120x128 .bf16 := win0_0.stage (cfg0.slots t 0)
/-- Window 0's staging buffer is a whole buffer. -/
abbrev hs0_0 (t : Fin cfg0.N) : (ms0_0 t).IsWhole := hstage0_0 ((cfg0.slots t 0).cast nbuf0_0)
/-- Window 1's staging buffer at point `t`. -/
abbrev ms0_1 (t : Fin cfg0.N) : Memref sig .tc .vmem S3584x128 .f32 := win0_1.stage (cfg0.slots t 1)
/-- Window 1's staging buffer is a whole buffer. -/
abbrev hs0_1 (t : Fin cfg0.N) : (ms0_1 t).IsWhole := hstage0_1 ((cfg0.slots t 1).cast nbuf0_1)
/-- Window 2's staging buffer at point `t`. -/
abbrev ms0_2 (t : Fin cfg0.N) : Memref sig .tc .vmem S5120x512 .fp8e5m2 := win0_2.stage (cfg0.slots t 2)
/-- Window 2's staging buffer is a whole buffer. -/
abbrev hs0_2 (t : Fin cfg0.N) : (ms0_2 t).IsWhole := hstage0_2 ((cfg0.slots t 2).cast nbuf0_2)
/-- Window 3's staging buffer at point `t`. -/
abbrev ms0_3 (t : Fin cfg0.N) : Memref sig .tc .vmem S3584x512 .bf16 := win0_3.stage (cfg0.slots t 3)
/-- Window 3's staging buffer is a whole buffer. -/
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S3584x5120 .bf16 := Memref.whole cc0_scratch0
/-- The scratch buffer the rows are copied into. -/
abbrev scM0_1 : Memref sig .tc .vmem S2x256x3584 .fp8e4m3 := Memref.whole cc0_scratch1
/-- The operands left in HBM that the body copies into scratch itself, whole. -/
abbrev hbM0_0 : Memref sig .tc .hbm S5120x3584 .fp8e4m3 := Memref.whole main_v0
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
/-- Full ownership of a buffer of device `c` holding `f`. -/
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 6, SemLoc.dma 7] : Fin 2 → SemLoc sig) j
/-- The semaphores the body keeps for itself are none of the pipeline's. -/
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0) := by
  rw [Pipeline.ownSems0_eq_of_list c osem0 [0, 1] (by decide) (by decide)]; rfl
/-- The HBM operands the body moves, as references: unscoped, no window's array (`Pipeline.restRefs`). -/
def H0 : Finset (Ref sig .tc) := {main_v0}
/-- The array the body copies rows from is none of the windows' arrays. -/
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v0)) := by
  rw [BI.bigSep_eq_bigSepL_of_eq [main_v0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 6) 0 ∗ semVal ((c : Thread nD τ), SemLoc.dma 7) 0) ∗ iprop(hbPt0 c hbM0_0 (V m c main_v0))) := by
  rw [Pipeline.ΦD_eq, scopedRest0_eq, ownSems00_eq, hbmPts0_eq]; simp only [scM0_0, scM0_1, owns_whole]; try rfl

end Cert.DwInIdeal.Hand

end
-- ==== Proof.DwInIdealLoad.lean ====
/- The body of `proofs.«01_k».proof.DwInIdeal`'s kernel at the first grid point, split into the part that fills the
   scratch operand and the part it shares with every other point. -/
module

public import proofs.«01_k».proof.Proof.DwInIdealRuns
public import proofs.«01_k».proof.Proof.Gen.DwInIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.DwInIdeal.Hand

open Cert.DwInIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the body does at the first grid point before its row tiles: the branch of its `scf.if`, which copies the
    left operand from main memory in blocks of rows, scales each block and stores it transposed. -/
noncomputable def load (i : grid0.Coords) (arg1 : Memref sig .tc .hbm S5120x3584 .fp8e4m3) (harg1 : arg1.IsWhole) (arg2 : Memref sig .tc .vmem S5120x128 .bf16) (harg2 : arg2.IsWhole) (arg3 : Memref sig .tc .vmem S3584x128 .f32) (harg3 : arg3.IsWhole) (arg4 : Memref sig .tc .vmem S5120x512 .fp8e5m2) (harg4 : arg4.IsWhole) (arg5 : Memref sig .tc .vmem S3584x512 .bf16) (harg5 : arg5.IsWhole) (arg6 : Memref sig .tc .vmem S3584x5120 .bf16) (harg6 : arg6.IsWhole) (arg7 : Memref sig .tc .vmem S2x256x3584 .fp8e4m3) (harg7 : arg7.IsWhole) (arg8 : DmaSems sig S2) :
    Prog (TpuEff nD τ sig (Elt F) Λ₀ .tc) PUnit := do
  k0_part1 i arg1 harg1 arg2 harg2 arg3 harg3 arg4 harg4 arg5 harg5 arg6 harg6 arg7 harg7 arg8
  k0_part2 i arg1 harg1 arg2 harg2 arg3 harg3 arg4 harg4 arg5 harg5 arg6 harg6 arg7 harg7 arg8
  let v158 : FVec F S3584x256 .bf16 ← k0_part3 i arg1 harg1 arg2 harg2 arg3 harg3 arg4 harg4 arg5 harg5 arg6 harg6 arg7 harg7 arg8
  k0_part4 i arg1 harg1 arg2 harg2 arg3 harg3 arg4 harg4 arg5 harg5 arg6 harg6 arg7 harg7 arg8 v158
  let v216 : FVec F S256x3584 .bf16 ← k0_part5 i arg1 harg1 arg2 harg2 arg3 harg3 arg4 harg4 arg5 harg5 arg6 harg6 arg7 harg7 arg8
  k0_part6 i arg1 harg1 arg2 harg2 arg3 harg3 arg4 harg4 arg5 harg5 arg6 harg6 arg7 harg7 arg8 v216
  k0_part7 i arg1 harg1 arg2 harg2 arg3 harg3 arg4 harg4 arg5 harg5 arg6 harg6 arg7 harg7 arg8
  let v305 : FVec F S3584x256 .bf16 ← k0_part8 i arg1 harg1 arg2 harg2 arg3 harg3 arg4 harg4 arg5 harg5 arg6 harg6 arg7 harg7 arg8
  k0_part9 i arg1 harg1 arg2 harg2 arg3 harg3 arg4 harg4 arg5 harg5 arg6 harg6 arg7 harg7 arg8 v305
  let v362 : FVec F S256x3584 .fp8e4m3 ← k0_part10 i arg1 harg1 arg2 harg2 arg3 harg3 arg4 harg4 arg5 harg5 arg6 harg6 arg7 harg7 arg8
  k0_part11 i arg1 harg1 arg2 harg2 arg3 harg3 arg4 harg4 arg5 harg5 arg6 harg6 arg7 harg7 arg8 v362
  k0_part12 i arg1 harg1 arg2 harg2 arg3 harg3 arg4 harg4 arg5 harg5 arg6 harg6 arg7 harg7 arg8
  let v452 : FVec F S3584x256 .bf16 ← k0_part13 i arg1 harg1 arg2 harg2 arg3 harg3 arg4 harg4 arg5 harg5 arg6 harg6 arg7 harg7 arg8
  k0_part14 i arg1 harg1 arg2 harg2 arg3 harg3 arg4 harg4 arg5 harg5 arg6 harg6 arg7 harg7 arg8 v452
  let v477 : DmaSems sig S1 := arg8.slice (Rect.unit (s := S2) ![1] S1.size inb_S2_S1_1)
  let v478 : DmaSems sig S_ := v477.squeeze S_ squeezes_S1_S_
  let v479 : Memref sig .tc .vmem S1x256x3584 .fp8e4m3 := arg7.slice (Rect.unit (s := S2x256x3584) ![1, 0, 0] S1x256x3584.size inb_S2x256x3584_S1x256x3584_1_0_0) (fun _ => rfl)
  let v480 : Memref sig .tc .vmem S256x3584 .fp8e4m3 := v479.squeeze S256x3584 squeezes_S1x256x3584_S256x3584
  let v481 : Memref sig .tc .hbm S256x3584 .fp8e4m3 := arg1.slice (Rect.unit (s := S5120x3584) ![4864, 0] S256x3584.size inb_S5120x3584_S256x3584_4864_0) (fun _ => rfl)
  Prog.lift (.waitDma2 v478.sem v481 v480 (harg1.wordExact_slice rfl _ wordsfp8e4m3_S5120x3584_S256x3584_4864_0) ((harg7.wordExact_slice rfl _ wordsfp8e4m3_S2x256x3584_S1x256x3584_1_0_0).reshape _ _))
  let v482 : Vec F S1x256x3584 .fp8e4m3 ← Prog.lift (.load arg7 (Rect.unit (s := S2x256x3584) ![1, 0, 0] S1x256x3584.size inb_S2x256x3584_S1x256x3584_1_0_0).toLoadRect (View.loadsAt_vmem h_S1x256x3584))
  let v485 : Vec F S256x128 .bf16 ← Prog.lift (.load arg2 (Rect.unit (s := S5120x128) ![4864, 0] S256x128.size inb_S5120x128_S256x128_4864_0).toLoadRect (View.loadsAt_vmem h_S256x128))
  let v490 : Vec F S3584x256 .bf16 ← Prog.lift (.load arg6 (Rect.unit (s := S3584x5120) ![0, 4864] S3584x256.size inb_S3584x5120_S3584x256_0_4864).toLoadRect (View.loadsAt_vmem h_S3584x256))
  Prog.lift (.store arg6 (Rect.unit (s := S3584x5120) ![0, 4864] S3584x256.size inb_S3584x5120_S3584x256_0_4864) (k0_pay27 v482 v485) Finset.univ (View.stores_vmem h_S3584x256 (harg6.storeExact_slice rfl _ packedbf16_S3584x5120_S3584x256_0_4864) (fun _ => rfl)) (.inl rfl))
  pure ⟨⟩

set_option maxHeartbeats 1000000 in
/-- At a point where the branch is taken, the body is `load` and then the body of any point where it is not: nothing
    else in it reads the grid coordinate. -/
theorem split (i j : grid0.Coords) (hi : cond0_0 i) (hj : ¬ cond0_0 j) (arg1 : Memref sig .tc .hbm S5120x3584 .fp8e4m3) (harg1 : arg1.IsWhole) (arg2 : Memref sig .tc .vmem S5120x128 .bf16) (harg2 : arg2.IsWhole) (arg3 : Memref sig .tc .vmem S3584x128 .f32) (harg3 : arg3.IsWhole) (arg4 : Memref sig .tc .vmem S5120x512 .fp8e5m2) (harg4 : arg4.IsWhole) (arg5 : Memref sig .tc .vmem S3584x512 .bf16) (harg5 : arg5.IsWhole) (arg6 : Memref sig .tc .vmem S3584x5120 .bf16) (harg6 : arg6.IsWhole) (arg7 : Memref sig .tc .vmem S2x256x3584 .fp8e4m3) (harg7 : arg7.IsWhole) (arg8 : DmaSems sig S2)  :
    cc0_dw_in (F := F) i arg1 harg1 arg2 harg2 arg3 harg3 arg4 harg4 arg5 harg5 arg6 harg6 arg7 harg7 arg8 = (load i arg1 harg1 arg2 harg2 arg3 harg3 arg4 harg4 arg5 harg5 arg6 harg6 arg7 harg7 arg8 >>= fun _ => cc0_dw_in j arg1 harg1 arg2 harg2 arg3 harg3 arg4 harg4 arg5 harg5 arg6 harg6 arg7 harg7 arg8) := by
  simp only [cc0_dw_in_eq_skeleton]; unfold cc0_dw_in_skel
  simp only [k0_part15_eq_skeleton]; unfold k0_part15_skel
  have hi' : Scalar.cmpi .ne (Scalar.extui (Scalar.cmpi .eq (BitVec.ofNat 32 (i 0).val) 0#32)) 0#32 = 1#1 := hi
  have hj' : ¬ Scalar.cmpi .ne (Scalar.extui (Scalar.cmpi .eq (BitVec.ofNat 32 (j 0).val) 0#32)) 0#32 = 1#1 := hj
  simp only [dif_pos hi', dif_neg hj', bind_assoc, pure_bind]
  rfl

end Cert.DwInIdeal.Hand

end
-- ==== Proof.DwInIdealRunLoad.lean ====
/- The run of the part of `proofs.«01_k».proof.DwInIdeal`'s kernel that fills the scratch operand. -/
module

public import proofs.«01_k».proof.Proof.DwInIdealLoad
public import proofs.«01_k».proof.Proof.Gen.DwInIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.DwInIdeal.Hand

open Cert.DwInIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
set_option sl_exec.dmaWindow true in
set_option sl_exec.dmaWindowSet true in
/-- The run of `load`: from the scale block `x0`, the staging scratch at `xs1` and main memory's left operand at `fh0`,
    it ends with main memory and the scale block as they were and the transposed scratch with the listed pieces written;
    the pieces are found by running the body. -/
noncomputable def runLoad (c : Dev nD) (i : grid0.Coords) (arg2 : Memref sig .tc .vmem S5120x128 .bf16) (harg2 : arg2.IsWhole) (arg3 : Memref sig .tc .vmem S3584x128 .f32) (harg3 : arg3.IsWhole) (arg4 : Memref sig .tc .vmem S5120x512 .fp8e5m2) (harg4 : arg4.IsWhole) (arg5 : Memref sig .tc .vmem S3584x512 .bf16) (harg5 : arg5.IsWhole) (arg6 : Memref sig .tc .vmem S3584x5120 .bf16) (harg6 : arg6.IsWhole) (arg7 : Memref sig .tc .vmem S2x256x3584 .fp8e4m3) (harg7 : arg7.IsWhole)
    (x0 : Vec F S5120x128 .bf16) (xs1 : Vec F S2x256x3584 .fp8e4m3) (fh0 : HbBuf0 (F := F) c hbM0_0) :
      { P : List (View.Piece (Elt F) S3584x5120 .bf16) //
        ∀ (W : Waits sig Unit) (K : PUnit → sProp 𝕄),
        iprop(owns (c : Thread nD τ) arg2 fullShare x0 ∗ (∃ d, owns (c : Thread nD τ) arg6 fullShare d) ∗ owns (c : Thread nD τ) arg7 fullShare xs1 ∗ semVal ((c : Thread nD τ), SemLoc.dma 6) 0 ∗ semVal ((c : Thread nD τ), SemLoc.dma 7) 0 ∗ hbPt0 c hbM0_0 fh0 ∗ owes (c : Thread nD τ) 0 W
            ∗ (iprop(owns (c : Thread nD τ) arg2 fullShare x0 ∗ (∃ f, arg6.view.loc (c : Thread nD τ) ↦[arg6.view.set]{fullShare} arg6.view.writes (Elt F) f P) ∗ (∃ d, owns (c : Thread nD τ) arg7 fullShare d) ∗ semVal ((c : Thread nD τ), SemLoc.dma 6) 0 ∗ semVal ((c : Thread nD τ), SemLoc.dma 7) 0 ∗ hbPt0 c hbM0_0 fh0 ∗ (∃ W', owes (c : Thread nD τ) 0 W')) -∗ K ⟨⟩))
          ⊢ wp frame (wpE (defs₀ (F := F)) Variants.none c none) Set.univ (load i (Memref.whole main_v0) (Memref.isWhole_whole _) arg2 harg2 arg3 harg3 arg4 harg4 arg5 harg5 arg6 harg6 arg7 harg7 cc0_scratch2) K } := by
  refine ⟨?_, fun W K => ?run⟩
  case run =>
    unfold load
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%ds0, %fs0, -, HS0⟩, ⟨%fs1, %hfs1, HS1⟩, Hq0, Hq1, Hh0, HW, Hk⟩
    obtain rfl := harg2.eq_unread hf0; obtain rfl := harg7.eq_unread hfs1
    sl_exec
    sl_step
    iapply Hk
    isplitl [H0]
    · iexists _; isplitr; · ipureintro; exact harg2.read_unread _
      iexact H0
    isplitl [HS0]
    · iexists _; iexact HS0
    isplitl [HS1]
    · iexists _, _; isplitr; swap; · iexact HS1
      ipureintro; rfl
    isplitl [Hq0]; · iexact Hq0
    isplitl [Hq1]; · iexact Hq1
    isplitl [Hh0]; · iexact Hh0
    iexists _; iexact HW

end Cert.DwInIdeal.Hand

end
-- ==== Proof.DwInIdealRunB.lean ====
/- The run of the body of the kernel over the extended reals at every point but the first: the rows are there
   already, transposed; the body multiplies them with its block and scales the rows of the product. -/
module

public import proofs.«01_k».proof.Proof.DwInIdealRuns
public import proofs.«01_k».proof.Proof.Gen.DwInIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.DwInIdeal.Hand

open Cert.DwInIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1744000 in
set_option sl_exec.dmaWindow true in
set_option sl_exec.dmaWindowSet true in
/-- The run of the body at every point but the first: the blocks of window 3 it stores, and what it leaves. -/
noncomputable def runB (c : Dev nD) (i : grid0.Coords) (arg2 : Memref sig .tc .vmem S5120x128 .bf16) (harg2 : arg2.IsWhole) (arg3 : Memref sig .tc .vmem S3584x128 .f32) (harg3 : arg3.IsWhole) (arg4 : Memref sig .tc .vmem S5120x512 .fp8e5m2) (harg4 : arg4.IsWhole) (arg5 : Memref sig .tc .vmem S3584x512 .bf16) (harg5 : arg5.IsWhole) (arg6 : Memref sig .tc .vmem S3584x5120 .bf16) (harg6 : arg6.IsWhole) (arg7 : Memref sig .tc .vmem S2x256x3584 .fp8e4m3) (harg7 : arg7.IsWhole) (hc0 : ¬cond0_0 i)
    (x0 : Vec F S5120x128 .bf16) (x1 : Vec F S3584x128 .f32) (x2 : Vec F S5120x512 .fp8e5m2) (xs0 : Vec F S3584x5120 .bf16) (fh0 : HbBuf0 (F := F) c hbM0_0) :
      { P : List (View.Piece (Elt F) S3584x512 .bf16) //
        ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ (∃ d, owns (c : Thread nD τ) arg7 fullShare d) ∗ semVal ((c : Thread nD τ), SemLoc.dma 6) 0 ∗ semVal ((c : Thread nD τ), SemLoc.dma 7) 0 ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f P) ∗ owns (c : Thread nD τ) arg6 fullShare xs0 ∗ (∃ d, owns (c : Thread nD τ) arg7 fullShare d) ∗ semVal ((c : Thread nD τ), SemLoc.dma 6) 0 ∗ semVal ((c : Thread nD τ), SemLoc.dma 7) 0 ∗ hbPt0 c hbM0_0 fh0 ∗ (∃ W', owes (c : Thread nD τ) 0 W')) -∗ K ⟨⟩))
          ⊢ wp frame (wpE (defs₀ (F := F)) Variants.none c none) Set.univ (cc0_dw_in i (Memref.whole main_v0) (Memref.isWhole_whole _) arg2 harg2 arg3 harg3 arg4 harg4 arg5 harg5 arg6 harg6 arg7 harg7 cc0_scratch2) K } := by
  refine ⟨?_, fun W K => ?run⟩
  case run =>
    simp only [cc0_dw_in_eq_skeleton]; unfold cc0_dw_in_skel
    simp only [k0_part15_eq_skeleton, k0_part16_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%ds1, %fs1, -, HS1⟩, Hq0, Hq1, Hh0, HW, Hk⟩
    obtain rfl := harg2.eq_unread hf0; obtain rfl := harg3.eq_unread hf1; obtain rfl := harg4.eq_unread hf2; obtain rfl := harg6.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [HS0]
    · iexists _; isplitr; · ipureintro; exact harg6.read_unread _
      iexact HS0
    isplitl [HS1]
    · iexists _, _; isplitr; swap; · iexact HS1
      ipureintro; rfl
    isplitl [Hq0]; · iexact Hq0
    isplitl [Hq1]; · iexact Hq1
    isplitl [Hh0]; · iexact Hh0
    iexists _; iexact HW

end Cert.DwInIdeal.Hand

end
-- ==== Proof.DwInFrame.lean ====
/- The frame of `proofs.«01_k».proof.DwIn`'s kernel at any float values: the program over the extended reals is the
   same program, so its runs serve both. -/
module

public import proofs.«01_k».proof.Proof.DwInIdealRunLoad
public import proofs.«01_k».proof.Proof.DwInIdealRunB
public import proofs.«01_k».proof.Proof.Gen.DwIn.Skeleton
public import proofs.«01_k».proof.Defs
public import Idealize.ShloMosaic.Lib.Claim

@[expose] public section

set_option maxRecDepth 65536

noncomputable section

namespace Cert.DwInIdeal.Plain

open Cert.DwInIdeal Cert.DwInIdeal.Gen Cert.DwInIdeal.Hand Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The one window of which nothing is stated: the output. -/
def forgets0 : Fin 4 → Bool := fun w => w.val == 3

/-- The proof data: each input's slot at its block, the output's slot at nothing in particular. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦD osem0 spec0 H0 (V m) c
  q _ := fullShare
  owed _ := 0

/-- The arrays of the proof data are those at region entry. -/
theorem A_eq (c : Dev nD) (w : Fin cfg0.W) : (dats m 0 c).A w = V m c (Pipeline.arrRef spec0 w) := by
  dsimp only [dats]

/-- Window 0 is left as its block. -/
theorem after0_0 (c : Dev nD) (t : Fin cfg0.N) : (dats m 0 c).after 0 t = iblk m c 0 t := by dsimp only [dats]
/-- Window 1 is left as its block. -/
theorem after0_1 (c : Dev nD) (t : Fin cfg0.N) : (dats m 0 c).after 1 t = iblk m c 1 t := by dsimp only [dats]
/-- Window 2 is left as its block. -/
theorem after0_2 (c : Dev nD) (t : Fin cfg0.N) : (dats m 0 c).after 2 t = iblk m c 2 t := by dsimp only [dats]

/-- What the body finds at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))

/-- What it leaves there. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d))

/-- The second grid point, where the scratch is not loaded. -/
abbrev t1 : Fin cfg0.N := ⟨1, by rw [show cfg0.N = 37 from N_0]; decide⟩

set_option maxHeartbeats 800000 in
/-- The body where the scratch is not loaded, on the slots of any point. -/
theorem sound_tail (c : Dev nD) (t : Fin cfg0.N) (j : grid0.Coords) (hj : ¬cond0_0 j) :
    bodyPre m c t ⊢ wp frame (wpE (defs₀ (F := F)) Variants.none c none) Set.univ
      (cc0_dw_in j (Memref.whole main_v0) (Memref.isWhole_whole _) (ms0_0 t) (hs0_0 t) (ms0_1 t) (hs0_1 t) (ms0_2 t) (hs0_2 t) (ms0_3 t) (hs0_3 t)
        scM0_0 (Memref.isWhole_whole _) scM0_1 (Memref.isWhole_whole _) cc0_scratch2) (fun _ => bodyPost m c t) := by
  unfold bodyPre bodyPost
  simp only [before0_0_of m (dats m 0 c) (A_eq m c 0) (after0_0 m c), before0_1_of m (dats m 0 c) (A_eq m c 1) (after0_1 m c),
    before0_2_of m (dats m 0 c) (A_eq m c 2) (after0_2 m c)]
  rw [show (dats m 0 c).Φ t.succ = (dats m 0 c).Φ t.castSucc from rfl, after0_0, after0_1, after0_2]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨⟨⟨%xs0, HS0⟩, HS1⟩, Hg, ⟨Hq0, Hq1⟩, Hh0⟩, ⟨%W, -, HW⟩, ⟨%d0, H0⟩, ⟨%d1, H1⟩, ⟨%d2, H2⟩, ⟨%d3, H3⟩⟩
  iapply ((runB (F := F) c j _ _ _ _ _ _ _ _ _ _ _ _ hj (iblk m c 0 t) (iblk m c 1 t) (iblk m c 2 t) xs0 (V m c main_v0)).2 W _)
  isplitl [H0]; · iexact H0
  isplitl [H1]; · iexact H1
  isplitl [H2]; · iexact H2
  isplitl [H3]; · iexists _; iexact H3
  isplitl [HS0]; · iexact HS0
  isplitl [HS1]; · iexact HS1
  isplitl [Hq0]; · iexact Hq0
  isplitl [Hq1]; · iexact Hq1
  isplitl [Hh0]; · iexact Hh0
  isplitl [HW]; · iexact HW
  iintro ⟨H0, H1, H2, ⟨%f5, H3⟩, HS0, HS1, Hq0, Hq1, Hh0, ⟨%W', HW'⟩⟩
  isplitl [HS0 HS1 Hg Hq0 Hq1 Hh0]
  · isplitl [HS0 HS1]
    · isplitl [HS0]; · iexists _; iexact HS0
      iexact HS1
    isplitl [Hg]; · iexact Hg
    isplitl [Hq0 Hq1]
    · isplitl [Hq0]; · iexact Hq0
      iexact Hq1
    iexact Hh0
  isplitl [HW']
  · iexists W'; isplitr; · ipureintro; exact fun _ _ => Or.inl trivial
    iexact HW'
  isplitl [H0]; · iexact H0
  isplitl [H1]; · iexact H1
  isplitl [H2]; · iexact H2
  unfold owns; iexists _, _; isplitr; swap; · iexact H3
  ipureintro; rfl

set_option maxHeartbeats 800000 in
/-- The body at any point: at the first it loads the scratch and then runs as at the others. -/
theorem sound_body (c : Dev nD) (t : Fin cfg0.N) :
    bodyPre m c t ⊢ wp frame (wpE (defs₀ (F := F)) Variants.none c none) Set.univ (bodyAt0 t) (fun _ => bodyPost m c t) := by
  by_cases h0 : t.val % 37 = 0
  · have hj : ¬ cond0_0 (grid0.coords t1) := fun h => absurd ((hcond0_0 t1).mp h) (by decide)
    unfold bodyAt0
    rw [split (grid0.coords t) (grid0.coords t1) ((hcond0_0 t).mpr h0) hj, wp_bind]
    have key := sound_tail m c t (grid0.coords t1) hj
    unfold bodyPre at key ⊢
    simp only [before0_0_of m (dats m 0 c) (A_eq m c 0) (after0_0 m c), show (dats m 0 c).Φ t.castSucc = Pipeline.ΦD osem0 spec0 H0 (V m) c from rfl, PhiD0_eq] at key ⊢
    unfold Dat.owesAt Pipeline.owesWithin at key ⊢
    rw [show (dats m 0 c).owed t.castSucc = 0 from rfl] at key ⊢
    iintro ⟨⟨⟨HS0, ⟨%xs1, HS1⟩⟩, Hg, ⟨Hq0, Hq1⟩, Hh0⟩, ⟨%W, -, HW⟩, ⟨%d0, H0⟩, H1, H2, H3⟩
    iapply ((runLoad (F := F) c (grid0.coords t) _ _ _ (hs0_1 t) _ (hs0_2 t) _ (hs0_3 t) _ _ _ _ (iblk m c 0 t) xs1 (V m c main_v0)).2 W _)
    isplitl [H0]; · iexact H0
    isplitl [HS0]; · iexact HS0
    isplitl [HS1]; · iexact HS1
    isplitl [Hq0]; · iexact Hq0
    isplitl [Hq1]; · iexact Hq1
    isplitl [Hh0]; · iexact Hh0
    isplitl [HW]; · iexact HW
    iintro ⟨H0, ⟨%f6, HS0⟩, HS1, Hq0, Hq1, Hh0, ⟨%W1, HW⟩⟩
    iapply key
    isplitl [HS0 HS1 Hg Hq0 Hq1 Hh0]
    · isplitl [HS0 HS1]
      · isplitl [HS0]
        · unfold owns; iexists _, _; isplitr; swap; · iexact HS0
          ipureintro; rfl
        iexact HS1
      isplitl [Hg]; · iexact Hg
      isplitl [Hq0 Hq1]
      · isplitl [Hq0]; · iexact Hq0
        iexact Hq1
      iexact Hh0
    isplitl [HW]
    · iexists W1; isplitr; · ipureintro; exact fun _ _ => Or.inl trivial
      iexact HW
    isplitl [H0]; · iexists d0; iexact H0
    isplitl [H1]; · iexact H1
    isplitl [H2]; · iexact H2
    iexact H3
  · exact sound_tail m c t (grid0.coords t) fun h => h0 ((hcond0_0 t).mp h)

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: every execution ends, with the input arrays unchanged and every counter at zero. -/
theorem run_main : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).2 main_arg0 (Pipeline.mem_restRefs_of main_arg0 (by decide) (by decide)) |>.trans (V_main_arg0 m c),
      (h.1 c).2 main_arg1 (Pipeline.mem_restRefs_of main_arg1 (by decide) (by decide)) |>.trans (V_main_arg1 m c),
      (h.1 c).2 main_arg2 (Pipeline.mem_restRefs_of main_arg2 (by decide) (by decide)) |>.trans (V_main_arg2 m c),
      (h.1 c).2 main_arg3 (Pipeline.mem_restRefs_of main_arg3 (by decide) (by decide)) |>.trans (V_main_arg3 m c),
      (h.1 c).2 main_arg4 (Pipeline.mem_restRefs_of main_arg4 (by decide) (by decide)) |>.trans (V_main_arg4 m c)⟩, h.2⟩) (run_main m ρ)

/-- The kernel's body table is the one over the extended reals. -/
theorem tables : (Cert.DwIn.defs₀ (F := F)) = Cert.DwInIdeal.defs₀ (F := F) := by
  unfold Cert.DwIn.defs₀ Cert.DwInIdeal.defs₀
  refine congrArg Defs.onTc ?_
  funext l x
  match l with
  | ⟨0, _⟩ => rfl
  | ⟨k + 1, h⟩ => exact absurd h (Nat.not_lt.2 (Nat.le_add_left _ _))

/-- The frame claim of the kernel at the machine's floats. -/
theorem quiescent : @Cert.quiescent_DwIn Cert.DwIn.Gen.facts := by
  intro m g _
  have h := frame (F := Bits) m g
  rw [show (Cert.DwInIdeal.defs (F := Bits)) = Cert.DwIn.defs (F := Bits) from congrArg (Pipeline.defs Cert.DwIn.pcfgs) tables.symm] at h
  exact h

end Cert.DwInIdeal.Plain

end
-- ==== Proof.DwInIdealPay.lean ====
module

public import proofs.«01_k».proof.Proof.DwInIdealRunLoad
public import proofs.«01_k».proof.Proof.Tokens
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-! What `load` stores at each piece of the transposed scratch: the block of rows read, each row times its scale,
    transposed. -/

namespace Cert.DwInIdeal.Hand

open Cert.DwInIdeal Cert.DwInIdeal.Gen

/-- A scale block copied 28 times along the lanes, read at row `k` and column `d`. -/
theorem rep28 (w : Vec Ideal S256x128 .bf16) (k : Fin 256) (d : Fin 3584) :
    concatenate (α := Elt Ideal .bf16) S256x3584 1 [⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩] concatenates_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x3584_d1 (ix2 k d)
      = w (ix2 k (⟨d.val % 128, Nat.mod_lt _ (by decide)⟩ : Fin 128)) :=
  (concatenate_replicate_apply (t := S256x3584) (1 : Fin 2) 28 (shapeCast S256x128 w shapeCasts_S256x128_S256x128) concatenates_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x3584_d1 rfl (ix2 k d)
    (ix2 k (⟨d.val % 128, Nat.mod_lt _ (by decide)⟩ : Fin 128)) rfl
    (fun b hb => by
      match b, hb with
      | ⟨0, _⟩, _ => rfl
      | ⟨1, _⟩, hb => exact absurd rfl hb)).trans
    (congrFun (shapeCast_self w shapeCasts_S256x128_S256x128) _)

/-- A block of shape `[1, 256, 3584]` reshaped to `[256, 3584]`. -/
theorem drop1 (v : Vec Ideal S1x256x3584 .fp8e4m3) (k : Fin 256) (d : Fin 3584) :
    shapeCast S256x3584 v shapeCasts_S1x256x3584_S256x3584 (ix2 k d) = v (ix3 0 k d) := by
  unfold shapeCast
  refine congrArg v (Shape.reshapeEquiv_eq_of_rowMajor _ ?_)
  rw [Shape.rowMajor_val_three, Shape.rowMajor_val_two]
  show (0 * 256 + k.val) * 3584 + d.val = k.val * 3584 + d.val
  omega

/-- A product of two blocks, transposed, read at column `d` and row `k`. -/
theorem prodT (A B : FVec Ideal S256x3584 .bf16) (d : Fin 3584) (k : Fin 256) :
    shapeCast S3584x256 (transpose S3584x256 [1, 0] (mulf A B) transposes_S256x3584_p1_0_S3584x256) shapeCasts_S3584x256_S3584x256 (ix2 d k)
      = (A (ix2 k d) : EReal) * B (ix2 k d) := by
  rw [shapeCast_self]
  pointwise

/-- The block stored at one piece. -/
def blockT (v : Vec Ideal S1x256x3584 .fp8e4m3) (w : Vec Ideal S256x128 .bf16) : FVec Ideal S3584x256 .bf16 :=
  shapeCast S3584x256 (transpose S3584x256 [1, 0] (mulf (extf .bf16 (shapeCast S256x3584 v shapeCasts_S1x256x3584_S256x3584) bitsLt_fp8e4m3_bf16)
    (concatenate S256x3584 1 [⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩] concatenates_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x3584_d1)) transposes_S256x3584_p1_0_S3584x256) shapeCasts_S3584x256_S3584x256

/-- The block stored at one piece, entry by entry. -/
theorem blockT_apply (v : Vec Ideal S1x256x3584 .fp8e4m3) (w : Vec Ideal S256x128 .bf16) (d : Fin 3584) (k : Fin 256) :
    blockT v w (ix2 d k) = (v (ix3 0 k d) : EReal) * w (ix2 k (⟨d.val % 128, Nat.mod_lt _ (by decide)⟩ : Fin 128)) :=
  (prodT _ _ d k).trans (congrArg₂ (fun x y : EReal => x * y) (drop1 v k d) (rep28 w k d))

end Cert.DwInIdeal.Hand

end
-- ==== Proof.Stage.lean ====
module

public import Idealize.ShloMosaic.Lib.Pipeline.ValueKit
public import Idealize.ShloMosaic.Lib.ReshapeSlab
public import Idealize.ShloMosaic.Lib.ViewIndex
public import Idealize.ShloMosaic.Lib.Claim

@[expose] public section

noncomputable section

open Idealize.ShloMosaic

/-! A scratch of two slots of 256 x 3584 that copies land in, each slot written as a two-axis array: what a slot reads
    after a copy into it, and after a copy into the other one. -/

namespace Stage

variable {sig : RefSig} {κ : Kind} {sp : Space} {e : EltTy} {Val : EltTy → Type}

/-- A slot just written reads what was written. -/
theorem hit (M : Memref sig κ sp ⟨3, ![2, 256, 3584]⟩ e) {off : Fin 3 → Nat}
    (inb : ∀ a, off a + (![1, 256, 3584] : Fin 3 → Nat) a ≤ (![2, 256, 3584] : Fin 3 → Nat) a)
    (hs : ∀ a, (Rect.unit (s := ⟨3, ![2, 256, 3584]⟩) off ![1, 256, 3584] inb).stride a = 1)
    (hq) (f : M.view.ty.Contents Val) (d : (⟨2, ![256, 3584]⟩ : Shape).Idx → Val e) (k : Fin 256) (j : Fin 3584) :
    M.view.readAt Val (Rect.unit (s := ⟨3, ![2, 256, 3584]⟩) off ![1, 256, 3584] inb).toLoadRect
      (((M.slice (Rect.unit (s := ⟨3, ![2, 256, 3584]⟩) off ![1, 256, 3584] inb) hs).squeeze ⟨2, ![256, 3584]⟩ hq).view.write Val f d Finset.univ)
      (ix3 (0 : Fin 1) k j) = d (ix2 k j) := by
  rw [View.readAt_rect]
  have h := View.read_write_reshape (M.view.slice (Rect.unit (s := ⟨3, ![2, 256, 3584]⟩) off ![1, 256, 3584] inb)) (Val := Val)
    (s' := ⟨2, ![256, 3584]⟩) hq.numel_eq f d (ix2 k j)
  refine Eq.trans (congrArg _ ?_) h
  symm
  refine Shape.reshapeEquiv_eq_of_rowMajor (s := ⟨3, ![1, 256, 3584]⟩) _ ?_
  rw [Shape.rowMajor_val_three, Shape.rowMajor_val_two]
  show (0 * 256 + k.val) * 3584 + j.val = k.val * 3584 + j.val
  omega

/-- A slot reads as before a copy into the other one. -/
theorem skip (M : Memref sig κ sp ⟨3, ![2, 256, 3584]⟩ e) {off off' : Fin 3 → Nat}
    (inb : ∀ a, off a + (![1, 256, 3584] : Fin 3 → Nat) a ≤ (![2, 256, 3584] : Fin 3 → Nat) a)
    (inb' : ∀ a, off' a + (![1, 256, 3584] : Fin 3 → Nat) a ≤ (![2, 256, 3584] : Fin 3 → Nat) a)
    (hs : ∀ a, (Rect.unit (s := ⟨3, ![2, 256, 3584]⟩) off' ![1, 256, 3584] inb').stride a = 1)
    (hq) (f : M.view.ty.Contents Val) (d : (⟨2, ![256, 3584]⟩ : Shape).Idx → Val e) (hne : off 0 ≠ off' 0) :
    M.view.readAt Val (Rect.unit (s := ⟨3, ![2, 256, 3584]⟩) off ![1, 256, 3584] inb).toLoadRect
      (((M.slice (Rect.unit (s := ⟨3, ![2, 256, 3584]⟩) off' ![1, 256, 3584] inb') hs).squeeze ⟨2, ![256, 3584]⟩ hq).view.write Val f d Finset.univ)
      = M.view.readAt Val (Rect.unit (s := ⟨3, ![2, 256, 3584]⟩) off ![1, 256, 3584] inb).toLoadRect f := by
  have hd : Disjoint (M.view.slice (Rect.unit (s := ⟨3, ![2, 256, 3584]⟩) off ![1, 256, 3584] inb)).set
      (M.view.slice (Rect.unit (s := ⟨3, ![2, 256, 3584]⟩) off' ![1, 256, 3584] inb')).set := by
    refine View.disjoint_slice_of_sep M.view (Rect.unit (s := ⟨3, ![2, 256, 3584]⟩) off ![1, 256, 3584] inb)
      (Rect.unit (s := ⟨3, ![2, 256, 3584]⟩) off' ![1, 256, 3584] inb') (0 : Fin 3) rfl rfl ?_
    show off 0 + 1 ≤ off' 0 ∨ off' 0 + 1 ≤ off 0
    omega
  refine View.readAt_congr (h := fun i hi => View.write_of_not_mem _ _ _ (h := fun hm => ?_))
  refine Finset.disjoint_left.mp hd (?_ : i ∈ _) ?_
  · rw [View.set_slice]
    exact hi
  · have h := hm
    rw [View.setOn_univ] at h
    rw [← View.set_reshape (M.view.slice (Rect.unit (s := ⟨3, ![2, 256, 3584]⟩) off' ![1, 256, 3584] inb')) (s' := ⟨2, ![256, 3584]⟩) hq.numel_eq]
    exact h

end Stage
end
-- ==== Proof.DwInIdealXT.lean ====
module
public import proofs.«01_k».proof.Proof.DwInIdealPay
public import proofs.«01_k».proof.Proof.DwInIdealRunLoad
public import proofs.«01_k».proof.Proof.Stage
@[expose] public section
/-!
# The scratch `load` leaves behind, at the ideal

Each of the twenty stores of `load` writes 256 columns of the scratch.  A column
is a row of the left operand, read through the staging copies, times its scale.
-/

set_option maxRecDepth 16384
noncomputable section
open Idealize.ShloMosaic Idealize.ShloMosaic.TcCoe Idealize.SL.Sem
namespace Cert.DwInIdeal.Hand
open Cert.DwInIdeal Cert.DwInIdeal.Gen
variable (c : Dev nD) (arg2 : Memref sig .tc .vmem S5120x128 .bf16) (harg2 : arg2.IsWhole)
  (arg7 : Memref sig .tc .vmem S2x256x3584 .fp8e4m3) (harg7 : arg7.IsWhole)
  (x0 : Vec Ideal S5120x128 .bf16) (xs1 : Vec Ideal S2x256x3584 .fp8e4m3) (fh0 : HbBuf0 (F := Ideal) c hbM0_0)

/-- The left operand in main memory, as an array of 5120 rows. -/
abbrev rows : Vec Ideal S5120x3584 .fp8e4m3 := fh0

/-- The transposed scratch after `load`: each row times its scale, transposed. -/
def XTof : Vec Ideal S3584x5120 .bf16 := fun y =>
  (rows c fh0 (ix2 (y 1) (y 0)) : EReal) * x0 (ix2 (y 1) (⟨(y 0).val % 128, Nat.mod_lt _ (by decide)⟩ : Fin 128))

/-- The 256 rows copied from row `o` on, read entry by entry. -/
theorem copied (o : Nat) (inb : ∀ a, (![o, 0] : Fin 2 → Nat) a + S256x3584.size a ≤ S5120x3584.size a) (hs) (k : Fin 256) (d : Fin 3584) :
    ReadAs.same.apply (View.read (Elt Ideal) ((Memref.whole main_v0).slice (Rect.unit (s := S5120x3584) ![o, 0] S256x3584.size inb) hs).view fh0) (ix2 k d)
      = rows c fh0 (ix2 (⟨o + k.val, by have := inb 0; have : o + 256 ≤ 5120 := this; omega⟩ : Fin 5120) d) := by
  refine congrArg (rows c fh0) ?_
  funext a
  match a with
  | ⟨0, _⟩ => exact Fin.ext (by show o + 1 * k.val = o + k.val; omega)
  | ⟨1, _⟩ => exact Fin.ext (by show 0 + 1 * d.val = d.val; omega)

/-- The 256 scales read from row `o` on, entry by entry. -/
theorem scales (o : Nat) (inb : ∀ a, (![o, 0] : Fin 2 → Nat) a + S256x128.size a ≤ S5120x128.size a) (k : Fin 256) (l : Fin 128) :
    View.readAt (Elt Ideal) arg2.view (Rect.unit (s := S5120x128) ![o, 0] S256x128.size inb).toLoadRect (harg2.unread x0) (ix2 k l)
      = x0 (ix2 (⟨o + k.val, by have := inb 0; have : o + 256 ≤ 5120 := this; omega⟩ : Fin 5120) l) := by
  rw [View.readAt_eq_ld, harg2.read_unread]
  refine congrArg x0 ?_
  funext a
  match a with
  | ⟨0, _⟩ => exact Fin.ext (by show o + 1 * k.val = o + k.val; omega)
  | ⟨1, _⟩ => exact Fin.ext (by show 0 + 1 * l.val = l.val; omega)

/-- A block of 256 columns written into the transposed scratch holds the rows from `o` on, scaled and transposed. -/
theorem piece (o : Nat) (inb : ∀ a, (![0, o] : Fin 2 → Nat) a + S3584x256.size a ≤ S3584x5120.size a) (v w)
    (ho : o + 256 ≤ 5120)
    (hv : ∀ (k : Fin 256) (d : Fin 3584), v (ix3 0 k d) = rows c fh0 (ix2 (⟨o + k.val, by omega⟩ : Fin 5120) d))
    (hw : ∀ (k : Fin 256) (l : Fin 128), w (ix2 k l) = x0 (ix2 (⟨o + k.val, by omega⟩ : Fin 5120) l)) (x : S3584x256.Idx) :
    blockT v w x = XTof c x0 fh0 ((Rect.unit (s := S3584x5120) ![0, o] S3584x256.size inb).emb x) := by
  obtain ⟨d, k, rfl⟩ : ∃ d k, x = ix2 d k := ⟨x 0, x 1, by funext a; match a with | ⟨0, _⟩ => rfl | ⟨1, _⟩ => rfl⟩
  have e : (Rect.unit (s := S3584x5120) ![0, o] S3584x256.size inb).emb (ix2 d k) = ix2 d (⟨o + k.val, by omega⟩ : Fin 5120) := by
    funext a
    match a with
    | ⟨0, _⟩ => exact Fin.ext (by show 0 + 1 * d.val = d.val; omega)
    | ⟨1, _⟩ => exact Fin.ext (by show o + 1 * k.val = o + k.val; omega)
  rw [e, blockT_apply, hv, hw]
  rfl

/-- What the staging slot holds when rows 0 to 255 are read from it. -/
theorem staged0 (k : Fin 256) (d : Fin 3584) : runLoad.sl.v88 c arg7 harg7 xs1 fh0 (ix3 0 k d) = rows c fh0 (ix2 (⟨0 + k.val, by omega⟩ : Fin 5120) d) := by
  unfold runLoad.sl.v88 runLoad.sl.dma0
  exact (congrFun (Stage.skip arg7 (off := ![0,0,0]) (off' := ![1,0,0]) _ _ _ _ _ _ (by decide)) _).trans ((Stage.hit arg7 (off := ![0,0,0]) _ _ _ _ _ k d).trans (copied c fh0 0 _ _ k d))

/-- What the staging slot holds when rows 256 to 511 are read from it. -/
theorem staged1 (k : Fin 256) (d : Fin 3584) : runLoad.sl.v109 c arg7 harg7 xs1 fh0 (ix3 0 k d) = rows c fh0 (ix2 (⟨256 + k.val, by omega⟩ : Fin 5120) d) := by
  unfold runLoad.sl.v109 runLoad.sl.dma0_1
  exact (congrFun (Stage.skip arg7 (off := ![1,0,0]) (off' := ![0,0,0]) _ _ _ _ _ _ (by decide)) _).trans ((Stage.hit arg7 (off := ![1,0,0]) _ _ _ _ _ k d).trans (copied c fh0 256 _ _ k d))

/-- What the staging slot holds when rows 512 to 767 are read from it. -/
theorem staged2 (k : Fin 256) (d : Fin 3584) : runLoad.sl.v130 c arg7 harg7 xs1 fh0 (ix3 0 k d) = rows c fh0 (ix2 (⟨512 + k.val, by omega⟩ : Fin 5120) d) := by
  unfold runLoad.sl.v130 runLoad.sl.dma4
  exact (congrFun (Stage.skip arg7 (off := ![0,0,0]) (off' := ![1,0,0]) _ _ _ _ _ _ (by decide)) _).trans ((Stage.hit arg7 (off := ![0,0,0]) _ _ _ _ _ k d).trans (copied c fh0 512 _ _ k d))

/-- What the staging slot holds when rows 768 to 1023 are read from it. -/
theorem staged3 (k : Fin 256) (d : Fin 3584) : runLoad.sl.v151 c arg7 harg7 xs1 fh0 (ix3 0 k d) = rows c fh0 (ix2 (⟨768 + k.val, by omega⟩ : Fin 5120) d) := by
  unfold runLoad.sl.v151 runLoad.sl.dma8
  exact (congrFun (Stage.skip arg7 (off := ![1,0,0]) (off' := ![0,0,0]) _ _ _ _ _ _ (by decide)) _).trans ((Stage.hit arg7 (off := ![1,0,0]) _ _ _ _ _ k d).trans (copied c fh0 768 _ _ k d))

/-- What the staging slot holds when rows 1024 to 1279 are read from it. -/
theorem staged4 (k : Fin 256) (d : Fin 3584) : runLoad.sl.v172 c arg7 harg7 xs1 fh0 (ix3 0 k d) = rows c fh0 (ix2 (⟨1024 + k.val, by omega⟩ : Fin 5120) d) := by
  unfold runLoad.sl.v172 runLoad.sl.dma12
  exact (congrFun (Stage.skip arg7 (off := ![0,0,0]) (off' := ![1,0,0]) _ _ _ _ _ _ (by decide)) _).trans ((Stage.hit arg7 (off := ![0,0,0]) _ _ _ _ _ k d).trans (copied c fh0 1024 _ _ k d))

/-- What the staging slot holds when rows 1280 to 1535 are read from it. -/
theorem staged5 (k : Fin 256) (d : Fin 3584) : runLoad.sl.v193 c arg7 harg7 xs1 fh0 (ix3 0 k d) = rows c fh0 (ix2 (⟨1280 + k.val, by omega⟩ : Fin 5120) d) := by
  unfold runLoad.sl.v193 runLoad.sl.dma16
  exact (congrFun (Stage.skip arg7 (off := ![1,0,0]) (off' := ![0,0,0]) _ _ _ _ _ _ (by decide)) _).trans ((Stage.hit arg7 (off := ![1,0,0]) _ _ _ _ _ k d).trans (copied c fh0 1280 _ _ k d))

/-- What the staging slot holds when rows 1536 to 1791 are read from it. -/
theorem staged6 (k : Fin 256) (d : Fin 3584) : runLoad.sl.v214 c arg7 harg7 xs1 fh0 (ix3 0 k d) = rows c fh0 (ix2 (⟨1536 + k.val, by omega⟩ : Fin 5120) d) := by
  unfold runLoad.sl.v214 runLoad.sl.dma20
  exact (congrFun (Stage.skip arg7 (off := ![0,0,0]) (off' := ![1,0,0]) _ _ _ _ _ _ (by decide)) _).trans ((Stage.hit arg7 (off := ![0,0,0]) _ _ _ _ _ k d).trans (copied c fh0 1536 _ _ k d))

/-- What the staging slot holds when rows 1792 to 2047 are read from it. -/
theorem staged7 (k : Fin 256) (d : Fin 3584) : runLoad.sl.v235 c arg7 harg7 xs1 fh0 (ix3 0 k d) = rows c fh0 (ix2 (⟨1792 + k.val, by omega⟩ : Fin 5120) d) := by
  unfold runLoad.sl.v235 runLoad.sl.dma24
  exact (congrFun (Stage.skip arg7 (off := ![1,0,0]) (off' := ![0,0,0]) _ _ _ _ _ _ (by decide)) _).trans ((Stage.hit arg7 (off := ![1,0,0]) _ _ _ _ _ k d).trans (copied c fh0 1792 _ _ k d))

/-- What the staging slot holds when rows 2048 to 2303 are read from it. -/
theorem staged8 (k : Fin 256) (d : Fin 3584) : runLoad.sl.v256 c arg7 harg7 xs1 fh0 (ix3 0 k d) = rows c fh0 (ix2 (⟨2048 + k.val, by omega⟩ : Fin 5120) d) := by
  unfold runLoad.sl.v256 runLoad.sl.dma28
  exact (congrFun (Stage.skip arg7 (off := ![0,0,0]) (off' := ![1,0,0]) _ _ _ _ _ _ (by decide)) _).trans ((Stage.hit arg7 (off := ![0,0,0]) _ _ _ _ _ k d).trans (copied c fh0 2048 _ _ k d))

/-- What the staging slot holds when rows 2304 to 2559 are read from it. -/
theorem staged9 (k : Fin 256) (d : Fin 3584) : runLoad.sl.v277 c arg7 harg7 xs1 fh0 (ix3 0 k d) = rows c fh0 (ix2 (⟨2304 + k.val, by omega⟩ : Fin 5120) d) := by
  unfold runLoad.sl.v277 runLoad.sl.dma32
  exact (congrFun (Stage.skip arg7 (off := ![1,0,0]) (off' := ![0,0,0]) _ _ _ _ _ _ (by decide)) _).trans ((Stage.hit arg7 (off := ![1,0,0]) _ _ _ _ _ k d).trans (copied c fh0 2304 _ _ k d))

/-- What the staging slot holds when rows 2560 to 2815 are read from it. -/
theorem staged10 (k : Fin 256) (d : Fin 3584) : runLoad.sl.v298 c arg7 harg7 xs1 fh0 (ix3 0 k d) = rows c fh0 (ix2 (⟨2560 + k.val, by omega⟩ : Fin 5120) d) := by
  unfold runLoad.sl.v298 runLoad.sl.dma36
  exact (congrFun (Stage.skip arg7 (off := ![0,0,0]) (off' := ![1,0,0]) _ _ _ _ _ _ (by decide)) _).trans ((Stage.hit arg7 (off := ![0,0,0]) _ _ _ _ _ k d).trans (copied c fh0 2560 _ _ k d))

/-- What the staging slot holds when rows 2816 to 3071 are read from it. -/
theorem staged11 (k : Fin 256) (d : Fin 3584) : runLoad.sl.v319 c arg7 harg7 xs1 fh0 (ix3 0 k d) = rows c fh0 (ix2 (⟨2816 + k.val, by omega⟩ : Fin 5120) d) := by
  unfold runLoad.sl.v319 runLoad.sl.dma40
  exact (congrFun (Stage.skip arg7 (off := ![1,0,0]) (off' := ![0,0,0]) _ _ _ _ _ _ (by decide)) _).trans ((Stage.hit arg7 (off := ![1,0,0]) _ _ _ _ _ k d).trans (copied c fh0 2816 _ _ k d))

/-- What the staging slot holds when rows 3072 to 3327 are read from it. -/
theorem staged12 (k : Fin 256) (d : Fin 3584) : runLoad.sl.v340 c arg7 harg7 xs1 fh0 (ix3 0 k d) = rows c fh0 (ix2 (⟨3072 + k.val, by omega⟩ : Fin 5120) d) := by
  unfold runLoad.sl.v340 runLoad.sl.dma44
  exact (congrFun (Stage.skip arg7 (off := ![0,0,0]) (off' := ![1,0,0]) _ _ _ _ _ _ (by decide)) _).trans ((Stage.hit arg7 (off := ![0,0,0]) _ _ _ _ _ k d).trans (copied c fh0 3072 _ _ k d))

/-- What the staging slot holds when rows 3328 to 3583 are read from it. -/
theorem staged13 (k : Fin 256) (d : Fin 3584) : runLoad.sl.v361 c arg7 harg7 xs1 fh0 (ix3 0 k d) = rows c fh0 (ix2 (⟨3328 + k.val, by omega⟩ : Fin 5120) d) := by
  unfold runLoad.sl.v361 runLoad.sl.dma48
  exact (congrFun (Stage.skip arg7 (off := ![1,0,0]) (off' := ![0,0,0]) _ _ _ _ _ _ (by decide)) _).trans ((Stage.hit arg7 (off := ![1,0,0]) _ _ _ _ _ k d).trans (copied c fh0 3328 _ _ k d))

/-- What the staging slot holds when rows 3584 to 3839 are read from it. -/
theorem staged14 (k : Fin 256) (d : Fin 3584) : runLoad.sl.v382 c arg7 harg7 xs1 fh0 (ix3 0 k d) = rows c fh0 (ix2 (⟨3584 + k.val, by omega⟩ : Fin 5120) d) := by
  unfold runLoad.sl.v382 runLoad.sl.dma52
  exact (congrFun (Stage.skip arg7 (off := ![0,0,0]) (off' := ![1,0,0]) _ _ _ _ _ _ (by decide)) _).trans ((Stage.hit arg7 (off := ![0,0,0]) _ _ _ _ _ k d).trans (copied c fh0 3584 _ _ k d))

/-- What the staging slot holds when rows 3840 to 4095 are read from it. -/
theorem staged15 (k : Fin 256) (d : Fin 3584) : runLoad.sl.v403 c arg7 harg7 xs1 fh0 (ix3 0 k d) = rows c fh0 (ix2 (⟨3840 + k.val, by omega⟩ : Fin 5120) d) := by
  unfold runLoad.sl.v403 runLoad.sl.dma56
  exact (congrFun (Stage.skip arg7 (off := ![1,0,0]) (off' := ![0,0,0]) _ _ _ _ _ _ (by decide)) _).trans ((Stage.hit arg7 (off := ![1,0,0]) _ _ _ _ _ k d).trans (copied c fh0 3840 _ _ k d))

/-- What the staging slot holds when rows 4096 to 4351 are read from it. -/
theorem staged16 (k : Fin 256) (d : Fin 3584) : runLoad.sl.v424 c arg7 harg7 xs1 fh0 (ix3 0 k d) = rows c fh0 (ix2 (⟨4096 + k.val, by omega⟩ : Fin 5120) d) := by
  unfold runLoad.sl.v424 runLoad.sl.dma60
  exact (congrFun (Stage.skip arg7 (off := ![0,0,0]) (off' := ![1,0,0]) _ _ _ _ _ _ (by decide)) _).trans ((Stage.hit arg7 (off := ![0,0,0]) _ _ _ _ _ k d).trans (copied c fh0 4096 _ _ k d))

/-- What the staging slot holds when rows 4352 to 4607 are read from it. -/
theorem staged17 (k : Fin 256) (d : Fin 3584) : runLoad.sl.v445 c arg7 harg7 xs1 fh0 (ix3 0 k d) = rows c fh0 (ix2 (⟨4352 + k.val, by omega⟩ : Fin 5120) d) := by
  unfold runLoad.sl.v445 runLoad.sl.dma64
  exact (congrFun (Stage.skip arg7 (off := ![1,0,0]) (off' := ![0,0,0]) _ _ _ _ _ _ (by decide)) _).trans ((Stage.hit arg7 (off := ![1,0,0]) _ _ _ _ _ k d).trans (copied c fh0 4352 _ _ k d))

/-- What the staging slot holds when rows 4608 to 4863 are read from it. -/
theorem staged18 (k : Fin 256) (d : Fin 3584) : runLoad.sl.v466 c arg7 harg7 xs1 fh0 (ix3 0 k d) = rows c fh0 (ix2 (⟨4608 + k.val, by omega⟩ : Fin 5120) d) := by
  unfold runLoad.sl.v466 runLoad.sl.dma68
  exact (congrFun (Stage.skip arg7 (off := ![0,0,0]) (off' := ![1,0,0]) _ _ _ _ _ _ (by decide)) _).trans ((Stage.hit arg7 (off := ![0,0,0]) _ _ _ _ _ k d).trans (copied c fh0 4608 _ _ k d))

/-- What the staging slot holds when rows 4864 to 5119 are read from it. -/
theorem staged19 (k : Fin 256) (d : Fin 3584) : runLoad.sl.v482 c arg7 harg7 xs1 fh0 (ix3 0 k d) = rows c fh0 (ix2 (⟨4864 + k.val, by omega⟩ : Fin 5120) d) := by
  unfold runLoad.sl.v482 runLoad.sl.dma72
  exact ((Stage.hit arg7 (off := ![1,0,0]) _ _ _ _ _ k d).trans (copied c fh0 4864 _ _ k d))

/-- Every store of `load` writes entries of `XTof`. -/
theorem load_pieces (i : grid0.Coords) (arg3 : Memref sig .tc .vmem S3584x128 .f32) (harg3 : arg3.IsWhole) (arg4 : Memref sig .tc .vmem S5120x512 .fp8e5m2) (harg4 : arg4.IsWhole) (arg5 : Memref sig .tc .vmem S3584x512 .bf16) (harg5 : arg5.IsWhole) (arg6 : Memref sig .tc .vmem S3584x5120 .bf16) (harg6 : arg6.IsWhole) :
    ∀ p ∈ (runLoad (F := Ideal) c i arg2 harg2 arg3 harg3 arg4 harg4 arg5 harg5 arg6 harg6 arg7 harg7 x0 xs1 fh0).1, ∀ x : p.1.shape.Idx, p.2 x = XTof c x0 fh0 (p.1.emb x) := by
  unfold runLoad
  dsimp only
  simp only [List.forall_mem_cons, List.not_mem_nil, false_imp_iff, implies_true, and_true]
  refine ⟨fun x => piece c x0 fh0 4864 _ _ _ (by decide) (staged19 c arg7 harg7 xs1 fh0) (scales arg2 harg2 x0 4864 _) x,
    fun x => piece c x0 fh0 4608 _ _ _ (by decide) (staged18 c arg7 harg7 xs1 fh0) (scales arg2 harg2 x0 4608 _) x,
    fun x => piece c x0 fh0 4352 _ _ _ (by decide) (staged17 c arg7 harg7 xs1 fh0) (scales arg2 harg2 x0 4352 _) x,
    fun x => piece c x0 fh0 4096 _ _ _ (by decide) (staged16 c arg7 harg7 xs1 fh0) (scales arg2 harg2 x0 4096 _) x,
    fun x => piece c x0 fh0 3840 _ _ _ (by decide) (staged15 c arg7 harg7 xs1 fh0) (scales arg2 harg2 x0 3840 _) x,
    fun x => piece c x0 fh0 3584 _ _ _ (by decide) (staged14 c arg7 harg7 xs1 fh0) (scales arg2 harg2 x0 3584 _) x,
    fun x => piece c x0 fh0 3328 _ _ _ (by decide) (staged13 c arg7 harg7 xs1 fh0) (scales arg2 harg2 x0 3328 _) x,
    fun x => piece c x0 fh0 3072 _ _ _ (by decide) (staged12 c arg7 harg7 xs1 fh0) (scales arg2 harg2 x0 3072 _) x,
    fun x => piece c x0 fh0 2816 _ _ _ (by decide) (staged11 c arg7 harg7 xs1 fh0) (scales arg2 harg2 x0 2816 _) x,
    fun x => piece c x0 fh0 2560 _ _ _ (by decide) (staged10 c arg7 harg7 xs1 fh0) (scales arg2 harg2 x0 2560 _) x,
    fun x => piece c x0 fh0 2304 _ _ _ (by decide) (staged9 c arg7 harg7 xs1 fh0) (scales arg2 harg2 x0 2304 _) x,
    fun x => piece c x0 fh0 2048 _ _ _ (by decide) (staged8 c arg7 harg7 xs1 fh0) (scales arg2 harg2 x0 2048 _) x,
    fun x => piece c x0 fh0 1792 _ _ _ (by decide) (staged7 c arg7 harg7 xs1 fh0) (scales arg2 harg2 x0 1792 _) x,
    fun x => piece c x0 fh0 1536 _ _ _ (by decide) (staged6 c arg7 harg7 xs1 fh0) (scales arg2 harg2 x0 1536 _) x,
    fun x => piece c x0 fh0 1280 _ _ _ (by decide) (staged5 c arg7 harg7 xs1 fh0) (scales arg2 harg2 x0 1280 _) x,
    fun x => piece c x0 fh0 1024 _ _ _ (by decide) (staged4 c arg7 harg7 xs1 fh0) (scales arg2 harg2 x0 1024 _) x,
    fun x => piece c x0 fh0 768 _ _ _ (by decide) (staged3 c arg7 harg7 xs1 fh0) (scales arg2 harg2 x0 768 _) x,
    fun x => piece c x0 fh0 512 _ _ _ (by decide) (staged2 c arg7 harg7 xs1 fh0) (scales arg2 harg2 x0 512 _) x,
    fun x => piece c x0 fh0 256 _ _ _ (by decide) (staged1 c arg7 harg7 xs1 fh0) (scales arg2 harg2 x0 256 _) x,
    fun x => piece c x0 fh0 0 _ _ _ (by decide) (staged0 c arg7 harg7 xs1 fh0) (scales arg2 harg2 x0 0 _) x⟩

end Cert.DwInIdeal.Hand

end
-- ==== Proof.DwInIdealOut.lean ====
module
public import proofs.«01_k».proof.Proof.DwInIdealXT
public import proofs.«01_k».proof.Proof.DwInIdealRunB
@[expose] public section
/-!
# The output tiles of the body, at the ideal

The body multiplies the transposed scratch with its block of the right operand in seven
tiles of 512 rows, each row times its scale.
-/

set_option maxRecDepth 16384
noncomputable section
open Idealize.ShloMosaic Idealize.ShloMosaic.TcCoe Idealize.SL.Sem
namespace Cert.DwInIdeal.Hand
open Cert.DwInIdeal Cert.DwInIdeal.Gen

/-- The scratch after `load`, whatever it and the staging slots held before. -/
theorem load_reads (c : Dev nD) (x0 : Vec Ideal S5120x128 .bf16) (xs1 : Vec Ideal S2x256x3584 .fp8e4m3) (fh0 : HbBuf0 (F := Ideal) c hbM0_0) (i : grid0.Coords) (arg2 : Memref sig .tc .vmem S5120x128 .bf16) (harg2 : arg2.IsWhole) (arg3 : Memref sig .tc .vmem S3584x128 .f32) (harg3 : arg3.IsWhole) (arg4 : Memref sig .tc .vmem S5120x512 .fp8e5m2) (harg4 : arg4.IsWhole) (arg5 : Memref sig .tc .vmem S3584x512 .bf16) (harg5 : arg5.IsWhole) (arg6 : Memref sig .tc .vmem S3584x5120 .bf16) (harg6 : arg6.IsWhole) (arg7 : Memref sig .tc .vmem S2x256x3584 .fp8e4m3) (harg7 : arg7.IsWhole) (f) :
    arg6.view.read (Elt Ideal) (arg6.view.writes (Elt Ideal) f (runLoad (F := Ideal) c i arg2 harg2 arg3 harg3 arg4 harg4 arg5 harg5 arg6 harg6 arg7 harg7 x0 xs1 fh0).1) = XTof c x0 fh0 := by
  have hc := View.cover_of_tiledL (runLoad (F := Ideal) c i arg2 harg2 arg3 harg3 arg4 harg4 arg5 harg5 arg6 harg6 arg7 harg7 x0 xs1 fh0).1 S3584x256.size (by sl_kernel_rfl)
  rw [View.read_writes_eq_canon _ _ _ hc]
  exact funext fun y => View.canon_apply_of_pieces (XTof c x0 fh0) _ (load_pieces c arg2 harg2 arg7 harg7 x0 xs1 fh0 i arg3 harg3 arg4 harg4 arg5 harg5 arg6 harg6) y (hc y)

/-- A row scale copied four times along the lanes, read at row `r` and column `l`. -/
theorem rep4 (w : Vec Ideal S512x128 .f32) (r : Fin 512) (l : Fin 512) :
    concatenate (α := Elt Ideal .f32) S512x512 1 [⟨S512x128, w⟩, ⟨S512x128, w⟩, ⟨S512x128, w⟩, ⟨S512x128, w⟩] concatenates_S512x128_S512x128_S512x128_S512x128_S512x512_d1 (ix2 r l)
      = w (ix2 r (⟨l.val % 128, Nat.mod_lt _ (by decide)⟩ : Fin 128)) :=
  concatenate_replicate_apply (t := S512x512) (1 : Fin 2) 4 w concatenates_S512x128_S512x128_S512x128_S512x128_S512x512_d1 rfl (ix2 r l)
    (ix2 r (⟨l.val % 128, Nat.mod_lt _ (by decide)⟩ : Fin 128)) rfl
    (fun b hb => by
      match b, hb with
      | ⟨0, _⟩, _ => rfl
      | ⟨1, _⟩, hb => exact absurd rfl hb)

/-- The product of a block of the scratch with the right operand. -/
theorem dotB (v : Vec Ideal S512x5120 .bf16) (w : Vec Ideal S5120x512 .fp8e5m2) (r l : Fin 512) :
    k0_pay30 v w (ix2 r l) = (∑ k : Fin 5120, (v (ix2 r k) : EReal) * w (ix2 k l) : EReal) := by
  pointwise [k0_pay30]

/-- One output tile: the product, each row times its scale. -/
theorem tileB (v : Vec Ideal S512x5120 .bf16) (w : Vec Ideal S5120x512 .fp8e5m2) (g : Vec Ideal S512x128 .f32) (r l : Fin 512) :
    k0_pay32 (k0_pay30 v w) (k0_pay31 g) (ix2 r l)
      = (∑ k : Fin 5120, (v (ix2 r k) : EReal) * w (ix2 k l) : EReal) * g (ix2 r (⟨l.val % 128, Nat.mod_lt _ (by decide)⟩ : Fin 128)) := by
  have h : k0_pay31 g = g := shapeCast_self g shapeCasts_S512x128_S512x128
  rw [h]
  exact congrArg₂ (fun x y : EReal => x * y) (dotB v w r l) (rep4 g r l)

/-- What the body leaves in the output window's slot. -/
def OUT (x1 : Vec Ideal S3584x128 .f32) (x2 : Vec Ideal S5120x512 .fp8e5m2) (xs0 : Vec Ideal S3584x5120 .bf16) : Vec Ideal S3584x512 .bf16 := fun y =>
  (∑ k : Fin 5120, (xs0 (ix2 (y 0) k) : EReal) * x2 (ix2 k (y 1)) : EReal) * x1 (ix2 (y 0) (⟨(y 1).val % 128, Nat.mod_lt _ (by decide)⟩ : Fin 128))

section
variable (arg3 : Memref sig .tc .vmem S3584x128 .f32) (harg3 : arg3.IsWhole) (arg4 : Memref sig .tc .vmem S5120x512 .fp8e5m2) (harg4 : arg4.IsWhole) (arg6 : Memref sig .tc .vmem S3584x5120 .bf16) (harg6 : arg6.IsWhole)
    (x1 : Vec Ideal S3584x128 .f32) (x2 : Vec Ideal S5120x512 .fp8e5m2) (xs0 : Vec Ideal S3584x5120 .bf16)

/-- Rows of the scratch, read from row `o`. -/
theorem rd6 (o : Nat) (inb : ∀ a, (![o, 0] : Fin 2 → Nat) a + S512x5120.size a ≤ S3584x5120.size a) (r : Fin 512) (k : Fin 5120) :
    View.readAt (Elt Ideal) arg6.view (Rect.unit (s := S3584x5120) ![o, 0] S512x5120.size inb).toLoadRect (harg6.unread xs0) (ix2 r k)
      = xs0 (ix2 (⟨o + r.val, by have := inb 0; have : o + 512 ≤ 3584 := this; omega⟩ : Fin 3584) k) := by
  rw [View.readAt_eq_ld, harg6.read_unread]
  refine congrArg xs0 ?_
  funext a
  match a with
  | ⟨0, _⟩ => exact Fin.ext (by show o + 1 * r.val = o + r.val; omega)
  | ⟨1, _⟩ => exact Fin.ext (by show 0 + 1 * k.val = k.val; omega)

/-- Rows of the scale block, read from row `o`. -/
theorem rd3 (o : Nat) (inb : ∀ a, (![o, 0] : Fin 2 → Nat) a + S512x128.size a ≤ S3584x128.size a) (r : Fin 512) (k : Fin 128) :
    View.readAt (Elt Ideal) arg3.view (Rect.unit (s := S3584x128) ![o, 0] S512x128.size inb).toLoadRect (harg3.unread x1) (ix2 r k)
      = x1 (ix2 (⟨o + r.val, by have := inb 0; have : o + 512 ≤ 3584 := this; omega⟩ : Fin 3584) k) := by
  rw [View.readAt_eq_ld, harg3.read_unread]
  refine congrArg x1 ?_
  funext a
  match a with
  | ⟨0, _⟩ => exact Fin.ext (by show o + 1 * r.val = o + r.val; omega)
  | ⟨1, _⟩ => exact Fin.ext (by show 0 + 1 * k.val = k.val; omega)

/-- The right operand's block, read whole. -/
theorem rd4 (inb : ∀ a, (![0, 0] : Fin 2 → Nat) a + S5120x512.size a ≤ S5120x512.size a) (k : Fin 5120) (l : Fin 512) :
    View.readAt (Elt Ideal) arg4.view (Rect.unit (s := S5120x512) ![0, 0] S5120x512.size inb).toLoadRect (harg4.unread x2) (ix2 k l)
      = x2 (ix2 k l) := by
  rw [View.readAt_eq_ld, harg4.read_unread]
  refine congrArg x2 ?_
  funext a
  match a with
  | ⟨0, _⟩ => exact Fin.ext (by show 0 + 1 * k.val = k.val; omega)
  | ⟨1, _⟩ => exact Fin.ext (by show 0 + 1 * l.val = l.val; omega)

/-- One store of the body writes entries of `OUT`. -/
theorem pieceB (o : Nat) (inb : ∀ a, (![o, 0] : Fin 2 → Nat) a + S512x512.size a ≤ S3584x512.size a) (v w g)
    (ho : o + 512 ≤ 3584)
    (hv : ∀ (r : Fin 512) (k : Fin 5120), v (ix2 r k) = xs0 (ix2 (⟨o + r.val, by omega⟩ : Fin 3584) k))
    (hw : ∀ (k : Fin 5120) (l : Fin 512), w (ix2 k l) = x2 (ix2 k l))
    (hg : ∀ (r : Fin 512) (k : Fin 128), g (ix2 r k) = x1 (ix2 (⟨o + r.val, by omega⟩ : Fin 3584) k)) (x : S512x512.Idx) :
    k0_pay32 (F := Ideal) (k0_pay30 v w) (k0_pay31 g) x = OUT x1 x2 xs0 ((Rect.unit (s := S3584x512) ![o, 0] S512x512.size inb).emb x) := by
  obtain ⟨d, k, rfl⟩ : ∃ d k, x = ix2 d k := ⟨x 0, x 1, by funext a; match a with | ⟨0, _⟩ => rfl | ⟨1, _⟩ => rfl⟩
  have e : (Rect.unit (s := S3584x512) ![o, 0] S512x512.size inb).emb (ix2 d k) = ix2 (⟨o + d.val, by omega⟩ : Fin 3584) k := by
    funext a
    match a with
    | ⟨0, _⟩ => exact Fin.ext (by show o + 1 * d.val = o + d.val; omega)
    | ⟨1, _⟩ => exact Fin.ext (by show 0 + 1 * k.val = k.val; omega)
  rw [e, tileB, hg]
  exact congrArg₂ (fun x y : EReal => x * y) (Finset.sum_congr rfl fun k _ => by rw [hv, hw]; rfl) rfl
end

/-- What the body stores, read back from the output window's slot. -/
theorem runB_reads (c : Dev nD) (i : grid0.Coords) (arg2 : Memref sig .tc .vmem S5120x128 .bf16) (harg2 : arg2.IsWhole) (arg3 : Memref sig .tc .vmem S3584x128 .f32) (harg3 : arg3.IsWhole) (arg4 : Memref sig .tc .vmem S5120x512 .fp8e5m2) (harg4 : arg4.IsWhole) (arg5 : Memref sig .tc .vmem S3584x512 .bf16) (harg5 : arg5.IsWhole) (arg6 : Memref sig .tc .vmem S3584x5120 .bf16) (harg6 : arg6.IsWhole) (arg7 : Memref sig .tc .vmem S2x256x3584 .fp8e4m3) (harg7 : arg7.IsWhole) (hc0 : ¬cond0_0 i)
    (x0 : Vec Ideal S5120x128 .bf16) (x1 : Vec Ideal S3584x128 .f32) (x2 : Vec Ideal S5120x512 .fp8e5m2) (xs0 : Vec Ideal S3584x5120 .bf16) (fh0 : HbBuf0 (F := Ideal) c hbM0_0) (f) :
    arg5.view.read (Elt Ideal) (arg5.view.writes (Elt Ideal) f (runB (F := Ideal) c i arg2 harg2 arg3 harg3 arg4 harg4 arg5 harg5 arg6 harg6 arg7 harg7 hc0 x0 x1 x2 xs0 fh0).1) = OUT x1 x2 xs0 := by
  have hc := View.cover_of_tiledL (runB (F := Ideal) c i arg2 harg2 arg3 harg3 arg4 harg4 arg5 harg5 arg6 harg6 arg7 harg7 hc0 x0 x1 x2 xs0 fh0).1 S512x512.size (by sl_kernel_rfl)
  rw [View.read_writes_eq_canon _ _ _ hc]
  refine funext fun y => View.canon_apply_of_pieces (OUT x1 x2 xs0) _ ?_ y (hc y)
  unfold runB
  dsimp only
  simp only [List.forall_mem_cons, List.not_mem_nil, false_imp_iff, implies_true, and_true]
  exact ⟨fun x => pieceB x1 x2 xs0 3072 _ _ _ _ (by decide) (rd6 arg6 harg6 xs0 3072 _) (rd4 arg4 harg4 x2 _) (rd3 arg3 harg3 x1 3072 _) x,
    fun x => pieceB x1 x2 xs0 2560 _ _ _ _ (by decide) (rd6 arg6 harg6 xs0 2560 _) (rd4 arg4 harg4 x2 _) (rd3 arg3 harg3 x1 2560 _) x,
    fun x => pieceB x1 x2 xs0 2048 _ _ _ _ (by decide) (rd6 arg6 harg6 xs0 2048 _) (rd4 arg4 harg4 x2 _) (rd3 arg3 harg3 x1 2048 _) x,
    fun x => pieceB x1 x2 xs0 1536 _ _ _ _ (by decide) (rd6 arg6 harg6 xs0 1536 _) (rd4 arg4 harg4 x2 _) (rd3 arg3 harg3 x1 1536 _) x,
    fun x => pieceB x1 x2 xs0 1024 _ _ _ _ (by decide) (rd6 arg6 harg6 xs0 1024 _) (rd4 arg4 harg4 x2 _) (rd3 arg3 harg3 x1 1024 _) x,
    fun x => pieceB x1 x2 xs0 512 _ _ _ _ (by decide) (rd6 arg6 harg6 xs0 512 _) (rd4 arg4 harg4 x2 _) (rd3 arg3 harg3 x1 512 _) x,
    fun x => pieceB x1 x2 xs0 0 _ _ _ _ (by decide) (rd6 arg6 harg6 xs0 0 _) (rd4 arg4 harg4 x2 _) (rd3 arg3 harg3 x1 0 _) x⟩

end Cert.DwInIdeal.Hand

end
-- ==== Proof.DwInIdealRun.lean ====
module

public import proofs.«01_k».proof.Proof.DwInIdealOut
public import proofs.«01_k».proof.Proof.DwInIdealLoad
public import Idealize.ShloMosaic.Lib.Claim

@[expose] public section

/-!
# The run of the kernel, its output named

The scratch is loaded at the first grid point and carried; the proof data name it after that
point, and name the output window's slot after each point.
-/

set_option maxRecDepth 16384

noncomputable section

namespace Cert.DwInIdeal.Hand

open Cert.DwInIdeal Cert.DwInIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

/-- The first grid point. -/
abbrev t0 : Fin cfg0.N := ⟨0, by rw [show cfg0.N = 37 from N_0]; decide⟩

/-- The second grid point. -/
abbrev t1 : Fin cfg0.N := ⟨1, by rw [show cfg0.N = 37 from N_0]; decide⟩

/-- The transposed scratch after the first grid point. -/
def XT (c : Dev nD) : Vec Ideal S3584x5120 .bf16 := XTof c (iblk m c 0 t0) (V m c main_v0)

/-- The invariant after the first point: the scratch named, everything else as at the start. -/
def PhiN (c : Dev nD) : sProp 𝕄 :=
  iprop(iprop(owns (c : Thread nD τ) scM0_0 fullShare (XT m c) ∗ (∃ d, owns (c : Thread nD τ) scM0_1 fullShare d)) ∗ (∃ r, prngReg c r) ∗ iprop(semVal ((c : Thread nD τ), SemLoc.dma 6) 0 ∗ semVal ((c : Thread nD τ), SemLoc.dma 7) 0) ∗ iprop(hbPt0 c hbM0_0 (V m c main_v0)))

/-- The proof data: each input's slot at its block, the output's slot at the products with the
    scratch, the invariant by whether the first point has run. -/
def dats (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => OUT (iblk m c 1 t) (iblk m c 2 t) (XT m c)
  Φ t := if t.val = 0 then Pipeline.ΦD osem0 spec0 H0 (V m) c else PhiN m c
  q _ := fullShare
  owed _ := 0

/-- Before the first point the invariant is what the launch lends. -/
theorem Phi_zero (c : Dev nD) (t : Fin (cfg0.N + 1)) (h : t.val = 0) : (dats m 0 c).Φ t = Pipeline.ΦD osem0 spec0 H0 (V m) c := by
  dsimp only [dats]; exact if_pos h

/-- After the first point the invariant names the scratch. -/
theorem Phi_succ (c : Dev nD) (t : Fin (cfg0.N + 1)) (h : ¬ t.val = 0) : (dats m 0 c).Φ t = PhiN m c := by
  dsimp only [dats]; exact if_neg h

/-- The arrays of the proof data are those at region entry. -/
theorem A_eq (c : Dev nD) (w : Fin cfg0.W) : (dats m 0 c).A w = V m c (Pipeline.arrRef spec0 w) := by
  dsimp only [dats]

/-- Window 0's slot after the body. -/
theorem after0_0 (c : Dev nD) (t : Fin cfg0.N) : (dats m 0 c).after 0 t = iblk m c 0 t := by dsimp only [dats]
/-- Window 1's slot after the body. -/
theorem after0_1 (c : Dev nD) (t : Fin cfg0.N) : (dats m 0 c).after 1 t = iblk m c 1 t := by dsimp only [dats]
/-- Window 2's slot after the body. -/
theorem after0_2 (c : Dev nD) (t : Fin cfg0.N) : (dats m 0 c).after 2 t = iblk m c 2 t := by dsimp only [dats]
/-- The output window's slot after the body. -/
theorem after0_3 (c : Dev nD) (t : Fin cfg0.N) : (dats m 0 c).after 3 t = OUT (iblk m c 1 t) (iblk m c 2 t) (XT m c) := by dsimp only [dats]

/-- Window 0's slot before the body. -/
theorem before0_0 (c : Dev nD) (t : Fin cfg0.N) (d) : (dats m 0 c).before 0 t d = iblk m c 0 t :=
  before0_0_of m (dats m 0 c) (A_eq m c 0) (after0_0 m c) t d
/-- Window 1's slot before the body. -/
theorem before0_1 (c : Dev nD) (t : Fin cfg0.N) (d) : (dats m 0 c).before 1 t d = iblk m c 1 t :=
  before0_1_of m (dats m 0 c) (A_eq m c 1) (after0_1 m c) t d
/-- Window 2's slot before the body. -/
theorem before0_2 (c : Dev nD) (t : Fin cfg0.N) (d) : (dats m 0 c).before 2 t d = iblk m c 2 t :=
  before0_2_of m (dats m 0 c) (A_eq m c 2) (after0_2 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point: at the first it loads the scratch and then runs as at the others. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [Phi_succ m c t.succ (Nat.succ_ne_zero _), after0_0, after0_1, after0_2, after0_3]
  unfold Dat.owesAt Pipeline.owesWithin
  rw [show (dats m 0 c).owed t.castSucc = 0 from rfl, show (dats m 0 c).owed t.succ = 0 from rfl]
  have hN : t.val < 37 := lt_of_lt_of_eq t.isLt (show cfg0.N = 37 from N_0)
  have hj : ¬ cond0_0 (grid0.coords t1) := fun h => absurd ((hcond0_0 t1).mp h) (by decide)
  by_cases h0 : t.val % 37 = 0
  · obtain rfl : t = t0 := Fin.ext (by show t.val = 0; omega)
    rw [Phi_zero m c t0.castSucc rfl, PhiD0_eq]
    rw [split (grid0.coords t0) (grid0.coords t1) ((hcond0_0 t0).mpr h0) hj, wp_bind]
    unfold PhiN
    iintro ⟨⟨⟨HS0, ⟨%xs1, HS1⟩⟩, Hg, ⟨Hq0, Hq1⟩, Hh0⟩, ⟨%W, -, HW⟩, ⟨%d0, H0⟩, ⟨%d1, H1⟩, ⟨%d2, H2⟩, ⟨%d3, H3⟩⟩
    iapply ((runLoad (F := Ideal) c (grid0.coords t0) _ _ _ (hs0_1 t0) _ (hs0_2 t0) _ (hs0_3 t0) _ _ _ _ (iblk m c 0 t0) xs1 (V m c main_v0)).2 W _)
    isplitl [H0]; · iexact H0
    isplitl [HS0]; · iexact HS0
    isplitl [HS1]; · iexact HS1
    isplitl [Hq0]; · iexact Hq0
    isplitl [Hq1]; · iexact Hq1
    isplitl [Hh0]; · iexact Hh0
    isplitl [HW]; · iexact HW
    iintro ⟨H0, ⟨%f6, HS0⟩, HS1, Hq0, Hq1, Hh0, ⟨%W1, HW⟩⟩
    iapply ((runB (F := Ideal) c (grid0.coords t1) _ _ _ _ _ _ _ _ _ _ _ _ hj (iblk m c 0 t0) (iblk m c 1 t0) (iblk m c 2 t0) (XT m c) (V m c main_v0)).2 W1 _)
    isplitl [H0]; · iexact H0
    isplitl [H1]; · iexact H1
    isplitl [H2]; · iexact H2
    isplitl [H3]; · iexists _; iexact H3
    isplitl [HS0]
    · unfold owns; iexists _; isplitr; swap; · iexact HS0
      ipureintro; exact load_reads c (iblk m c 0 t0) xs1 (V m c main_v0) _ _ _ _ _ _ _ _ _ _ _ _ _ f6
    isplitl [HS1]; · iexact HS1
    isplitl [Hq0]; · iexact Hq0
    isplitl [Hq1]; · iexact Hq1
    isplitl [Hh0]; · iexact Hh0
    isplitl [HW]; · iexact HW
    iintro ⟨H0, H1, H2, ⟨%f5, H3⟩, HS0, HS1, Hq0, Hq1, Hh0, ⟨%W', HW'⟩⟩
    isplitl [HS0 HS1 Hg Hq0 Hq1 Hh0]
    · isplitl [HS0 HS1]
      · isplitl [HS0]; · iexact HS0
        iexact HS1
      isplitl [Hg]
      · iexact Hg
      isplitl [Hq0 Hq1]
      · isplitl [Hq0]; · iexact Hq0
        iexact Hq1
      iexact Hh0
    isplitl [HW']
    · iexists W'; isplitr; · ipureintro; exact fun _ _ => Or.inl trivial
      iexact HW'
    isplitl [H0]; · iexact H0
    isplitl [H1]; · iexact H1
    isplitl [H2]; · iexact H2
    unfold owns; iexists _; isplitr; swap; · iexact H3
    ipureintro; exact runB_reads c _ _ _ _ _ _ _ _ _ _ _ _ _ _ (iblk m c 0 t0) (iblk m c 1 t0) (iblk m c 2 t0) (XT m c) (V m c main_v0) f5
  · rw [Phi_succ m c t.castSucc (by show ¬ t.val = 0; omega)]
    unfold PhiN
    iintro ⟨⟨⟨HS0, HS1⟩, Hg, ⟨Hq0, Hq1⟩, Hh0⟩, ⟨%W, -, HW⟩, ⟨%d0, H0⟩, ⟨%d1, H1⟩, ⟨%d2, H2⟩, ⟨%d3, H3⟩⟩
    iapply ((runB (F := Ideal) c (grid0.coords t) _ _ _ _ _ _ _ _ _ _ _ _ (fun h => h0 ((hcond0_0 t).mp h)) (iblk m c 0 t) (iblk m c 1 t) (iblk m c 2 t) (XT m c) (V m c main_v0)).2 W _)
    isplitl [H0]; · iexact H0
    isplitl [H1]; · iexact H1
    isplitl [H2]; · iexact H2
    isplitl [H3]; · iexists _; iexact H3
    isplitl [HS0]; · iexact HS0
    isplitl [HS1]; · iexact HS1
    isplitl [Hq0]; · iexact Hq0
    isplitl [Hq1]; · iexact Hq1
    isplitl [Hh0]; · iexact Hh0
    isplitl [HW]; · iexact HW
    iintro ⟨H0, H1, H2, ⟨%f5, H3⟩, HS0, HS1, Hq0, Hq1, Hh0, ⟨%W', HW'⟩⟩
    isplitl [HS0 HS1 Hg Hq0 Hq1 Hh0]
    · isplitl [HS0 HS1]
      · isplitl [HS0]; · iexact HS0
        iexact HS1
      isplitl [Hg]
      · iexact Hg
      isplitl [Hq0 Hq1]
      · isplitl [Hq0]; · iexact Hq0
        iexact Hq1
      iexact Hh0
    isplitl [HW']
    · iexists W'; isplitr; · ipureintro; exact fun _ _ => Or.inl trivial
      iexact HW'
    isplitl [H0]; · iexact H0
    isplitl [H1]; · iexact H1
    isplitl [H2]; · iexact H2
    unfold owns; iexists _; isplitr; swap; · iexact H3
    ipureintro; exact runB_reads c _ _ _ _ _ _ _ _ _ _ _ _ _ _ (iblk m c 0 t) (iblk m c 1 t) (iblk m c 2 t) (XT m c) (V m c main_v0) f5

/-- The body table's row at point `t`'s slots is the body. -/
theorem defs₀_row (t : Fin cfg0.N) :
    defs₀ (F := Ideal) .tc cfg0.body (cfg0.bodyArgs t (cfg0.slots t)) = bodyAt0 t := by
  unfold defs₀; rw [Defs.onTc_tc]

/-- The body obligation at every point. -/
theorem body_obligation (c : Dev nD) : BodyObligation (dats m 0 c) (defs₀ (F := Ideal)) Variants.none () Set.univ (fun _ => false) := fun t => by
  rw [bigSep_W0, bigSep_W0, defs₀_row]
  exact triple_restated (sound_body m c t) rfl .rfl fun _ => .rfl

/-- At the end the invariant gives back what the launch lent. -/
theorem hout (c : Dev nD) : (dats m 0 c).Φ (Fin.last _) ⊢ Pipeline.ΦD osem0 spec0 H0 (V m) c := by
  rw [Phi_succ m c (Fin.last _) (by rw [Fin.val_last, show cfg0.N = 37 from N_0]; decide), PhiD0_eq]
  unfold PhiN
  iintro ⟨⟨HS0, HS1⟩, Hg, Hq, Hh0⟩
  isplitl [HS0 HS1]
  · isplitl [HS0]; · iexists _; iexact HS0
    iexact HS1
  isplitl [Hg]; · iexact Hg
  isplitl [Hq]; · iexact Hq
  iexact Hh0

set_option backward.isDefEq.respectTransparency.types false in
/-- The launch: every execution ends, with the arrays as the proof data say and every counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => by rw [Phi_zero m c 0 rfl]) (hout := hout m)

/-- The run, the output array named and the arguments unchanged. -/
theorem run_blocks : θ_run defs (onTc (τ := τ) (main (F := Ideal))) ⟨m, fun _ => 0, ρ⟩ fun r => ∀ c : Dev nD,
      r.2.mem ((c : Thread nD τ).loc main_v10) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h.1 c).1 3,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩)
    (run_main_quiescent m ρ)

/-- The frame: the arguments end unchanged and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and ((θ_run defs _ _).mono (fun _ h c => (h c).2) (run_blocks m ρ)) ((θ_run defs _ _).mono (fun _ h => h.2) (run_main_quiescent m ρ))

end Cert.DwInIdeal.Hand

end
-- ==== Proof.DwInValue.lean ====
module

public import proofs.«01_k».proof.Proof.DwInIdealRun
public import proofs.«01_k».proof.Proof.Tokens

@[expose] public section

/-!
# The value of the MLP input weight gradient

The kernel's result, entry by entry, as one sum over the tokens.
-/

set_option maxRecDepth 16384

noncomputable section

open Idealize.ShloMosaic Idealize.ShloMosaic.TcCoe Idealize.SL.Sem
open Idealize.ShloMosaic.Pipeline (Dat)

namespace Cert.DwInIdeal.Hand

open Cert.DwInIdeal Cert.DwInIdeal.Gen Tokens

variable (m : (ℓ : Loc nD τ sig) → Buf (Elt Ideal) ℓ)

/-- Every window's block index, in the grid point. -/
theorem idx : ∀ t : Fin cfg0.N, win0_0.index t = ![0, 0] ∧ win0_1.index t = ![0, 0] ∧ win0_2.index t = ![0, t.val]
    ∧ win0_3.index t = ![0, t.val] :=
  (by decide +kernel : ∀ t : Fin grid0.N, _)

/-- The left operand in main memory: the normalized rows, one per token. -/
theorem V0 (c : Dev nD) (k : Fin 5120) (f : Fin 3584) : V m c main_v0 (ix2 k f) = m ((c : Thread nD τ).loc main_arg0) (ix3 (tb k) (ts k) f) := by
  have h : V m c main_v0 = shapeCast S5120x3584 (m ((c : Thread nD τ).loc main_arg0)) shapeCasts_S5x1024x3584_S5120x3584 := by
    entry_read
    rfl
  rw [h]
  exact cast3 _ _ k f

/-- The right operand: the codes, one row per token. -/
theorem V9 (c : Dev nD) (k : Fin 5120) (f : Fin 18944) : V m c main_v9 (ix2 k f) = m ((c : Thread nD τ).loc main_arg3) (ix3 (tb k) (ts k) f) := by
  have h : V m c main_v9 = shapeCast S5120x18944 (m ((c : Thread nD τ).loc main_arg3)) shapeCasts_S5x1024x18944_S5120x18944 := by
    entry_read
    rfl
  rw [h]
  exact cast3 _ _ k f

/-- The token scales: the product of the two operands' scales. -/
theorem V6 (c : Dev nD) (k : Fin 5120) (l : Fin 128) : V m c main_v6 (ix2 k l) =
    (show EReal from m ((c : Thread nD τ).loc main_arg1) (ix2 (tb k) (ts k))) * m ((c : Thread nD τ).loc main_arg4) (ix2 (tb k) (ts k)) := by
  have h : V m c main_v6 = (truncf .bf16 (mulf
    (broadcastInDim S5120x128 ![0, 1] bcast_S5120x1_S5120x128_0_1 (shapeCast S5120x1 (m ((c : Thread nD τ).loc main_arg1)) shapeCasts_S5x1024_S5120x1))
    (broadcastInDim S5120x128 ![0, 1] bcast_S5120x1_S5120x128_0_1 (shapeCast S5120x1 (m ((c : Thread nD τ).loc main_arg4)) shapeCasts_S5x1024_S5120x1)) : FVec Ideal S5120x128 .f32) bitsLt_bf16_f32) := by
    entry_read
    rfl
  rw [h]
  exact congrArg₂ (fun x y : EReal => x * y) (lanes _ _ _ k l) (lanes _ _ _ k l)

/-- The row scales of the result. -/
theorem V8 (c : Dev nD) (k : Fin 3584) (l : Fin 128) : V m c main_v8 (ix2 k l) = m ((c : Thread nD τ).loc main_arg2) (ix1 k) := by
  have h : V m c main_v8 = broadcastInDim S3584x128 ![0, 1] bcast_S3584x1_S3584x128_0_1 (shapeCast S3584x1 (m ((c : Thread nD τ).loc main_arg2)) shapeCasts_S3584_S3584x1) := by
    entry_read
    rfl
  rw [h]
  exact lanes1 _ _ _ k l

/-- Window 0 at a point. -/
theorem rdw0 (c : Dev nD) (t : Fin cfg0.N) (k : Fin 5120) (l : Fin 128) : iblk m c 0 t (ix2 k l) =
    (show EReal from m ((c : Thread nD τ).loc main_arg1) (ix2 (tb k) (ts k))) * m ((c : Thread nD τ).loc main_arg4) (ix2 (tb k) (ts k)) := by
  blk_simp [iblk]
  refine Eq.trans ?_ (V6 m c k l)
  blk_ext [idx t]

/-- Window 1 at a point. -/
theorem rdw1 (c : Dev nD) (t : Fin cfg0.N) (k : Fin 3584) (l : Fin 128) : iblk m c 1 t (ix2 k l) =
    m ((c : Thread nD τ).loc main_arg2) (ix1 k) := by
  blk_simp [iblk]
  refine Eq.trans ?_ (V8 m c k l)
  blk_ext [idx t]

/-- Window 2 at a point. -/
theorem rdw2 (c : Dev nD) (t : Fin cfg0.N) (k : Fin 5120) (d : Fin 512) : iblk m c 2 t (ix2 k d) =
    m ((c : Thread nD τ).loc main_arg3) (ix3 (tb k) (ts k) (⟨t.val * 512 + d.val, by have : t.val < 37 := t.isLt; omega⟩ : Fin 18944)) := by
  blk_simp [iblk]
  refine Eq.trans ?_ (V9 m c k _)
  blk_ext [idx t]

/-- The weight gradient: the sum over the tokens of the scaled normalized row times the code, times the row's scale. -/
def G (x : FVec Ideal S5x1024x3584 .fp8e4m3) (xs : FVec Ideal S5x1024 .f32) (ga : FVec Ideal S3584 .f32)
    (a : FVec Ideal S5x1024x18944 .fp8e5m2) (sa : FVec Ideal S5x1024 .f32) : FVec Ideal S3584x18944 .bf16 := fun i =>
  (∑ k : Fin 5120, (((x (ix3 (tb k) (ts k) (i 0)) : EReal) * (xs (ix2 (tb k) (ts k)) * sa (ix2 (tb k) (ts k))))
    * a (ix3 (tb k) (ts k) (i 1)) : EReal) : EReal) * ga (ix1 (i 0))

/-- What a point leaves in the output window's slot is its block of `G`. -/
theorem point (c : Dev nD) (t : Fin cfg0.N) (y : S3584x512.Idx) : OUT (iblk m c 1 t) (iblk m c 2 t) (XT m c) y
    = G (m ((c : Thread nD τ).loc main_arg0)) (m ((c : Thread nD τ).loc main_arg1)) (m ((c : Thread nD τ).loc main_arg2)) (m ((c : Thread nD τ).loc main_arg3)) (m ((c : Thread nD τ).loc main_arg4)) (((cfg0.win 3).blk t).view.emb y) := by
  have hy : (y 1).val < 512 := (y 1).isLt
  have ht : t.val < 37 := t.isLt
  have h0 : ((cfg0.win 3).blk t).view.emb y = ix2 (y 0) (⟨t.val * 512 + (y 1).val, by omega⟩ : Fin 18944) := by
    blk_ext [idx t]
  rw [h0]
  refine congrArg₂ (fun x y : EReal => x * y) (Finset.sum_congr rfl fun k _ => ?_) (rdw1 m c t (y 0) _)
  refine congrArg₂ (fun x y : EReal => x * y) ?_ (rdw2 m c t k (y 1))
  exact congrArg₂ (fun x y : EReal => x * y) (V0 m c k (y 0)) (rdw0 m c t0 k _)

/-- The result array after the run is `G` of the arguments. -/
theorem final (c : Dev nD) : (dats m 0 c).arrAt 3 (cfgs 0).N
    = G (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 3 _ (by decide +kernel) fun t _ y => ?_
  blk_simp
  rw [after0_3]; frame_out
  exact point m c t y

end Cert.DwInIdeal.Hand

end
-- ==== Proof.DwInRefValue.lean ====
module

public import proofs.«01_k».proof.Proof.Gen.DwInRefIdeal.Value
public import proofs.«01_k».proof.Proof.DwInValue

@[expose] public section

/-!
# The value of the reference of the MLP input weight gradient
-/

set_option maxRecDepth 16384

noncomputable section

open Idealize.ShloMosaic Idealize.ShloMosaic.TcCoe Idealize.SL.Sem
open Idealize.ShloMosaic.Pipeline (Dat)

namespace Cert.DwInRefIdeal.ArrayValue

open Cert.DwInRefIdeal Cert.DwInRefIdeal.Gen Tokens

variable (m : (ℓ : Loc nD τ sig) → Buf (Elt Ideal) ℓ)

/-- Every window is its whole array at the one grid point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The codes, one row per token. -/
theorem V0 (c : Dev nD) (k : Fin 5120) (f : Fin 18944) : V m c main_v0 (ix2 k f) = m ((c : Thread nD τ).loc main_arg3) (ix3 (tb k) (ts k) f) := by
  have h : V m c main_v0 = shapeCast S5120x18944 (m ((c : Thread nD τ).loc main_arg3)) shapeCasts_S5x1024x18944_S5120x18944 := by
    entry_read
    rfl
  rw [h]
  exact cast3 _ _ k f

/-- The normalized rows, one per token. -/
theorem V1 (c : Dev nD) (k : Fin 5120) (f : Fin 3584) : V m c main_v1 (ix2 k f) = m ((c : Thread nD τ).loc main_arg0) (ix3 (tb k) (ts k) f) := by
  have h : V m c main_v1 = shapeCast S5120x3584 (m ((c : Thread nD τ).loc main_arg0)) shapeCasts_S5x1024x3584_S5120x3584 := by
    entry_read
    rfl
  rw [h]
  exact cast3 _ _ k f

/-- The rows' scales. -/
theorem V2 (c : Dev nD) (k : Fin 5120) (f : Fin 1) : V m c main_v2 (ix2 k f) = m ((c : Thread nD τ).loc main_arg1) (ix2 (tb k) (ts k)) := by
  have h : V m c main_v2 = shapeCast S5120x1 (m ((c : Thread nD τ).loc main_arg1)) shapeCasts_S5x1024_S5120x1 := by
    entry_read
    rfl
  rw [h]
  exact cast2 _ _ k f

/-- The result's row scales. -/
theorem V3 (c : Dev nD) (k : Fin 3584) (f : Fin 1) : V m c main_v3 (ix2 k f) = m ((c : Thread nD τ).loc main_arg2) (ix1 k) := by
  have h : V m c main_v3 = shapeCast S3584x1 (m ((c : Thread nD τ).loc main_arg2)) shapeCasts_S3584_S3584x1 := by
    entry_read
    rfl
  rw [h]
  exact cast1 _ _ k f

/-- The codes' scales. -/
theorem V4 (c : Dev nD) (k : Fin 5120) (f : Fin 1) : V m c main_v4 (ix2 k f) = m ((c : Thread nD τ).loc main_arg4) (ix2 (tb k) (ts k)) := by
  have h : V m c main_v4 = shapeCast S5120x1 (m ((c : Thread nD τ).loc main_arg4)) shapeCasts_S5x1024_S5120x1 := by
    entry_read
    rfl
  rw [h]
  exact cast2 _ _ k f

/-- The body's payload read at an index. -/
theorem payload (x0 : FVec Ideal S5120x3584 .fp8e4m3) (x1 : FVec Ideal S5120x1 .f32) (x2 : FVec Ideal S3584x1 .f32) (x3 : FVec Ideal S5120x18944 .fp8e5m2) (x4 : FVec Ideal S5120x1 .f32)
    (y : S3584x18944.Idx) : k0_pay1 (F := Ideal) x0 x1 x3 x4 x2 y
      = (x2 (ix2 (y 0) 0) : EReal) * (∑ k : Fin 5120, ((x0 (ix2 k (y 0)) : EReal) * x1 (ix2 k 0)) * (x3 (ix2 k (y 1)) * x4 (ix2 k 0)) : EReal) := by
  pointwise [k0_pay1]

/-- What the reference leaves in its result is the same function of the arguments. -/
theorem final (c : Dev nD) : (dats m 0 c).arrAt 5 (cfgs 0).N
    = Cert.DwInIdeal.Hand.G (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  have h0 : ((cfg0.win 5).blk t).view.emb y = y := by
    blk_ext [idx t]
  have h1 : ∀ (k : Fin 5120) (f : Fin 3584), iblk m c 0 t (ix2 k f) = m ((c : Thread nD τ).loc main_arg0) (ix3 (tb k) (ts k) f) := fun k f => by
    blk_simp [iblk]
    refine Eq.trans ?_ (V1 m c k f)
    blk_ext [idx t]
  have h2 : ∀ (k : Fin 5120) (f : Fin 1), iblk m c 1 t (ix2 k f) = m ((c : Thread nD τ).loc main_arg1) (ix2 (tb k) (ts k)) := fun k f => by
    blk_simp [iblk]
    refine Eq.trans ?_ (V2 m c k f)
    blk_ext [idx t]
  have h3 : ∀ (k : Fin 3584) (f : Fin 1), iblk m c 2 t (ix2 k f) = m ((c : Thread nD τ).loc main_arg2) (ix1 k) := fun k f => by
    blk_simp [iblk]
    refine Eq.trans ?_ (V3 m c k f)
    blk_ext [idx t]
  have h4 : ∀ (k : Fin 5120) (f : Fin 18944), iblk m c 3 t (ix2 k f) = m ((c : Thread nD τ).loc main_arg3) (ix3 (tb k) (ts k) f) := fun k f => by
    blk_simp [iblk]
    refine Eq.trans ?_ (V0 m c k f)
    blk_ext [idx t]
  have h5 : ∀ (k : Fin 5120) (f : Fin 1), iblk m c 4 t (ix2 k f) = m ((c : Thread nD τ).loc main_arg4) (ix2 (tb k) (ts k)) := fun k f => by
    blk_simp [iblk]
    refine Eq.trans ?_ (V4 m c k f)
    blk_ext [idx t]
  refine Eq.trans ?_ (congrArg _ h0.symm)
  refine (Cert.DwInRefIdeal.ArrayValue.payload _ _ _ _ _ y).trans ?_
  refine (mul_comm _ _).trans ?_
  refine congrArg₂ (fun x y : EReal => x * y) (Finset.sum_congr rfl fun k _ => ?_) (h3 (y 0) 0)
  refine (congrArg₂ (fun x y : EReal => x * y) (congrArg₂ (fun x y : EReal => x * y) (h1 k (y 0)) (h2 k 0)) (congrArg₂ (fun x y : EReal => x * y) (h4 k (y 1)) (h5 k 0))).trans ?_
  show (_ : EReal) * _ * (_ * _) = _ * (_ * _) * _
  ac_rfl

end Cert.DwInRefIdeal.ArrayValue
end
-- ==== Proof.DwQkvIdealRuns.lean ====
/- What the hand-written runs of `proofs.«01_k».proof.DwQkvIdeal`'s kernel body share: the program up to the kernel
   region, the blocks the input windows hold, the condition of the body's branch over the grid points, the staging
   and scratch memrefs, and the invariant of a body that copies from main memory itself. -/
module

public import proofs.«01_k».proof.Proof.Gen.DwQkvIdeal.Frame
public import proofs.«01_k».proof.Proof.Gen.DwQkvIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.DwQkvIdeal.Hand

open Cert.DwQkvIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 21 = 0 :=
  (fun t => by
    have ht : t.val < 21 := Nat.lt_of_lt_of_eq t.isLt N_0
    have e0 : (grid0.coords t 0).val = t.val / 1 % 21 := Pipeline.Grid.coords_val t 0 (by decide) rfl
    simp only [cond0_0, e0]
    word_cmp
   : ∀ t : Fin grid0.N, cond0_0 (grid0.coords t) ↔ t.val % 21 = 0)

/-! ## The kernel body on any staging memrefs: a subtype the run finds -/

/-- Each window's current staging memref at point `t`, spelled as the pipeline passes it (`bodyAt0`), and its wholeness. -/
abbrev ms0_0 (t : Fin cfg0.N) : Memref sig .tc .vmem S5120x128 .bf16 := win0_0.stage (cfg0.slots t 0)
/-- Window 0's staging buffer is a whole buffer. -/
abbrev hs0_0 (t : Fin cfg0.N) : (ms0_0 t).IsWhole := hstage0_0 ((cfg0.slots t 0).cast nbuf0_0)
/-- Window 1's staging buffer at point `t`. -/
abbrev ms0_1 (t : Fin cfg0.N) : Memref sig .tc .vmem S3584x128 .f32 := win0_1.stage (cfg0.slots t 1)
/-- Window 1's staging buffer is a whole buffer. -/
abbrev hs0_1 (t : Fin cfg0.N) : (ms0_1 t).IsWhole := hstage0_1 ((cfg0.slots t 1).cast nbuf0_1)
/-- Window 2's staging buffer at point `t`. -/
abbrev ms0_2 (t : Fin cfg0.N) : Memref sig .tc .vmem S5x4x1024x128 .fp8e5m2 := win0_2.stage (cfg0.slots t 2)
/-- Window 2's staging buffer is a whole buffer. -/
abbrev hs0_2 (t : Fin cfg0.N) : (ms0_2 t).IsWhole := hstage0_2 ((cfg0.slots t 2).cast nbuf0_2)
/-- Window 3's staging buffer at point `t`. -/
abbrev ms0_3 (t : Fin cfg0.N) : Memref sig .tc .vmem S4x3584x128 .bf16 := win0_3.stage (cfg0.slots t 3)
/-- Window 3's staging buffer is a whole buffer. -/
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S3584x5120 .bf16 := Memref.whole cc0_scratch0
/-- The scratch buffer the rows are copied into. -/
abbrev scM0_1 : Memref sig .tc .vmem S2x256x3584 .fp8e4m3 := Memref.whole cc0_scratch1
/-- The operands left in HBM that the body copies into scratch itself, whole. -/
abbrev hbM0_0 : Memref sig .tc .hbm S5120x3584 .fp8e4m3 := Memref.whole main_v2
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
/-- Full ownership of a buffer of device `c` holding `f`. -/
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 6, SemLoc.dma 7] : Fin 2 → SemLoc sig) j
/-- The semaphores the body keeps for itself are none of the pipeline's. -/
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0) := by
  rw [Pipeline.ownSems0_eq_of_list c osem0 [0, 1] (by decide) (by decide)]; rfl
/-- The HBM operands the body moves, as references: unscoped, no window's array (`Pipeline.restRefs`). -/
def H0 : Finset (Ref sig .tc) := {main_v2}
/-- The array the body copies rows from is none of the windows' arrays. -/
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v2)) := by
  rw [BI.bigSep_eq_bigSepL_of_eq [main_v2] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 6) 0 ∗ semVal ((c : Thread nD τ), SemLoc.dma 7) 0) ∗ iprop(hbPt0 c hbM0_0 (V m c main_v2))) := by
  rw [Pipeline.ΦD_eq, scopedRest0_eq, ownSems00_eq, hbmPts0_eq]; simp only [scM0_0, scM0_1, owns_whole]; try rfl

end Cert.DwQkvIdeal.Hand

end
-- ==== Proof.DwQkvIdealLoad.lean ====
/- The body of `proofs.«01_k».proof.DwQkvIdeal`'s kernel at the first grid point, split into the part that fills the
   scratch operand and the part it shares with every other point. -/
module

public import proofs.«01_k».proof.Proof.DwQkvIdealRuns
public import proofs.«01_k».proof.Proof.Gen.DwQkvIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.DwQkvIdeal.Hand

open Cert.DwQkvIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the body does at the first grid point before its row tiles: the branch of its `scf.if`, which copies the
    left operand from main memory in blocks of rows, scales each block and stores it transposed. -/
noncomputable def load (i : grid0.Coords) (arg1 : Memref sig .tc .hbm S5120x3584 .fp8e4m3) (harg1 : arg1.IsWhole) (arg2 : Memref sig .tc .vmem S5120x128 .bf16) (harg2 : arg2.IsWhole) (arg3 : Memref sig .tc .vmem S3584x128 .f32) (harg3 : arg3.IsWhole) (arg4 : Memref sig .tc .vmem S5x4x1024x128 .fp8e5m2) (harg4 : arg4.IsWhole) (arg5 : Memref sig .tc .vmem S4x3584x128 .bf16) (harg5 : arg5.IsWhole) (arg6 : Memref sig .tc .vmem S3584x5120 .bf16) (harg6 : arg6.IsWhole) (arg7 : Memref sig .tc .vmem S2x256x3584 .fp8e4m3) (harg7 : arg7.IsWhole) (arg8 : DmaSems sig S2) :
    Prog (TpuEff nD τ sig (Elt F) Λ₀ .tc) PUnit := do
  k0_part1 i arg1 harg1 arg2 harg2 arg3 harg3 arg4 harg4 arg5 harg5 arg6 harg6 arg7 harg7 arg8
  k0_part2 i arg1 harg1 arg2 harg2 arg3 harg3 arg4 harg4 arg5 harg5 arg6 harg6 arg7 harg7 arg8
  let v648 : FVec F S3584x256 .bf16 ← k0_part3 i arg1 harg1 arg2 harg2 arg3 harg3 arg4 harg4 arg5 harg5 arg6 harg6 arg7 harg7 arg8
  k0_part4 i arg1 harg1 arg2 harg2 arg3 harg3 arg4 harg4 arg5 harg5 arg6 harg6 arg7 harg7 arg8 v648
  let v706 : FVec F S256x3584 .bf16 ← k0_part5 i arg1 harg1 arg2 harg2 arg3 harg3 arg4 harg4 arg5 harg5 arg6 harg6 arg7 harg7 arg8
  k0_part6 i arg1 harg1 arg2 harg2 arg3 harg3 arg4 harg4 arg5 harg5 arg6 harg6 arg7 harg7 arg8 v706
  k0_part7 i arg1 harg1 arg2 harg2 arg3 harg3 arg4 harg4 arg5 harg5 arg6 harg6 arg7 harg7 arg8
  let v795 : FVec F S3584x256 .bf16 ← k0_part8 i arg1 harg1 arg2 harg2 arg3 harg3 arg4 harg4 arg5 harg5 arg6 harg6 arg7 harg7 arg8
  k0_part9 i arg1 harg1 arg2 harg2 arg3 harg3 arg4 harg4 arg5 harg5 arg6 harg6 arg7 harg7 arg8 v795
  let v852 : FVec F S256x3584 .fp8e4m3 ← k0_part10 i arg1 harg1 arg2 harg2 arg3 harg3 arg4 harg4 arg5 harg5 arg6 harg6 arg7 harg7 arg8
  k0_part11 i arg1 harg1 arg2 harg2 arg3 harg3 arg4 harg4 arg5 harg5 arg6 harg6 arg7 harg7 arg8 v852
  k0_part12 i arg1 harg1 arg2 harg2 arg3 harg3 arg4 harg4 arg5 harg5 arg6 harg6 arg7 harg7 arg8
  let v942 : FVec F S3584x256 .bf16 ← k0_part13 i arg1 harg1 arg2 harg2 arg3 harg3 arg4 harg4 arg5 harg5 arg6 harg6 arg7 harg7 arg8
  k0_part14 i arg1 harg1 arg2 harg2 arg3 harg3 arg4 harg4 arg5 harg5 arg6 harg6 arg7 harg7 arg8 v942
  let v967 : DmaSems sig S1 := arg8.slice (Rect.unit (s := S2) ![1] S1.size inb_S2_S1_1)
  let v968 : DmaSems sig S_ := v967.squeeze S_ squeezes_S1_S_
  let v969 : Memref sig .tc .vmem S1x256x3584 .fp8e4m3 := arg7.slice (Rect.unit (s := S2x256x3584) ![1, 0, 0] S1x256x3584.size inb_S2x256x3584_S1x256x3584_1_0_0) (fun _ => rfl)
  let v970 : Memref sig .tc .vmem S256x3584 .fp8e4m3 := v969.squeeze S256x3584 squeezes_S1x256x3584_S256x3584
  let v971 : Memref sig .tc .hbm S256x3584 .fp8e4m3 := arg1.slice (Rect.unit (s := S5120x3584) ![4864, 0] S256x3584.size inb_S5120x3584_S256x3584_4864_0) (fun _ => rfl)
  Prog.lift (.waitDma2 v968.sem v971 v970 (harg1.wordExact_slice rfl _ wordsfp8e4m3_S5120x3584_S256x3584_4864_0) ((harg7.wordExact_slice rfl _ wordsfp8e4m3_S2x256x3584_S1x256x3584_1_0_0).reshape _ _))
  let v972 : Vec F S1x256x3584 .fp8e4m3 ← Prog.lift (.load arg7 (Rect.unit (s := S2x256x3584) ![1, 0, 0] S1x256x3584.size inb_S2x256x3584_S1x256x3584_1_0_0).toLoadRect (View.loadsAt_vmem h_S1x256x3584))
  let v975 : Vec F S256x128 .bf16 ← Prog.lift (.load arg2 (Rect.unit (s := S5120x128) ![4864, 0] S256x128.size inb_S5120x128_S256x128_4864_0).toLoadRect (View.loadsAt_vmem h_S256x128))
  let v980 : Vec F S3584x256 .bf16 ← Prog.lift (.load arg6 (Rect.unit (s := S3584x5120) ![0, 4864] S3584x256.size inb_S3584x5120_S3584x256_0_4864).toLoadRect (View.loadsAt_vmem h_S3584x256))
  Prog.lift (.store arg6 (Rect.unit (s := S3584x5120) ![0, 4864] S3584x256.size inb_S3584x5120_S3584x256_0_4864) (k0_pay25 v972 v975) Finset.univ (View.stores_vmem h_S3584x256 (harg6.storeExact_slice rfl _ packedbf16_S3584x5120_S3584x256_0_4864) (fun _ => rfl)) (.inl rfl))
  pure ⟨⟩

set_option maxHeartbeats 1000000 in
/-- At a point where the branch is taken, the body is `load` and then the body of any point where it is not: nothing
    else in it reads the grid coordinate. -/
theorem split (i j : grid0.Coords) (hi : cond0_0 i) (hj : ¬ cond0_0 j) (arg1 : Memref sig .tc .hbm S5120x3584 .fp8e4m3) (harg1 : arg1.IsWhole) (arg2 : Memref sig .tc .vmem S5120x128 .bf16) (harg2 : arg2.IsWhole) (arg3 : Memref sig .tc .vmem S3584x128 .f32) (harg3 : arg3.IsWhole) (arg4 : Memref sig .tc .vmem S5x4x1024x128 .fp8e5m2) (harg4 : arg4.IsWhole) (arg5 : Memref sig .tc .vmem S4x3584x128 .bf16) (harg5 : arg5.IsWhole) (arg6 : Memref sig .tc .vmem S3584x5120 .bf16) (harg6 : arg6.IsWhole) (arg7 : Memref sig .tc .vmem S2x256x3584 .fp8e4m3) (harg7 : arg7.IsWhole) (arg8 : DmaSems sig S2)  :
    cc0_dw_qkv (F := F) i arg1 harg1 arg2 harg2 arg3 harg3 arg4 harg4 arg5 harg5 arg6 harg6 arg7 harg7 arg8 = (load i arg1 harg1 arg2 harg2 arg3 harg3 arg4 harg4 arg5 harg5 arg6 harg6 arg7 harg7 arg8 >>= fun _ => cc0_dw_qkv j arg1 harg1 arg2 harg2 arg3 harg3 arg4 harg4 arg5 harg5 arg6 harg6 arg7 harg7 arg8) := by
  simp only [cc0_dw_qkv_eq_skeleton]; unfold cc0_dw_qkv_skel
  simp only [k0_part37_eq_skeleton]; unfold k0_part37_skel
  simp only [k0_part15_eq_skeleton]; unfold k0_part15_skel
  have hi' : Scalar.cmpi .ne (Scalar.extui (Scalar.cmpi .eq (BitVec.ofNat 32 (i 0).val) 0#32)) 0#32 = 1#1 := hi
  have hj' : ¬ Scalar.cmpi .ne (Scalar.extui (Scalar.cmpi .eq (BitVec.ofNat 32 (j 0).val) 0#32)) 0#32 = 1#1 := hj
  simp only [dif_pos hi', dif_neg hj', bind_assoc, pure_bind]
  rfl

end Cert.DwQkvIdeal.Hand

end
-- ==== Proof.DwQkvIdealRunLoad.lean ====
/- The run of the part of `proofs.«01_k».proof.DwQkvIdeal`'s kernel that fills the scratch operand. -/
module

public import proofs.«01_k».proof.Proof.DwQkvIdealLoad
public import proofs.«01_k».proof.Proof.Gen.DwQkvIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.DwQkvIdeal.Hand

open Cert.DwQkvIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
set_option sl_exec.dmaWindow true in
set_option sl_exec.dmaWindowSet true in
/-- The run of `load`: from the scale block `x0`, the staging scratch at `xs1` and main memory's left operand at `fh0`,
    it ends with main memory and the scale block as they were and the transposed scratch with the listed pieces written;
    the pieces are found by running the body. -/
noncomputable def runLoad (c : Dev nD) (i : grid0.Coords) (arg2 : Memref sig .tc .vmem S5120x128 .bf16) (harg2 : arg2.IsWhole) (arg3 : Memref sig .tc .vmem S3584x128 .f32) (harg3 : arg3.IsWhole) (arg4 : Memref sig .tc .vmem S5x4x1024x128 .fp8e5m2) (harg4 : arg4.IsWhole) (arg5 : Memref sig .tc .vmem S4x3584x128 .bf16) (harg5 : arg5.IsWhole) (arg6 : Memref sig .tc .vmem S3584x5120 .bf16) (harg6 : arg6.IsWhole) (arg7 : Memref sig .tc .vmem S2x256x3584 .fp8e4m3) (harg7 : arg7.IsWhole)
    (x0 : Vec F S5120x128 .bf16) (xs1 : Vec F S2x256x3584 .fp8e4m3) (fh0 : HbBuf0 (F := F) c hbM0_0) :
      { P : List (View.Piece (Elt F) S3584x5120 .bf16) //
        ∀ (W : Waits sig Unit) (K : PUnit → sProp 𝕄),
        iprop(owns (c : Thread nD τ) arg2 fullShare x0 ∗ (∃ d, owns (c : Thread nD τ) arg6 fullShare d) ∗ owns (c : Thread nD τ) arg7 fullShare xs1 ∗ semVal ((c : Thread nD τ), SemLoc.dma 6) 0 ∗ semVal ((c : Thread nD τ), SemLoc.dma 7) 0 ∗ hbPt0 c hbM0_0 fh0 ∗ owes (c : Thread nD τ) 0 W
            ∗ (iprop(owns (c : Thread nD τ) arg2 fullShare x0 ∗ (∃ f, arg6.view.loc (c : Thread nD τ) ↦[arg6.view.set]{fullShare} arg6.view.writes (Elt F) f P) ∗ (∃ d, owns (c : Thread nD τ) arg7 fullShare d) ∗ semVal ((c : Thread nD τ), SemLoc.dma 6) 0 ∗ semVal ((c : Thread nD τ), SemLoc.dma 7) 0 ∗ hbPt0 c hbM0_0 fh0 ∗ (∃ W', owes (c : Thread nD τ) 0 W')) -∗ K ⟨⟩))
          ⊢ wp frame (wpE (defs₀ (F := F)) Variants.none c none) Set.univ (load i (Memref.whole main_v2) (Memref.isWhole_whole _) arg2 harg2 arg3 harg3 arg4 harg4 arg5 harg5 arg6 harg6 arg7 harg7 cc0_scratch2) K } := by
  refine ⟨?_, fun W K => ?run⟩
  case run =>
    unfold load
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%ds0, %fs0, -, HS0⟩, ⟨%fs1, %hfs1, HS1⟩, Hq0, Hq1, Hh0, HW, Hk⟩
    obtain rfl := harg2.eq_unread hf0; obtain rfl := harg7.eq_unread hfs1
    sl_exec
    sl_step
    iapply Hk
    isplitl [H0]
    · iexists _; isplitr; · ipureintro; exact harg2.read_unread _
      iexact H0
    isplitl [HS0]
    · iexists _; iexact HS0
    isplitl [HS1]
    · iexists _, _; isplitr; swap; · iexact HS1
      ipureintro; rfl
    isplitl [Hq0]; · iexact Hq0
    isplitl [Hq1]; · iexact Hq1
    isplitl [Hh0]; · iexact Hh0
    iexists _; iexact HW

end Cert.DwQkvIdeal.Hand

end
-- ==== Proof.DwQkvIdealRunB.lean ====
/- The run of the body of the kernel over the extended reals at every point but the first: the rows are there
   already, transposed; the body multiplies them with its block and scales the rows of the product. -/
module

public import proofs.«01_k».proof.Proof.DwQkvIdealRuns
public import proofs.«01_k».proof.Proof.Gen.DwQkvIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.DwQkvIdeal.Hand

open Cert.DwQkvIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1280000 in
set_option sl_exec.dmaWindow true in
set_option sl_exec.dmaWindowSet true in
/-- The run of the body at every point but the first: the blocks of window 3 it stores, and what it leaves. -/
noncomputable def runB (c : Dev nD) (i : grid0.Coords) (arg2 : Memref sig .tc .vmem S5120x128 .bf16) (harg2 : arg2.IsWhole) (arg3 : Memref sig .tc .vmem S3584x128 .f32) (harg3 : arg3.IsWhole) (arg4 : Memref sig .tc .vmem S5x4x1024x128 .fp8e5m2) (harg4 : arg4.IsWhole) (arg5 : Memref sig .tc .vmem S4x3584x128 .bf16) (harg5 : arg5.IsWhole) (arg6 : Memref sig .tc .vmem S3584x5120 .bf16) (harg6 : arg6.IsWhole) (arg7 : Memref sig .tc .vmem S2x256x3584 .fp8e4m3) (harg7 : arg7.IsWhole) (hc0 : ¬cond0_0 i)
    (x0 : Vec F S5120x128 .bf16) (x1 : Vec F S3584x128 .f32) (x2 : Vec F S5x4x1024x128 .fp8e5m2) (xs0 : Vec F S3584x5120 .bf16) (fh0 : HbBuf0 (F := F) c hbM0_0) :
      { P : List (View.Piece (Elt F) S4x3584x128 .bf16) //
        ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ (∃ d, owns (c : Thread nD τ) arg7 fullShare d) ∗ semVal ((c : Thread nD τ), SemLoc.dma 6) 0 ∗ semVal ((c : Thread nD τ), SemLoc.dma 7) 0 ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f P) ∗ owns (c : Thread nD τ) arg6 fullShare xs0 ∗ (∃ d, owns (c : Thread nD τ) arg7 fullShare d) ∗ semVal ((c : Thread nD τ), SemLoc.dma 6) 0 ∗ semVal ((c : Thread nD τ), SemLoc.dma 7) 0 ∗ hbPt0 c hbM0_0 fh0 ∗ (∃ W', owes (c : Thread nD τ) 0 W')) -∗ K ⟨⟩))
          ⊢ wp frame (wpE (defs₀ (F := F)) Variants.none c none) Set.univ (cc0_dw_qkv i (Memref.whole main_v2) (Memref.isWhole_whole _) arg2 harg2 arg3 harg3 arg4 harg4 arg5 harg5 arg6 harg6 arg7 harg7 cc0_scratch2) K } := by
  refine ⟨?_, fun W K => ?run⟩
  case run =>
    simp only [cc0_dw_qkv_eq_skeleton]; unfold cc0_dw_qkv_skel
    simp only [k0_part37_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%ds1, %fs1, -, HS1⟩, Hq0, Hq1, Hh0, HW, Hk⟩
    obtain rfl := harg2.eq_unread hf0; obtain rfl := harg3.eq_unread hf1; obtain rfl := harg4.eq_unread hf2; obtain rfl := harg6.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [HS0]
    · iexists _; isplitr; · ipureintro; exact harg6.read_unread _
      iexact HS0
    isplitl [HS1]
    · iexists _, _; isplitr; swap; · iexact HS1
      ipureintro; rfl
    isplitl [Hq0]; · iexact Hq0
    isplitl [Hq1]; · iexact Hq1
    isplitl [Hh0]; · iexact Hh0
    iexists _; iexact HW

end Cert.DwQkvIdeal.Hand

end
-- ==== Proof.DwQkvFrame.lean ====
/- The frame of `proofs.«01_k».proof.DwQkv`'s kernel at any float values: the program over the extended reals is the
   same program, so its runs serve both. -/
module

public import proofs.«01_k».proof.Proof.DwQkvIdealRunLoad
public import proofs.«01_k».proof.Proof.DwQkvIdealRunB
public import proofs.«01_k».proof.Proof.Gen.DwQkv.Skeleton
public import proofs.«01_k».proof.Defs
public import Idealize.ShloMosaic.Lib.Claim

@[expose] public section

set_option maxRecDepth 65536

noncomputable section

namespace Cert.DwQkvIdeal.Plain

open Cert.DwQkvIdeal Cert.DwQkvIdeal.Gen Cert.DwQkvIdeal.Hand Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The one window of which nothing is stated: the output. -/
def forgets0 : Fin 4 → Bool := fun w => w.val == 3

/-- The proof data: each input's slot at its block, the output's slot at nothing in particular. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦD osem0 spec0 H0 (V m) c
  q _ := fullShare
  owed _ := 0

/-- The arrays of the proof data are those at region entry. -/
theorem A_eq (c : Dev nD) (w : Fin cfg0.W) : (dats m 0 c).A w = V m c (Pipeline.arrRef spec0 w) := by
  dsimp only [dats]

/-- Window 0 is left as its block. -/
theorem after0_0 (c : Dev nD) (t : Fin cfg0.N) : (dats m 0 c).after 0 t = iblk m c 0 t := by dsimp only [dats]
/-- Window 1 is left as its block. -/
theorem after0_1 (c : Dev nD) (t : Fin cfg0.N) : (dats m 0 c).after 1 t = iblk m c 1 t := by dsimp only [dats]
/-- Window 2 is left as its block. -/
theorem after0_2 (c : Dev nD) (t : Fin cfg0.N) : (dats m 0 c).after 2 t = iblk m c 2 t := by dsimp only [dats]

/-- What the body finds at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))

/-- What it leaves there. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d))

/-- The second grid point, where the scratch is not loaded. -/
abbrev t1 : Fin cfg0.N := ⟨1, by rw [show cfg0.N = 21 from N_0]; decide⟩

set_option maxHeartbeats 800000 in
/-- The body where the scratch is not loaded, on the slots of any point. -/
theorem sound_tail (c : Dev nD) (t : Fin cfg0.N) (j : grid0.Coords) (hj : ¬cond0_0 j) :
    bodyPre m c t ⊢ wp frame (wpE (defs₀ (F := F)) Variants.none c none) Set.univ
      (cc0_dw_qkv j (Memref.whole main_v2) (Memref.isWhole_whole _) (ms0_0 t) (hs0_0 t) (ms0_1 t) (hs0_1 t) (ms0_2 t) (hs0_2 t) (ms0_3 t) (hs0_3 t)
        scM0_0 (Memref.isWhole_whole _) scM0_1 (Memref.isWhole_whole _) cc0_scratch2) (fun _ => bodyPost m c t) := by
  unfold bodyPre bodyPost
  simp only [before0_0_of m (dats m 0 c) (A_eq m c 0) (after0_0 m c), before0_1_of m (dats m 0 c) (A_eq m c 1) (after0_1 m c),
    before0_2_of m (dats m 0 c) (A_eq m c 2) (after0_2 m c)]
  rw [show (dats m 0 c).Φ t.succ = (dats m 0 c).Φ t.castSucc from rfl, after0_0, after0_1, after0_2]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨⟨⟨%xs0, HS0⟩, HS1⟩, Hg, ⟨Hq0, Hq1⟩, Hh0⟩, ⟨%W, -, HW⟩, ⟨%d0, H0⟩, ⟨%d1, H1⟩, ⟨%d2, H2⟩, ⟨%d3, H3⟩⟩
  iapply ((runB (F := F) c j _ _ _ _ _ _ _ _ _ _ _ _ hj (iblk m c 0 t) (iblk m c 1 t) (iblk m c 2 t) xs0 (V m c main_v2)).2 W _)
  isplitl [H0]; · iexact H0
  isplitl [H1]; · iexact H1
  isplitl [H2]; · iexact H2
  isplitl [H3]; · iexists _; iexact H3
  isplitl [HS0]; · iexact HS0
  isplitl [HS1]; · iexact HS1
  isplitl [Hq0]; · iexact Hq0
  isplitl [Hq1]; · iexact Hq1
  isplitl [Hh0]; · iexact Hh0
  isplitl [HW]; · iexact HW
  iintro ⟨H0, H1, H2, ⟨%f5, H3⟩, HS0, HS1, Hq0, Hq1, Hh0, ⟨%W', HW'⟩⟩
  isplitl [HS0 HS1 Hg Hq0 Hq1 Hh0]
  · isplitl [HS0 HS1]
    · isplitl [HS0]; · iexists _; iexact HS0
      iexact HS1
    isplitl [Hg]; · iexact Hg
    isplitl [Hq0 Hq1]
    · isplitl [Hq0]; · iexact Hq0
      iexact Hq1
    iexact Hh0
  isplitl [HW']
  · iexists W'; isplitr; · ipureintro; exact fun _ _ => Or.inl trivial
    iexact HW'
  isplitl [H0]; · iexact H0
  isplitl [H1]; · iexact H1
  isplitl [H2]; · iexact H2
  unfold owns; iexists _, _; isplitr; swap; · iexact H3
  ipureintro; rfl

set_option maxHeartbeats 800000 in
/-- The body at any point: at the first it loads the scratch and then runs as at the others. -/
theorem sound_body (c : Dev nD) (t : Fin cfg0.N) :
    bodyPre m c t ⊢ wp frame (wpE (defs₀ (F := F)) Variants.none c none) Set.univ (bodyAt0 t) (fun _ => bodyPost m c t) := by
  by_cases h0 : t.val % 21 = 0
  · have hj : ¬ cond0_0 (grid0.coords t1) := fun h => absurd ((hcond0_0 t1).mp h) (by decide)
    unfold bodyAt0
    rw [split (grid0.coords t) (grid0.coords t1) ((hcond0_0 t).mpr h0) hj, wp_bind]
    have key := sound_tail m c t (grid0.coords t1) hj
    unfold bodyPre at key ⊢
    simp only [before0_0_of m (dats m 0 c) (A_eq m c 0) (after0_0 m c), show (dats m 0 c).Φ t.castSucc = Pipeline.ΦD osem0 spec0 H0 (V m) c from rfl, PhiD0_eq] at key ⊢
    unfold Dat.owesAt Pipeline.owesWithin at key ⊢
    rw [show (dats m 0 c).owed t.castSucc = 0 from rfl] at key ⊢
    iintro ⟨⟨⟨HS0, ⟨%xs1, HS1⟩⟩, Hg, ⟨Hq0, Hq1⟩, Hh0⟩, ⟨%W, -, HW⟩, ⟨%d0, H0⟩, H1, H2, H3⟩
    iapply ((runLoad (F := F) c (grid0.coords t) _ _ _ (hs0_1 t) _ (hs0_2 t) _ (hs0_3 t) _ _ _ _ (iblk m c 0 t) xs1 (V m c main_v2)).2 W _)
    isplitl [H0]; · iexact H0
    isplitl [HS0]; · iexact HS0
    isplitl [HS1]; · iexact HS1
    isplitl [Hq0]; · iexact Hq0
    isplitl [Hq1]; · iexact Hq1
    isplitl [Hh0]; · iexact Hh0
    isplitl [HW]; · iexact HW
    iintro ⟨H0, ⟨%f6, HS0⟩, HS1, Hq0, Hq1, Hh0, ⟨%W1, HW⟩⟩
    iapply key
    isplitl [HS0 HS1 Hg Hq0 Hq1 Hh0]
    · isplitl [HS0 HS1]
      · isplitl [HS0]
        · unfold owns; iexists _, _; isplitr; swap; · iexact HS0
          ipureintro; rfl
        iexact HS1
      isplitl [Hg]; · iexact Hg
      isplitl [Hq0 Hq1]
      · isplitl [Hq0]; · iexact Hq0
        iexact Hq1
      iexact Hh0
    isplitl [HW]
    · iexists W1; isplitr; · ipureintro; exact fun _ _ => Or.inl trivial
      iexact HW
    isplitl [H0]; · iexists d0; iexact H0
    isplitl [H1]; · iexact H1
    isplitl [H2]; · iexact H2
    iexact H3
  · exact sound_tail m c t (grid0.coords t) fun h => h0 ((hcond0_0 t).mp h)

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: every execution ends, with the input arrays unchanged and every counter at zero. -/
theorem run_main : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).2 main_arg0 (Pipeline.mem_restRefs_of main_arg0 (by decide) (by decide)) |>.trans (V_main_arg0 m c),
      (h.1 c).2 main_arg1 (Pipeline.mem_restRefs_of main_arg1 (by decide) (by decide)) |>.trans (V_main_arg1 m c),
      (h.1 c).2 main_arg2 (Pipeline.mem_restRefs_of main_arg2 (by decide) (by decide)) |>.trans (V_main_arg2 m c),
      (h.1 c).2 main_arg3 (Pipeline.mem_restRefs_of main_arg3 (by decide) (by decide)) |>.trans (V_main_arg3 m c),
      (h.1 c).2 main_arg4 (Pipeline.mem_restRefs_of main_arg4 (by decide) (by decide)) |>.trans (V_main_arg4 m c)⟩, h.2⟩) (run_main m ρ)

/-- The kernel's body table is the one over the extended reals. -/
theorem tables : (Cert.DwQkv.defs₀ (F := F)) = Cert.DwQkvIdeal.defs₀ (F := F) := by
  unfold Cert.DwQkv.defs₀ Cert.DwQkvIdeal.defs₀
  refine congrArg Defs.onTc ?_
  funext l x
  match l with
  | ⟨0, _⟩ => rfl
  | ⟨k + 1, h⟩ => exact absurd h (Nat.not_lt.2 (Nat.le_add_left _ _))

/-- The frame claim of the kernel at the machine's floats. -/
theorem quiescent : @Cert.quiescent_DwQkv Cert.DwQkv.Gen.facts := by
  intro m g _
  have h := frame (F := Bits) m g
  rw [show (Cert.DwQkvIdeal.defs (F := Bits)) = Cert.DwQkv.defs (F := Bits) from congrArg (Pipeline.defs Cert.DwQkv.pcfgs) tables.symm] at h
  exact h

end Cert.DwQkvIdeal.Plain

end
-- ==== Proof.DwQkvIdealPay.lean ====
module

public import proofs.«01_k».proof.Proof.DwQkvIdealRunLoad
public import proofs.«01_k».proof.Proof.Tokens
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-! What `load` stores at each piece of the transposed scratch: the block of rows read, each row times its scale,
    transposed. -/

namespace Cert.DwQkvIdeal.Hand

open Cert.DwQkvIdeal Cert.DwQkvIdeal.Gen

/-- A scale block copied 28 times along the lanes, read at row `k` and column `d`. -/
theorem rep28 (w : Vec Ideal S256x128 .bf16) (k : Fin 256) (d : Fin 3584) :
    concatenate (α := Elt Ideal .bf16) S256x3584 1 [⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩] concatenates_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x3584_d1 (ix2 k d)
      = w (ix2 k (⟨d.val % 128, Nat.mod_lt _ (by decide)⟩ : Fin 128)) :=
  (concatenate_replicate_apply (t := S256x3584) (1 : Fin 2) 28 (shapeCast S256x128 w shapeCasts_S256x128_S256x128) concatenates_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x3584_d1 rfl (ix2 k d)
    (ix2 k (⟨d.val % 128, Nat.mod_lt _ (by decide)⟩ : Fin 128)) rfl
    (fun b hb => by
      match b, hb with
      | ⟨0, _⟩, _ => rfl
      | ⟨1, _⟩, hb => exact absurd rfl hb)).trans
    (congrFun (shapeCast_self w shapeCasts_S256x128_S256x128) _)

/-- A block of shape `[1, 256, 3584]` reshaped to `[256, 3584]`. -/
theorem drop1 (v : Vec Ideal S1x256x3584 .fp8e4m3) (k : Fin 256) (d : Fin 3584) :
    shapeCast S256x3584 v shapeCasts_S1x256x3584_S256x3584 (ix2 k d) = v (ix3 0 k d) := by
  unfold shapeCast
  refine congrArg v (Shape.reshapeEquiv_eq_of_rowMajor _ ?_)
  rw [Shape.rowMajor_val_three, Shape.rowMajor_val_two]
  show (0 * 256 + k.val) * 3584 + d.val = k.val * 3584 + d.val
  omega

/-- A product of two blocks, transposed, read at column `d` and row `k`. -/
theorem prodT (A B : FVec Ideal S256x3584 .bf16) (d : Fin 3584) (k : Fin 256) :
    shapeCast S3584x256 (transpose S3584x256 [1, 0] (mulf A B) transposes_S256x3584_p1_0_S3584x256) shapeCasts_S3584x256_S3584x256 (ix2 d k)
      = (A (ix2 k d) : EReal) * B (ix2 k d) := by
  rw [shapeCast_self]
  pointwise

/-- The block stored at one piece. -/
def blockT (v : Vec Ideal S1x256x3584 .fp8e4m3) (w : Vec Ideal S256x128 .bf16) : FVec Ideal S3584x256 .bf16 :=
  shapeCast S3584x256 (transpose S3584x256 [1, 0] (mulf (extf .bf16 (shapeCast S256x3584 v shapeCasts_S1x256x3584_S256x3584) bitsLt_fp8e4m3_bf16)
    (concatenate S256x3584 1 [⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩, ⟨S256x128, shapeCast S256x128 w shapeCasts_S256x128_S256x128⟩] concatenates_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x3584_d1)) transposes_S256x3584_p1_0_S3584x256) shapeCasts_S3584x256_S3584x256

/-- The block stored at one piece, entry by entry. -/
theorem blockT_apply (v : Vec Ideal S1x256x3584 .fp8e4m3) (w : Vec Ideal S256x128 .bf16) (d : Fin 3584) (k : Fin 256) :
    blockT v w (ix2 d k) = (v (ix3 0 k d) : EReal) * w (ix2 k (⟨d.val % 128, Nat.mod_lt _ (by decide)⟩ : Fin 128)) :=
  (prodT _ _ d k).trans (congrArg₂ (fun x y : EReal => x * y) (drop1 v k d) (rep28 w k d))

end Cert.DwQkvIdeal.Hand

end
-- ==== Proof.DwQkvIdealXT.lean ====
module
public import proofs.«01_k».proof.Proof.DwQkvIdealPay
public import proofs.«01_k».proof.Proof.DwQkvIdealRunLoad
public import proofs.«01_k».proof.Proof.Stage
@[expose] public section
/-!
# The scratch `load` leaves behind, at the ideal

Each of the twenty stores of `load` writes 256 columns of the scratch.  A column
is a row of the left operand, read through the staging copies, times its scale.
-/

set_option maxRecDepth 16384
noncomputable section
open Idealize.ShloMosaic Idealize.ShloMosaic.TcCoe Idealize.SL.Sem
namespace Cert.DwQkvIdeal.Hand
open Cert.DwQkvIdeal Cert.DwQkvIdeal.Gen
variable (c : Dev nD) (arg2 : Memref sig .tc .vmem S5120x128 .bf16) (harg2 : arg2.IsWhole)
  (arg7 : Memref sig .tc .vmem S2x256x3584 .fp8e4m3) (harg7 : arg7.IsWhole)
  (x0 : Vec Ideal S5120x128 .bf16) (xs1 : Vec Ideal S2x256x3584 .fp8e4m3) (fh0 : HbBuf0 (F := Ideal) c hbM0_0)

/-- The left operand in main memory, as an array of 5120 rows. -/
abbrev rows : Vec Ideal S5120x3584 .fp8e4m3 := fh0

/-- The transposed scratch after `load`: each row times its scale, transposed. -/
def XTof : Vec Ideal S3584x5120 .bf16 := fun y =>
  (rows c fh0 (ix2 (y 1) (y 0)) : EReal) * x0 (ix2 (y 1) (⟨(y 0).val % 128, Nat.mod_lt _ (by decide)⟩ : Fin 128))

/-- The 256 rows copied from row `o` on, read entry by entry. -/
theorem copied (o : Nat) (inb : ∀ a, (![o, 0] : Fin 2 → Nat) a + S256x3584.size a ≤ S5120x3584.size a) (hs) (k : Fin 256) (d : Fin 3584) :
    ReadAs.same.apply (View.read (Elt Ideal) ((Memref.whole main_v2).slice (Rect.unit (s := S5120x3584) ![o, 0] S256x3584.size inb) hs).view fh0) (ix2 k d)
      = rows c fh0 (ix2 (⟨o + k.val, by have := inb 0; have : o + 256 ≤ 5120 := this; omega⟩ : Fin 5120) d) := by
  refine congrArg (rows c fh0) ?_
  funext a
  match a with
  | ⟨0, _⟩ => exact Fin.ext (by show o + 1 * k.val = o + k.val; omega)
  | ⟨1, _⟩ => exact Fin.ext (by show 0 + 1 * d.val = d.val; omega)

/-- The 256 scales read from row `o` on, entry by entry. -/
theorem scales (o : Nat) (inb : ∀ a, (![o, 0] : Fin 2 → Nat) a + S256x128.size a ≤ S5120x128.size a) (k : Fin 256) (l : Fin 128) :
    View.readAt (Elt Ideal) arg2.view (Rect.unit (s := S5120x128) ![o, 0] S256x128.size inb).toLoadRect (harg2.unread x0) (ix2 k l)
      = x0 (ix2 (⟨o + k.val, by have := inb 0; have : o + 256 ≤ 5120 := this; omega⟩ : Fin 5120) l) := by
  rw [View.readAt_eq_ld, harg2.read_unread]
  refine congrArg x0 ?_
  funext a
  match a with
  | ⟨0, _⟩ => exact Fin.ext (by show o + 1 * k.val = o + k.val; omega)
  | ⟨1, _⟩ => exact Fin.ext (by show 0 + 1 * l.val = l.val; omega)

/-- A block of 256 columns written into the transposed scratch holds the rows from `o` on, scaled and transposed. -/
theorem piece (o : Nat) (inb : ∀ a, (![0, o] : Fin 2 → Nat) a + S3584x256.size a ≤ S3584x5120.size a) (v w)
    (ho : o + 256 ≤ 5120)
    (hv : ∀ (k : Fin 256) (d : Fin 3584), v (ix3 0 k d) = rows c fh0 (ix2 (⟨o + k.val, by omega⟩ : Fin 5120) d))
    (hw : ∀ (k : Fin 256) (l : Fin 128), w (ix2 k l) = x0 (ix2 (⟨o + k.val, by omega⟩ : Fin 5120) l)) (x : S3584x256.Idx) :
    blockT v w x = XTof c x0 fh0 ((Rect.unit (s := S3584x5120) ![0, o] S3584x256.size inb).emb x) := by
  obtain ⟨d, k, rfl⟩ : ∃ d k, x = ix2 d k := ⟨x 0, x 1, by funext a; match a with | ⟨0, _⟩ => rfl | ⟨1, _⟩ => rfl⟩
  have e : (Rect.unit (s := S3584x5120) ![0, o] S3584x256.size inb).emb (ix2 d k) = ix2 d (⟨o + k.val, by omega⟩ : Fin 5120) := by
    funext a
    match a with
    | ⟨0, _⟩ => exact Fin.ext (by show 0 + 1 * d.val = d.val; omega)
    | ⟨1, _⟩ => exact Fin.ext (by show o + 1 * k.val = o + k.val; omega)
  rw [e, blockT_apply, hv, hw]
  rfl

/-- What the staging slot holds when rows 0 to 255 are read from it. -/
theorem staged0 (k : Fin 256) (d : Fin 3584) : runLoad.sl.v578 c arg7 harg7 xs1 fh0 (ix3 0 k d) = rows c fh0 (ix2 (⟨0 + k.val, by omega⟩ : Fin 5120) d) := by
  unfold runLoad.sl.v578 runLoad.sl.dma0
  exact (congrFun (Stage.skip arg7 (off := ![0,0,0]) (off' := ![1,0,0]) _ _ _ _ _ _ (by decide)) _).trans ((Stage.hit arg7 (off := ![0,0,0]) _ _ _ _ _ k d).trans (copied c fh0 0 _ _ k d))

/-- What the staging slot holds when rows 256 to 511 are read from it. -/
theorem staged1 (k : Fin 256) (d : Fin 3584) : runLoad.sl.v599 c arg7 harg7 xs1 fh0 (ix3 0 k d) = rows c fh0 (ix2 (⟨256 + k.val, by omega⟩ : Fin 5120) d) := by
  unfold runLoad.sl.v599 runLoad.sl.dma0_1
  exact (congrFun (Stage.skip arg7 (off := ![1,0,0]) (off' := ![0,0,0]) _ _ _ _ _ _ (by decide)) _).trans ((Stage.hit arg7 (off := ![1,0,0]) _ _ _ _ _ k d).trans (copied c fh0 256 _ _ k d))

/-- What the staging slot holds when rows 512 to 767 are read from it. -/
theorem staged2 (k : Fin 256) (d : Fin 3584) : runLoad.sl.v620 c arg7 harg7 xs1 fh0 (ix3 0 k d) = rows c fh0 (ix2 (⟨512 + k.val, by omega⟩ : Fin 5120) d) := by
  unfold runLoad.sl.v620 runLoad.sl.dma4
  exact (congrFun (Stage.skip arg7 (off := ![0,0,0]) (off' := ![1,0,0]) _ _ _ _ _ _ (by decide)) _).trans ((Stage.hit arg7 (off := ![0,0,0]) _ _ _ _ _ k d).trans (copied c fh0 512 _ _ k d))

/-- What the staging slot holds when rows 768 to 1023 are read from it. -/
theorem staged3 (k : Fin 256) (d : Fin 3584) : runLoad.sl.v641 c arg7 harg7 xs1 fh0 (ix3 0 k d) = rows c fh0 (ix2 (⟨768 + k.val, by omega⟩ : Fin 5120) d) := by
  unfold runLoad.sl.v641 runLoad.sl.dma8
  exact (congrFun (Stage.skip arg7 (off := ![1,0,0]) (off' := ![0,0,0]) _ _ _ _ _ _ (by decide)) _).trans ((Stage.hit arg7 (off := ![1,0,0]) _ _ _ _ _ k d).trans (copied c fh0 768 _ _ k d))

/-- What the staging slot holds when rows 1024 to 1279 are read from it. -/
theorem staged4 (k : Fin 256) (d : Fin 3584) : runLoad.sl.v662 c arg7 harg7 xs1 fh0 (ix3 0 k d) = rows c fh0 (ix2 (⟨1024 + k.val, by omega⟩ : Fin 5120) d) := by
  unfold runLoad.sl.v662 runLoad.sl.dma12
  exact (congrFun (Stage.skip arg7 (off := ![0,0,0]) (off' := ![1,0,0]) _ _ _ _ _ _ (by decide)) _).trans ((Stage.hit arg7 (off := ![0,0,0]) _ _ _ _ _ k d).trans (copied c fh0 1024 _ _ k d))

/-- What the staging slot holds when rows 1280 to 1535 are read from it. -/
theorem staged5 (k : Fin 256) (d : Fin 3584) : runLoad.sl.v683 c arg7 harg7 xs1 fh0 (ix3 0 k d) = rows c fh0 (ix2 (⟨1280 + k.val, by omega⟩ : Fin 5120) d) := by
  unfold runLoad.sl.v683 runLoad.sl.dma16
  exact (congrFun (Stage.skip arg7 (off := ![1,0,0]) (off' := ![0,0,0]) _ _ _ _ _ _ (by decide)) _).trans ((Stage.hit arg7 (off := ![1,0,0]) _ _ _ _ _ k d).trans (copied c fh0 1280 _ _ k d))

/-- What the staging slot holds when rows 1536 to 1791 are read from it. -/
theorem staged6 (k : Fin 256) (d : Fin 3584) : runLoad.sl.v704 c arg7 harg7 xs1 fh0 (ix3 0 k d) = rows c fh0 (ix2 (⟨1536 + k.val, by omega⟩ : Fin 5120) d) := by
  unfold runLoad.sl.v704 runLoad.sl.dma20
  exact (congrFun (Stage.skip arg7 (off := ![0,0,0]) (off' := ![1,0,0]) _ _ _ _ _ _ (by decide)) _).trans ((Stage.hit arg7 (off := ![0,0,0]) _ _ _ _ _ k d).trans (copied c fh0 1536 _ _ k d))

/-- What the staging slot holds when rows 1792 to 2047 are read from it. -/
theorem staged7 (k : Fin 256) (d : Fin 3584) : runLoad.sl.v725 c arg7 harg7 xs1 fh0 (ix3 0 k d) = rows c fh0 (ix2 (⟨1792 + k.val, by omega⟩ : Fin 5120) d) := by
  unfold runLoad.sl.v725 runLoad.sl.dma24
  exact (congrFun (Stage.skip arg7 (off := ![1,0,0]) (off' := ![0,0,0]) _ _ _ _ _ _ (by decide)) _).trans ((Stage.hit arg7 (off := ![1,0,0]) _ _ _ _ _ k d).trans (copied c fh0 1792 _ _ k d))

/-- What the staging slot holds when rows 2048 to 2303 are read from it. -/
theorem staged8 (k : Fin 256) (d : Fin 3584) : runLoad.sl.v746 c arg7 harg7 xs1 fh0 (ix3 0 k d) = rows c fh0 (ix2 (⟨2048 + k.val, by omega⟩ : Fin 5120) d) := by
  unfold runLoad.sl.v746 runLoad.sl.dma28
  exact (congrFun (Stage.skip arg7 (off := ![0,0,0]) (off' := ![1,0,0]) _ _ _ _ _ _ (by decide)) _).trans ((Stage.hit arg7 (off := ![0,0,0]) _ _ _ _ _ k d).trans (copied c fh0 2048 _ _ k d))

/-- What the staging slot holds when rows 2304 to 2559 are read from it. -/
theorem staged9 (k : Fin 256) (d : Fin 3584) : runLoad.sl.v767 c arg7 harg7 xs1 fh0 (ix3 0 k d) = rows c fh0 (ix2 (⟨2304 + k.val, by omega⟩ : Fin 5120) d) := by
  unfold runLoad.sl.v767 runLoad.sl.dma32
  exact (congrFun (Stage.skip arg7 (off := ![1,0,0]) (off' := ![0,0,0]) _ _ _ _ _ _ (by decide)) _).trans ((Stage.hit arg7 (off := ![1,0,0]) _ _ _ _ _ k d).trans (copied c fh0 2304 _ _ k d))

/-- What the staging slot holds when rows 2560 to 2815 are read from it. -/
theorem staged10 (k : Fin 256) (d : Fin 3584) : runLoad.sl.v788 c arg7 harg7 xs1 fh0 (ix3 0 k d) = rows c fh0 (ix2 (⟨2560 + k.val, by omega⟩ : Fin 5120) d) := by
  unfold runLoad.sl.v788 runLoad.sl.dma36
  exact (congrFun (Stage.skip arg7 (off := ![0,0,0]) (off' := ![1,0,0]) _ _ _ _ _ _ (by decide)) _).trans ((Stage.hit arg7 (off := ![0,0,0]) _ _ _ _ _ k d).trans (copied c fh0 2560 _ _ k d))

/-- What the staging slot holds when rows 2816 to 3071 are read from it. -/
theorem staged11 (k : Fin 256) (d : Fin 3584) : runLoad.sl.v809 c arg7 harg7 xs1 fh0 (ix3 0 k d) = rows c fh0 (ix2 (⟨2816 + k.val, by omega⟩ : Fin 5120) d) := by
  unfold runLoad.sl.v809 runLoad.sl.dma40
  exact (congrFun (Stage.skip arg7 (off := ![1,0,0]) (off' := ![0,0,0]) _ _ _ _ _ _ (by decide)) _).trans ((Stage.hit arg7 (off := ![1,0,0]) _ _ _ _ _ k d).trans (copied c fh0 2816 _ _ k d))

/-- What the staging slot holds when rows 3072 to 3327 are read from it. -/
theorem staged12 (k : Fin 256) (d : Fin 3584) : runLoad.sl.v830 c arg7 harg7 xs1 fh0 (ix3 0 k d) = rows c fh0 (ix2 (⟨3072 + k.val, by omega⟩ : Fin 5120) d) := by
  unfold runLoad.sl.v830 runLoad.sl.dma44
  exact (congrFun (Stage.skip arg7 (off := ![0,0,0]) (off' := ![1,0,0]) _ _ _ _ _ _ (by decide)) _).trans ((Stage.hit arg7 (off := ![0,0,0]) _ _ _ _ _ k d).trans (copied c fh0 3072 _ _ k d))

/-- What the staging slot holds when rows 3328 to 3583 are read from it. -/
theorem staged13 (k : Fin 256) (d : Fin 3584) : runLoad.sl.v851 c arg7 harg7 xs1 fh0 (ix3 0 k d) = rows c fh0 (ix2 (⟨3328 + k.val, by omega⟩ : Fin 5120) d) := by
  unfold runLoad.sl.v851 runLoad.sl.dma48
  exact (congrFun (Stage.skip arg7 (off := ![1,0,0]) (off' := ![0,0,0]) _ _ _ _ _ _ (by decide)) _).trans ((Stage.hit arg7 (off := ![1,0,0]) _ _ _ _ _ k d).trans (copied c fh0 3328 _ _ k d))

/-- What the staging slot holds when rows 3584 to 3839 are read from it. -/
theorem staged14 (k : Fin 256) (d : Fin 3584) : runLoad.sl.v872 c arg7 harg7 xs1 fh0 (ix3 0 k d) = rows c fh0 (ix2 (⟨3584 + k.val, by omega⟩ : Fin 5120) d) := by
  unfold runLoad.sl.v872 runLoad.sl.dma52
  exact (congrFun (Stage.skip arg7 (off := ![0,0,0]) (off' := ![1,0,0]) _ _ _ _ _ _ (by decide)) _).trans ((Stage.hit arg7 (off := ![0,0,0]) _ _ _ _ _ k d).trans (copied c fh0 3584 _ _ k d))

/-- What the staging slot holds when rows 3840 to 4095 are read from it. -/
theorem staged15 (k : Fin 256) (d : Fin 3584) : runLoad.sl.v893 c arg7 harg7 xs1 fh0 (ix3 0 k d) = rows c fh0 (ix2 (⟨3840 + k.val, by omega⟩ : Fin 5120) d) := by
  unfold runLoad.sl.v893 runLoad.sl.dma56
  exact (congrFun (Stage.skip arg7 (off := ![1,0,0]) (off' := ![0,0,0]) _ _ _ _ _ _ (by decide)) _).trans ((Stage.hit arg7 (off := ![1,0,0]) _ _ _ _ _ k d).trans (copied c fh0 3840 _ _ k d))

/-- What the staging slot holds when rows 4096 to 4351 are read from it. -/
theorem staged16 (k : Fin 256) (d : Fin 3584) : runLoad.sl.v914 c arg7 harg7 xs1 fh0 (ix3 0 k d) = rows c fh0 (ix2 (⟨4096 + k.val, by omega⟩ : Fin 5120) d) := by
  unfold runLoad.sl.v914 runLoad.sl.dma60
  exact (congrFun (Stage.skip arg7 (off := ![0,0,0]) (off' := ![1,0,0]) _ _ _ _ _ _ (by decide)) _).trans ((Stage.hit arg7 (off := ![0,0,0]) _ _ _ _ _ k d).trans (copied c fh0 4096 _ _ k d))

/-- What the staging slot holds when rows 4352 to 4607 are read from it. -/
theorem staged17 (k : Fin 256) (d : Fin 3584) : runLoad.sl.v935 c arg7 harg7 xs1 fh0 (ix3 0 k d) = rows c fh0 (ix2 (⟨4352 + k.val, by omega⟩ : Fin 5120) d) := by
  unfold runLoad.sl.v935 runLoad.sl.dma64
  exact (congrFun (Stage.skip arg7 (off := ![1,0,0]) (off' := ![0,0,0]) _ _ _ _ _ _ (by decide)) _).trans ((Stage.hit arg7 (off := ![1,0,0]) _ _ _ _ _ k d).trans (copied c fh0 4352 _ _ k d))

/-- What the staging slot holds when rows 4608 to 4863 are read from it. -/
theorem staged18 (k : Fin 256) (d : Fin 3584) : runLoad.sl.v956 c arg7 harg7 xs1 fh0 (ix3 0 k d) = rows c fh0 (ix2 (⟨4608 + k.val, by omega⟩ : Fin 5120) d) := by
  unfold runLoad.sl.v956 runLoad.sl.dma68
  exact (congrFun (Stage.skip arg7 (off := ![0,0,0]) (off' := ![1,0,0]) _ _ _ _ _ _ (by decide)) _).trans ((Stage.hit arg7 (off := ![0,0,0]) _ _ _ _ _ k d).trans (copied c fh0 4608 _ _ k d))

/-- What the staging slot holds when rows 4864 to 5119 are read from it. -/
theorem staged19 (k : Fin 256) (d : Fin 3584) : runLoad.sl.v972 c arg7 harg7 xs1 fh0 (ix3 0 k d) = rows c fh0 (ix2 (⟨4864 + k.val, by omega⟩ : Fin 5120) d) := by
  unfold runLoad.sl.v972 runLoad.sl.dma72
  exact ((Stage.hit arg7 (off := ![1,0,0]) _ _ _ _ _ k d).trans (copied c fh0 4864 _ _ k d))

/-- Every store of `load` writes entries of `XTof`. -/
theorem load_pieces (i : grid0.Coords) (arg3 : Memref sig .tc .vmem S3584x128 .f32) (harg3 : arg3.IsWhole) (arg4 : Memref sig .tc .vmem S5x4x1024x128 .fp8e5m2) (harg4 : arg4.IsWhole) (arg5 : Memref sig .tc .vmem S4x3584x128 .bf16) (harg5 : arg5.IsWhole) (arg6 : Memref sig .tc .vmem S3584x5120 .bf16) (harg6 : arg6.IsWhole) :
    ∀ p ∈ (runLoad (F := Ideal) c i arg2 harg2 arg3 harg3 arg4 harg4 arg5 harg5 arg6 harg6 arg7 harg7 x0 xs1 fh0).1, ∀ x : p.1.shape.Idx, p.2 x = XTof c x0 fh0 (p.1.emb x) := by
  unfold runLoad
  dsimp only
  simp only [List.forall_mem_cons, List.not_mem_nil, false_imp_iff, implies_true, and_true]
  refine ⟨fun x => piece c x0 fh0 4864 _ _ _ (by decide) (staged19 c arg7 harg7 xs1 fh0) (scales arg2 harg2 x0 4864 _) x,
    fun x => piece c x0 fh0 4608 _ _ _ (by decide) (staged18 c arg7 harg7 xs1 fh0) (scales arg2 harg2 x0 4608 _) x,
    fun x => piece c x0 fh0 4352 _ _ _ (by decide) (staged17 c arg7 harg7 xs1 fh0) (scales arg2 harg2 x0 4352 _) x,
    fun x => piece c x0 fh0 4096 _ _ _ (by decide) (staged16 c arg7 harg7 xs1 fh0) (scales arg2 harg2 x0 4096 _) x,
    fun x => piece c x0 fh0 3840 _ _ _ (by decide) (staged15 c arg7 harg7 xs1 fh0) (scales arg2 harg2 x0 3840 _) x,
    fun x => piece c x0 fh0 3584 _ _ _ (by decide) (staged14 c arg7 harg7 xs1 fh0) (scales arg2 harg2 x0 3584 _) x,
    fun x => piece c x0 fh0 3328 _ _ _ (by decide) (staged13 c arg7 harg7 xs1 fh0) (scales arg2 harg2 x0 3328 _) x,
    fun x => piece c x0 fh0 3072 _ _ _ (by decide) (staged12 c arg7 harg7 xs1 fh0) (scales arg2 harg2 x0 3072 _) x,
    fun x => piece c x0 fh0 2816 _ _ _ (by decide) (staged11 c arg7 harg7 xs1 fh0) (scales arg2 harg2 x0 2816 _) x,
    fun x => piece c x0 fh0 2560 _ _ _ (by decide) (staged10 c arg7 harg7 xs1 fh0) (scales arg2 harg2 x0 2560 _) x,
    fun x => piece c x0 fh0 2304 _ _ _ (by decide) (staged9 c arg7 harg7 xs1 fh0) (scales arg2 harg2 x0 2304 _) x,
    fun x => piece c x0 fh0 2048 _ _ _ (by decide) (staged8 c arg7 harg7 xs1 fh0) (scales arg2 harg2 x0 2048 _) x,
    fun x => piece c x0 fh0 1792 _ _ _ (by decide) (staged7 c arg7 harg7 xs1 fh0) (scales arg2 harg2 x0 1792 _) x,
    fun x => piece c x0 fh0 1536 _ _ _ (by decide) (staged6 c arg7 harg7 xs1 fh0) (scales arg2 harg2 x0 1536 _) x,
    fun x => piece c x0 fh0 1280 _ _ _ (by decide) (staged5 c arg7 harg7 xs1 fh0) (scales arg2 harg2 x0 1280 _) x,
    fun x => piece c x0 fh0 1024 _ _ _ (by decide) (staged4 c arg7 harg7 xs1 fh0) (scales arg2 harg2 x0 1024 _) x,
    fun x => piece c x0 fh0 768 _ _ _ (by decide) (staged3 c arg7 harg7 xs1 fh0) (scales arg2 harg2 x0 768 _) x,
    fun x => piece c x0 fh0 512 _ _ _ (by decide) (staged2 c arg7 harg7 xs1 fh0) (scales arg2 harg2 x0 512 _) x,
    fun x => piece c x0 fh0 256 _ _ _ (by decide) (staged1 c arg7 harg7 xs1 fh0) (scales arg2 harg2 x0 256 _) x,
    fun x => piece c x0 fh0 0 _ _ _ (by decide) (staged0 c arg7 harg7 xs1 fh0) (scales arg2 harg2 x0 0 _) x⟩

end Cert.DwQkvIdeal.Hand

end
-- ==== Proof.DwQkvIdealOut.lean ====
module
public import proofs.«01_k».proof.Proof.DwQkvIdealXT
public import proofs.«01_k».proof.Proof.DwQkvIdealRunB
@[expose] public section
/-!
# The output tiles of the body, at the ideal

The body multiplies the transposed scratch with its block of the right operand in seven
tiles of 512 rows: for each of the five batches the four heads side by side are one right
operand, the five products are added, and each row is multiplied by its scale.
-/

set_option maxRecDepth 16384
noncomputable section
open Idealize.ShloMosaic Idealize.ShloMosaic.TcCoe Idealize.SL.Sem
namespace Cert.DwQkvIdeal.Hand
open Cert.DwQkvIdeal Cert.DwQkvIdeal.Gen

/-- The scratch after `load`, whatever it and the staging slots held before. -/
theorem load_reads (c : Dev nD) (x0 : Vec Ideal S5120x128 .bf16) (xs1 : Vec Ideal S2x256x3584 .fp8e4m3) (fh0 : HbBuf0 (F := Ideal) c hbM0_0) (i : grid0.Coords) (arg2 : Memref sig .tc .vmem S5120x128 .bf16) (harg2 : arg2.IsWhole) (arg3 : Memref sig .tc .vmem S3584x128 .f32) (harg3 : arg3.IsWhole) (arg4 : Memref sig .tc .vmem S5x4x1024x128 .fp8e5m2) (harg4 : arg4.IsWhole) (arg5 : Memref sig .tc .vmem S4x3584x128 .bf16) (harg5 : arg5.IsWhole) (arg6 : Memref sig .tc .vmem S3584x5120 .bf16) (harg6 : arg6.IsWhole) (arg7 : Memref sig .tc .vmem S2x256x3584 .fp8e4m3) (harg7 : arg7.IsWhole) (f) :
    arg6.view.read (Elt Ideal) (arg6.view.writes (Elt Ideal) f (runLoad (F := Ideal) c i arg2 harg2 arg3 harg3 arg4 harg4 arg5 harg5 arg6 harg6 arg7 harg7 x0 xs1 fh0).1) = XTof c x0 fh0 := by
  have hc := View.cover_of_tiledL (runLoad (F := Ideal) c i arg2 harg2 arg3 harg3 arg4 harg4 arg5 harg5 arg6 harg6 arg7 harg7 x0 xs1 fh0).1 S3584x256.size (by sl_kernel_rfl)
  rw [View.read_writes_eq_canon _ _ _ hc]
  exact funext fun y => View.canon_apply_of_pieces (XTof c x0 fh0) _ (load_pieces c arg2 harg2 arg7 harg7 x0 xs1 fh0 i arg3 harg3 arg4 harg4 arg5 harg5 arg6 harg6) y (hc y)

/-- A row scale copied four times along the lanes, read at row `r` and column `l`. -/
theorem rep4 (w : Vec Ideal S512x128 .f32) (r : Fin 512) (l : Fin 512) :
    concatenate (α := Elt Ideal .f32) S512x512 1 [⟨S512x128, w⟩, ⟨S512x128, w⟩, ⟨S512x128, w⟩, ⟨S512x128, w⟩] concatenates_S512x128_S512x128_S512x128_S512x128_S512x512_d1 (ix2 r l)
      = w (ix2 r (⟨l.val % 128, Nat.mod_lt _ (by decide)⟩ : Fin 128)) :=
  concatenate_replicate_apply (t := S512x512) (1 : Fin 2) 4 w concatenates_S512x128_S512x128_S512x128_S512x128_S512x512_d1 rfl (ix2 r l)
    (ix2 r (⟨l.val % 128, Nat.mod_lt _ (by decide)⟩ : Fin 128)) rfl
    (fun b hb => by
      match b, hb with
      | ⟨0, _⟩, _ => rfl
      | ⟨1, _⟩, hb => exact absurd rfl hb)

/-- A block of shape `[1, 1, 1024, 128]` reshaped to `[1024, 128]`. -/
theorem drop2 (v : Vec Ideal S1x1x1024x128 .fp8e5m2) (k : Fin 1024) (l : Fin 128) :
    shapeCast S1024x128 v shapeCasts_S1x1x1024x128_S1024x128 (ix2 k l) = v (ix4 0 0 k l) := by
  unfold shapeCast
  refine congrArg v (Shape.reshapeEquiv_eq_of_rowMajor _ ?_)
  rw [Shape.rowMajor_val_four, Shape.rowMajor_val_two]
  show ((0 * 1 + 0) * 1024 + k.val) * 128 + l.val = k.val * 128 + l.val
  omega

/-- Four blocks side by side, read at column `l` of block `h`. -/
theorem cat4 (v00 v01 v02 v03 : Vec Ideal S1x1x1024x128 .fp8e5m2) (w : Fin 4 → Fin 1024 → Fin 128 → Ideal .fp8e5m2)
    (h0 : ∀ k l, v00 (ix4 0 0 k l) = w 0 k l) (h1 : ∀ k l, v01 (ix4 0 0 k l) = w 1 k l) (h2 : ∀ k l, v02 (ix4 0 0 k l) = w 2 k l) (h3 : ∀ k l, v03 (ix4 0 0 k l) = w 3 k l)
    (h : Fin 4) (k : Fin 1024) (l : Fin 128) :
    concatenate (α := Elt Ideal .fp8e5m2) S1024x512 1 [⟨S1024x128, shapeCast S1024x128 v00 shapeCasts_S1x1x1024x128_S1024x128⟩, ⟨S1024x128, shapeCast S1024x128 v01 shapeCasts_S1x1x1024x128_S1024x128⟩, ⟨S1024x128, shapeCast S1024x128 v02 shapeCasts_S1x1x1024x128_S1024x128⟩, ⟨S1024x128, shapeCast S1024x128 v03 shapeCasts_S1x1x1024x128_S1024x128⟩] concatenates_S1024x128_S1024x128_S1024x128_S1024x128_S1024x512_d1 (ix2 k (⟨128 * h.val + l.val, by omega⟩ : Fin 512)) = w h k l := by
  have hi : ∀ b : Fin S1024x128.rank, b.cast (rfl : S1024x128.rank = S1024x512.rank) ≠ 1 →
      ((ix2 k l : S1024x128.Idx) b).val = ((ix2 k (⟨128 * h.val + l.val, by omega⟩ : Fin 512) : S1024x512.Idx) (b.cast rfl)).val := fun b hb => by
    match b, hb with
    | ⟨0, _⟩, _ => rfl
    | ⟨1, _⟩, hb => exact absurd rfl hb
  match h, hi with
  | ⟨0, _⟩, hi => exact (concatenate_apply_piece (t := S1024x512) (1 : Fin 2) [⟨S1024x128, shapeCast S1024x128 v00 shapeCasts_S1x1x1024x128_S1024x128⟩, ⟨S1024x128, shapeCast S1024x128 v01 shapeCasts_S1x1x1024x128_S1024x128⟩, ⟨S1024x128, shapeCast S1024x128 v02 shapeCasts_S1x1x1024x128_S1024x128⟩, ⟨S1024x128, shapeCast S1024x128 v03 shapeCasts_S1x1x1024x128_S1024x128⟩] concatenates_S1024x128_S1024x128_S1024x128_S1024x128_S1024x512_d1 _ 0 (by simp) S1024x128 (shapeCast S1024x128 v00 shapeCasts_S1x1x1024x128_S1024x128) rfl rfl 0 rfl (ix2 k l) hi (by show 0 + l.val = 128 * 0 + l.val; omega)).trans ((drop2 v00 k l).trans (h0 k l))
  | ⟨1, _⟩, hi => exact (concatenate_apply_piece (t := S1024x512) (1 : Fin 2) [⟨S1024x128, shapeCast S1024x128 v00 shapeCasts_S1x1x1024x128_S1024x128⟩, ⟨S1024x128, shapeCast S1024x128 v01 shapeCasts_S1x1x1024x128_S1024x128⟩, ⟨S1024x128, shapeCast S1024x128 v02 shapeCasts_S1x1x1024x128_S1024x128⟩, ⟨S1024x128, shapeCast S1024x128 v03 shapeCasts_S1x1x1024x128_S1024x128⟩] concatenates_S1024x128_S1024x128_S1024x128_S1024x128_S1024x512_d1 _ 1 (by simp) S1024x128 (shapeCast S1024x128 v01 shapeCasts_S1x1x1024x128_S1024x128) rfl rfl 128 rfl (ix2 k l) hi (by show 128 + l.val = 128 * 1 + l.val; omega)).trans ((drop2 v01 k l).trans (h1 k l))
  | ⟨2, _⟩, hi => exact (concatenate_apply_piece (t := S1024x512) (1 : Fin 2) [⟨S1024x128, shapeCast S1024x128 v00 shapeCasts_S1x1x1024x128_S1024x128⟩, ⟨S1024x128, shapeCast S1024x128 v01 shapeCasts_S1x1x1024x128_S1024x128⟩, ⟨S1024x128, shapeCast S1024x128 v02 shapeCasts_S1x1x1024x128_S1024x128⟩, ⟨S1024x128, shapeCast S1024x128 v03 shapeCasts_S1x1x1024x128_S1024x128⟩] concatenates_S1024x128_S1024x128_S1024x128_S1024x128_S1024x512_d1 _ 2 (by simp) S1024x128 (shapeCast S1024x128 v02 shapeCasts_S1x1x1024x128_S1024x128) rfl rfl 256 rfl (ix2 k l) hi (by show 256 + l.val = 128 * 2 + l.val; omega)).trans ((drop2 v02 k l).trans (h2 k l))
  | ⟨3, _⟩, hi => exact (concatenate_apply_piece (t := S1024x512) (1 : Fin 2) [⟨S1024x128, shapeCast S1024x128 v00 shapeCasts_S1x1x1024x128_S1024x128⟩, ⟨S1024x128, shapeCast S1024x128 v01 shapeCasts_S1x1x1024x128_S1024x128⟩, ⟨S1024x128, shapeCast S1024x128 v02 shapeCasts_S1x1x1024x128_S1024x128⟩, ⟨S1024x128, shapeCast S1024x128 v03 shapeCasts_S1x1x1024x128_S1024x128⟩] concatenates_S1024x128_S1024x128_S1024x128_S1024x128_S1024x512_d1 _ 3 (by simp) S1024x128 (shapeCast S1024x128 v03 shapeCasts_S1x1x1024x128_S1024x128) rfl rfl 384 rfl (ix2 k l) hi (by show 384 + l.val = 128 * 3 + l.val; omega)).trans ((drop2 v03 k l).trans (h3 k l))

/-- The product of a block of the scratch's columns with one batch of the right operand. -/
theorem dotQ (v : Vec Ideal S512x1024 .bf16) (w : Vec Ideal S1024x512 .fp8e5m2) (r l : Fin 512) :
    matmul (F := Ideal) (φ₁ := .bf16) (φ₂ := .fp8e5m2) dot_S512x1024_S1024x512_S512x512_1_0_0_1_n_n none v w (constant S512x512 .f32 0x00000000#32) (ix2 r l)
      = (∑ k : Fin 1024, (v (ix2 r k) : EReal) * w (ix2 k l) : EReal) := by
  pointwise

/-- A block of columns of the tile, as one head of the output. -/
theorem head (o : Nat) (x : Vec Ideal S512x512 .bf16) (hs : S512x512.Slices ![0, o] S512x128) (ho : o + 128 ≤ 512) (r : Fin 512) (l : Fin 128) :
    shapeCast S1x512x128 (extractStridedSlice S512x128 ![0, o] x hs) shapeCasts_S512x128_S1x512x128 (ix3 0 r l)
      = x (ix2 r (⟨o + l.val, by omega⟩ : Fin 512)) := by
  refine Eq.trans (b := extractStridedSlice S512x128 ![0, o] x hs (ix2 r l)) ?_ ?_
  · unfold shapeCast
    refine congrArg (extractStridedSlice S512x128 ![0, o] x hs) (Shape.reshapeEquiv_eq_of_rowMajor _ ?_)
    rw [Shape.rowMajor_val_three, Shape.rowMajor_val_two]
    show r.val * 128 + l.val = (0 * 512 + r.val) * 128 + l.val
    omega
  · refine extractStridedSlice_apply _ x hs _ _ fun a => ?_
    match a with
    | ⟨0, _⟩ => show r.val = 0 + r.val; omega
    | ⟨1, _⟩ => rfl

/-- Batch `b`'s part of an output entry: the product of row `d` of the scratch's columns of that batch with head `h`. -/
def part (x2 : Vec Ideal S5x4x1024x128 .fp8e5m2) (xs0 : Vec Ideal S3584x5120 .bf16) (h : Fin 4) (d : Fin 3584) (l : Fin 128) (b : Fin 5) : EReal :=
  ∑ k : Fin 1024, (xs0 (ix2 d (⟨1024 * b.val + k.val, by omega⟩ : Fin 5120)) : EReal) * x2 (ix4 b h k l)

/-- What the body leaves in the output window's slot. -/
def OUT (x1 : Vec Ideal S3584x128 .f32) (x2 : Vec Ideal S5x4x1024x128 .fp8e5m2) (xs0 : Vec Ideal S3584x5120 .bf16) : Vec Ideal S4x3584x128 .bf16 := fun y =>
  (part x2 xs0 (y 0) (y 1) (y 2) 0 + part x2 xs0 (y 0) (y 1) (y 2) 1 + part x2 xs0 (y 0) (y 1) (y 2) 2 + part x2 xs0 (y 0) (y 1) (y 2) 3 + part x2 xs0 (y 0) (y 1) (y 2) 4 : EReal)
    * x1 (ix2 (y 1) (y 2))

/-- One tile of 512 rows before it is cut into heads. -/
abbrev TILE (u0 u1 u2 u3 u4 : Vec Ideal S512x1024 .bf16) (v00 v01 v02 v03 v10 v11 v12 v13 v20 v21 v22 v23 v30 v31 v32 v33 v40 v41 v42 v43 : Vec Ideal S1x1x1024x128 .fp8e5m2) (g : Vec Ideal S512x128 .f32) : Vec Ideal S512x512 .bf16 :=
  truncf (F := Ideal) .bf16 (mulf (addf (addf (addf (addf (matmul (F := Ideal) (φ₁ := .bf16) (φ₂ := .fp8e5m2) dot_S512x1024_S1024x512_S512x512_1_0_0_1_n_n none u0 (concatenate (α := Elt Ideal .fp8e5m2) S1024x512 1 [⟨S1024x128, shapeCast S1024x128 v00 shapeCasts_S1x1x1024x128_S1024x128⟩, ⟨S1024x128, shapeCast S1024x128 v01 shapeCasts_S1x1x1024x128_S1024x128⟩, ⟨S1024x128, shapeCast S1024x128 v02 shapeCasts_S1x1x1024x128_S1024x128⟩, ⟨S1024x128, shapeCast S1024x128 v03 shapeCasts_S1x1x1024x128_S1024x128⟩] concatenates_S1024x128_S1024x128_S1024x128_S1024x128_S1024x512_d1) (constant S512x512 .f32 0x00000000#32)) (matmul (F := Ideal) (φ₁ := .bf16) (φ₂ := .fp8e5m2) dot_S512x1024_S1024x512_S512x512_1_0_0_1_n_n none u1 (concatenate (α := Elt Ideal .fp8e5m2) S1024x512 1 [⟨S1024x128, shapeCast S1024x128 v10 shapeCasts_S1x1x1024x128_S1024x128⟩, ⟨S1024x128, shapeCast S1024x128 v11 shapeCasts_S1x1x1024x128_S1024x128⟩, ⟨S1024x128, shapeCast S1024x128 v12 shapeCasts_S1x1x1024x128_S1024x128⟩, ⟨S1024x128, shapeCast S1024x128 v13 shapeCasts_S1x1x1024x128_S1024x128⟩] concatenates_S1024x128_S1024x128_S1024x128_S1024x128_S1024x512_d1) (constant S512x512 .f32 0x00000000#32))) (matmul (F := Ideal) (φ₁ := .bf16) (φ₂ := .fp8e5m2) dot_S512x1024_S1024x512_S512x512_1_0_0_1_n_n none u2 (concatenate (α := Elt Ideal .fp8e5m2) S1024x512 1 [⟨S1024x128, shapeCast S1024x128 v20 shapeCasts_S1x1x1024x128_S1024x128⟩, ⟨S1024x128, shapeCast S1024x128 v21 shapeCasts_S1x1x1024x128_S1024x128⟩, ⟨S1024x128, shapeCast S1024x128 v22 shapeCasts_S1x1x1024x128_S1024x128⟩, ⟨S1024x128, shapeCast S1024x128 v23 shapeCasts_S1x1x1024x128_S1024x128⟩] concatenates_S1024x128_S1024x128_S1024x128_S1024x128_S1024x512_d1) (constant S512x512 .f32 0x00000000#32))) (matmul (F := Ideal) (φ₁ := .bf16) (φ₂ := .fp8e5m2) dot_S512x1024_S1024x512_S512x512_1_0_0_1_n_n none u3 (concatenate (α := Elt Ideal .fp8e5m2) S1024x512 1 [⟨S1024x128, shapeCast S1024x128 v30 shapeCasts_S1x1x1024x128_S1024x128⟩, ⟨S1024x128, shapeCast S1024x128 v31 shapeCasts_S1x1x1024x128_S1024x128⟩, ⟨S1024x128, shapeCast S1024x128 v32 shapeCasts_S1x1x1024x128_S1024x128⟩, ⟨S1024x128, shapeCast S1024x128 v33 shapeCasts_S1x1x1024x128_S1024x128⟩] concatenates_S1024x128_S1024x128_S1024x128_S1024x128_S1024x512_d1) (constant S512x512 .f32 0x00000000#32))) (matmul (F := Ideal) (φ₁ := .bf16) (φ₂ := .fp8e5m2) dot_S512x1024_S1024x512_S512x512_1_0_0_1_n_n none u4 (concatenate (α := Elt Ideal .fp8e5m2) S1024x512 1 [⟨S1024x128, shapeCast S1024x128 v40 shapeCasts_S1x1x1024x128_S1024x128⟩, ⟨S1024x128, shapeCast S1024x128 v41 shapeCasts_S1x1x1024x128_S1024x128⟩, ⟨S1024x128, shapeCast S1024x128 v42 shapeCasts_S1x1x1024x128_S1024x128⟩, ⟨S1024x128, shapeCast S1024x128 v43 shapeCasts_S1x1x1024x128_S1024x128⟩] concatenates_S1024x128_S1024x128_S1024x128_S1024x128_S1024x512_d1) (constant S512x512 .f32 0x00000000#32))) (concatenate (α := Elt Ideal .f32) S512x512 1 [⟨S512x128, shapeCast S512x128 g shapeCasts_S512x128_S512x128⟩, ⟨S512x128, shapeCast S512x128 g shapeCasts_S512x128_S512x128⟩, ⟨S512x128, shapeCast S512x128 g shapeCasts_S512x128_S512x128⟩, ⟨S512x128, shapeCast S512x128 g shapeCasts_S512x128_S512x128⟩] concatenates_S512x128_S512x128_S512x128_S512x128_S512x512_d1)) bitsLt_bf16_f32

/-- An entry of a tile. -/
theorem tile_apply (x1 : Vec Ideal S3584x128 .f32) (x2 : Vec Ideal S5x4x1024x128 .fp8e5m2) (xs0 : Vec Ideal S3584x5120 .bf16)
    (o : Nat) (ho : o + 512 ≤ 3584) (u0 u1 u2 u3 u4 : Vec Ideal S512x1024 .bf16) (v00 v01 v02 v03 v10 v11 v12 v13 v20 v21 v22 v23 v30 v31 v32 v33 v40 v41 v42 v43 : Vec Ideal S1x1x1024x128 .fp8e5m2) (g : Vec Ideal S512x128 .f32)
    (hu0 : ∀ (r : Fin 512) (k : Fin 1024), u0 (ix2 r k) = xs0 (ix2 (⟨o + r.val, by omega⟩ : Fin 3584) (⟨1024 * 0 + k.val, by omega⟩ : Fin 5120)))
    (hu1 : ∀ (r : Fin 512) (k : Fin 1024), u1 (ix2 r k) = xs0 (ix2 (⟨o + r.val, by omega⟩ : Fin 3584) (⟨1024 * 1 + k.val, by omega⟩ : Fin 5120)))
    (hu2 : ∀ (r : Fin 512) (k : Fin 1024), u2 (ix2 r k) = xs0 (ix2 (⟨o + r.val, by omega⟩ : Fin 3584) (⟨1024 * 2 + k.val, by omega⟩ : Fin 5120)))
    (hu3 : ∀ (r : Fin 512) (k : Fin 1024), u3 (ix2 r k) = xs0 (ix2 (⟨o + r.val, by omega⟩ : Fin 3584) (⟨1024 * 3 + k.val, by omega⟩ : Fin 5120)))
    (hu4 : ∀ (r : Fin 512) (k : Fin 1024), u4 (ix2 r k) = xs0 (ix2 (⟨o + r.val, by omega⟩ : Fin 3584) (⟨1024 * 4 + k.val, by omega⟩ : Fin 5120)))
    (hv00 : ∀ (k : Fin 1024) (l : Fin 128), v00 (ix4 0 0 k l) = x2 (ix4 0 0 k l))
    (hv01 : ∀ (k : Fin 1024) (l : Fin 128), v01 (ix4 0 0 k l) = x2 (ix4 0 1 k l))
    (hv02 : ∀ (k : Fin 1024) (l : Fin 128), v02 (ix4 0 0 k l) = x2 (ix4 0 2 k l))
    (hv03 : ∀ (k : Fin 1024) (l : Fin 128), v03 (ix4 0 0 k l) = x2 (ix4 0 3 k l))
    (hv10 : ∀ (k : Fin 1024) (l : Fin 128), v10 (ix4 0 0 k l) = x2 (ix4 1 0 k l))
    (hv11 : ∀ (k : Fin 1024) (l : Fin 128), v11 (ix4 0 0 k l) = x2 (ix4 1 1 k l))
    (hv12 : ∀ (k : Fin 1024) (l : Fin 128), v12 (ix4 0 0 k l) = x2 (ix4 1 2 k l))
    (hv13 : ∀ (k : Fin 1024) (l : Fin 128), v13 (ix4 0 0 k l) = x2 (ix4 1 3 k l))
    (hv20 : ∀ (k : Fin 1024) (l : Fin 128), v20 (ix4 0 0 k l) = x2 (ix4 2 0 k l))
    (hv21 : ∀ (k : Fin 1024) (l : Fin 128), v21 (ix4 0 0 k l) = x2 (ix4 2 1 k l))
    (hv22 : ∀ (k : Fin 1024) (l : Fin 128), v22 (ix4 0 0 k l) = x2 (ix4 2 2 k l))
    (hv23 : ∀ (k : Fin 1024) (l : Fin 128), v23 (ix4 0 0 k l) = x2 (ix4 2 3 k l))
    (hv30 : ∀ (k : Fin 1024) (l : Fin 128), v30 (ix4 0 0 k l) = x2 (ix4 3 0 k l))
    (hv31 : ∀ (k : Fin 1024) (l : Fin 128), v31 (ix4 0 0 k l) = x2 (ix4 3 1 k l))
    (hv32 : ∀ (k : Fin 1024) (l : Fin 128), v32 (ix4 0 0 k l) = x2 (ix4 3 2 k l))
    (hv33 : ∀ (k : Fin 1024) (l : Fin 128), v33 (ix4 0 0 k l) = x2 (ix4 3 3 k l))
    (hv40 : ∀ (k : Fin 1024) (l : Fin 128), v40 (ix4 0 0 k l) = x2 (ix4 4 0 k l))
    (hv41 : ∀ (k : Fin 1024) (l : Fin 128), v41 (ix4 0 0 k l) = x2 (ix4 4 1 k l))
    (hv42 : ∀ (k : Fin 1024) (l : Fin 128), v42 (ix4 0 0 k l) = x2 (ix4 4 2 k l))
    (hv43 : ∀ (k : Fin 1024) (l : Fin 128), v43 (ix4 0 0 k l) = x2 (ix4 4 3 k l))
    (hg : ∀ (r : Fin 512) (k : Fin 128), g (ix2 r k) = x1 (ix2 (⟨o + r.val, by omega⟩ : Fin 3584) k)) (h : Fin 4) (r : Fin 512) (l : Fin 128) :
    TILE u0 u1 u2 u3 u4 v00 v01 v02 v03 v10 v11 v12 v13 v20 v21 v22 v23 v30 v31 v32 v33 v40 v41 v42 v43 g (ix2 r (⟨128 * h.val + l.val, by omega⟩ : Fin 512)) = OUT x1 x2 xs0 (ix3 h (⟨o + r.val, by omega⟩ : Fin 3584) l) := by
  have e : (⟨(128 * h.val + l.val) % 128, Nat.mod_lt _ (by decide)⟩ : Fin 128) = l := Fin.ext (by show (128 * h.val + l.val) % 128 = l.val; omega)
  have hr := (rep4 (shapeCast S512x128 g shapeCasts_S512x128_S512x128) r (⟨128 * h.val + l.val, by omega⟩ : Fin 512)).trans ((congrArg (fun k : Fin 128 => (shapeCast S512x128 g shapeCasts_S512x128_S512x128) (ix2 r k)) e).trans ((congrFun (shapeCast_self g shapeCasts_S512x128_S512x128) _).trans (hg r l)))
  exact congrArg₂ (fun x y : EReal => x * y) (congrArg₂ (fun x y : EReal => x + y) (congrArg₂ (fun x y : EReal => x + y) (congrArg₂ (fun x y : EReal => x + y) (congrArg₂ (fun x y : EReal => x + y) ((dotQ u0 _ r _).trans (Finset.sum_congr rfl fun k _ => congrArg₂ (fun x y : EReal => x * y) (hu0 r k) (cat4 v00 v01 v02 v03 (fun h k l => x2 (ix4 0 h k l)) hv00 hv01 hv02 hv03 h k l))) ((dotQ u1 _ r _).trans (Finset.sum_congr rfl fun k _ => congrArg₂ (fun x y : EReal => x * y) (hu1 r k) (cat4 v10 v11 v12 v13 (fun h k l => x2 (ix4 1 h k l)) hv10 hv11 hv12 hv13 h k l)))) ((dotQ u2 _ r _).trans (Finset.sum_congr rfl fun k _ => congrArg₂ (fun x y : EReal => x * y) (hu2 r k) (cat4 v20 v21 v22 v23 (fun h k l => x2 (ix4 2 h k l)) hv20 hv21 hv22 hv23 h k l)))) ((dotQ u3 _ r _).trans (Finset.sum_congr rfl fun k _ => congrArg₂ (fun x y : EReal => x * y) (hu3 r k) (cat4 v30 v31 v32 v33 (fun h k l => x2 (ix4 3 h k l)) hv30 hv31 hv32 hv33 h k l)))) ((dotQ u4 _ r _).trans (Finset.sum_congr rfl fun k _ => congrArg₂ (fun x y : EReal => x * y) (hu4 r k) (cat4 v40 v41 v42 v43 (fun h k l => x2 (ix4 4 h k l)) hv40 hv41 hv42 hv43 h k l)))) hr

section
variable (arg3 : Memref sig .tc .vmem S3584x128 .f32) (harg3 : arg3.IsWhole) (arg4 : Memref sig .tc .vmem S5x4x1024x128 .fp8e5m2) (harg4 : arg4.IsWhole) (arg6 : Memref sig .tc .vmem S3584x5120 .bf16) (harg6 : arg6.IsWhole)
    (x1 : Vec Ideal S3584x128 .f32) (x2 : Vec Ideal S5x4x1024x128 .fp8e5m2) (xs0 : Vec Ideal S3584x5120 .bf16)

/-- Rows of the scratch's columns of batch `b`, read from row `o`. -/
theorem rd6 (o b p : Nat) (hp : p = 1024 * b) (hb : b < 5) (inb : ∀ a, (![o, p] : Fin 2 → Nat) a + S512x1024.size a ≤ S3584x5120.size a) (r : Fin 512) (k : Fin 1024) :
    View.readAt (Elt Ideal) arg6.view (Rect.unit (s := S3584x5120) ![o, p] S512x1024.size inb).toLoadRect (harg6.unread xs0) (ix2 r k)
      = xs0 (ix2 (⟨o + r.val, by have := inb 0; have : o + 512 ≤ 3584 := this; omega⟩ : Fin 3584) (⟨1024 * b + k.val, by omega⟩ : Fin 5120)) := by
  subst hp
  rw [View.readAt_eq_ld, harg6.read_unread]
  refine congrArg xs0 ?_
  funext a
  match a with
  | ⟨0, _⟩ => exact Fin.ext (by show o + 1 * r.val = o + r.val; omega)
  | ⟨1, _⟩ => exact Fin.ext (by show 1024 * b + 1 * k.val = 1024 * b + k.val; omega)

/-- Rows of the scale block, read from row `o`. -/
theorem rd3 (o : Nat) (inb : ∀ a, (![o, 0] : Fin 2 → Nat) a + S512x128.size a ≤ S3584x128.size a) (r : Fin 512) (k : Fin 128) :
    View.readAt (Elt Ideal) arg3.view (Rect.unit (s := S3584x128) ![o, 0] S512x128.size inb).toLoadRect (harg3.unread x1) (ix2 r k)
      = x1 (ix2 (⟨o + r.val, by have := inb 0; have : o + 512 ≤ 3584 := this; omega⟩ : Fin 3584) k) := by
  rw [View.readAt_eq_ld, harg3.read_unread]
  refine congrArg x1 ?_
  funext a
  match a with
  | ⟨0, _⟩ => exact Fin.ext (by show o + 1 * r.val = o + r.val; omega)
  | ⟨1, _⟩ => exact Fin.ext (by show 0 + 1 * k.val = k.val; omega)

/-- Head `h` of batch `b` of the right operand's block. -/
theorem rd4 (b : Fin 5) (h : Fin 4) (p q : Nat) (hp : p = b.val) (hq : q = h.val) (inb : ∀ a, (![p, q, 0, 0] : Fin 4 → Nat) a + S1x1x1024x128.size a ≤ S5x4x1024x128.size a) (k : Fin 1024) (l : Fin 128) :
    View.readAt (Elt Ideal) arg4.view (Rect.unit (s := S5x4x1024x128) ![p, q, 0, 0] S1x1x1024x128.size inb).toLoadRect (harg4.unread x2) (ix4 0 0 k l)
      = x2 (ix4 b h k l) := by
  subst hp; subst hq
  rw [View.readAt_eq_ld, harg4.read_unread]
  refine congrArg x2 ?_
  funext a
  match a with
  | ⟨0, _⟩ => exact Fin.ext (by show b.val + 1 * 0 = b.val; omega)
  | ⟨1, _⟩ => exact Fin.ext (by show h.val + 1 * 0 = h.val; omega)
  | ⟨2, _⟩ => exact Fin.ext (by show 0 + 1 * k.val = k.val; omega)
  | ⟨3, _⟩ => exact Fin.ext (by show 0 + 1 * l.val = l.val; omega)

/-- One store of the body writes entries of `OUT`. -/
theorem pieceB (h : Fin 4) (p q o : Nat) (hp : p = h.val) (hq : q = 128 * h.val) (ho : o + 512 ≤ 3584) (inb : ∀ a, (![p, o, 0] : Fin 3 → Nat) a + S1x512x128.size a ≤ S4x3584x128.size a)
    (hs : S512x512.Slices ![0, q] S512x128) (u0 u1 u2 u3 u4 : Vec Ideal S512x1024 .bf16) (v00 v01 v02 v03 v10 v11 v12 v13 v20 v21 v22 v23 v30 v31 v32 v33 v40 v41 v42 v43 : Vec Ideal S1x1x1024x128 .fp8e5m2) (g : Vec Ideal S512x128 .f32)
    (hu0 : ∀ (r : Fin 512) (k : Fin 1024), u0 (ix2 r k) = xs0 (ix2 (⟨o + r.val, by omega⟩ : Fin 3584) (⟨1024 * 0 + k.val, by omega⟩ : Fin 5120)))
    (hu1 : ∀ (r : Fin 512) (k : Fin 1024), u1 (ix2 r k) = xs0 (ix2 (⟨o + r.val, by omega⟩ : Fin 3584) (⟨1024 * 1 + k.val, by omega⟩ : Fin 5120)))
    (hu2 : ∀ (r : Fin 512) (k : Fin 1024), u2 (ix2 r k) = xs0 (ix2 (⟨o + r.val, by omega⟩ : Fin 3584) (⟨1024 * 2 + k.val, by omega⟩ : Fin 5120)))
    (hu3 : ∀ (r : Fin 512) (k : Fin 1024), u3 (ix2 r k) = xs0 (ix2 (⟨o + r.val, by omega⟩ : Fin 3584) (⟨1024 * 3 + k.val, by omega⟩ : Fin 5120)))
    (hu4 : ∀ (r : Fin 512) (k : Fin 1024), u4 (ix2 r k) = xs0 (ix2 (⟨o + r.val, by omega⟩ : Fin 3584) (⟨1024 * 4 + k.val, by omega⟩ : Fin 5120)))
    (hv00 : ∀ (k : Fin 1024) (l : Fin 128), v00 (ix4 0 0 k l) = x2 (ix4 0 0 k l))
    (hv01 : ∀ (k : Fin 1024) (l : Fin 128), v01 (ix4 0 0 k l) = x2 (ix4 0 1 k l))
    (hv02 : ∀ (k : Fin 1024) (l : Fin 128), v02 (ix4 0 0 k l) = x2 (ix4 0 2 k l))
    (hv03 : ∀ (k : Fin 1024) (l : Fin 128), v03 (ix4 0 0 k l) = x2 (ix4 0 3 k l))
    (hv10 : ∀ (k : Fin 1024) (l : Fin 128), v10 (ix4 0 0 k l) = x2 (ix4 1 0 k l))
    (hv11 : ∀ (k : Fin 1024) (l : Fin 128), v11 (ix4 0 0 k l) = x2 (ix4 1 1 k l))
    (hv12 : ∀ (k : Fin 1024) (l : Fin 128), v12 (ix4 0 0 k l) = x2 (ix4 1 2 k l))
    (hv13 : ∀ (k : Fin 1024) (l : Fin 128), v13 (ix4 0 0 k l) = x2 (ix4 1 3 k l))
    (hv20 : ∀ (k : Fin 1024) (l : Fin 128), v20 (ix4 0 0 k l) = x2 (ix4 2 0 k l))
    (hv21 : ∀ (k : Fin 1024) (l : Fin 128), v21 (ix4 0 0 k l) = x2 (ix4 2 1 k l))
    (hv22 : ∀ (k : Fin 1024) (l : Fin 128), v22 (ix4 0 0 k l) = x2 (ix4 2 2 k l))
    (hv23 : ∀ (k : Fin 1024) (l : Fin 128), v23 (ix4 0 0 k l) = x2 (ix4 2 3 k l))
    (hv30 : ∀ (k : Fin 1024) (l : Fin 128), v30 (ix4 0 0 k l) = x2 (ix4 3 0 k l))
    (hv31 : ∀ (k : Fin 1024) (l : Fin 128), v31 (ix4 0 0 k l) = x2 (ix4 3 1 k l))
    (hv32 : ∀ (k : Fin 1024) (l : Fin 128), v32 (ix4 0 0 k l) = x2 (ix4 3 2 k l))
    (hv33 : ∀ (k : Fin 1024) (l : Fin 128), v33 (ix4 0 0 k l) = x2 (ix4 3 3 k l))
    (hv40 : ∀ (k : Fin 1024) (l : Fin 128), v40 (ix4 0 0 k l) = x2 (ix4 4 0 k l))
    (hv41 : ∀ (k : Fin 1024) (l : Fin 128), v41 (ix4 0 0 k l) = x2 (ix4 4 1 k l))
    (hv42 : ∀ (k : Fin 1024) (l : Fin 128), v42 (ix4 0 0 k l) = x2 (ix4 4 2 k l))
    (hv43 : ∀ (k : Fin 1024) (l : Fin 128), v43 (ix4 0 0 k l) = x2 (ix4 4 3 k l))
    (hg : ∀ (r : Fin 512) (k : Fin 128), g (ix2 r k) = x1 (ix2 (⟨o + r.val, by omega⟩ : Fin 3584) k)) (x : S1x512x128.Idx) :
    shapeCast S1x512x128 (extractStridedSlice S512x128 ![0, q] (TILE u0 u1 u2 u3 u4 v00 v01 v02 v03 v10 v11 v12 v13 v20 v21 v22 v23 v30 v31 v32 v33 v40 v41 v42 v43 g) hs) shapeCasts_S512x128_S1x512x128 x
      = OUT x1 x2 xs0 ((Rect.unit (s := S4x3584x128) ![p, o, 0] S1x512x128.size inb).emb x) := by
  subst hp; subst hq
  obtain ⟨r, l, rfl⟩ : ∃ (r : Fin 512) (l : Fin 128), x = ix3 0 r l := ⟨x 1, x 2, by funext a; match a with | ⟨0, _⟩ => exact Fin.ext (by have := (x 0).isLt; have : (x 0).val < 1 := this; show (x 0).val = 0; omega) | ⟨1, _⟩ => rfl | ⟨2, _⟩ => rfl⟩
  have e : (Rect.unit (s := S4x3584x128) ![h.val, o, 0] S1x512x128.size inb).emb (ix3 0 r l) = ix3 h (⟨o + r.val, by omega⟩ : Fin 3584) l := by
    funext a
    match a with
    | ⟨0, _⟩ => exact Fin.ext (by show h.val + 1 * 0 = h.val; omega)
    | ⟨1, _⟩ => exact Fin.ext (by show o + 1 * r.val = o + r.val; omega)
    | ⟨2, _⟩ => exact Fin.ext (by show 0 + 1 * l.val = l.val; omega)
  rw [e]
  exact (head (128 * h.val) _ hs (by omega) r l).trans (tile_apply x1 x2 xs0 o ho u0 u1 u2 u3 u4 v00 v01 v02 v03 v10 v11 v12 v13 v20 v21 v22 v23 v30 v31 v32 v33 v40 v41 v42 v43 g hu0 hu1 hu2 hu3 hu4 hv00 hv01 hv02 hv03 hv10 hv11 hv12 hv13 hv20 hv21 hv22 hv23 hv30 hv31 hv32 hv33 hv40 hv41 hv42 hv43 hg h r l)

/-- `pieceB` at what the body reads. -/
theorem pieceR (h : Fin 4) (p q o : Nat) (hp : p = h.val) (hq : q = 128 * h.val) (ho : o + 512 ≤ 3584) (inb : ∀ a, (![p, o, 0] : Fin 3 → Nat) a + S1x512x128.size a ≤ S4x3584x128.size a)
    (hs : S512x512.Slices ![0, q] S512x128)
    (i0 : ∀ a, (![o, 0] : Fin 2 → Nat) a + S512x1024.size a ≤ S3584x5120.size a)
    (i1 : ∀ a, (![o, 1024] : Fin 2 → Nat) a + S512x1024.size a ≤ S3584x5120.size a)
    (i2 : ∀ a, (![o, 2048] : Fin 2 → Nat) a + S512x1024.size a ≤ S3584x5120.size a)
    (i3 : ∀ a, (![o, 3072] : Fin 2 → Nat) a + S512x1024.size a ≤ S3584x5120.size a)
    (i4 : ∀ a, (![o, 4096] : Fin 2 → Nat) a + S512x1024.size a ≤ S3584x5120.size a)
    (ig : ∀ a, (![o, 0] : Fin 2 → Nat) a + S512x128.size a ≤ S3584x128.size a) (x : S1x512x128.Idx) :
    shapeCast S1x512x128 (extractStridedSlice S512x128 ![0, q] (TILE (View.readAt (Elt Ideal) arg6.view (Rect.unit (s := S3584x5120) ![o, 0] S512x1024.size i0).toLoadRect (harg6.unread xs0)) (View.readAt (Elt Ideal) arg6.view (Rect.unit (s := S3584x5120) ![o, 1024] S512x1024.size i1).toLoadRect (harg6.unread xs0)) (View.readAt (Elt Ideal) arg6.view (Rect.unit (s := S3584x5120) ![o, 2048] S512x1024.size i2).toLoadRect (harg6.unread xs0)) (View.readAt (Elt Ideal) arg6.view (Rect.unit (s := S3584x5120) ![o, 3072] S512x1024.size i3).toLoadRect (harg6.unread xs0)) (View.readAt (Elt Ideal) arg6.view (Rect.unit (s := S3584x5120) ![o, 4096] S512x1024.size i4).toLoadRect (harg6.unread xs0))
      (View.readAt (Elt Ideal) arg4.view (Rect.unit (s := S5x4x1024x128) ![0, 0, 0, 0] S1x1x1024x128.size inb_S5x4x1024x128_S1x1x1024x128_0_0_0_0).toLoadRect (harg4.unread x2)) (View.readAt (Elt Ideal) arg4.view (Rect.unit (s := S5x4x1024x128) ![0, 1, 0, 0] S1x1x1024x128.size inb_S5x4x1024x128_S1x1x1024x128_0_1_0_0).toLoadRect (harg4.unread x2)) (View.readAt (Elt Ideal) arg4.view (Rect.unit (s := S5x4x1024x128) ![0, 2, 0, 0] S1x1x1024x128.size inb_S5x4x1024x128_S1x1x1024x128_0_2_0_0).toLoadRect (harg4.unread x2)) (View.readAt (Elt Ideal) arg4.view (Rect.unit (s := S5x4x1024x128) ![0, 3, 0, 0] S1x1x1024x128.size inb_S5x4x1024x128_S1x1x1024x128_0_3_0_0).toLoadRect (harg4.unread x2)) (View.readAt (Elt Ideal) arg4.view (Rect.unit (s := S5x4x1024x128) ![1, 0, 0, 0] S1x1x1024x128.size inb_S5x4x1024x128_S1x1x1024x128_1_0_0_0).toLoadRect (harg4.unread x2)) (View.readAt (Elt Ideal) arg4.view (Rect.unit (s := S5x4x1024x128) ![1, 1, 0, 0] S1x1x1024x128.size inb_S5x4x1024x128_S1x1x1024x128_1_1_0_0).toLoadRect (harg4.unread x2)) (View.readAt (Elt Ideal) arg4.view (Rect.unit (s := S5x4x1024x128) ![1, 2, 0, 0] S1x1x1024x128.size inb_S5x4x1024x128_S1x1x1024x128_1_2_0_0).toLoadRect (harg4.unread x2)) (View.readAt (Elt Ideal) arg4.view (Rect.unit (s := S5x4x1024x128) ![1, 3, 0, 0] S1x1x1024x128.size inb_S5x4x1024x128_S1x1x1024x128_1_3_0_0).toLoadRect (harg4.unread x2)) (View.readAt (Elt Ideal) arg4.view (Rect.unit (s := S5x4x1024x128) ![2, 0, 0, 0] S1x1x1024x128.size inb_S5x4x1024x128_S1x1x1024x128_2_0_0_0).toLoadRect (harg4.unread x2)) (View.readAt (Elt Ideal) arg4.view (Rect.unit (s := S5x4x1024x128) ![2, 1, 0, 0] S1x1x1024x128.size inb_S5x4x1024x128_S1x1x1024x128_2_1_0_0).toLoadRect (harg4.unread x2)) (View.readAt (Elt Ideal) arg4.view (Rect.unit (s := S5x4x1024x128) ![2, 2, 0, 0] S1x1x1024x128.size inb_S5x4x1024x128_S1x1x1024x128_2_2_0_0).toLoadRect (harg4.unread x2)) (View.readAt (Elt Ideal) arg4.view (Rect.unit (s := S5x4x1024x128) ![2, 3, 0, 0] S1x1x1024x128.size inb_S5x4x1024x128_S1x1x1024x128_2_3_0_0).toLoadRect (harg4.unread x2)) (View.readAt (Elt Ideal) arg4.view (Rect.unit (s := S5x4x1024x128) ![3, 0, 0, 0] S1x1x1024x128.size inb_S5x4x1024x128_S1x1x1024x128_3_0_0_0).toLoadRect (harg4.unread x2)) (View.readAt (Elt Ideal) arg4.view (Rect.unit (s := S5x4x1024x128) ![3, 1, 0, 0] S1x1x1024x128.size inb_S5x4x1024x128_S1x1x1024x128_3_1_0_0).toLoadRect (harg4.unread x2)) (View.readAt (Elt Ideal) arg4.view (Rect.unit (s := S5x4x1024x128) ![3, 2, 0, 0] S1x1x1024x128.size inb_S5x4x1024x128_S1x1x1024x128_3_2_0_0).toLoadRect (harg4.unread x2)) (View.readAt (Elt Ideal) arg4.view (Rect.unit (s := S5x4x1024x128) ![3, 3, 0, 0] S1x1x1024x128.size inb_S5x4x1024x128_S1x1x1024x128_3_3_0_0).toLoadRect (harg4.unread x2)) (View.readAt (Elt Ideal) arg4.view (Rect.unit (s := S5x4x1024x128) ![4, 0, 0, 0] S1x1x1024x128.size inb_S5x4x1024x128_S1x1x1024x128_4_0_0_0).toLoadRect (harg4.unread x2)) (View.readAt (Elt Ideal) arg4.view (Rect.unit (s := S5x4x1024x128) ![4, 1, 0, 0] S1x1x1024x128.size inb_S5x4x1024x128_S1x1x1024x128_4_1_0_0).toLoadRect (harg4.unread x2)) (View.readAt (Elt Ideal) arg4.view (Rect.unit (s := S5x4x1024x128) ![4, 2, 0, 0] S1x1x1024x128.size inb_S5x4x1024x128_S1x1x1024x128_4_2_0_0).toLoadRect (harg4.unread x2)) (View.readAt (Elt Ideal) arg4.view (Rect.unit (s := S5x4x1024x128) ![4, 3, 0, 0] S1x1x1024x128.size inb_S5x4x1024x128_S1x1x1024x128_4_3_0_0).toLoadRect (harg4.unread x2)) (View.readAt (Elt Ideal) arg3.view (Rect.unit (s := S3584x128) ![o, 0] S512x128.size ig).toLoadRect (harg3.unread x1))) hs) shapeCasts_S512x128_S1x512x128 x
      = OUT x1 x2 xs0 ((Rect.unit (s := S4x3584x128) ![p, o, 0] S1x512x128.size inb).emb x) :=
  pieceB x1 x2 xs0 h p q o hp hq ho inb hs _ _ _ _ _ _ _ _ _ _ _ _ _ _ _ _ _ _ _ _ _ _ _ _ _ _ (rd6 arg6 harg6 xs0 o 0 0 rfl (by decide) i0) (rd6 arg6 harg6 xs0 o 1 1024 rfl (by decide) i1) (rd6 arg6 harg6 xs0 o 2 2048 rfl (by decide) i2) (rd6 arg6 harg6 xs0 o 3 3072 rfl (by decide) i3) (rd6 arg6 harg6 xs0 o 4 4096 rfl (by decide) i4)
    (rd4 arg4 harg4 x2 0 0 0 0 rfl rfl _) (rd4 arg4 harg4 x2 0 1 0 1 rfl rfl _) (rd4 arg4 harg4 x2 0 2 0 2 rfl rfl _) (rd4 arg4 harg4 x2 0 3 0 3 rfl rfl _) (rd4 arg4 harg4 x2 1 0 1 0 rfl rfl _) (rd4 arg4 harg4 x2 1 1 1 1 rfl rfl _) (rd4 arg4 harg4 x2 1 2 1 2 rfl rfl _) (rd4 arg4 harg4 x2 1 3 1 3 rfl rfl _) (rd4 arg4 harg4 x2 2 0 2 0 rfl rfl _) (rd4 arg4 harg4 x2 2 1 2 1 rfl rfl _) (rd4 arg4 harg4 x2 2 2 2 2 rfl rfl _) (rd4 arg4 harg4 x2 2 3 2 3 rfl rfl _) (rd4 arg4 harg4 x2 3 0 3 0 rfl rfl _) (rd4 arg4 harg4 x2 3 1 3 1 rfl rfl _) (rd4 arg4 harg4 x2 3 2 3 2 rfl rfl _) (rd4 arg4 harg4 x2 3 3 3 3 rfl rfl _) (rd4 arg4 harg4 x2 4 0 4 0 rfl rfl _) (rd4 arg4 harg4 x2 4 1 4 1 rfl rfl _) (rd4 arg4 harg4 x2 4 2 4 2 rfl rfl _) (rd4 arg4 harg4 x2 4 3 4 3 rfl rfl _) (rd3 arg3 harg3 x1 o ig) x

end

/-- What the body stores, read back from the output window's slot. -/
theorem runB_reads (c : Dev nD) (i : grid0.Coords) (arg2 : Memref sig .tc .vmem S5120x128 .bf16) (harg2 : arg2.IsWhole) (arg3 : Memref sig .tc .vmem S3584x128 .f32) (harg3 : arg3.IsWhole) (arg4 : Memref sig .tc .vmem S5x4x1024x128 .fp8e5m2) (harg4 : arg4.IsWhole) (arg5 : Memref sig .tc .vmem S4x3584x128 .bf16) (harg5 : arg5.IsWhole) (arg6 : Memref sig .tc .vmem S3584x5120 .bf16) (harg6 : arg6.IsWhole) (arg7 : Memref sig .tc .vmem S2x256x3584 .fp8e4m3) (harg7 : arg7.IsWhole) (hc0 : ¬cond0_0 i)
    (x0 : Vec Ideal S5120x128 .bf16) (x1 : Vec Ideal S3584x128 .f32) (x2 : Vec Ideal S5x4x1024x128 .fp8e5m2) (xs0 : Vec Ideal S3584x5120 .bf16) (fh0 : HbBuf0 (F := Ideal) c hbM0_0) (f) :
    arg5.view.read (Elt Ideal) (arg5.view.writes (Elt Ideal) f (runB (F := Ideal) c i arg2 harg2 arg3 harg3 arg4 harg4 arg5 harg5 arg6 harg6 arg7 harg7 hc0 x0 x1 x2 xs0 fh0).1) = OUT x1 x2 xs0 := by
  have hc := View.cover_of_tiledL (runB (F := Ideal) c i arg2 harg2 arg3 harg3 arg4 harg4 arg5 harg5 arg6 harg6 arg7 harg7 hc0 x0 x1 x2 xs0 fh0).1 S1x512x128.size (by sl_kernel_rfl)
  rw [View.read_writes_eq_canon _ _ _ hc]
  refine funext fun y => View.canon_apply_of_pieces (OUT x1 x2 xs0) _ ?_ y (hc y)
  unfold runB
  dsimp only
  simp only [List.forall_mem_cons, List.not_mem_nil, false_imp_iff, implies_true, and_true]
  simp only [runB.sl.cst_500, runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.r_32, runB.sl.r_33, runB.sl.r_34, runB.sl.r_35, runB.sl.r_36, runB.sl.r_37, runB.sl.r_38, runB.sl.r_39, runB.sl.r_40, runB.sl.r_41, runB.sl.r_42, runB.sl.r_43, runB.sl.r_44, runB.sl.r_45, runB.sl.r_46, runB.sl.r_47, runB.sl.r_48, runB.sl.r_49, runB.sl.r_50, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  have R := pieceR arg3 harg3 arg4 harg4 arg6 harg6 x1 x2 xs0
  exact ⟨fun x => R 3 3 384 3072 rfl rfl (by decide) inb_S4x3584x128_S1x512x128_3_3072_0 slices_S512x512_o0_384_S512x128 _ _ _ _ _ _ x,
    fun x => R 2 2 256 3072 rfl rfl (by decide) inb_S4x3584x128_S1x512x128_2_3072_0 slices_S512x512_o0_256_S512x128 _ _ _ _ _ _ x,
    fun x => R 1 1 128 3072 rfl rfl (by decide) inb_S4x3584x128_S1x512x128_1_3072_0 slices_S512x512_o0_128_S512x128 _ _ _ _ _ _ x,
    fun x => R 0 0 0 3072 rfl rfl (by decide) inb_S4x3584x128_S1x512x128_0_3072_0 slices_S512x512_o0_0_S512x128 _ _ _ _ _ _ x,
    fun x => R 3 3 384 2560 rfl rfl (by decide) inb_S4x3584x128_S1x512x128_3_2560_0 slices_S512x512_o0_384_S512x128 _ _ _ _ _ _ x,
    fun x => R 2 2 256 2560 rfl rfl (by decide) inb_S4x3584x128_S1x512x128_2_2560_0 slices_S512x512_o0_256_S512x128 _ _ _ _ _ _ x,
    fun x => R 1 1 128 2560 rfl rfl (by decide) inb_S4x3584x128_S1x512x128_1_2560_0 slices_S512x512_o0_128_S512x128 _ _ _ _ _ _ x,
    fun x => R 0 0 0 2560 rfl rfl (by decide) inb_S4x3584x128_S1x512x128_0_2560_0 slices_S512x512_o0_0_S512x128 _ _ _ _ _ _ x,
    fun x => R 3 3 384 2048 rfl rfl (by decide) inb_S4x3584x128_S1x512x128_3_2048_0 slices_S512x512_o0_384_S512x128 _ _ _ _ _ _ x,
    fun x => R 2 2 256 2048 rfl rfl (by decide) inb_S4x3584x128_S1x512x128_2_2048_0 slices_S512x512_o0_256_S512x128 _ _ _ _ _ _ x,
    fun x => R 1 1 128 2048 rfl rfl (by decide) inb_S4x3584x128_S1x512x128_1_2048_0 slices_S512x512_o0_128_S512x128 _ _ _ _ _ _ x,
    fun x => R 0 0 0 2048 rfl rfl (by decide) inb_S4x3584x128_S1x512x128_0_2048_0 slices_S512x512_o0_0_S512x128 _ _ _ _ _ _ x,
    fun x => R 3 3 384 1536 rfl rfl (by decide) inb_S4x3584x128_S1x512x128_3_1536_0 slices_S512x512_o0_384_S512x128 _ _ _ _ _ _ x,
    fun x => R 2 2 256 1536 rfl rfl (by decide) inb_S4x3584x128_S1x512x128_2_1536_0 slices_S512x512_o0_256_S512x128 _ _ _ _ _ _ x,
    fun x => R 1 1 128 1536 rfl rfl (by decide) inb_S4x3584x128_S1x512x128_1_1536_0 slices_S512x512_o0_128_S512x128 _ _ _ _ _ _ x,
    fun x => R 0 0 0 1536 rfl rfl (by decide) inb_S4x3584x128_S1x512x128_0_1536_0 slices_S512x512_o0_0_S512x128 _ _ _ _ _ _ x,
    fun x => R 3 3 384 1024 rfl rfl (by decide) inb_S4x3584x128_S1x512x128_3_1024_0 slices_S512x512_o0_384_S512x128 _ _ _ _ _ _ x,
    fun x => R 2 2 256 1024 rfl rfl (by decide) inb_S4x3584x128_S1x512x128_2_1024_0 slices_S512x512_o0_256_S512x128 _ _ _ _ _ _ x,
    fun x => R 1 1 128 1024 rfl rfl (by decide) inb_S4x3584x128_S1x512x128_1_1024_0 slices_S512x512_o0_128_S512x128 _ _ _ _ _ _ x,
    fun x => R 0 0 0 1024 rfl rfl (by decide) inb_S4x3584x128_S1x512x128_0_1024_0 slices_S512x512_o0_0_S512x128 _ _ _ _ _ _ x,
    fun x => R 3 3 384 512 rfl rfl (by decide) inb_S4x3584x128_S1x512x128_3_512_0 slices_S512x512_o0_384_S512x128 _ _ _ _ _ _ x,
    fun x => R 2 2 256 512 rfl rfl (by decide) inb_S4x3584x128_S1x512x128_2_512_0 slices_S512x512_o0_256_S512x128 _ _ _ _ _ _ x,
    fun x => R 1 1 128 512 rfl rfl (by decide) inb_S4x3584x128_S1x512x128_1_512_0 slices_S512x512_o0_128_S512x128 _ _ _ _ _ _ x,
    fun x => R 0 0 0 512 rfl rfl (by decide) inb_S4x3584x128_S1x512x128_0_512_0 slices_S512x512_o0_0_S512x128 _ _ _ _ _ _ x,
    fun x => R 3 3 384 0 rfl rfl (by decide) inb_S4x3584x128_S1x512x128_3_0_0 slices_S512x512_o0_384_S512x128 _ _ _ _ _ _ x,
    fun x => R 2 2 256 0 rfl rfl (by decide) inb_S4x3584x128_S1x512x128_2_0_0 slices_S512x512_o0_256_S512x128 _ _ _ _ _ _ x,
    fun x => R 1 1 128 0 rfl rfl (by decide) inb_S4x3584x128_S1x512x128_1_0_0 slices_S512x512_o0_128_S512x128 _ _ _ _ _ _ x,
    fun x => R 0 0 0 0 rfl rfl (by decide) inb_S4x3584x128_S1x512x128_0_0_0 slices_S512x512_o0_0_S512x128 _ _ _ _ _ _ x⟩

end Cert.DwQkvIdeal.Hand

end
-- ==== Proof.DwQkvIdealRun.lean ====
module

public import proofs.«01_k».proof.Proof.DwQkvIdealOut
public import proofs.«01_k».proof.Proof.DwQkvIdealLoad
public import Idealize.ShloMosaic.Lib.Claim

@[expose] public section

/-!
# The run of the kernel, its output named

The scratch is loaded at the first grid point and carried; the proof data name it after that
point, and name the output window's slot after each point.
-/

set_option maxRecDepth 16384

noncomputable section

namespace Cert.DwQkvIdeal.Hand

open Cert.DwQkvIdeal Cert.DwQkvIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

/-- The first grid point. -/
abbrev t0 : Fin cfg0.N := ⟨0, by rw [show cfg0.N = 21 from N_0]; decide⟩

/-- The second grid point. -/
abbrev t1 : Fin cfg0.N := ⟨1, by rw [show cfg0.N = 21 from N_0]; decide⟩

/-- The transposed scratch after the first grid point. -/
def XT (c : Dev nD) : Vec Ideal S3584x5120 .bf16 := XTof c (iblk m c 0 t0) (V m c main_v2)

/-- The invariant after the first point: the scratch named, everything else as at the start. -/
def PhiN (c : Dev nD) : sProp 𝕄 :=
  iprop(iprop(owns (c : Thread nD τ) scM0_0 fullShare (XT m c) ∗ (∃ d, owns (c : Thread nD τ) scM0_1 fullShare d)) ∗ (∃ r, prngReg c r) ∗ iprop(semVal ((c : Thread nD τ), SemLoc.dma 6) 0 ∗ semVal ((c : Thread nD τ), SemLoc.dma 7) 0) ∗ iprop(hbPt0 c hbM0_0 (V m c main_v2)))

/-- The proof data: each input's slot at its block, the output's slot at the products with the
    scratch, the invariant by whether the first point has run. -/
def dats (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => OUT (iblk m c 1 t) (iblk m c 2 t) (XT m c)
  Φ t := if t.val = 0 then Pipeline.ΦD osem0 spec0 H0 (V m) c else PhiN m c
  q _ := fullShare
  owed _ := 0

/-- Before the first point the invariant is what the launch lends. -/
theorem Phi_zero (c : Dev nD) (t : Fin (cfg0.N + 1)) (h : t.val = 0) : (dats m 0 c).Φ t = Pipeline.ΦD osem0 spec0 H0 (V m) c := by
  dsimp only [dats]; exact if_pos h

/-- After the first point the invariant names the scratch. -/
theorem Phi_succ (c : Dev nD) (t : Fin (cfg0.N + 1)) (h : ¬ t.val = 0) : (dats m 0 c).Φ t = PhiN m c := by
  dsimp only [dats]; exact if_neg h

/-- The arrays of the proof data are those at region entry. -/
theorem A_eq (c : Dev nD) (w : Fin cfg0.W) : (dats m 0 c).A w = V m c (Pipeline.arrRef spec0 w) := by
  dsimp only [dats]

/-- Window 0's slot after the body. -/
theorem after0_0 (c : Dev nD) (t : Fin cfg0.N) : (dats m 0 c).after 0 t = iblk m c 0 t := by dsimp only [dats]
/-- Window 1's slot after the body. -/
theorem after0_1 (c : Dev nD) (t : Fin cfg0.N) : (dats m 0 c).after 1 t = iblk m c 1 t := by dsimp only [dats]
/-- Window 2's slot after the body. -/
theorem after0_2 (c : Dev nD) (t : Fin cfg0.N) : (dats m 0 c).after 2 t = iblk m c 2 t := by dsimp only [dats]
/-- The output window's slot after the body. -/
theorem after0_3 (c : Dev nD) (t : Fin cfg0.N) : (dats m 0 c).after 3 t = OUT (iblk m c 1 t) (iblk m c 2 t) (XT m c) := by dsimp only [dats]

/-- Window 0's slot before the body. -/
theorem before0_0 (c : Dev nD) (t : Fin cfg0.N) (d) : (dats m 0 c).before 0 t d = iblk m c 0 t :=
  before0_0_of m (dats m 0 c) (A_eq m c 0) (after0_0 m c) t d
/-- Window 1's slot before the body. -/
theorem before0_1 (c : Dev nD) (t : Fin cfg0.N) (d) : (dats m 0 c).before 1 t d = iblk m c 1 t :=
  before0_1_of m (dats m 0 c) (A_eq m c 1) (after0_1 m c) t d
/-- Window 2's slot before the body. -/
theorem before0_2 (c : Dev nD) (t : Fin cfg0.N) (d) : (dats m 0 c).before 2 t d = iblk m c 2 t :=
  before0_2_of m (dats m 0 c) (A_eq m c 2) (after0_2 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point: at the first it loads the scratch and then runs as at the others. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [Phi_succ m c t.succ (Nat.succ_ne_zero _), after0_0, after0_1, after0_2, after0_3]
  unfold Dat.owesAt Pipeline.owesWithin
  rw [show (dats m 0 c).owed t.castSucc = 0 from rfl, show (dats m 0 c).owed t.succ = 0 from rfl]
  have hN : t.val < 21 := lt_of_lt_of_eq t.isLt (show cfg0.N = 21 from N_0)
  have hj : ¬ cond0_0 (grid0.coords t1) := fun h => absurd ((hcond0_0 t1).mp h) (by decide)
  by_cases h0 : t.val % 21 = 0
  · obtain rfl : t = t0 := Fin.ext (by show t.val = 0; omega)
    rw [Phi_zero m c t0.castSucc rfl, PhiD0_eq]
    rw [split (grid0.coords t0) (grid0.coords t1) ((hcond0_0 t0).mpr h0) hj, wp_bind]
    unfold PhiN
    iintro ⟨⟨⟨HS0, ⟨%xs1, HS1⟩⟩, Hg, ⟨Hq0, Hq1⟩, Hh0⟩, ⟨%W, -, HW⟩, ⟨%d0, H0⟩, ⟨%d1, H1⟩, ⟨%d2, H2⟩, ⟨%d3, H3⟩⟩
    iapply ((runLoad (F := Ideal) c (grid0.coords t0) _ _ _ (hs0_1 t0) _ (hs0_2 t0) _ (hs0_3 t0) _ _ _ _ (iblk m c 0 t0) xs1 (V m c main_v2)).2 W _)
    isplitl [H0]; · iexact H0
    isplitl [HS0]; · iexact HS0
    isplitl [HS1]; · iexact HS1
    isplitl [Hq0]; · iexact Hq0
    isplitl [Hq1]; · iexact Hq1
    isplitl [Hh0]; · iexact Hh0
    isplitl [HW]; · iexact HW
    iintro ⟨H0, ⟨%f6, HS0⟩, HS1, Hq0, Hq1, Hh0, ⟨%W1, HW⟩⟩
    iapply ((runB (F := Ideal) c (grid0.coords t1) _ _ _ _ _ _ _ _ _ _ _ _ hj (iblk m c 0 t0) (iblk m c 1 t0) (iblk m c 2 t0) (XT m c) (V m c main_v2)).2 W1 _)
    isplitl [H0]; · iexact H0
    isplitl [H1]; · iexact H1
    isplitl [H2]; · iexact H2
    isplitl [H3]; · iexists _; iexact H3
    isplitl [HS0]
    · unfold owns; iexists _; isplitr; swap; · iexact HS0
      ipureintro; exact load_reads c (iblk m c 0 t0) xs1 (V m c main_v2) _ _ _ _ _ _ _ _ _ _ _ _ _ f6
    isplitl [HS1]; · iexact HS1
    isplitl [Hq0]; · iexact Hq0
    isplitl [Hq1]; · iexact Hq1
    isplitl [Hh0]; · iexact Hh0
    isplitl [HW]; · iexact HW
    iintro ⟨H0, H1, H2, ⟨%f5, H3⟩, HS0, HS1, Hq0, Hq1, Hh0, ⟨%W', HW'⟩⟩
    isplitl [HS0 HS1 Hg Hq0 Hq1 Hh0]
    · isplitl [HS0 HS1]
      · isplitl [HS0]; · iexact HS0
        iexact HS1
      isplitl [Hg]
      · iexact Hg
      isplitl [Hq0 Hq1]
      · isplitl [Hq0]; · iexact Hq0
        iexact Hq1
      iexact Hh0
    isplitl [HW']
    · iexists W'; isplitr; · ipureintro; exact fun _ _ => Or.inl trivial
      iexact HW'
    isplitl [H0]; · iexact H0
    isplitl [H1]; · iexact H1
    isplitl [H2]; · iexact H2
    unfold owns; iexists _; isplitr; swap; · iexact H3
    ipureintro; exact runB_reads c _ _ _ _ _ _ _ _ _ _ _ _ _ _ (iblk m c 0 t0) (iblk m c 1 t0) (iblk m c 2 t0) (XT m c) (V m c main_v2) f5
  · rw [Phi_succ m c t.castSucc (by show ¬ t.val = 0; omega)]
    unfold PhiN
    iintro ⟨⟨⟨HS0, HS1⟩, Hg, ⟨Hq0, Hq1⟩, Hh0⟩, ⟨%W, -, HW⟩, ⟨%d0, H0⟩, ⟨%d1, H1⟩, ⟨%d2, H2⟩, ⟨%d3, H3⟩⟩
    iapply ((runB (F := Ideal) c (grid0.coords t) _ _ _ _ _ _ _ _ _ _ _ _ (fun h => h0 ((hcond0_0 t).mp h)) (iblk m c 0 t) (iblk m c 1 t) (iblk m c 2 t) (XT m c) (V m c main_v2)).2 W _)
    isplitl [H0]; · iexact H0
    isplitl [H1]; · iexact H1
    isplitl [H2]; · iexact H2
    isplitl [H3]; · iexists _; iexact H3
    isplitl [HS0]; · iexact HS0
    isplitl [HS1]; · iexact HS1
    isplitl [Hq0]; · iexact Hq0
    isplitl [Hq1]; · iexact Hq1
    isplitl [Hh0]; · iexact Hh0
    isplitl [HW]; · iexact HW
    iintro ⟨H0, H1, H2, ⟨%f5, H3⟩, HS0, HS1, Hq0, Hq1, Hh0, ⟨%W', HW'⟩⟩
    isplitl [HS0 HS1 Hg Hq0 Hq1 Hh0]
    · isplitl [HS0 HS1]
      · isplitl [HS0]; · iexact HS0
        iexact HS1
      isplitl [Hg]
      · iexact Hg
      isplitl [Hq0 Hq1]
      · isplitl [Hq0]; · iexact Hq0
        iexact Hq1
      iexact Hh0
    isplitl [HW']
    · iexists W'; isplitr; · ipureintro; exact fun _ _ => Or.inl trivial
      iexact HW'
    isplitl [H0]; · iexact H0
    isplitl [H1]; · iexact H1
    isplitl [H2]; · iexact H2
    unfold owns; iexists _; isplitr; swap; · iexact H3
    ipureintro; exact runB_reads c _ _ _ _ _ _ _ _ _ _ _ _ _ _ (iblk m c 0 t) (iblk m c 1 t) (iblk m c 2 t) (XT m c) (V m c main_v2) f5

/-- The body table's row at point `t`'s slots is the body. -/
theorem defs₀_row (t : Fin cfg0.N) :
    defs₀ (F := Ideal) .tc cfg0.body (cfg0.bodyArgs t (cfg0.slots t)) = bodyAt0 t := by
  unfold defs₀; rw [Defs.onTc_tc]

/-- The body obligation at every point. -/
theorem body_obligation (c : Dev nD) : BodyObligation (dats m 0 c) (defs₀ (F := Ideal)) Variants.none () Set.univ (fun _ => false) := fun t => by
  rw [bigSep_W0, bigSep_W0, defs₀_row]
  exact triple_restated (sound_body m c t) rfl .rfl fun _ => .rfl

/-- At the end the invariant gives back what the launch lent. -/
theorem hout (c : Dev nD) : (dats m 0 c).Φ (Fin.last _) ⊢ Pipeline.ΦD osem0 spec0 H0 (V m) c := by
  rw [Phi_succ m c (Fin.last _) (by rw [Fin.val_last, show cfg0.N = 21 from N_0]; decide), PhiD0_eq]
  unfold PhiN
  iintro ⟨⟨HS0, HS1⟩, Hg, Hq, Hh0⟩
  isplitl [HS0 HS1]
  · isplitl [HS0]; · iexists _; iexact HS0
    iexact HS1
  isplitl [Hg]; · iexact Hg
  isplitl [Hq]; · iexact Hq
  iexact Hh0

set_option backward.isDefEq.respectTransparency.types false in
/-- The launch: every execution ends, with the arrays as the proof data say and every counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => by rw [Phi_zero m c 0 rfl]) (hout := hout m)

/-- The run, the output array named and the arguments unchanged. -/
theorem run_blocks : θ_run defs (onTc (τ := τ) (main (F := Ideal))) ⟨m, fun _ => 0, ρ⟩ fun r => ∀ c : Dev nD,
      r.2.mem ((c : Thread nD τ).loc main_v11) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h.1 c).1 3,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩)
    (run_main_quiescent m ρ)

/-- The frame: the arguments end unchanged and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and ((θ_run defs _ _).mono (fun _ h c => (h c).2) (run_blocks m ρ)) ((θ_run defs _ _).mono (fun _ h => h.2) (run_main_quiescent m ρ))

end Cert.DwQkvIdeal.Hand

end
-- ==== Proof.DwQkvValue.lean ====
module

public import proofs.«01_k».proof.Proof.DwQkvIdealRun
public import proofs.«01_k».proof.Proof.Tokens

@[expose] public section

/-!
# The value of the attention weight gradient

The kernel's result, entry by entry, as one sum over the tokens.
-/

set_option maxRecDepth 16384

noncomputable section

open Idealize.ShloMosaic Idealize.ShloMosaic.TcCoe Idealize.SL.Sem
open Idealize.ShloMosaic.Pipeline (Dat)

namespace Cert.DwQkvIdeal.Hand

open Cert.DwQkvIdeal Cert.DwQkvIdeal.Gen Tokens

variable (m : (ℓ : Loc nD τ sig) → Buf (Elt Ideal) ℓ)

/-- Which of query, key and value a plane is of. -/
abbrev qj (h : Fin 84) : Fin 3 := ⟨h.val / 28, by omega⟩
/-- The head of a plane. -/
abbrev qn (h : Fin 84) : Fin 28 := ⟨h.val % 28, by omega⟩

/-- Every window's block index, in the grid point. -/
theorem idx : ∀ t : Fin cfg0.N, win0_0.index t = ![0, 0] ∧ win0_1.index t = ![0, 0] ∧ win0_2.index t = ![0, t.val, 0, 0]
    ∧ win0_3.index t = ![t.val, 0, 0] :=
  (by decide +kernel : ∀ t : Fin grid0.N, _)

/-- The left operand in main memory: the normalized rows, one per token. -/
theorem V2 (c : Dev nD) (k : Fin 5120) (f : Fin 3584) : V m c main_v2 (ix2 k f) = m ((c : Thread nD τ).loc main_arg0) (ix3 (tb k) (ts k) f) := by
  have h : V m c main_v2 = shapeCast S5120x3584 (m ((c : Thread nD τ).loc main_arg0)) shapeCasts_S5x1024x3584_S5120x3584 := by
    entry_read
    rfl
  rw [h]
  exact cast3 _ _ k f

/-- The right operand: the code gradients, one plane per head. -/
theorem V1 (c : Dev nD) (b : Fin 5) (h : Fin 84) (k : Fin 1024) (l : Fin 128) :
    V m c main_v1 (ix4 b h k l) = m ((c : Thread nD τ).loc main_arg3) (ix5 b k (qj h) (qn h) l) := by
  have e : V m c main_v1 = shapeCast S5x84x1024x128 (transpose S5x3x28x1024x128 [0, 2, 3, 1, 4] (m ((c : Thread nD τ).loc main_arg3)) transposes_S5x1024x3x28x128_S5x3x28x1024x128_0_2_3_1_4) shapeCasts_S5x3x28x1024x128_S5x84x1024x128 := by
    entry_read
    rfl
  rw [e]
  generalize m ((c : Thread nD τ).loc main_arg3) = x
  refine Eq.trans (b := transpose S5x3x28x1024x128 [0, 2, 3, 1, 4] x transposes_S5x1024x3x28x128_S5x3x28x1024x128_0_2_3_1_4 (ix5 b (qj h) (qn h) k l)) ?_ ?_
  · unfold shapeCast
    refine congrArg (transpose S5x3x28x1024x128 [0, 2, 3, 1, 4] x transposes_S5x1024x3x28x128_S5x3x28x1024x128_0_2_3_1_4) (Shape.reshapeEquiv_eq_of_rowMajor _ ?_)
    rw [Shape.rowMajor_val_five, Shape.rowMajor_val_four]
    show (((b.val * 3 + h.val / 28) * 28 + h.val % 28) * 1024 + k.val) * 128 + l.val = ((b.val * 84 + h.val) * 1024 + k.val) * 128 + l.val
    omega
  · refine transpose_apply _ x _ _ _ fun a => ?_
    match a with
    | ⟨0, _⟩ => rfl
    | ⟨1, _⟩ => rfl
    | ⟨2, _⟩ => rfl
    | ⟨3, _⟩ => rfl
    | ⟨4, _⟩ => rfl

/-- The token scales: the product of the two operands' scales. -/
theorem V8 (c : Dev nD) (k : Fin 5120) (l : Fin 128) : V m c main_v8 (ix2 k l) =
    (show EReal from m ((c : Thread nD τ).loc main_arg1) (ix2 (tb k) (ts k))) * m ((c : Thread nD τ).loc main_arg4) (ix2 (tb k) (ts k)) := by
  have h : V m c main_v8 = (truncf .bf16 (mulf
    (broadcastInDim S5120x128 ![0, 1] bcast_S5120x1_S5120x128_0_1 (shapeCast S5120x1 (m ((c : Thread nD τ).loc main_arg1)) shapeCasts_S5x1024_S5120x1))
    (broadcastInDim S5120x128 ![0, 1] bcast_S5120x1_S5120x128_0_1 (shapeCast S5120x1 (m ((c : Thread nD τ).loc main_arg4)) shapeCasts_S5x1024_S5120x1)) : FVec Ideal S5120x128 .f32) bitsLt_bf16_f32) := by
    entry_read
    rfl
  rw [h]
  exact congrArg₂ (fun x y : EReal => x * y) (lanes _ _ _ k l) (lanes _ _ _ k l)

/-- The row scales of the result. -/
theorem V10 (c : Dev nD) (k : Fin 3584) (l : Fin 128) : V m c main_v10 (ix2 k l) = m ((c : Thread nD τ).loc main_arg2) (ix1 k) := by
  have h : V m c main_v10 = broadcastInDim S3584x128 ![0, 1] bcast_S3584x1_S3584x128_0_1 (shapeCast S3584x1 (m ((c : Thread nD τ).loc main_arg2)) shapeCasts_S3584_S3584x1) := by
    entry_read
    rfl
  rw [h]
  exact lanes1 _ _ _ k l

/-- Window 0 at a point. -/
theorem rdw0 (c : Dev nD) (t : Fin cfg0.N) (k : Fin 5120) (l : Fin 128) : iblk m c 0 t (ix2 k l) =
    (show EReal from m ((c : Thread nD τ).loc main_arg1) (ix2 (tb k) (ts k))) * m ((c : Thread nD τ).loc main_arg4) (ix2 (tb k) (ts k)) := by
  blk_simp [iblk]
  refine Eq.trans ?_ (V8 m c k l)
  blk_ext [idx t]

/-- Window 1 at a point. -/
theorem rdw1 (c : Dev nD) (t : Fin cfg0.N) (k : Fin 3584) (l : Fin 128) : iblk m c 1 t (ix2 k l) =
    m ((c : Thread nD τ).loc main_arg2) (ix1 k) := by
  blk_simp [iblk]
  refine Eq.trans ?_ (V10 m c k l)
  blk_ext [idx t]

/-- Window 2 at a point. -/
theorem rdw2 (c : Dev nD) (t : Fin cfg0.N) (b : Fin 5) (h : Fin 4) (k : Fin 1024) (l : Fin 128) : iblk m c 2 t (ix4 b h k l) =
    m ((c : Thread nD τ).loc main_arg3) (ix5 b k (qj (⟨t.val * 4 + h.val, by have : t.val < 21 := t.isLt; omega⟩ : Fin 84)) (qn (⟨t.val * 4 + h.val, by have : t.val < 21 := t.isLt; omega⟩ : Fin 84)) l) := by
  blk_simp [iblk]
  refine Eq.trans ?_ (V1 m c b _ k l)
  blk_ext [idx t]

/-- A sum over the tokens is the sum over the batches of the sums over their positions. -/
theorem sum5 (f : Fin 5120 → EReal) : (∑ k : Fin 5120, f k)
    = (∑ k : Fin 1024, f ⟨1024 * 0 + k.val, by omega⟩) + (∑ k : Fin 1024, f ⟨1024 * 1 + k.val, by omega⟩) + (∑ k : Fin 1024, f ⟨1024 * 2 + k.val, by omega⟩)
      + (∑ k : Fin 1024, f ⟨1024 * 3 + k.val, by omega⟩) + (∑ k : Fin 1024, f ⟨1024 * 4 + k.val, by omega⟩) := by
  have e : (∑ k : Fin (5 * 1024), f k) = ∑ x : Fin 5 × Fin 1024, f (finProdFinEquiv x) := (Equiv.sum_comp (finProdFinEquiv : Fin 5 × Fin 1024 ≃ Fin (5 * 1024)) (f : Fin (5 * 1024) → EReal)).symm
  refine e.trans ((Fintype.sum_prod_type _).trans ((Fin.sum_univ_five _).trans ?_))
  have h : ∀ b : Fin 5, (∑ k : Fin 1024, f (finProdFinEquiv (b, k))) = ∑ k : Fin 1024, f ⟨1024 * b.val + k.val, by omega⟩ := fun b =>
    Finset.sum_congr rfl fun k _ => congrArg f (Fin.ext (by show k.val + 1024 * b.val = 1024 * b.val + k.val; omega))
  rw [h 0, h 1, h 2, h 3, h 4]
  rfl

/-- The weight gradient of a head: the sum over the tokens of the scaled normalized row times the code gradient, times the row's scale. -/
def G (x : FVec Ideal S5x1024x3584 .fp8e4m3) (xs : FVec Ideal S5x1024 .f32) (ga : FVec Ideal S3584 .f32)
    (q : FVec Ideal S5x1024x3x28x128 .fp8e5m2) (qs : FVec Ideal S5x1024 .f32) : FVec Ideal S84x3584x128 .bf16 := fun i =>
  (∑ k : Fin 5120, (((x (ix3 (tb k) (ts k) (i 1)) : EReal) * (xs (ix2 (tb k) (ts k)) * qs (ix2 (tb k) (ts k))))
    * q (ix5 (tb k) (ts k) (qj (i 0)) (qn (i 0)) (i 2)) : EReal) : EReal) * ga (ix1 (i 1))

/-- Batch `b`'s part of what a point leaves is the part of the sum over that batch's tokens. -/
theorem part_eq (c : Dev nD) (t : Fin cfg0.N) (h : Fin 4) (d : Fin 3584) (l : Fin 128) (b : Fin 5) (k : Fin 1024) (H : Fin 84) (hH : t.val * 4 + h.val = H.val) :
    ((XT m c (ix2 d (⟨1024 * b.val + k.val, by omega⟩ : Fin 5120)) : EReal) * iblk m c 2 t (ix4 b h k l))
      = (fun k : Fin 5120 => (((show EReal from m ((c : Thread nD τ).loc main_arg0) (ix3 (tb k) (ts k) d)) * ((show EReal from m ((c : Thread nD τ).loc main_arg1) (ix2 (tb k) (ts k))) * m ((c : Thread nD τ).loc main_arg4) (ix2 (tb k) (ts k))))
    * m ((c : Thread nD τ).loc main_arg3) (ix5 (tb k) (ts k) (qj H) (qn H) l) : EReal)) (⟨1024 * b.val + k.val, by omega⟩ : Fin 5120) := by
  have hb : tb (⟨1024 * b.val + k.val, by omega⟩ : Fin 5120) = b := Fin.ext (by show (1024 * b.val + k.val) / 1024 = b.val; omega)
  have hs : ts (⟨1024 * b.val + k.val, by omega⟩ : Fin 5120) = k := Fin.ext (by show (1024 * b.val + k.val) % 1024 = k.val; omega)
  have hh : (⟨t.val * 4 + h.val, by have : t.val < 21 := t.isLt; omega⟩ : Fin 84) = H := Fin.ext hH
  refine congrArg₂ (fun x y : EReal => x * y) ?_ ((rdw2 m c t b h k l).trans ?_)
  · exact congrArg₂ (fun x y : EReal => x * y) (V2 m c (⟨1024 * b.val + k.val, by omega⟩ : Fin 5120) d) (rdw0 m c t0 (⟨1024 * b.val + k.val, by omega⟩ : Fin 5120) _)
  · show _ = m ((c : Thread nD τ).loc main_arg3) (ix5 (tb (⟨1024 * b.val + k.val, by omega⟩ : Fin 5120)) (ts (⟨1024 * b.val + k.val, by omega⟩ : Fin 5120)) (qj H) (qn H) l)
    rw [hb, hs, hh]

/-- What a point leaves in the output window's slot is its block of `G`. -/
theorem point (c : Dev nD) (t : Fin cfg0.N) (y : S4x3584x128.Idx) : OUT (iblk m c 1 t) (iblk m c 2 t) (XT m c) y
    = G (m ((c : Thread nD τ).loc main_arg0)) (m ((c : Thread nD τ).loc main_arg1)) (m ((c : Thread nD τ).loc main_arg2)) (m ((c : Thread nD τ).loc main_arg3)) (m ((c : Thread nD τ).loc main_arg4)) (((cfg0.win 3).blk t).view.emb y) := by
  have hy : (y 0).val < 4 := (y 0).isLt
  have ht : t.val < 21 := t.isLt
  have h0 : ((cfg0.win 3).blk t).view.emb y = ix3 (⟨t.val * 4 + (y 0).val, by omega⟩ : Fin 84) (y 1) (y 2) := by
    blk_ext [idx t]
  rw [h0]
  refine congrArg₂ (fun x y : EReal => x * y) (Eq.trans ?_ (sum5 _).symm) (rdw1 m c t (y 1) (y 2))
  have p : ∀ b : Fin 5, part (iblk m c 2 t) (XT m c) (y 0) (y 1) (y 2) b = _ := fun b =>
    Finset.sum_congr rfl fun k _ => part_eq m c t (y 0) (y 1) (y 2) b k (⟨t.val * 4 + (y 0).val, by omega⟩ : Fin 84) rfl
  exact congrArg₂ (fun x y : EReal => x + y) (congrArg₂ (fun x y : EReal => x + y) (congrArg₂ (fun x y : EReal => x + y) (congrArg₂ (fun x y : EReal => x + y) (p 0) (p 1)) (p 2)) (p 3)) (p 4)

/-- The result array after the run is `G` of the arguments. -/
theorem final (c : Dev nD) : (dats m 0 c).arrAt 3 (cfgs 0).N
    = G (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 3 _ (by decide +kernel) fun t _ y => ?_
  blk_simp
  rw [after0_3]; frame_out
  exact point m c t y

end Cert.DwQkvIdeal.Hand

end
-- ==== Proof.DwQkvRefValue.lean ====
module

public import proofs.«01_k».proof.Proof.Gen.DwQkvRefIdeal.Read
public import proofs.«01_k».proof.Proof.DwQkvValue

@[expose] public section

/-!
# The value of the reference of the attention weight gradient
-/

set_option maxRecDepth 16384

noncomputable section

open Idealize.ShloMosaic Idealize.ShloMosaic.TcCoe Idealize.SL.Sem
open Idealize.ShloMosaic.Pipeline (Dat)

namespace Cert.DwQkvRefIdeal.ArrayValue

open Cert.DwQkvRefIdeal Cert.DwQkvRefIdeal.Gen Tokens

variable (m : (ℓ : Loc nD τ sig) → Buf (Elt Ideal) ℓ)

/-- Every window is its whole array at the one grid point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The code gradients, one row per token. -/
theorem V0 (c : Dev nD) (k : Fin 5120) (f : Fin 10752) : V m c main_v0 (ix2 k f) = m ((c : Thread nD τ).loc main_arg3) (ix5 (tb k) (ts k) (⟨f.val / 3584, by omega⟩ : Fin 3) (⟨f.val % 3584 / 128, by omega⟩ : Fin 28) (⟨f.val % 128, by omega⟩ : Fin 128)) := by
  have h : V m c main_v0 = shapeCast S5120x10752 (m ((c : Thread nD τ).loc main_arg3)) shapeCasts_S5x1024x3x28x128_S5120x10752 := by
    entry_read
    rfl
  rw [h]
  generalize m ((c : Thread nD τ).loc main_arg3) = x
  change S5x1024x3x28x128.Idx → EReal at x
  unfold shapeCast
  refine congrArg x (Shape.reshapeEquiv_eq_of_rowMajor _ ?_)
  refine (Shape.rowMajor_val_five (d := ![5, 1024, 3, 28, 128]) _).trans (Eq.trans ?_ (Shape.rowMajor_val_two (d := ![5120, 10752]) _).symm)
  show (((k.val / 1024 * 1024 + k.val % 1024) * 3 + f.val / 3584) * 28 + f.val % 3584 / 128) * 128 + f.val % 128 = k.val * 10752 + f.val
  omega

/-- The normalized rows, one per token. -/
theorem V1 (c : Dev nD) (k : Fin 5120) (f : Fin 3584) : V m c main_v1 (ix2 k f) = m ((c : Thread nD τ).loc main_arg0) (ix3 (tb k) (ts k) f) := by
  have h : V m c main_v1 = shapeCast S5120x3584 (m ((c : Thread nD τ).loc main_arg0)) shapeCasts_S5x1024x3584_S5120x3584 := by
    entry_read
    rfl
  rw [h]
  exact cast3 _ _ k f

/-- The rows' scales. -/
theorem V2 (c : Dev nD) (k : Fin 5120) (f : Fin 1) : V m c main_v2 (ix2 k f) = m ((c : Thread nD τ).loc main_arg1) (ix2 (tb k) (ts k)) := by
  have h : V m c main_v2 = shapeCast S5120x1 (m ((c : Thread nD τ).loc main_arg1)) shapeCasts_S5x1024_S5120x1 := by
    entry_read
    rfl
  rw [h]
  exact cast2 _ _ k f

/-- The result's row scales. -/
theorem V3 (c : Dev nD) (k : Fin 3584) (f : Fin 1) : V m c main_v3 (ix2 k f) = m ((c : Thread nD τ).loc main_arg2) (ix1 k) := by
  have h : V m c main_v3 = shapeCast S3584x1 (m ((c : Thread nD τ).loc main_arg2)) shapeCasts_S3584_S3584x1 := by
    entry_read
    rfl
  rw [h]
  exact cast1 _ _ k f

/-- The codes' scales. -/
theorem V4 (c : Dev nD) (k : Fin 5120) (f : Fin 1) : V m c main_v4 (ix2 k f) = m ((c : Thread nD τ).loc main_arg4) (ix2 (tb k) (ts k)) := by
  have h : V m c main_v4 = shapeCast S5120x1 (m ((c : Thread nD τ).loc main_arg4)) shapeCasts_S5x1024_S5120x1 := by
    entry_read
    rfl
  rw [h]
  exact cast2 _ _ k f

/-- The body's payload read at an index. -/
theorem payload (x0 : FVec Ideal S5120x3584 .fp8e4m3) (x1 : FVec Ideal S5120x1 .f32) (x2 : FVec Ideal S3584x1 .f32) (x3 : FVec Ideal S5120x10752 .fp8e5m2) (x4 : FVec Ideal S5120x1 .f32)
    (y : S3584x10752.Idx) : k0_pay1 (F := Ideal) x0 x1 x3 x4 x2 y
      = (x2 (ix2 (y 0) 0) : EReal) * (∑ k : Fin 5120, ((x0 (ix2 k (y 0)) : EReal) * x1 (ix2 k 0)) * (x3 (ix2 k (y 1)) * x4 (ix2 k 0)) : EReal) := by
  pointwise [k0_pay1]

/-- The reference's product array, entry by entry. -/
def R (x : FVec Ideal S5x1024x3584 .fp8e4m3) (xs : FVec Ideal S5x1024 .f32) (ga : FVec Ideal S3584 .f32)
    (q : FVec Ideal S5x1024x3x28x128 .fp8e5m2) (qs : FVec Ideal S5x1024 .f32) : FVec Ideal S3584x10752 .bf16 := fun i =>
  (∑ k : Fin 5120, (((x (ix3 (tb k) (ts k) (i 0)) : EReal) * (xs (ix2 (tb k) (ts k)) * qs (ix2 (tb k) (ts k))))
    * q (ix5 (tb k) (ts k) (⟨(i 1).val / 3584, by have := (i 1).isLt; have : (i 1).val < 10752 := this; omega⟩ : Fin 3) (⟨(i 1).val % 3584 / 128, by omega⟩ : Fin 28) (⟨(i 1).val % 128, by omega⟩ : Fin 128)) : EReal) : EReal) * ga (ix1 (i 0))

/-- What the reference's kernel leaves in its product array. -/
theorem region (c : Dev nD) : (dats m 0 c).arrAt 5 (cfgs 0).N
    = R (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  have h0 : ((cfg0.win 5).blk t).view.emb y = y := by
    blk_ext [idx t]
  have h1 : ∀ (k : Fin 5120) (f : Fin 3584), iblk m c 0 t (ix2 k f) = m ((c : Thread nD τ).loc main_arg0) (ix3 (tb k) (ts k) f) := fun k f => by
    blk_simp [iblk]
    refine Eq.trans ?_ (V1 m c k f)
    blk_ext [idx t]
  have h2 : ∀ (k : Fin 5120) (f : Fin 1), iblk m c 1 t (ix2 k f) = m ((c : Thread nD τ).loc main_arg1) (ix2 (tb k) (ts k)) := fun k f => by
    blk_simp [iblk]
    refine Eq.trans ?_ (V2 m c k f)
    blk_ext [idx t]
  have h3 : ∀ (k : Fin 3584) (f : Fin 1), iblk m c 2 t (ix2 k f) = m ((c : Thread nD τ).loc main_arg2) (ix1 k) := fun k f => by
    blk_simp [iblk]
    refine Eq.trans ?_ (V3 m c k f)
    blk_ext [idx t]
  have h4 : ∀ (k : Fin 5120) (f : Fin 10752), iblk m c 3 t (ix2 k f) = m ((c : Thread nD τ).loc main_arg3) (ix5 (tb k) (ts k) (⟨f.val / 3584, by omega⟩ : Fin 3) (⟨f.val % 3584 / 128, by omega⟩ : Fin 28) (⟨f.val % 128, by omega⟩ : Fin 128)) := fun k f => by
    blk_simp [iblk]
    refine Eq.trans ?_ (V0 m c k f)
    blk_ext [idx t]
  have h5 : ∀ (k : Fin 5120) (f : Fin 1), iblk m c 4 t (ix2 k f) = m ((c : Thread nD τ).loc main_arg4) (ix2 (tb k) (ts k)) := fun k f => by
    blk_simp [iblk]
    refine Eq.trans ?_ (V4 m c k f)
    blk_ext [idx t]
  refine Eq.trans ?_ (congrArg _ h0.symm)
  refine (Cert.DwQkvRefIdeal.ArrayValue.payload _ _ _ _ _ y).trans ?_
  refine (mul_comm _ _).trans ?_
  refine congrArg₂ (fun x y : EReal => x * y) (Finset.sum_congr rfl fun k _ => ?_) (h3 (y 0) 0)
  refine (congrArg₂ (fun x y : EReal => x * y) (congrArg₂ (fun x y : EReal => x * y) (h1 k (y 0)) (h2 k 0)) (congrArg₂ (fun x y : EReal => x * y) (h4 k (y 1)) (h5 k 0))).trans ?_
  show (_ : EReal) * _ * (_ * _) = _ * (_ * _) * _
  ac_rfl

/-- Cut into heads, the product array is the same function of the arguments as the kernel's result. -/
theorem final (c : Dev nD) : transpose S84x3584x128 [1, 0, 2] (shapeCast _ (Cert.DwQkvRefIdeal.Value.reg_main_v5 m c) shapeCasts_S3584x10752_S3584x84x128) transposes_S3584x84x128_S84x3584x128_1_0_2
    = Cert.DwQkvIdeal.Hand.G (m ((c : Thread nD τ).loc main_arg0)) (m ((c : Thread nD τ).loc main_arg1)) (m ((c : Thread nD τ).loc main_arg2)) (m ((c : Thread nD τ).loc main_arg3)) (m ((c : Thread nD τ).loc main_arg4)) := by
  have h : Cert.DwQkvRefIdeal.Value.reg_main_v5 m c = R _ _ _ _ _ := region m c
  rw [h]
  generalize m ((c : Thread nD τ).loc main_arg0) = a0
  generalize m ((c : Thread nD τ).loc main_arg1) = a1
  generalize m ((c : Thread nD τ).loc main_arg2) = a2
  generalize m ((c : Thread nD τ).loc main_arg3) = a3
  generalize m ((c : Thread nD τ).loc main_arg4) = a4
  refine funext fun i => ?_
  refine (Cert.DwQkvRefIdeal.Read.val_main_v7_apply (F := Ideal) (R a0 a1 a2 a3 a4) i).trans ((Cert.DwQkvRefIdeal.Read.val_main_v6_apply (F := Ideal) (R a0 a1 a2 a3 a4) _).trans ?_)
  have h0 : (i 0).val < 84 := (i 0).isLt
  have h1 : (i 1).val < 3584 := (i 1).isLt
  have h2 : (i 2).val < 128 := (i 2).isLt
  have e : Cert.DwQkvRefIdeal.Read.idx_main_v6 (Cert.DwQkvRefIdeal.Read.idx_main_v7 i) = ix2 (i 1) (⟨(i 0).val * 128 + (i 2).val, by omega⟩ : Fin 10752) := by
    funext a
    match a with
    | ⟨0, _⟩ => exact Fin.ext (by show (((i 1).val * 84 + (i 0).val) * 128 + (i 2).val) / 10752 = (i 1).val; omega)
    | ⟨1, _⟩ => exact Fin.ext (by show (((i 1).val * 84 + (i 0).val) * 128 + (i 2).val) % 10752 = (i 0).val * 128 + (i 2).val; omega)
  rw [e]
  refine congrArg₂ (fun x y : EReal => x * y) (Finset.sum_congr rfl fun k _ => ?_) rfl
  refine congrArg₂ (fun x y : EReal => x * y) rfl (congrArg a3 ?_)
  funext a
  match a with
  | ⟨0, _⟩ => rfl
  | ⟨1, _⟩ => rfl
  | ⟨2, _⟩ => exact Fin.ext (by show ((i 0).val * 128 + (i 2).val) / 3584 = (i 0).val / 28; omega)
  | ⟨3, _⟩ => exact Fin.ext (by show ((i 0).val * 128 + (i 2).val) % 3584 / 128 = (i 0).val % 28; omega)
  | ⟨4, _⟩ => exact Fin.ext (by show ((i 0).val * 128 + (i 2).val) % 128 = (i 2).val; omega)

end Cert.DwQkvRefIdeal.ArrayValue
end
-- ==== Proof.DaIdealRuns.lean ====
/- The kernel of the activation gradient over the extended reals: its windows, its scratch and the cases of its grid points. -/
module

public import proofs.«01_k».proof.Proof.Gen.DaIdeal.Frame
public import proofs.«01_k».proof.Proof.Gen.DaIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.DaIdeal.Hand

open Cert.DaIdeal Cert.DaIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 186 = 0 :=
  (fun t => by
    have ht : t.val < 186 := Nat.lt_of_lt_of_eq t.isLt N_0
    have e0 : (grid0.coords t 0).val = t.val / 1 % 186 := Pipeline.Grid.coords_val t 0 (by decide) rfl
    simp only [cond0_0, e0]
    word_cmp
   : ∀ t : Fin grid0.N, cond0_0 (grid0.coords t) ↔ t.val % 186 = 0)

/-- The condition of the body's `scf.if` 1 (`k0_h2`), from the grid coordinates (the skeleton's scalar
    chain substituted). -/
abbrev cond0_1 (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 37#32 0#32) 1#32 37#32)) 0#32) (Scalar.cmpi .slt (Scalar.select (Scalar.cmpi .eq 37#32 0#32) 1#32 37#32) 0#32)) (Scalar.cmpi .ne (Scalar.remsi (BitVec.ofNat 32 (i 0).val) (Scalar.select (Scalar.cmpi .eq 37#32 0#32) 1#32 37#32)) 0#32)) (Scalar.addi (Scalar.remsi (BitVec.ofNat 32 (i 0).val) (Scalar.select (Scalar.cmpi .eq 37#32 0#32) 1#32 37#32)) (Scalar.select (Scalar.cmpi .eq 37#32 0#32) 1#32 37#32)) (Scalar.remsi (BitVec.ofNat 32 (i 0).val) (Scalar.select (Scalar.cmpi .eq 37#32 0#32) 1#32 37#32))) 0#32)) 0#32) = 1#1
/-- It holds at the points ≡ 0 (mod 37) — decided over the grid. -/
theorem hcond0_1 : ∀ t : Fin cfg0.N, cond0_1 (grid0.coords t) ↔ t.val % 37 = 0 :=
  (by decide +kernel : ∀ t : Fin grid0.N, cond0_1 (grid0.coords t) ↔ t.val % 37 = 0)

/-! ## The kernel body on any staging memrefs: a subtype the run finds -/

/-- Each window's current staging memref at point `t`, spelled as the pipeline passes it (`bodyAt0`), and its wholeness. -/
abbrev ms0_0 (t : Fin cfg0.N) : Memref sig .tc .vmem S1024x3584 .fp8e5m2 := win0_0.stage (cfg0.slots t 0)
/-- Window 0's staging buffer is a whole buffer. -/
abbrev hs0_0 (t : Fin cfg0.N) : (ms0_0 t).IsWhole := hstage0_0 ((cfg0.slots t 0).cast nbuf0_0)
/-- Window 1's staging buffer at point `t`. -/
abbrev ms0_1 (t : Fin cfg0.N) : Memref sig .tc .vmem S1024x128 .f32 := win0_1.stage (cfg0.slots t 1)
/-- Window 1's staging buffer is a whole buffer. -/
abbrev hs0_1 (t : Fin cfg0.N) : (ms0_1 t).IsWhole := hstage0_1 ((cfg0.slots t 1).cast nbuf0_1)
/-- Window 2's staging buffer at point `t`. -/
abbrev ms0_2 (t : Fin cfg0.N) : Memref sig .tc .vmem S512x3584 .fp8e4m3 := win0_2.stage (cfg0.slots t 2)
/-- Window 2's staging buffer is a whole buffer. -/
abbrev hs0_2 (t : Fin cfg0.N) : (ms0_2 t).IsWhole := hstage0_2 ((cfg0.slots t 2).cast nbuf0_2)
/-- Window 3's staging buffer at point `t`. -/
abbrev ms0_3 (t : Fin cfg0.N) : Memref sig .tc .vmem S1x3584 .f32 := win0_3.stage (cfg0.slots t 3)
/-- Window 3's staging buffer is a whole buffer. -/
abbrev hs0_3 (t : Fin cfg0.N) : (ms0_3 t).IsWhole := hstage0_3 ((cfg0.slots t 3).cast nbuf0_3)
/-- Window 4's staging buffer at point `t`. -/
abbrev ms0_4 (t : Fin cfg0.N) : Memref sig .tc .vmem S1024x512 .fp8e4m3 := win0_4.stage (cfg0.slots t 4)
/-- Window 4's staging buffer is a whole buffer. -/
abbrev hs0_4 (t : Fin cfg0.N) : (ms0_4 t).IsWhole := hstage0_4 ((cfg0.slots t 4).cast nbuf0_4)
/-- Window 5's staging buffer at point `t`. -/
abbrev ms0_5 (t : Fin cfg0.N) : Memref sig .tc .vmem S1024x128 .f32 := win0_5.stage (cfg0.slots t 5)
/-- Window 5's staging buffer is a whole buffer. -/
abbrev hs0_5 (t : Fin cfg0.N) : (ms0_5 t).IsWhole := hstage0_5 ((cfg0.slots t 5).cast nbuf0_5)
/-- Window 6's staging buffer at point `t`. -/
abbrev ms0_6 (t : Fin cfg0.N) : Memref sig .tc .vmem S1024x512 .f32 := win0_6.stage (cfg0.slots t 6)
/-- Window 6's staging buffer is a whole buffer. -/
abbrev hs0_6 (t : Fin cfg0.N) : (ms0_6 t).IsWhole := hstage0_6 ((cfg0.slots t 6).cast nbuf0_6)
/-- Window 7's staging buffer at point `t`. -/
abbrev ms0_7 (t : Fin cfg0.N) : Memref sig .tc .vmem S1024x128 .f32 := win0_7.stage (cfg0.slots t 7)
/-- Window 7's staging buffer is a whole buffer. -/
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1024x3584 .bf16 := Memref.whole cc0_scratch0
/-- The scratch the product is kept in. -/
abbrev scM0_1 : Memref sig .tc .vmem S1024x512 .f32 := Memref.whole cc0_scratch1
/-- The scratch `arg9` the kernel carries between points, as a view: what it holds is stated through it. -/
abbrev VS0_0 : View sig .tc .vmem S1024x3584 .bf16 := scM0_0.view

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.DaIdeal.Hand

end
-- ==== Proof.DaIdealRunA.lean ====
/- The body of the kernel of the activation gradient over the extended reals, case A. -/
module

public import proofs.«01_k».proof.Proof.DaIdealRuns
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.DaIdeal.Hand

open Cert.DaIdeal Cert.DaIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The run of the body at the first point: both scratch buffers stored whole before they are read. It stores pieces into window 6 (`.1`) and into the two scratch buffers;
    what window 7 ends with is not named. -/
noncomputable def runA (c : Dev nD) (i : grid0.Coords) (arg1 : Memref sig .tc .vmem S1024x3584 .fp8e5m2) (harg1 : arg1.IsWhole) (arg2 : Memref sig .tc .vmem S1024x128 .f32) (harg2 : arg2.IsWhole) (arg3 : Memref sig .tc .vmem S512x3584 .fp8e4m3) (harg3 : arg3.IsWhole) (arg4 : Memref sig .tc .vmem S1x3584 .f32) (harg4 : arg4.IsWhole) (arg5 : Memref sig .tc .vmem S1024x512 .fp8e4m3) (harg5 : arg5.IsWhole) (arg6 : Memref sig .tc .vmem S1024x128 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x3584 .bf16) (harg9 : arg9.IsWhole) (arg10 : Memref sig .tc .vmem S1024x512 .f32) (harg10 : arg10.IsWhole) (hc0 : cond0_0 i) (hc1 : cond0_1 i)
    (x0 : Vec F S1024x3584 .fp8e5m2) (x1 : Vec F S1024x128 .f32) (x2 : Vec F S512x3584 .fp8e4m3) (x3 : Vec F S1x3584 .f32) (x4 : Vec F S1024x512 .fp8e4m3) (x5 : Vec F S1024x128 .f32) :
    Σ (L6 : List (View.Piece (Elt F) S1024x512 .f32)) (LS1 : List (View.Piece (Elt F) S1024x512 .f32)), { LS0 : List (View.Piece (Elt F) S1024x3584 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ d, owns (c : Thread nD τ) arg8 fullShare d) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0_da i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0_da_eq_skeleton]; unfold cc0_da_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [H7]
    · iexists _, _; isplitr; swap; · iexact H7
      ipureintro; rfl
    isplitl [HS0]; · iexists _; iexact HS0
    iexists _; iexact HS1

end Cert.DaIdeal.Hand

end
-- ==== Proof.DaIdealRunB.lean ====
/- The body of the kernel of the activation gradient over the extended reals, case B. -/
module

public import proofs.«01_k».proof.Proof.DaIdealRuns
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.DaIdeal.Hand

open Cert.DaIdeal Cert.DaIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The run of the body at a point that starts no new block of rows: the scaled rows are there already. It stores pieces into window 6 (`.1`) and into the two scratch buffers;
    what window 7 ends with is not named. -/
noncomputable def runB (c : Dev nD) (i : grid0.Coords) (arg1 : Memref sig .tc .vmem S1024x3584 .fp8e5m2) (harg1 : arg1.IsWhole) (arg2 : Memref sig .tc .vmem S1024x128 .f32) (harg2 : arg2.IsWhole) (arg3 : Memref sig .tc .vmem S512x3584 .fp8e4m3) (harg3 : arg3.IsWhole) (arg4 : Memref sig .tc .vmem S1x3584 .f32) (harg4 : arg4.IsWhole) (arg5 : Memref sig .tc .vmem S1024x512 .fp8e4m3) (harg5 : arg5.IsWhole) (arg6 : Memref sig .tc .vmem S1024x128 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x3584 .bf16) (harg9 : arg9.IsWhole) (arg10 : Memref sig .tc .vmem S1024x512 .f32) (harg10 : arg10.IsWhole) (hc0 : ¬cond0_0 i) (hc1 : ¬cond0_1 i)
    (x0 : Vec F S1024x3584 .fp8e5m2) (x1 : Vec F S1024x128 .f32) (x2 : Vec F S512x3584 .fp8e4m3) (x3 : Vec F S1x3584 .f32) (x4 : Vec F S1024x512 .fp8e4m3) (x5 : Vec F S1024x128 .f32) (xs0 : Vec F S1024x3584 .bf16) (xs1 : Vec F S1024x512 .f32) :
    Σ (L6 : List (View.Piece (Elt F) S1024x512 .f32)), { LS1 : List (View.Piece (Elt F) S1024x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ d, owns (c : Thread nD τ) arg8 fullShare d) ∗ owns (c : Thread nD τ) arg9 fullShare xs0 ∗ (∃ f, arg10.view.loc (c : Thread nD τ) ↦[arg10.view.set]{fullShare} arg10.view.writes (Elt F) f LS1)) -∗ K ⟨⟩))
          ⊢ wp frame (wpE (defs₀ (F := F)) Variants.none c none) E (cc0_da i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc0_da_eq_skeleton]; unfold cc0_da_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    obtain rfl := harg10.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [H7]
    · iexists _, _; isplitr; swap; · iexact H7
      ipureintro; rfl
    isplitl [HS0]
    · iexists _; isplitr; · ipureintro; exact harg9.read_unread _
      iexact HS0
    iexists _; iexact HS1

end Cert.DaIdeal.Hand

end
-- ==== Proof.DaIdealRunC.lean ====
/- The body of the kernel of the activation gradient over the extended reals, case C. -/
module

public import proofs.«01_k».proof.Proof.DaIdealRuns
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.DaIdeal.Hand

open Cert.DaIdeal Cert.DaIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The run of the body at a point after the first that starts a new block of rows: the scaled rows are stored whole. It stores pieces into window 6 (`.1`) and into the two scratch buffers;
    what window 7 ends with is not named. -/
noncomputable def runC (c : Dev nD) (i : grid0.Coords) (arg1 : Memref sig .tc .vmem S1024x3584 .fp8e5m2) (harg1 : arg1.IsWhole) (arg2 : Memref sig .tc .vmem S1024x128 .f32) (harg2 : arg2.IsWhole) (arg3 : Memref sig .tc .vmem S512x3584 .fp8e4m3) (harg3 : arg3.IsWhole) (arg4 : Memref sig .tc .vmem S1x3584 .f32) (harg4 : arg4.IsWhole) (arg5 : Memref sig .tc .vmem S1024x512 .fp8e4m3) (harg5 : arg5.IsWhole) (arg6 : Memref sig .tc .vmem S1024x128 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x3584 .bf16) (harg9 : arg9.IsWhole) (arg10 : Memref sig .tc .vmem S1024x512 .f32) (harg10 : arg10.IsWhole) (hc0 : ¬cond0_0 i) (hc1 : cond0_1 i)
    (x0 : Vec F S1024x3584 .fp8e5m2) (x1 : Vec F S1024x128 .f32) (x2 : Vec F S512x3584 .fp8e4m3) (x3 : Vec F S1x3584 .f32) (x4 : Vec F S1024x512 .fp8e4m3) (x5 : Vec F S1024x128 .f32) (xs1 : Vec F S1024x512 .f32) :
    Σ (L6 : List (View.Piece (Elt F) S1024x512 .f32)) (LS1 : List (View.Piece (Elt F) S1024x512 .f32)), { LS0 : List (View.Piece (Elt F) S1024x3584 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ d, owns (c : Thread nD τ) arg8 fullShare d) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0_da i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0_da_eq_skeleton]; unfold cc0_da_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg10.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [H7]
    · iexists _, _; isplitr; swap; · iexact H7
      ipureintro; rfl
    isplitl [HS0]; · iexists _; iexact HS0
    iexists _; iexact HS1

end Cert.DaIdeal.Hand

end
-- ==== Proof.DaFrame.lean ====
/- The frame of `proofs.«01_k».proof.Da`'s kernel at the machine's floats: with its named constants read as the values of
   their patterns, the program over the extended reals is the same program, so the runs of that one's body, found at any
   float values and any reading of the constants, serve. -/
module

public import proofs.«01_k».proof.Proof.DaIdealRunA
public import proofs.«01_k».proof.Proof.DaIdealRunB
public import proofs.«01_k».proof.Proof.DaIdealRunC
public import proofs.«01_k».proof.Proof.Gen.Da.Skeleton
public import proofs.«01_k».proof.Defs
public import Idealize.ShloMosaic.Lib.Claim

@[expose] public section

set_option maxRecDepth 65536

noncomputable section

namespace Cert.DaIdeal.Plain

open Cert.DaIdeal Cert.DaIdeal.Gen Cert.DaIdeal.Hand Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The windows of which nothing is stated: the two outputs. -/
def forgets0 : Fin 8 → Bool := fun w => w.val == 6 || w.val == 7

/-- The proof data: each input's slot at its block, the outputs' slots at nothing in particular. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The arrays of the proof data are those at region entry. -/
theorem A_eq (c : Dev nD) (w : Fin cfg0.W) : (dats m 0 c).A w = V m c (Pipeline.arrRef spec0 w) := by
  dsimp only [dats]

/-- Window 0 is left as its block. -/
theorem after0_0 (c : Dev nD) (t : Fin cfg0.N) : (dats m 0 c).after 0 t = iblk m c 0 t := by dsimp only [dats]
/-- Window 1 is left as its block. -/
theorem after0_1 (c : Dev nD) (t : Fin cfg0.N) : (dats m 0 c).after 1 t = iblk m c 1 t := by dsimp only [dats]
/-- Window 2 is left as its block. -/
theorem after0_2 (c : Dev nD) (t : Fin cfg0.N) : (dats m 0 c).after 2 t = iblk m c 2 t := by dsimp only [dats]
/-- Window 3 is left as its block. -/
theorem after0_3 (c : Dev nD) (t : Fin cfg0.N) : (dats m 0 c).after 3 t = iblk m c 3 t := by dsimp only [dats]
/-- Window 4 is left as its block. -/
theorem after0_4 (c : Dev nD) (t : Fin cfg0.N) : (dats m 0 c).after 4 t = iblk m c 4 t := by dsimp only [dats]
/-- Window 5 is left as its block. -/
theorem after0_5 (c : Dev nD) (t : Fin cfg0.N) : (dats m 0 c).after 5 t = iblk m c 5 t := by dsimp only [dats]

/-- What the body finds at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- What it leaves there. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d))

set_option maxHeartbeats 9600000 in
/-- The body at any point: the first, the points that start a row tile, and the others. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after0_0 m c),
    before0_1_of m (dats m 0 c) (A_eq m c 1) (after0_1 m c),
    before0_2_of m (dats m 0 c) (A_eq m c 2) (after0_2 m c),
    before0_3_of m (dats m 0 c) (A_eq m c 3) (after0_3 m c),
    before0_4_of m (dats m 0 c) (A_eq m c 4) (after0_4 m c),
    before0_5_of m (dats m 0 c) (A_eq m c 5) (after0_5 m c)]
  rw [show (dats m 0 c).owesAt () t.succ = (dats m 0 c).owesAt () t.castSucc from rfl,
    after0_0, after0_1, after0_2, after0_3, after0_4, after0_5, show (dats m 0 c).Φ t.succ = Pipeline.ΦA spec0 c from rfl,
    show (dats m 0 c).Φ t.castSucc = Pipeline.ΦA spec0 c from rfl, PhiA0_eq]
  have hN : t.val < 186 := lt_of_lt_of_eq t.isLt (show cfg0.N = 186 from N_0)
  by_cases h1 : t.val % 37 = 0
  · by_cases h0 : t.val % 186 = 0
    · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA (F := F) c (grid0.coords t) _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%f6, H6⟩, H7, ⟨%f9, HS0⟩, ⟨%f10, HS1⟩⟩
      isplitl [HS0 HS1 Hg]
      · isplitl [HS0 HS1]
        · isplitl [HS0]
          · unfold owns; iexists _, _; isplitr; swap; · iexact HS0
            ipureintro; rfl
          unfold owns; iexists _, _; isplitr; swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _, _; isplitr; swap; · iexact H6
        ipureintro; rfl
      iexact H7
    · iintro ⟨⟨⟨HS0, ⟨%xs1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC (F := F) c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) xs1).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%f6, H6⟩, H7, ⟨%f9, HS0⟩, ⟨%f10, HS1⟩⟩
      isplitl [HS0 HS1 Hg]
      · isplitl [HS0 HS1]
        · isplitl [HS0]
          · unfold owns; iexists _, _; isplitr; swap; · iexact HS0
            ipureintro; rfl
          unfold owns; iexists _, _; isplitr; swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _, _; isplitr; swap; · iexact H6
        ipureintro; rfl
      iexact H7
  · have h0 : ¬ t.val % 186 = 0 := by omega
    iintro ⟨⟨⟨⟨%xs0, HS0⟩, ⟨%xs1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB (F := F) c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) xs0 xs1).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    iintro ⟨H0, H1, H2, H3, H4, H5, ⟨%f6, H6⟩, H7, HS0, ⟨%f10, HS1⟩⟩
    isplitl [HS0 HS1 Hg]
    · isplitl [HS0 HS1]
      · isplitl [HS0]; · iexists _; iexact HS0
        unfold owns; iexists _, _; isplitr; swap; · iexact HS1
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _, _; isplitr; swap; · iexact H6
      ipureintro; rfl
    iexact H7

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: every execution ends, with the input arrays unchanged and every counter at zero. -/
theorem run_main : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).2 main_arg0 (Pipeline.mem_restRefs_of main_arg0 (by decide) (by decide)) |>.trans (V_main_arg0 m c),
      (h.1 c).2 main_arg1 (Pipeline.mem_restRefs_of main_arg1 (by decide) (by decide)) |>.trans (V_main_arg1 m c),
      (((dats m 0 c).toRForget_arrAt_iff (fgt := forgets0) (w := 2) rfl _ _).mp ((h.1 c).1 2)).trans (((dats m 0 c).arrAt_in 2 rfl _).trans ((A_eq m c 2).trans (V_main_arg2 m c))),
      (h.1 c).2 main_arg3 (Pipeline.mem_restRefs_of main_arg3 (by decide) (by decide)) |>.trans (V_main_arg3 m c),
      (h.1 c).2 main_arg4 (Pipeline.mem_restRefs_of main_arg4 (by decide) (by decide)) |>.trans (V_main_arg4 m c),
      (h.1 c).2 main_arg5 (Pipeline.mem_restRefs_of main_arg5 (by decide) (by decide)) |>.trans (V_main_arg5 m c)⟩, h.2⟩) (run_main m ρ)

/-- Every named constant read as the value of its pattern. -/
abbrev plain {F : FTy → Type} [FloatOps F] : Named F := ⟨fun _ _ {φ} b => Scalar.ofBits φ b⟩

attribute [local instance] plain

set_option maxHeartbeats 4000000 in
/-- The kernel's body table is the one over the extended reals, its constants read as their patterns. -/
theorem tables : (Cert.Da.defs₀ (F := Bits)) = Cert.DaIdeal.defs₀ (F := Bits) := by
  unfold Cert.Da.defs₀ Cert.DaIdeal.defs₀
  refine congrArg Defs.onTc ?_
  funext l x
  match l with
  | ⟨0, _⟩ => rfl
  | ⟨k + 1, h⟩ => exact absurd h (Nat.not_lt.2 (Nat.le_add_left _ _))

set_option maxHeartbeats 4000000 in
/-- The frame claim of the kernel at the machine's floats. -/
theorem quiescent : @Cert.quiescent_Da Cert.Da.Gen.facts := by
  intro m g _
  have h := frame (F := Bits) m g
  rw [show (Cert.DaIdeal.defs (F := Bits)) = Cert.Da.defs (F := Bits) from congrArg (Pipeline.defs Cert.Da.pcfgs) tables.symm] at h
  exact h

end Cert.DaIdeal.Plain

end
-- ==== Proof.DaIdealPay.lean ====
module

public import proofs.«01_k».proof.Proof.DaIdealRuns
public import proofs.«01_k».proof.Proof.Tokens
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-! What the call `da` computes at each row piece, read over the extended reals: the product of the scaled gradient
    with the weight tile, and the gradient times the derivative of gelu. -/

namespace Cert.DaIdeal.Hand

open Cert.DaIdeal Cert.DaIdeal.Gen

/-- The derivative of gelu (the tanh form), in the shape the kernel computes it. -/
def gg (v : EReal) : EReal :=
  Ideal.ofBits FTy.f32 0x3F000000#32 * (1 + Ideal.tanh (v * ((Named.named (F := Ideal) κ "gelu_c" 0x3F4C422A#32 : Ideal .f32) + (Named.named (F := Ideal) κ "gelu_ca" 0x3D122279#32 : Ideal .f32) * (v * v))))
    + (1 - Ideal.tanh (v * ((Named.named (F := Ideal) κ "gelu_c" 0x3F4C422A#32 : Ideal .f32) + (Named.named (F := Ideal) κ "gelu_ca" 0x3D122279#32 : Ideal .f32) * (v * v)))
          * Ideal.tanh (v * ((Named.named (F := Ideal) κ "gelu_c" 0x3F4C422A#32 : Ideal .f32) + (Named.named (F := Ideal) κ "gelu_ca" 0x3D122279#32 : Ideal .f32) * (v * v))))
      * (v * ((Named.named (F := Ideal) κ "gelu_half_c" 0x3ECC422A#32 : Ideal .f32) + (Named.named (F := Ideal) κ "gelu_3_half_ca" 0x3D5B33B6#32 : Ideal .f32) * (v * v)))

/-- The lane of a scale block that column `d` reads: the block of 128 lanes is copied four times. -/
abbrev lane (d : Fin 512) : Fin 128 := ⟨d.val % 128, Nat.mod_lt _ (by decide)⟩

/-- A scale block copied four times along the lanes. -/
def lanes4 (w : Vec Ideal S256x128 .f32) : FVec Ideal S256x512 .f32 :=
  concatenate S256x512 1 [⟨S256x128, w⟩, ⟨S256x128, w⟩, ⟨S256x128, w⟩, ⟨S256x128, w⟩] concatenates_S256x128_S256x128_S256x128_S256x128_S256x512_d1

/-- A scale block copied four times along the lanes, read at row `k` and column `d`. -/
theorem rep4 (w : Vec Ideal S256x128 .f32) (k : Fin 256) (d : Fin 512) : lanes4 w (ix2 k d) = w (ix2 k (lane d)) :=
  concatenate_replicate_apply (t := S256x512) (1 : Fin 2) 4 w concatenates_S256x128_S256x128_S256x128_S256x128_S256x512_d1 rfl (ix2 k d)
    (ix2 k (lane d)) rfl
    (fun b hb => by
      match b, hb with
      | ⟨0, _⟩, _ => rfl
      | ⟨1, _⟩, hb => exact absurd rfl hb)

/-- The gradient at one row piece: the product times its row's scale, times the derivative of gelu at the
    dequantized pre-activation. -/
def D6p (a : Vec Ideal S256x512 .fp8e4m3) (sa : Vec Ideal S256x128 .f32) (dg : Vec Ideal S256x512 .f32) (ds : Vec Ideal S256x128 .f32) : Vec Ideal S256x512 .f32 :=
  fun y => ((dg y : EReal) * ds (ix2 (y 0) (lane (y 1)))) * gg ((a y : EReal) * sa (ix2 (y 0) (lane (y 1))))

/-- The gelu part of a row piece, entry by entry. -/
theorem pay23_apply (x y z : FVec Ideal S256x512 .f32) (k : Fin 256) (d : Fin 512) :
    k0_pay23 (F := Ideal) x y z (ix2 k d) = ((y (ix2 k d) : EReal) * z (ix2 k d)) * gg (x (ix2 k d)) := by
  pointwise [k0_pay23]
  rfl

/-- The gelu part of a row piece, its scales copied along the lanes. -/
theorem pay23_lanes (a : Vec Ideal S256x512 .fp8e4m3) (sa : Vec Ideal S256x128 .f32) (dg : Vec Ideal S256x512 .f32) (ds : Vec Ideal S256x128 .f32) :
    k0_pay23 (F := Ideal) (mulf (extf .f32 a bitsLt_fp8e4m3_f32) (lanes4 sa)) dg (lanes4 ds) = D6p a sa dg ds := by
  funext j
  obtain ⟨k, d, rfl⟩ : ∃ (k : Fin 256) (d : Fin 512), j = ix2 k d := ⟨j 0, j 1, eq_ix2 j⟩
  rw [pay23_apply, rep4]
  refine congrArg (fun v : EReal => ((dg (ix2 k d) : EReal) * ds (ix2 k (lane d))) * gg v) ?_
  show (a (ix2 k d) : EReal) * lanes4 sa (ix2 k d) = _
  rw [rep4]
  rfl

/-- The same with the reshapes the kernel writes around each load, which change nothing. -/
theorem pay23_cast (a : Vec Ideal S256x512 .fp8e4m3) (sa : Vec Ideal S256x128 .f32) (dg : Vec Ideal S256x512 .f32) (ds : Vec Ideal S256x128 .f32) :
    k0_pay23 (F := Ideal) (mulf (extf .f32 (shapeCast S256x512 a shapeCasts_S256x512_S256x512) bitsLt_fp8e4m3_f32) (lanes4 (shapeCast S256x128 sa shapeCasts_S256x128_S256x128))) dg
      (lanes4 (shapeCast S256x128 ds shapeCasts_S256x128_S256x128)) = D6p a sa dg ds := by
  rw [shapeCast_self a, shapeCast_self sa, shapeCast_self ds]
  exact pay23_lanes a sa dg ds

/-- What the first row piece of the output is given. -/
theorem pay7_eq (a : Vec Ideal S256x512 .fp8e4m3) (sa : Vec Ideal S256x128 .f32) (dg : Vec Ideal S256x512 .f32) (ds : Vec Ideal S256x128 .f32) :
    k0_pay7 (F := Ideal) (k0_pay5 a) (k0_pay6 sa) dg ds = D6p a sa dg ds :=
  pay23_cast a sa dg ds

/-- What the second row piece of the output is given. -/
theorem pay18_eq (a : Vec Ideal S256x512 .fp8e4m3) (sa : Vec Ideal S256x128 .f32) (dg : Vec Ideal S256x512 .f32) (ds : Vec Ideal S256x128 .f32) :
    k0_pay18 (F := Ideal) (k0_pay10 a sa) (k0_pay11 dg ds) (k0_pay14 a sa) (k0_pay15 a sa) (k0_pay16 a sa) k0_pay17 = D6p a sa dg ds :=
  pay23_cast a sa dg ds

/-- What the third row piece of the output is given. -/
theorem pay23_eq (a : Vec Ideal S256x512 .fp8e4m3) (sa : Vec Ideal S256x128 .f32) (dg : Vec Ideal S256x512 .f32) (ds : Vec Ideal S256x128 .f32) :
    k0_pay23 (F := Ideal) (k0_pay21 a sa) dg (k0_pay22 ds) = D6p a sa dg ds :=
  pay23_cast a sa dg ds

/-- What the fourth row piece of the output is given. -/
theorem pay27_eq (a : Vec Ideal S256x512 .fp8e4m3) (sa : Vec Ideal S256x128 .f32) (dg : Vec Ideal S256x512 .f32) (ds : Vec Ideal S256x128 .f32) :
    k0_pay27 (F := Ideal) a sa dg ds = D6p a sa dg ds :=
  pay23_cast a sa dg ds

/-- The product at one row piece. -/
def DGp (x : Vec Ideal S256x3584 .bf16) (w : Vec Ideal S512x3584 .fp8e4m3) : Vec Ideal S256x512 .f32 :=
  fun y => ∑ d : Fin 3584, (x (ix2 (y 0) d) : EReal) * w (ix2 (y 1) d)

/-- The product stored at the first row piece. -/
theorem pay9_eq (x : Vec Ideal S256x3584 .bf16) (w : Vec Ideal S512x3584 .fp8e4m3) : k0_pay9 (F := Ideal) x w = DGp x w := by
  funext j
  obtain ⟨k, d, rfl⟩ : ∃ (k : Fin 256) (d : Fin 512), j = ix2 k d := ⟨j 0, j 1, eq_ix2 j⟩
  pointwise [k0_pay9]
  rfl

/-- The product stored at the second row piece. -/
theorem pay20_eq (x : Vec Ideal S256x3584 .bf16) (w : Vec Ideal S512x3584 .fp8e4m3) : k0_pay20 (F := Ideal) x w = DGp x w := pay9_eq x w

/-- The product stored at the third row piece. -/
theorem pay26_eq (x : Vec Ideal S256x3584 .bf16) (w : Vec Ideal S512x3584 .fp8e4m3) : k0_pay26 (F := Ideal) (k0_pay25 x w) = DGp x w := pay9_eq x w

/-- The product stored at the fourth row piece. -/
theorem pay2_eq (x : Vec Ideal S256x3584 .bf16) (w : Vec Ideal S512x3584 .fp8e4m3) : k0_pay2 (F := Ideal) x w = DGp x w := pay9_eq x w

/-- The scaled gradient: the tile of `dy`, each column times the weight's scale of it. -/
def DYB (x0 : Vec Ideal S1024x3584 .fp8e5m2) (x3 : Vec Ideal S1x3584 .f32) : Vec Ideal S1024x3584 .bf16 :=
  fun y => (x0 y : EReal) * x3 (ix2 0 (y 1))

/-- What the scratch is given when a new row tile starts. -/
theorem pay4_eq (x0 : Vec Ideal S1024x3584 .fp8e5m2) (x3 : Vec Ideal S1x3584 .f32) : k0_pay4 (F := Ideal) x0 x3 = DYB x0 x3 := by
  funext j
  obtain ⟨k, d, rfl⟩ : ∃ (k : Fin 1024) (d : Fin 3584), j = ix2 k d := ⟨j 0, j 1, eq_ix2 j⟩
  pointwise [k0_pay4]
  rfl

/-- The product of the scaled gradient with the weight tile. -/
def DG (dyb : Vec Ideal S1024x3584 .bf16) (w : Vec Ideal S512x3584 .fp8e4m3) : Vec Ideal S1024x512 .f32 :=
  fun y => ∑ d : Fin 3584, (dyb (ix2 (y 0) d) : EReal) * w (ix2 (y 1) d)

/-- The gradient of the pre-activation at a tile. -/
def D6 (x1 : Vec Ideal S1024x128 .f32) (x4 : Vec Ideal S1024x512 .fp8e4m3) (x5 : Vec Ideal S1024x128 .f32) (dg : Vec Ideal S1024x512 .f32) : Vec Ideal S1024x512 .f32 :=
  fun y => ((dg y : EReal) * x1 (ix2 (y 0) (lane (y 1)))) * gg ((x4 y : EReal) * x5 (ix2 (y 0) (lane (y 1))))

end Cert.DaIdeal.Hand

end
-- ==== Proof.DaIdealOut.lean ====
module
public import proofs.«01_k».proof.Proof.DaIdealPay
public import proofs.«01_k».proof.Proof.DaIdealRunA
public import proofs.«01_k».proof.Proof.DaIdealRunB
public import proofs.«01_k».proof.Proof.DaIdealRunC
@[expose] public section
/-!
# What the body of the call `da` leaves in its buffers, at the ideal

Each of the three runs of the body stores the output and the product scratch in four row pieces; read back they are
the closed forms `D6` and `DG`, and the scratch of the scaled gradient is `DYB`.
-/

set_option maxRecDepth 16384
noncomputable section
open Idealize.ShloMosaic Idealize.ShloMosaic.TcCoe Idealize.SL.Sem
namespace Cert.DaIdeal.Hand
open Cert.DaIdeal Cert.DaIdeal.Gen

/-- 256 rows of an array, from row `o`. -/
def rows {n : Nat} {α : Type} (o : Nat) (ho : o + 256 ≤ 1024) (x : (⟨2, ![1024, n]⟩ : Shape).Idx → α) : (⟨2, ![256, n]⟩ : Shape).Idx → α :=
  fun y => x (ix2 (⟨o + (y 0).val, by have : (y 0).val < 256 := (y 0).isLt; omega⟩ : Fin 1024) (y 1))

/-- The index a row piece's entry lies at. -/
theorem emb_rows {n : Nat} (o : Nat) (ho : o + 256 ≤ 1024) (inb : ∀ a, (![o, 0] : Fin 2 → Nat) a + (⟨2, ![256, n]⟩ : Shape).size a ≤ (⟨2, ![1024, n]⟩ : Shape).size a)
    (y : (⟨2, ![256, n]⟩ : Shape).Idx) :
    (Rect.unit (s := ⟨2, ![1024, n]⟩) ![o, 0] (⟨2, ![256, n]⟩ : Shape).size inb).emb y
      = ix2 (⟨o + (y 0).val, by have : (y 0).val < 256 := (y 0).isLt; omega⟩ : Fin 1024) (y 1) := by
  funext a
  match a with
  | ⟨0, _⟩ => exact Fin.ext (by show o + 1 * (y 0).val = o + (y 0).val; omega)
  | ⟨1, _⟩ => exact Fin.ext (by show 0 + 1 * (y 1).val = (y 1).val; omega)

/-- A load of 256 rows of a whole buffer. -/
theorem rd_rows {n : Nat} {e : EltTy} (arg : Memref sig .tc .vmem (⟨2, ![1024, n]⟩ : Shape) e) (harg : arg.IsWhole) (x : Vec Ideal (⟨2, ![1024, n]⟩ : Shape) e)
    (o : Nat) (ho : o + 256 ≤ 1024) (inb : ∀ a, (![o, 0] : Fin 2 → Nat) a + (⟨2, ![256, n]⟩ : Shape).size a ≤ (⟨2, ![1024, n]⟩ : Shape).size a) :
    View.readAt (Elt Ideal) arg.view (Rect.unit (s := ⟨2, ![1024, n]⟩) ![o, 0] (⟨2, ![256, n]⟩ : Shape).size inb).toLoadRect (harg.unread x) = rows o ho x := by
  rw [View.readAt_eq_ld, harg.read_unread]
  exact funext fun y => congrArg x (emb_rows o ho inb y)

/-- The index of a whole-array rectangle's entry. -/
theorem emb_whole {a b : Nat} (inb : ∀ i, (![0, 0] : Fin 2 → Nat) i + (⟨2, ![a, b]⟩ : Shape).size i ≤ (⟨2, ![a, b]⟩ : Shape).size i) (y : (⟨2, ![a, b]⟩ : Shape).Idx) :
    (Rect.unit (s := ⟨2, ![a, b]⟩) ![0, 0] (⟨2, ![a, b]⟩ : Shape).size inb).emb y = y := by
  funext i
  match i with
  | ⟨0, _⟩ => exact Fin.ext (by show 0 + 1 * (y 0).val = (y 0).val; omega)
  | ⟨1, _⟩ => exact Fin.ext (by show 0 + 1 * (y 1).val = (y 1).val; omega)

/-- A load of a whole buffer. -/
theorem rd_whole {a b : Nat} {e : EltTy} (arg : Memref sig .tc .vmem (⟨2, ![a, b]⟩ : Shape) e) (harg : arg.IsWhole) (x : Vec Ideal (⟨2, ![a, b]⟩ : Shape) e)
    (inb : ∀ i, (![0, 0] : Fin 2 → Nat) i + (⟨2, ![a, b]⟩ : Shape).size i ≤ (⟨2, ![a, b]⟩ : Shape).size i) :
    View.readAt (Elt Ideal) arg.view (Rect.unit (s := ⟨2, ![a, b]⟩) ![0, 0] (⟨2, ![a, b]⟩ : Shape).size inb).toLoadRect (harg.unread x) = x := by
  rw [View.readAt_eq_ld, harg.read_unread]
  exact funext fun y => congrArg x (emb_whole inb y)

/-- One store over a whole array leaves its payload. -/
theorem canon_whole {a b : Nat} {e : EltTy} (inb : ∀ i, (![0, 0] : Fin 2 → Nat) i + (⟨2, ![a, b]⟩ : Shape).size i ≤ (⟨2, ![a, b]⟩ : Shape).size i) (p : Vec Ideal (⟨2, ![a, b]⟩ : Shape) e) :
    View.canon (Val := Elt Ideal) [⟨Rect.unit (s := ⟨2, ![a, b]⟩) ![0, 0] (⟨2, ![a, b]⟩ : Shape).size inb, p⟩] = p := by
  funext y
  have h := View.canon_cons_emb (Val := Elt Ideal) (Rect.unit (s := ⟨2, ![a, b]⟩) ![0, 0] (⟨2, ![a, b]⟩ : Shape).size inb) p [] y
  rwa [emb_whole inb y] at h

/-- The four row pieces cover the array. -/
theorem cover4 (w0 w1 w2 w3 : Vec Ideal S256x512 .f32) (y : S1024x512.Idx) :
    ∃ p ∈ ([⟨Rect.unit ![768, 0] S256x512.size inb_S1024x512_S256x512_768_0, w3⟩, ⟨Rect.unit ![512, 0] S256x512.size inb_S1024x512_S256x512_512_0, w2⟩, ⟨Rect.unit ![256, 0] S256x512.size inb_S1024x512_S256x512_256_0, w1⟩,
      ⟨Rect.unit ![0, 0] S256x512.size inb_S1024x512_S256x512_0_0, w0⟩] : List (View.Piece (Elt Ideal) S1024x512 .f32)), y ∈ p.1.set :=
  View.cover_of_tiledL ([⟨Rect.unit ![768, 0] S256x512.size inb_S1024x512_S256x512_768_0, w3⟩, ⟨Rect.unit ![512, 0] S256x512.size inb_S1024x512_S256x512_512_0, w2⟩, ⟨Rect.unit ![256, 0] S256x512.size inb_S1024x512_S256x512_256_0, w1⟩,
      ⟨Rect.unit ![0, 0] S256x512.size inb_S1024x512_S256x512_0_0, w0⟩] : List (View.Piece (Elt Ideal) S1024x512 .f32)) S256x512.size (by sl_kernel_rfl) y

/-- A buffer stored in four row pieces, whatever was stored before, reads back as the array the pieces are rows of. -/
theorem reads4 {κ : Kind} {sp : Space} (v : View sig κ sp S1024x512 .f32) (G : Vec Ideal S1024x512 .f32) (w0 w1 w2 w3 : Vec Ideal S256x512 .f32) (L : List (View.Piece (Elt Ideal) S1024x512 .f32)) (f)
    (h3 : w3 = rows 768 (by decide) G) (h2 : w2 = rows 512 (by decide) G) (h1 : w1 = rows 256 (by decide) G) (h0 : w0 = rows 0 (by decide) G) :
    v.read (Elt Ideal) (v.writes (Elt Ideal) f (⟨Rect.unit ![768, 0] S256x512.size inb_S1024x512_S256x512_768_0, w3⟩ :: ⟨Rect.unit ![512, 0] S256x512.size inb_S1024x512_S256x512_512_0, w2⟩
      :: ⟨Rect.unit ![256, 0] S256x512.size inb_S1024x512_S256x512_256_0, w1⟩ :: ⟨Rect.unit ![0, 0] S256x512.size inb_S1024x512_S256x512_0_0, w0⟩ :: L)) = G := by
  refine (View.read_writes_eq_canon v (v.writes (Elt Ideal) f L) _ (cover4 w0 w1 w2 w3)).trans ?_
  refine funext fun y => View.canon_apply_of_pieces G _ ?_ y (cover4 w0 w1 w2 w3 y)
  simp only [List.forall_mem_cons, List.not_mem_nil, false_imp_iff, implies_true, and_true]
  subst h3 h2 h1 h0
  exact ⟨fun x => congrArg G (emb_rows 768 (by decide) inb_S1024x512_S256x512_768_0 x).symm, fun x => congrArg G (emb_rows 512 (by decide) inb_S1024x512_S256x512_512_0 x).symm,
    fun x => congrArg G (emb_rows 256 (by decide) inb_S1024x512_S256x512_256_0 x).symm, fun x => congrArg G (emb_rows 0 (by decide) inb_S1024x512_S256x512_0_0 x).symm⟩

/-- The rows of the gradient are the gradient of the rows. -/
theorem D6p_rows (o : Nat) (ho : o + 256 ≤ 1024) (x1 : Vec Ideal S1024x128 .f32) (x4 : Vec Ideal S1024x512 .fp8e4m3) (x5 : Vec Ideal S1024x128 .f32) (dg : Vec Ideal S1024x512 .f32)
    {a : Vec Ideal S256x512 .fp8e4m3} {sa : Vec Ideal S256x128 .f32} {g : Vec Ideal S256x512 .f32} {ds : Vec Ideal S256x128 .f32}
    (ha : a = rows o ho x4) (hs : sa = rows o ho x5) (hg : g = rows o ho dg) (hd : ds = rows o ho x1) :
    D6p a sa g ds = rows o ho (D6 x1 x4 x5 dg) := by
  subst ha hs hg hd
  rfl

/-- The rows of the product are the product of the rows. -/
theorem DGp_rows (o : Nat) (ho : o + 256 ≤ 1024) (dyb : Vec Ideal S1024x3584 .bf16) (x2 : Vec Ideal S512x3584 .fp8e4m3)
    {x : Vec Ideal S256x3584 .bf16} {w : Vec Ideal S512x3584 .fp8e4m3} (hx : x = rows o ho dyb) (hw : w = x2) : DGp x w = rows o ho (DG dyb x2) := by
  subst hx hw
  rfl

section
variable (c : Dev nD) (i : grid0.Coords) (arg1 : Memref sig .tc .vmem S1024x3584 .fp8e5m2) (harg1 : arg1.IsWhole) (arg2 : Memref sig .tc .vmem S1024x128 .f32) (harg2 : arg2.IsWhole) (arg3 : Memref sig .tc .vmem S512x3584 .fp8e4m3) (harg3 : arg3.IsWhole) (arg4 : Memref sig .tc .vmem S1x3584 .f32) (harg4 : arg4.IsWhole) (arg5 : Memref sig .tc .vmem S1024x512 .fp8e4m3) (harg5 : arg5.IsWhole) (arg6 : Memref sig .tc .vmem S1024x128 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x3584 .bf16) (harg9 : arg9.IsWhole) (arg10 : Memref sig .tc .vmem S1024x512 .f32) (harg10 : arg10.IsWhole)

/-- The scratch of the scaled gradient after the first run. -/
theorem runA_HS0 (hc0 : cond0_0 i) (hc1 : cond0_1 i) (x0 : Vec Ideal S1024x3584 .fp8e5m2) (x1 : Vec Ideal S1024x128 .f32) (x2 : Vec Ideal S512x3584 .fp8e4m3) (x3 : Vec Ideal S1x3584 .f32) (x4 : Vec Ideal S1024x512 .fp8e4m3) (x5 : Vec Ideal S1024x128 .f32)  :
    (runA (F := Ideal) c i arg1 harg1 arg2 harg2 arg3 harg3 arg4 harg4 arg5 harg5 arg6 harg6 arg7 harg7 arg8 harg8 arg9 harg9 arg10 harg10 hc0 hc1 x0 x1 x2 x3 x4 x5 ).2.2.1 = [⟨Rect.unit ![0, 0] S1024x3584.size inb_S1024x3584_S1024x3584_0_0, DYB x0 x3⟩] := by
  unfold runA runA.sl.HS0_1
  dsimp only
  rw [rd_whole arg1 harg1 x0, rd_whole arg4 harg4 x3, pay4_eq]

/-- The scratch of the scaled gradient after the first run, read back. -/
theorem runA_dyb (hc0 : cond0_0 i) (hc1 : cond0_1 i) (x0 : Vec Ideal S1024x3584 .fp8e5m2) (x1 : Vec Ideal S1024x128 .f32) (x2 : Vec Ideal S512x3584 .fp8e4m3) (x3 : Vec Ideal S1x3584 .f32) (x4 : Vec Ideal S1024x512 .fp8e4m3) (x5 : Vec Ideal S1024x128 .f32)  (f) :
    arg9.view.read (Elt Ideal) (arg9.view.writes (Elt Ideal) f (runA (F := Ideal) c i arg1 harg1 arg2 harg2 arg3 harg3 arg4 harg4 arg5 harg5 arg6 harg6 arg7 harg7 arg8 harg8 arg9 harg9 arg10 harg10 hc0 hc1 x0 x1 x2 x3 x4 x5 ).2.2.1) = DYB x0 x3 := by
  rw [runA_HS0, View.read_writes_eq_canon _ _ _ (View.cover_of_tiledL _ S1024x3584.size (by sl_kernel_rfl))]
  exact canon_whole _ _

/-- Rows of the scaled gradient, loaded in the first run. -/
theorem runA_rd9 (c : Dev nD) (arg1 : Memref sig .tc .vmem S1024x3584 .fp8e5m2) (harg1 : arg1.IsWhole) (arg4 : Memref sig .tc .vmem S1x3584 .f32) (harg4 : arg4.IsWhole) (arg9 : Memref sig .tc .vmem S1024x3584 .bf16)
    (x0 : Vec Ideal S1024x3584 .fp8e5m2) (x3 : Vec Ideal S1x3584 .f32) (o : Nat) (ho : o + 256 ≤ 1024) (inb : ∀ a, (![o, 0] : Fin 2 → Nat) a + S256x3584.size a ≤ S1024x3584.size a) :
    arg9.view.readCov (runA.sl.HS0_1 (F := Ideal) c arg1 harg1 arg4 harg4 x0 x3) (Rect.unit (s := S1024x3584) ![o, 0] S256x3584.size inb).toLoadRect = rows o ho (DYB x0 x3) := by
  rw [View.readCov_eq_canon']
  unfold runA.sl.HS0_1
  rw [canon_whole, rd_whole arg1 harg1 x0, rd_whole arg4 harg4 x3, pay4_eq]
  exact funext fun y => congrArg (DYB x0 x3) (emb_rows o ho inb y)

/-- The product scratch after the first run, read back. -/
theorem runA_dg (hc0 : cond0_0 i) (hc1 : cond0_1 i) (x0 : Vec Ideal S1024x3584 .fp8e5m2) (x1 : Vec Ideal S1024x128 .f32) (x2 : Vec Ideal S512x3584 .fp8e4m3) (x3 : Vec Ideal S1x3584 .f32) (x4 : Vec Ideal S1024x512 .fp8e4m3) (x5 : Vec Ideal S1024x128 .f32)  (f) :
    arg10.view.read (Elt Ideal) (arg10.view.writes (Elt Ideal) f (runA (F := Ideal) c i arg1 harg1 arg2 harg2 arg3 harg3 arg4 harg4 arg5 harg5 arg6 harg6 arg7 harg7 arg8 harg8 arg9 harg9 arg10 harg10 hc0 hc1 x0 x1 x2 x3 x4 x5 ).2.1) = DG (DYB x0 x3) x2 :=
  reads4 arg10.view (DG (DYB x0 x3) x2) _ _ _ _ _ f
    ((pay2_eq _ _).trans (DGp_rows 768 (by decide) (DYB x0 x3) x2 (runA_rd9 c arg1 harg1 arg4 harg4 arg9 x0 x3 768 (by decide) _) (rd_whole arg3 harg3 x2 _)))
    ((pay26_eq _ _).trans (DGp_rows 512 (by decide) (DYB x0 x3) x2 (runA_rd9 c arg1 harg1 arg4 harg4 arg9 x0 x3 512 (by decide) _) (rd_whole arg3 harg3 x2 _)))
    ((pay20_eq _ _).trans (DGp_rows 256 (by decide) (DYB x0 x3) x2 (runA_rd9 c arg1 harg1 arg4 harg4 arg9 x0 x3 256 (by decide) _) (rd_whole arg3 harg3 x2 _)))
    ((pay9_eq _ _).trans (DGp_rows 0 (by decide) (DYB x0 x3) x2 (runA_rd9 c arg1 harg1 arg4 harg4 arg9 x0 x3 0 (by decide) _) (rd_whole arg3 harg3 x2 _)))

/-- The output window's slot after the first run, read back: what it held before does not matter. -/
theorem runA_out (hc0 : cond0_0 i) (hc1 : cond0_1 i) (x0 : Vec Ideal S1024x3584 .fp8e5m2) (x1 : Vec Ideal S1024x128 .f32) (x2 : Vec Ideal S512x3584 .fp8e4m3) (x3 : Vec Ideal S1x3584 .f32) (x4 : Vec Ideal S1024x512 .fp8e4m3) (x5 : Vec Ideal S1024x128 .f32)  (f) :
    arg7.view.read (Elt Ideal) (arg7.view.writes (Elt Ideal) f (runA (F := Ideal) c i arg1 harg1 arg2 harg2 arg3 harg3 arg4 harg4 arg5 harg5 arg6 harg6 arg7 harg7 arg8 harg8 arg9 harg9 arg10 harg10 hc0 hc1 x0 x1 x2 x3 x4 x5 ).1) = View.canon (runA (F := Ideal) c i arg1 harg1 arg2 harg2 arg3 harg3 arg4 harg4 arg5 harg5 arg6 harg6 arg7 harg7 arg8 harg8 arg9 harg9 arg10 harg10 hc0 hc1 x0 x1 x2 x3 x4 x5 ).1 :=
  View.read_writes_eq_canon _ _ _ (View.cover_of_tiledL _ S256x512.size (by sl_kernel_rfl))

/-- The product scratch after the usual run, read back. -/
theorem runB_dg (hc0 : ¬ cond0_0 i) (hc1 : ¬ cond0_1 i) (x0 : Vec Ideal S1024x3584 .fp8e5m2) (x1 : Vec Ideal S1024x128 .f32) (x2 : Vec Ideal S512x3584 .fp8e4m3) (x3 : Vec Ideal S1x3584 .f32) (x4 : Vec Ideal S1024x512 .fp8e4m3) (x5 : Vec Ideal S1024x128 .f32) (xs0 : Vec Ideal S1024x3584 .bf16) (xs1 : Vec Ideal S1024x512 .f32) (f) :
    arg10.view.read (Elt Ideal) (arg10.view.writes (Elt Ideal) f (runB (F := Ideal) c i arg1 harg1 arg2 harg2 arg3 harg3 arg4 harg4 arg5 harg5 arg6 harg6 arg7 harg7 arg8 harg8 arg9 harg9 arg10 harg10 hc0 hc1 x0 x1 x2 x3 x4 x5 xs0 xs1).2.1) = DG xs0 x2 :=
  reads4 arg10.view (DG xs0 x2) _ _ _ _ _ f
    ((pay2_eq _ _).trans (DGp_rows 768 (by decide) xs0 x2 (rd_rows arg9 harg9 xs0 768 (by decide) _) (rd_whole arg3 harg3 x2 _)))
    ((pay26_eq _ _).trans (DGp_rows 512 (by decide) xs0 x2 (rd_rows arg9 harg9 xs0 512 (by decide) _) (rd_whole arg3 harg3 x2 _)))
    ((pay20_eq _ _).trans (DGp_rows 256 (by decide) xs0 x2 (rd_rows arg9 harg9 xs0 256 (by decide) _) (rd_whole arg3 harg3 x2 _)))
    ((pay9_eq _ _).trans (DGp_rows 0 (by decide) xs0 x2 (rd_rows arg9 harg9 xs0 0 (by decide) _) (rd_whole arg3 harg3 x2 _)))

/-- The output window's slot after the usual run, read back. -/
theorem runB_out (hc0 : ¬ cond0_0 i) (hc1 : ¬ cond0_1 i) (x0 : Vec Ideal S1024x3584 .fp8e5m2) (x1 : Vec Ideal S1024x128 .f32) (x2 : Vec Ideal S512x3584 .fp8e4m3) (x3 : Vec Ideal S1x3584 .f32) (x4 : Vec Ideal S1024x512 .fp8e4m3) (x5 : Vec Ideal S1024x128 .f32) (xs0 : Vec Ideal S1024x3584 .bf16) (xs1 : Vec Ideal S1024x512 .f32) (f) :
    arg7.view.read (Elt Ideal) (arg7.view.writes (Elt Ideal) f (runB (F := Ideal) c i arg1 harg1 arg2 harg2 arg3 harg3 arg4 harg4 arg5 harg5 arg6 harg6 arg7 harg7 arg8 harg8 arg9 harg9 arg10 harg10 hc0 hc1 x0 x1 x2 x3 x4 x5 xs0 xs1).1) = D6 x1 x4 x5 xs1 :=
  reads4 arg7.view (D6 x1 x4 x5 xs1) _ _ _ _ [] f
    ((pay27_eq _ _ _ _).trans (D6p_rows 768 (by decide) x1 x4 x5 xs1 (rd_rows arg5 harg5 x4 768 (by decide) _) (rd_rows arg6 harg6 x5 768 (by decide) _) (rd_rows arg10 harg10 xs1 768 (by decide) _) (rd_rows arg2 harg2 x1 768 (by decide) _)))
    ((pay23_eq _ _ _ _).trans (D6p_rows 512 (by decide) x1 x4 x5 xs1 (rd_rows arg5 harg5 x4 512 (by decide) _) (rd_rows arg6 harg6 x5 512 (by decide) _) (rd_rows arg10 harg10 xs1 512 (by decide) _) (rd_rows arg2 harg2 x1 512 (by decide) _)))
    ((pay18_eq _ _ _ _).trans (D6p_rows 256 (by decide) x1 x4 x5 xs1 (rd_rows arg5 harg5 x4 256 (by decide) _) (rd_rows arg6 harg6 x5 256 (by decide) _) (rd_rows arg10 harg10 xs1 256 (by decide) _) (rd_rows arg2 harg2 x1 256 (by decide) _)))
    ((pay7_eq _ _ _ _).trans (D6p_rows 0 (by decide) x1 x4 x5 xs1 (rd_rows arg5 harg5 x4 0 (by decide) _) (rd_rows arg6 harg6 x5 0 (by decide) _) (rd_rows arg10 harg10 xs1 0 (by decide) _) (rd_rows arg2 harg2 x1 0 (by decide) _)))

/-- The scratch of the scaled gradient after the row-changing run. -/
theorem runC_HS0 (hc0 : ¬ cond0_0 i) (hc1 : cond0_1 i) (x0 : Vec Ideal S1024x3584 .fp8e5m2) (x1 : Vec Ideal S1024x128 .f32) (x2 : Vec Ideal S512x3584 .fp8e4m3) (x3 : Vec Ideal S1x3584 .f32) (x4 : Vec Ideal S1024x512 .fp8e4m3) (x5 : Vec Ideal S1024x128 .f32) (xs1 : Vec Ideal S1024x512 .f32) :
    (runC (F := Ideal) c i arg1 harg1 arg2 harg2 arg3 harg3 arg4 harg4 arg5 harg5 arg6 harg6 arg7 harg7 arg8 harg8 arg9 harg9 arg10 harg10 hc0 hc1 x0 x1 x2 x3 x4 x5 xs1).2.2.1 = [⟨Rect.unit ![0, 0] S1024x3584.size inb_S1024x3584_S1024x3584_0_0, DYB x0 x3⟩] := by
  unfold runC runC.sl.HS0_1
  dsimp only
  rw [rd_whole arg1 harg1 x0, rd_whole arg4 harg4 x3, pay4_eq]

/-- The scratch of the scaled gradient after the row-changing run, read back. -/
theorem runC_dyb (hc0 : ¬ cond0_0 i) (hc1 : cond0_1 i) (x0 : Vec Ideal S1024x3584 .fp8e5m2) (x1 : Vec Ideal S1024x128 .f32) (x2 : Vec Ideal S512x3584 .fp8e4m3) (x3 : Vec Ideal S1x3584 .f32) (x4 : Vec Ideal S1024x512 .fp8e4m3) (x5 : Vec Ideal S1024x128 .f32) (xs1 : Vec Ideal S1024x512 .f32) (f) :
    arg9.view.read (Elt Ideal) (arg9.view.writes (Elt Ideal) f (runC (F := Ideal) c i arg1 harg1 arg2 harg2 arg3 harg3 arg4 harg4 arg5 harg5 arg6 harg6 arg7 harg7 arg8 harg8 arg9 harg9 arg10 harg10 hc0 hc1 x0 x1 x2 x3 x4 x5 xs1).2.2.1) = DYB x0 x3 := by
  rw [runC_HS0, View.read_writes_eq_canon _ _ _ (View.cover_of_tiledL _ S1024x3584.size (by sl_kernel_rfl))]
  exact canon_whole _ _

/-- Rows of the scaled gradient, loaded in the row-changing run. -/
theorem runC_rd9 (c : Dev nD) (arg1 : Memref sig .tc .vmem S1024x3584 .fp8e5m2) (harg1 : arg1.IsWhole) (arg4 : Memref sig .tc .vmem S1x3584 .f32) (harg4 : arg4.IsWhole) (arg9 : Memref sig .tc .vmem S1024x3584 .bf16)
    (x0 : Vec Ideal S1024x3584 .fp8e5m2) (x3 : Vec Ideal S1x3584 .f32) (o : Nat) (ho : o + 256 ≤ 1024) (inb : ∀ a, (![o, 0] : Fin 2 → Nat) a + S256x3584.size a ≤ S1024x3584.size a) :
    arg9.view.readCov (runC.sl.HS0_1 (F := Ideal) c arg1 harg1 arg4 harg4 x0 x3) (Rect.unit (s := S1024x3584) ![o, 0] S256x3584.size inb).toLoadRect = rows o ho (DYB x0 x3) := by
  rw [View.readCov_eq_canon']
  unfold runC.sl.HS0_1
  rw [canon_whole, rd_whole arg1 harg1 x0, rd_whole arg4 harg4 x3, pay4_eq]
  exact funext fun y => congrArg (DYB x0 x3) (emb_rows o ho inb y)

/-- The product scratch after the row-changing run, read back. -/
theorem runC_dg (hc0 : ¬ cond0_0 i) (hc1 : cond0_1 i) (x0 : Vec Ideal S1024x3584 .fp8e5m2) (x1 : Vec Ideal S1024x128 .f32) (x2 : Vec Ideal S512x3584 .fp8e4m3) (x3 : Vec Ideal S1x3584 .f32) (x4 : Vec Ideal S1024x512 .fp8e4m3) (x5 : Vec Ideal S1024x128 .f32) (xs1 : Vec Ideal S1024x512 .f32) (f) :
    arg10.view.read (Elt Ideal) (arg10.view.writes (Elt Ideal) f (runC (F := Ideal) c i arg1 harg1 arg2 harg2 arg3 harg3 arg4 harg4 arg5 harg5 arg6 harg6 arg7 harg7 arg8 harg8 arg9 harg9 arg10 harg10 hc0 hc1 x0 x1 x2 x3 x4 x5 xs1).2.1) = DG (DYB x0 x3) x2 :=
  reads4 arg10.view (DG (DYB x0 x3) x2) _ _ _ _ _ f
    ((pay2_eq _ _).trans (DGp_rows 768 (by decide) (DYB x0 x3) x2 (runC_rd9 c arg1 harg1 arg4 harg4 arg9 x0 x3 768 (by decide) _) (rd_whole arg3 harg3 x2 _)))
    ((pay26_eq _ _).trans (DGp_rows 512 (by decide) (DYB x0 x3) x2 (runC_rd9 c arg1 harg1 arg4 harg4 arg9 x0 x3 512 (by decide) _) (rd_whole arg3 harg3 x2 _)))
    ((pay20_eq _ _).trans (DGp_rows 256 (by decide) (DYB x0 x3) x2 (runC_rd9 c arg1 harg1 arg4 harg4 arg9 x0 x3 256 (by decide) _) (rd_whole arg3 harg3 x2 _)))
    ((pay9_eq _ _).trans (DGp_rows 0 (by decide) (DYB x0 x3) x2 (runC_rd9 c arg1 harg1 arg4 harg4 arg9 x0 x3 0 (by decide) _) (rd_whole arg3 harg3 x2 _)))

/-- The output window's slot after the row-changing run, read back. -/
theorem runC_out (hc0 : ¬ cond0_0 i) (hc1 : cond0_1 i) (x0 : Vec Ideal S1024x3584 .fp8e5m2) (x1 : Vec Ideal S1024x128 .f32) (x2 : Vec Ideal S512x3584 .fp8e4m3) (x3 : Vec Ideal S1x3584 .f32) (x4 : Vec Ideal S1024x512 .fp8e4m3) (x5 : Vec Ideal S1024x128 .f32) (xs1 : Vec Ideal S1024x512 .f32) (f) :
    arg7.view.read (Elt Ideal) (arg7.view.writes (Elt Ideal) f (runC (F := Ideal) c i arg1 harg1 arg2 harg2 arg3 harg3 arg4 harg4 arg5 harg5 arg6 harg6 arg7 harg7 arg8 harg8 arg9 harg9 arg10 harg10 hc0 hc1 x0 x1 x2 x3 x4 x5 xs1).1) = D6 x1 x4 x5 xs1 :=
  reads4 arg7.view (D6 x1 x4 x5 xs1) _ _ _ _ [] f
    ((pay27_eq _ _ _ _).trans (D6p_rows 768 (by decide) x1 x4 x5 xs1 (rd_rows arg5 harg5 x4 768 (by decide) _) (rd_rows arg6 harg6 x5 768 (by decide) _) (rd_rows arg10 harg10 xs1 768 (by decide) _) (rd_rows arg2 harg2 x1 768 (by decide) _)))
    ((pay23_eq _ _ _ _).trans (D6p_rows 512 (by decide) x1 x4 x5 xs1 (rd_rows arg5 harg5 x4 512 (by decide) _) (rd_rows arg6 harg6 x5 512 (by decide) _) (rd_rows arg10 harg10 xs1 512 (by decide) _) (rd_rows arg2 harg2 x1 512 (by decide) _)))
    ((pay18_eq _ _ _ _).trans (D6p_rows 256 (by decide) x1 x4 x5 xs1 (rd_rows arg5 harg5 x4 256 (by decide) _) (rd_rows arg6 harg6 x5 256 (by decide) _) (rd_rows arg10 harg10 xs1 256 (by decide) _) (rd_rows arg2 harg2 x1 256 (by decide) _)))
    ((pay7_eq _ _ _ _).trans (D6p_rows 0 (by decide) x1 x4 x5 xs1 (rd_rows arg5 harg5 x4 0 (by decide) _) (rd_rows arg6 harg6 x5 0 (by decide) _) (rd_rows arg10 harg10 xs1 0 (by decide) _) (rd_rows arg2 harg2 x1 0 (by decide) _)))
end

end Cert.DaIdeal.Hand

end
-- ==== Proof.DaIdealRun.lean ====
module

public import proofs.«01_k».proof.Proof.DaIdealOut
public import Idealize.ShloMosaic.Lib.Claim

@[expose] public section

/-!
# The run of the call `da`, its output named

The two scratches are carried between the grid points: the scaled gradient of the row tile and the product of the
point before. The proof data name both after each point, and name the output window's slot; the window of the row
maxima is not named.
-/

set_option maxRecDepth 16384

noncomputable section

namespace Cert.DaIdeal.Hand

open Cert.DaIdeal Cert.DaIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The point a point's row tile started at. -/
abbrev rs (t : Fin cfg0.N) : Fin cfg0.N := ⟨t.val / 37 * 37, lt_of_le_of_lt (Nat.div_mul_le_self _ _) t.isLt⟩

/-- The point before a point. -/
abbrev pv (t : Fin cfg0.N) : Fin cfg0.N := ⟨t.val - 1, lt_of_le_of_lt (Nat.sub_le _ _) t.isLt⟩

/-- The scaled gradient of the row tile, as the scratch holds it after point `t`. -/
def dyb (c : Dev nD) (t : Fin cfg0.N) : Vec Ideal S1024x3584 .bf16 := DYB (iblk m c 0 (rs t)) (iblk m c 3 (rs t))

/-- The product, as the scratch holds it after point `t`. -/
def dgs (c : Dev nD) (t : Fin cfg0.N) : Vec Ideal S1024x512 .f32 := DG (dyb m c t) (iblk m c 2 t)

/-- The output window's slot after point `t`; at the first point it is filled from a zeroed product and never
    written back. -/
def out6 (c : Dev nD) (t : Fin cfg0.N) : Vec Ideal S1024x512 .f32 :=
  if h : t.val = 0 then
    View.canon (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr (by rw [h])) ((hcond0_1 t).mpr (by rw [h])) (iblk m c 0 t) (iblk m c 1 t) (iblk m c 2 t) (iblk m c 3 t) (iblk m c 4 t) (iblk m c 5 t)).1
  else D6 (iblk m c 1 t) (iblk m c 4 t) (iblk m c 5 t) (dgs m c (pv t))

/-- The invariant before point `n`: at first what the launch lends, afterwards the two scratches named. -/
def PhiS (c : Dev nD) : (n : ℕ) → n ≤ cfg0.N → sProp 𝕄
  | 0, _ => Pipeline.ΦA spec0 c
  | n + 1, hn => iprop(iprop(owns (c : Thread nD τ) scM0_0 fullShare (dyb m c ⟨n, hn⟩) ∗ owns (c : Thread nD τ) scM0_1 fullShare (dgs m c ⟨n, hn⟩)) ∗ (∃ r, prngReg c r))

/-- The invariant before the first point. -/
theorem PhiS_zero (c : Dev nD) (n : ℕ) (h : n ≤ cfg0.N) (hz : n = 0) : PhiS m c n h = Pipeline.ΦA spec0 c := by
  subst hz; rfl

/-- The invariant before a later point. -/
theorem PhiS_pos (c : Dev nD) (n : ℕ) (h : n ≤ cfg0.N) (hz : n ≠ 0) :
    PhiS m c n h = iprop(iprop(owns (c : Thread nD τ) scM0_0 fullShare (dyb m c ⟨n - 1, by omega⟩) ∗ owns (c : Thread nD τ) scM0_1 fullShare (dgs m c ⟨n - 1, by omega⟩)) ∗ (∃ r, prngReg c r)) := by
  cases n with
  | zero => exact absurd rfl hz
  | succ n => rfl

/-- The window of the row maxima, whose contents are not named. -/
def forgets0 : Fin 8 → Bool := fun w => w.val == 7

/-- The proof data: each input's slot at its block, the output's slot at the gradient. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
    | ⟨7, h⟩ => Pipeline.Dat.unnamed (cfg := cfg0) ⟨7, h⟩ t
  Φ t := PhiS m c t.val (Nat.le_of_lt_succ t.isLt)
  q _ := fullShare
  owed _ := 0

/-- The arrays of the proof data are those at region entry. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- Window 0's slot after the body. -/
theorem after0_0 (c : Dev nD) (t : Fin cfg0.N) : (dats m 0 c).after 0 t = iblk m c 0 t := by dsimp only [dats]
/-- Window 1's slot after the body. -/
theorem after0_1 (c : Dev nD) (t : Fin cfg0.N) : (dats m 0 c).after 1 t = iblk m c 1 t := by dsimp only [dats]
/-- Window 2's slot after the body. -/
theorem after0_2 (c : Dev nD) (t : Fin cfg0.N) : (dats m 0 c).after 2 t = iblk m c 2 t := by dsimp only [dats]
/-- Window 3's slot after the body. -/
theorem after0_3 (c : Dev nD) (t : Fin cfg0.N) : (dats m 0 c).after 3 t = iblk m c 3 t := by dsimp only [dats]
/-- Window 4's slot after the body. -/
theorem after0_4 (c : Dev nD) (t : Fin cfg0.N) : (dats m 0 c).after 4 t = iblk m c 4 t := by dsimp only [dats]
/-- Window 5's slot after the body. -/
theorem after0_5 (c : Dev nD) (t : Fin cfg0.N) : (dats m 0 c).after 5 t = iblk m c 5 t := by dsimp only [dats]
/-- The output window's slot after the body. -/
theorem after0_6 (c : Dev nD) (t : Fin cfg0.N) : (dats m 0 c).after 6 t = out6 m c t := by dsimp only [dats]

/-- Window 0's slot before the body. -/
theorem before0_0 (c : Dev nD) (t : Fin cfg0.N) (d) : (dats m 0 c).before 0 t d = iblk m c 0 t :=
  before0_0_of m (dats m 0 c) (A_eq m c 0) (after0_0 m c) t d
/-- Window 1's slot before the body. -/
theorem before0_1 (c : Dev nD) (t : Fin cfg0.N) (d) : (dats m 0 c).before 1 t d = iblk m c 1 t :=
  before0_1_of m (dats m 0 c) (A_eq m c 1) (after0_1 m c) t d
/-- Window 2's slot before the body. -/
theorem before0_2 (c : Dev nD) (t : Fin cfg0.N) (d) : (dats m 0 c).before 2 t d = iblk m c 2 t :=
  before0_2_of m (dats m 0 c) (A_eq m c 2) (after0_2 m c) t d
/-- Window 3's slot before the body. -/
theorem before0_3 (c : Dev nD) (t : Fin cfg0.N) (d) : (dats m 0 c).before 3 t d = iblk m c 3 t :=
  before0_3_of m (dats m 0 c) (A_eq m c 3) (after0_3 m c) t d
/-- Window 4's slot before the body. -/
theorem before0_4 (c : Dev nD) (t : Fin cfg0.N) (d) : (dats m 0 c).before 4 t d = iblk m c 4 t :=
  before0_4_of m (dats m 0 c) (A_eq m c 4) (after0_4 m c) t d
/-- Window 5's slot before the body. -/
theorem before0_5 (c : Dev nD) (t : Fin cfg0.N) (d) : (dats m 0 c).before 5 t d = iblk m c 5 t :=
  before0_5_of m (dats m 0 c) (A_eq m c 5) (after0_5 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d))

set_option maxHeartbeats 9600000 in
/-- The body at any point: the first, the points that start a row tile, and the others. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = iprop(iprop(owns (c : Thread nD τ) scM0_0 fullShare (dyb m c t) ∗ owns (c : Thread nD τ) scM0_1 fullShare (dgs m c t)) ∗ (∃ r, prngReg c r)) from rfl]
  have hN : t.val < 186 := lt_of_lt_of_eq t.isLt (show cfg0.N = 186 from N_0)
  by_cases h0 : t.val % 186 = 0
  · by_cases h1 : t.val % 37 = 0
    · by_cases hz : t.val = 0
      · have hr : rs t = t := Fin.ext (by show t.val / 37 * 37 = t.val; omega)
        have hd : dyb m c t = DYB (iblk m c 0 t) (iblk m c 3 t) := by unfold dyb; rw [hr]
        have hg : dgs m c t = DG (DYB (iblk m c 0 t) (iblk m c 3 t)) (iblk m c 2 t) := by unfold dgs; rw [hd]
        rw [PhiS_castSucc m c t, PhiS_zero m c _ _ hz, PhiA0_eq, hg, hd, show out6 m c t = _ from dif_pos hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) ((hcond0_1 t).mpr h1) (iblk m c 0 t) (iblk m c 1 t) (iblk m c 2 t) (iblk m c 3 t) (iblk m c 4 t) (iblk m c 5 t)).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        iintro ⟨H0, H1, H2, H3, H4, H5, ⟨%f6, H6⟩, H7, ⟨%f9, HS0⟩, ⟨%f10, HS1⟩⟩
        isplitl [HS0 HS1 Hg]
        · isplitl [HS0 HS1]
          · isplitl [HS0]
            · unfold owns; iexists _; isplitr
              swap; · iexact HS0
              ipureintro; exact runA_dyb c _ _ _ _ _ _ _ _ _ _ _ _ _ _ _ _ _ _ _ _ _ _ _ (iblk m c 0 t) (iblk m c 1 t) (iblk m c 2 t) (iblk m c 3 t) (iblk m c 4 t) (iblk m c 5 t) f9
            unfold owns; iexists _; isplitr
            swap; · iexact HS1
            ipureintro; exact runA_dg c _ _ _ _ _ _ _ _ _ _ _ _ _ _ _ _ _ _ _ _ _ _ _ (iblk m c 0 t) (iblk m c 1 t) (iblk m c 2 t) (iblk m c 3 t) (iblk m c 4 t) (iblk m c 5 t) f10
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact runA_out c _ _ _ _ _ _ _ _ _ _ _ _ _ _ _ _ _ _ _ _ _ _ _ (iblk m c 0 t) (iblk m c 1 t) (iblk m c 2 t) (iblk m c 3 t) (iblk m c 4 t) (iblk m c 5 t) f6
        iexact H7
      · exfalso; omega
    · exfalso; omega
  · have hz : t.val ≠ 0 := fun h => h0 (by rw [h])
    by_cases h1 : t.val % 37 = 0
    ·   have hr : rs t = t := Fin.ext (by show t.val / 37 * 37 = t.val; omega)
        have hd : dyb m c t = DYB (iblk m c 0 t) (iblk m c 3 t) := by unfold dyb; rw [hr]
        have hg : dgs m c t = DG (DYB (iblk m c 0 t) (iblk m c 3 t)) (iblk m c 2 t) := by unfold dgs; rw [hd]
        rw [PhiS_castSucc m c t, PhiS_pos m c _ _ hz, hg, hd, show out6 m c t = _ from dif_neg hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((runC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (dgs m c (pv t))).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexists _; iexact HS0
        isplitl [HS1]; · iexact HS1
        iintro ⟨H0, H1, H2, H3, H4, H5, ⟨%f6, H6⟩, H7, ⟨%f9, HS0⟩, ⟨%f10, HS1⟩⟩
        isplitl [HS0 HS1 Hg]
        · isplitl [HS0 HS1]
          · isplitl [HS0]
            · unfold owns; iexists _; isplitr
              swap; · iexact HS0
              ipureintro; exact runC_dyb c _ _ _ _ _ _ _ _ _ _ _ _ _ _ _ _ _ _ _ _ _ _ _ (iblk m c 0 t) (iblk m c 1 t) (iblk m c 2 t) (iblk m c 3 t) (iblk m c 4 t) (iblk m c 5 t) (dgs m c (pv t)) f9
            unfold owns; iexists _; isplitr
            swap; · iexact HS1
            ipureintro; exact runC_dg c _ _ _ _ _ _ _ _ _ _ _ _ _ _ _ _ _ _ _ _ _ _ _ (iblk m c 0 t) (iblk m c 1 t) (iblk m c 2 t) (iblk m c 3 t) (iblk m c 4 t) (iblk m c 5 t) (dgs m c (pv t)) f10
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact runC_out c _ _ _ _ _ _ _ _ _ _ _ _ _ _ _ _ _ _ _ _ _ _ _ (iblk m c 0 t) (iblk m c 1 t) (iblk m c 2 t) (iblk m c 3 t) (iblk m c 4 t) (iblk m c 5 t) (dgs m c (pv t)) f6
        iexact H7
    ·   have hr : rs t = rs (pv t) := Fin.ext (by show t.val / 37 * 37 = (t.val - 1) / 37 * 37; omega)
        have hd : dyb m c t = dyb m c (pv t) := by unfold dyb; rw [hr]
        have hg : dgs m c t = DG (dyb m c (pv t)) (iblk m c 2 t) := by unfold dgs; rw [hd]
        rw [PhiS_castSucc m c t, PhiS_pos m c _ _ hz, hg, hd, show out6 m c t = _ from dif_neg hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((runB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (dyb m c (pv t)) (dgs m c (pv t))).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        iintro ⟨H0, H1, H2, H3, H4, H5, ⟨%f6, H6⟩, H7, HS0, ⟨%f10, HS1⟩⟩
        isplitl [HS0 HS1 Hg]
        · isplitl [HS0 HS1]
          · isplitl [HS0]
            · iexact HS0
            unfold owns; iexists _; isplitr
            swap; · iexact HS1
            ipureintro; exact runB_dg c _ _ _ _ _ _ _ _ _ _ _ _ _ _ _ _ _ _ _ _ _ _ _ (iblk m c 0 t) (iblk m c 1 t) (iblk m c 2 t) (iblk m c 3 t) (iblk m c 4 t) (iblk m c 5 t) (dyb m c (pv t)) (dgs m c (pv t)) f10
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact runB_out c _ _ _ _ _ _ _ _ _ _ _ _ _ _ _ _ _ _ _ _ _ _ _ (iblk m c 0 t) (iblk m c 1 t) (iblk m c 2 t) (iblk m c 3 t) (iblk m c 4 t) (iblk m c 5 t) (dyb m c (pv t)) (dgs m c (pv t)) f6
        iexact H7

/-- The body table's row at point `t`'s slots is the body. -/
theorem defs₀_row (t : Fin cfg0.N) :
    defs₀ (F := Ideal) .tc cfg0.body (cfg0.bodyArgs t (cfg0.slots t)) = bodyAt0 t := by
  unfold defs₀; rw [Defs.onTc_tc]

/-- The body obligation at every point. -/
theorem body_obligation (c : Dev nD) : BodyObligation (dats m 0 c) (defs₀ (F := Ideal)) Variants.none () Set.univ forgets0 := fun t => by
  rw [bigSep_W0, bigSep_W0, defs₀_row]
  exact triple_restated (sound_body m c t) rfl .rfl fun _ => .rfl

/-- At the start the invariant is what the launch lends. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- At the end the invariant gives back what the launch lent. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 186 := N_0; omega), PhiA0_eq]
  iintro ⟨⟨HS0, HS1⟩, Hg⟩
  isplitl [HS0 HS1]
  · isplitl [HS0]
    · iexists _; iexact HS0
    iexists _; iexact HS1
  iexact Hg

set_option backward.isDefEq.respectTransparency.types false in
/-- The launch: every execution ends, with the arrays as the proof data say and every counter at zero. -/
theorem run_main_quiescent : θ_run defs (onTc (τ := τ) (main (F := Ideal))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch's post on the buffers. -/
theorem run_main : θ_run defs (onTc (τ := τ) (main (F := Ideal))) (s₀ m ρ) (Pipeline.RDat.FramePost (cfgs 0) (fun c => (dats m 0 c).toRForget forgets0) (V m)) :=
  (θ_run defs _ _).mono (fun _ h => h.1) (run_main_quiescent m ρ)

/-- The result array as the proof data say, the arguments unchanged. -/
theorem run_blocks : θ_run defs (onTc (τ := τ) (main (F := Ideal))) ⟨m, fun _ => 0, ρ⟩ fun r => ∀ c : Dev nD,
      r.2.mem ((c : Thread nD τ).loc main_v7_0) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((dats m 0 c).toRForget_arrAt_iff (fgt := forgets0) (w := 6) rfl _ _).mp ((h.1 c).1 6),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (((dats m 0 c).toRForget_arrAt_iff (fgt := forgets0) (w := 2) rfl _ _).mp ((h.1 c).1 2)).trans (((dats m 0 c).arrAt_in 2 rfl _).trans ((A_eq m c 2).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩)
    (run_main_quiescent m ρ)

/-- The frame: the arguments end unchanged and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and ((θ_run defs _ _).mono (fun _ h c => (h c).2) (run_blocks m ρ)) ((θ_run defs _ _).mono (fun _ h => h.2) (run_main_quiescent m ρ))

end Cert.DaIdeal.Hand

end
-- ==== Proof.DaValue.lean ====
/- The gradient of the MLP's pre-activation over the extended reals: entry by entry, the sum over the model dimension of
   gradient times scale times weight, times the row's scale, times the derivative of gelu. -/
module

public import proofs.«01_k».proof.Proof.DaIdealRun
public import proofs.«01_k».proof.Proof.Tokens
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DaIdeal.Hand

open Cert.DaIdeal Cert.DaIdeal.Gen Tokens

variable (m : (ℓ : Loc nD τ sig) → Buf (Elt Ideal) ℓ)

/-- The index of each window the product reads, in the grid point. -/
theorem idxA : ∀ t : Fin cfg0.N, win0_0.index t = ![min t.val 184 / 37, 0] ∧ win0_2.index t = ![min t.val 184 % 37, 0]
    ∧ win0_3.index t = ![0, 0] :=
  (by decide +kernel : ∀ t : Fin grid0.N, _)

/-- The index of each window the gradient reads or writes, in the grid point: those of the point before. -/
theorem idxB : ∀ t : Fin cfg0.N, win0_1.index t = ![(t.val - 1) / 37, 0] ∧ win0_4.index t = ![(t.val - 1) / 37, (t.val - 1) % 37]
    ∧ win0_5.index t = ![(t.val - 1) / 37, 0] ∧ win0_6.index t = ![(t.val - 1) / 37, (t.val - 1) % 37] :=
  (by decide +kernel : ∀ t : Fin grid0.N, _)

/-- The first operand of the call: the gradient codes, two dimensions. -/
theorem V0 (c : Dev nD) (k : Fin 5120) (d : Fin 3584) : V m c main_v0 (ix2 k d) = m ((c : Thread nD τ).loc main_arg0) (ix3 (tb k) (ts k) d) := by
  have h : V m c main_v0 = shapeCast S5120x3584 (m ((c : Thread nD τ).loc main_arg0)) shapeCasts_S5x1024x3584_S5120x3584 := by
    entry_read
    rfl
  rw [h]
  exact cast3 _ _ k d

/-- The second operand of the call: the gradient's row scale, the same in every lane. -/
theorem V2 (c : Dev nD) (k : Fin 5120) (l : Fin 128) : V m c main_v2 (ix2 k l) = m ((c : Thread nD τ).loc main_arg1) (ix2 (tb k) (ts k)) := by
  have h : V m c main_v2 = broadcastInDim S5120x128 ![0, 1] bcast_S5120x1_S5120x128_0_1 (shapeCast S5120x1 (m ((c : Thread nD τ).loc main_arg1)) shapeCasts_S5x1024_S5120x1) := by
    entry_read
    rfl
  rw [h]
  exact lanes _ _ _ k l

/-- The third operand of the call: the weight codes. -/
theorem Vw (c : Dev nD) : V m c main_arg2 = m ((c : Thread nD τ).loc main_arg2) := V_main_arg2 m c

/-- A vector as a single row. -/
theorem castRow {α : Type} (x : S3584.Idx → α) (h : S3584.ShapeCasts S1x3584) (d : Fin 3584) : shapeCast S1x3584 x h (ix2 0 d) = x (ix1 d) := by
  unfold shapeCast
  refine congrArg x (Shape.reshapeEquiv_eq_of_rowMajor h ?_)
  rw [Shape.rowMajor_val_one, Shape.rowMajor_val_two]
  show d.val = 0 * 3584 + d.val
  omega

/-- The fourth operand of the call: the weight's scales, one row. -/
theorem V3 (c : Dev nD) (d : Fin 3584) : V m c main_v3 (ix2 0 d) = m ((c : Thread nD τ).loc main_arg3) (ix1 d) := by
  have h : V m c main_v3 = shapeCast S1x3584 (m ((c : Thread nD τ).loc main_arg3)) shapeCasts_S3584_S1x3584 := by
    entry_read
    rfl
  rw [h]
  exact castRow _ _ d

/-- The fifth operand of the call: the pre-activation codes, two dimensions. -/
theorem V4 (c : Dev nD) (k : Fin 5120) (f : Fin 18944) : V m c main_v4 (ix2 k f) = m ((c : Thread nD τ).loc main_arg4) (ix3 (tb k) (ts k) f) := by
  have h : V m c main_v4 = shapeCast S5120x18944 (m ((c : Thread nD τ).loc main_arg4)) shapeCasts_S5x1024x18944_S5120x18944 := by
    entry_read
    rfl
  rw [h]
  exact cast3 _ _ k f

/-- The sixth operand of the call: the pre-activation's row scale, the same in every lane. -/
theorem V6 (c : Dev nD) (k : Fin 5120) (l : Fin 128) : V m c main_v6 (ix2 k l) = m ((c : Thread nD τ).loc main_arg5) (ix2 (tb k) (ts k)) := by
  have h : V m c main_v6 = broadcastInDim S5120x128 ![0, 1] bcast_S5120x1_S5120x128_0_1 (shapeCast S5120x1 (m ((c : Thread nD τ).loc main_arg5)) shapeCasts_S5x1024_S5120x1) := by
    entry_read
    rfl
  rw [h]
  exact lanes _ _ _ k l

/-- The row of the arrays that row `k` of row tile `q` is. -/
abbrev row (q : Nat) (hq : q < 5) (k : Fin 1024) : Fin 5120 := ⟨q * 1024 + k.val, by omega⟩

/-- The column of the arrays that column `f` of column tile `q` is. -/
abbrev col (q : Nat) (hq : q < 37) (f : Fin 512) : Fin 18944 := ⟨q * 512 + f.val, by omega⟩

/-- The block of gradient codes a product reads. -/
theorem rd0 (c : Dev nD) (t : Fin cfg0.N) (q : Nat) (hq : q < 5) (h : min t.val 184 / 37 = q) (k : Fin 1024) (d : Fin 3584) :
    iblk m c 0 t (ix2 k d) = m ((c : Thread nD τ).loc main_arg0) (ix3 (tb (row q hq k)) (ts (row q hq k)) d) := by
  blk_simp [iblk]
  refine Eq.trans ?_ (V0 m c (row q hq k) d)
  subst h
  blk_ext [idxA t]

/-- The block of weight codes a product reads. -/
theorem rd2 (c : Dev nD) (t : Fin cfg0.N) (q : Nat) (hq : q < 37) (h : min t.val 184 % 37 = q) (f : Fin 512) (d : Fin 3584) :
    iblk m c 2 t (ix2 f d) = m ((c : Thread nD τ).loc main_arg2) (ix2 (col q hq f) d) := by
  blk_simp [iblk]
  refine Eq.trans ?_ (congrFun (Vw m c) (ix2 (col q hq f) d))
  subst h
  blk_ext [idxA t]

/-- The weight's scales. -/
theorem rd3 (c : Dev nD) (t : Fin cfg0.N) (d : Fin 3584) : iblk m c 3 t (ix2 0 d) = m ((c : Thread nD τ).loc main_arg3) (ix1 d) := by
  blk_simp [iblk]
  refine Eq.trans ?_ (V3 m c d)
  blk_ext [idxA t]

/-- The block of the gradient's row scales. -/
theorem rd1 (c : Dev nD) (t : Fin cfg0.N) (hq : (t.val - 1) / 37 < 5) (k : Fin 1024) (l : Fin 128) :
    iblk m c 1 t (ix2 k l) = m ((c : Thread nD τ).loc main_arg1) (ix2 (tb (row _ hq k)) (ts (row _ hq k))) := by
  blk_simp [iblk]
  refine Eq.trans ?_ (V2 m c (row _ hq k) l)
  blk_ext [idxB t]

/-- The block of pre-activation codes. -/
theorem rd4 (c : Dev nD) (t : Fin cfg0.N) (hq : (t.val - 1) / 37 < 5) (hr : (t.val - 1) % 37 < 37) (k : Fin 1024) (f : Fin 512) :
    iblk m c 4 t (ix2 k f) = m ((c : Thread nD τ).loc main_arg4) (ix3 (tb (row _ hq k)) (ts (row _ hq k)) (col _ hr f)) := by
  blk_simp [iblk]
  refine Eq.trans ?_ (V4 m c (row _ hq k) (col _ hr f))
  blk_ext [idxB t]

/-- The block of the pre-activation's row scales. -/
theorem rd5 (c : Dev nD) (t : Fin cfg0.N) (hq : (t.val - 1) / 37 < 5) (k : Fin 1024) (l : Fin 128) :
    iblk m c 5 t (ix2 k l) = m ((c : Thread nD τ).loc main_arg5) (ix2 (tb (row _ hq k)) (ts (row _ hq k))) := by
  blk_simp [iblk]
  refine Eq.trans ?_ (V6 m c (row _ hq k) l)
  blk_ext [idxB t]

/-- The gradient against one row of the weight, both dequantized but for the gradient's row scale. -/
def SG (dy : FVec Ideal S5x1024x3584 .fp8e5m2) (w : FVec Ideal S18944x3584 .fp8e4m3) (s : FVec Ideal S3584 .f32) (k : Fin 5120) (f : Fin 18944) : EReal :=
  ∑ d : Fin 3584, ((dy (ix3 (tb k) (ts k) d) : EReal) * s (ix1 d)) * w (ix2 f d)

/-- The gradient of the pre-activation: the gradient against the weight's rows, both dequantized, times the derivative
    of gelu at the dequantized pre-activation. -/
def G (dy : FVec Ideal S5x1024x3584 .fp8e5m2) (ds : FVec Ideal S5x1024 .f32) (w : FVec Ideal S18944x3584 .fp8e4m3) (s : FVec Ideal S3584 .f32)
    (a : FVec Ideal S5x1024x18944 .fp8e4m3) (sa : FVec Ideal S5x1024 .f32) : FVec Ideal S5120x18944 .f32 := fun i =>
  (SG dy w s (i 0) (i 1) * (ds (ix2 (tb (i 0)) (ts (i 0))) : EReal))
    * gg ((a (ix3 (tb (i 0)) (ts (i 0)) (i 1)) : EReal) * sa (ix2 (tb (i 0)) (ts (i 0))))

/-- One entry of the dequantized rows. -/
theorem DYB_at (x0 : Vec Ideal S1024x3584 .fp8e5m2) (x3 : Vec Ideal S1x3584 .f32) (k : Fin 1024) (d : Fin 3584) :
    DYB x0 x3 (ix2 k d) = (x0 (ix2 k d) : EReal) * x3 (ix2 0 d) := rfl

/-- One entry of the product of a tile. -/
theorem DG_at (x : Vec Ideal S1024x3584 .bf16) (w : Vec Ideal S512x3584 .fp8e4m3) (k : Fin 1024) (f : Fin 512) :
    DG x w (ix2 k f) = (∑ d : Fin 3584, (x (ix2 k d) : EReal) * w (ix2 f d) : EReal) := rfl

/-- One entry of the gradient of a tile. -/
theorem D6_at (x1 : Vec Ideal S1024x128 .f32) (x4 : Vec Ideal S1024x512 .fp8e4m3) (x5 : Vec Ideal S1024x128 .f32) (dg : Vec Ideal S1024x512 .f32)
    (k : Fin 1024) (f : Fin 512) :
    D6 x1 x4 x5 dg (ix2 k f) = ((dg (ix2 k f) : EReal) * x1 (ix2 k (lane f))) * gg ((x4 (ix2 k f) : EReal) * x5 (ix2 k (lane f))) := rfl

/-- The product after point `t`, entry by entry. -/
theorem dgs_apply (c : Dev nD) (t : Fin cfg0.N) (q r : Nat) (hq : q < 5) (hr : r < 37) (h1 : t.val / 37 = q) (h2 : t.val % 37 = r)
    (ht : t.val < 185) (k : Fin 1024) (f : Fin 512) :
    dgs m c t (ix2 k f) = SG (m ((c : Thread nD τ).loc main_arg0)) (m ((c : Thread nD τ).loc main_arg2)) (m ((c : Thread nD τ).loc main_arg3))
      (row q hq k) (col r hr f) := by
  have e0 : min (rs t).val 184 / 37 = q := by
    show min (t.val / 37 * 37) 184 / 37 = q
    omega
  have e2 : min t.val 184 % 37 = r := by omega
  unfold SG dgs
  refine (DG_at _ _ k f).trans (Finset.sum_congr rfl fun d _ => ?_)
  refine congrArg₂ (fun x y : EReal => x * y) ?_ (rd2 m c t r hr e2 f d)
  unfold dyb
  refine (DYB_at _ _ k d).trans ?_
  exact congrArg₂ (fun x y : EReal => x * y) (rd0 m c (rs t) q hq e0 k d) (rd3 m c (rs t) d)

/-- One entry of the output slot after a point that writes it back. -/
theorem point (c : Dev nD) (t : Fin cfg0.N) (h0 : t.val ≠ 0) (ht : t.val < 186) (hq : (t.val - 1) / 37 < 5) (hr : (t.val - 1) % 37 < 37)
    (k : Fin 1024) (f : Fin 512) :
    out6 m c t (ix2 k f) = G (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (ix2 (row _ hq k) (col _ hr f)) := by
  unfold out6
  rw [dif_neg h0]
  refine (D6_at _ _ _ _ k f).trans ?_
  unfold G
  refine congrArg₂ (fun x y : EReal => x * y) (congrArg₂ (fun x y : EReal => x * y) ?_ (rd1 m c t hq k (lane f)))
    (congrArg gg (congrArg₂ (fun x y : EReal => x * y) (rd4 m c t hq hr k f) (rd5 m c t hq k (lane f))))
  exact dgs_apply m c (pv t) _ _ hq hr rfl rfl (by show t.val - 1 < 185; omega) k f

/-- The first point's output slot is never written back. -/
theorem flush_pos : ∀ t : Fin cfg0.N, (cfg0.win 6).flush t = true → t.val ≠ 0 :=
  (by decide +kernel : ∀ t : Fin grid0.N, _)

/-- The array the call leaves is `G` of the arguments. -/
theorem final (c : Dev nD) : (dats m 0 c).arrAt 6 cfg0.N
    = G (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_covers 6 _ (by decide +kernel) fun t hf y => ?_
  have h0 : t.val ≠ 0 := flush_pos t hf
  have ht : t.val < 186 := lt_of_lt_of_eq t.isLt (show cfg0.N = 186 from N_0)
  have hq : (t.val - 1) / 37 < 5 := by omega
  have hr : (t.val - 1) % 37 < 37 := by omega
  blk_simp
  rw [after0_6]
  refine Eq.trans (congrArg (out6 m c t) (eq_ix2 y)) ((point m c t h0 ht hq hr (y 0) (y 1)).trans (congrArg _ ?_))
  blk_ext [idxB t]

end Cert.DaIdeal.Hand
end
-- ==== Proof.DaGelu.lean ====
/- The two ways of writing the derivative of gelu, the kernel's and the reference's, are one function of the extended
   reals. -/
module

public import proofs.«01_k».proof.Proof.DaIdealPay
public import proofs.«01_k».proof.Proof.Gen.DaRefIdeal.Value

@[expose] public section

set_option maxRecDepth 16384

noncomputable section

open Idealize.ShloMosaic

namespace Cert.DaIdeal.Hand

/-- The derivative of gelu (the tanh form), in the shape the reference writes it. -/
def rg (v : EReal) : EReal :=
  Ideal.ofBits FTy.f32 0x3F000000#32 * (1 + Ideal.tanh ((Named.named (F := Ideal) Cert.DaRefIdeal.κ "gelu_c" 0x3F4C422A#32 : Ideal .f32) * (v + (((Named.named (F := Ideal) Cert.DaRefIdeal.κ "gelu_a" 0x3D372713#32 : Ideal .f32) * v) * v) * v)))
    + (((Ideal.ofBits FTy.f32 0x3F000000#32 * v) * (1 - Ideal.tanh ((Named.named (F := Ideal) Cert.DaRefIdeal.κ "gelu_c" 0x3F4C422A#32 : Ideal .f32) * (v + (((Named.named (F := Ideal) Cert.DaRefIdeal.κ "gelu_a" 0x3D372713#32 : Ideal .f32) * v) * v) * v))
          * Ideal.tanh ((Named.named (F := Ideal) Cert.DaRefIdeal.κ "gelu_c" 0x3F4C422A#32 : Ideal .f32) * (v + (((Named.named (F := Ideal) Cert.DaRefIdeal.κ "gelu_a" 0x3D372713#32 : Ideal .f32) * v) * v) * v))))
        * (Named.named (F := Ideal) Cert.DaRefIdeal.κ "gelu_c" 0x3F4C422A#32 : Ideal .f32))
      * (1 + ((Named.named (F := Ideal) Cert.DaRefIdeal.κ "gelu_3a" 0x3E095D4F#32 : Ideal .f32) * v) * v)

/-- The kernel's constant `c`. -/
theorem k_c : (Named.named (F := Ideal) κ "gelu_c" 0x3F4C422A#32 : Ideal .f32) = ((3989422804014327 / 5000000000000000 : ℝ) : EReal) :=
  IdealRules.named_const.ideal_named_scalar _ _ _ _ rfl
/-- The kernel's constant `c a`. -/
theorem k_ca : (Named.named (F := Ideal) κ "gelu_ca" 0x3D122279#32 : Ideal .f32) = ((35677408136300126361 / 1000000000000000000000 : ℝ) : EReal) :=
  IdealRules.named_const.ideal_named_scalar _ _ _ _ rfl
/-- The kernel's constant `c / 2`. -/
theorem k_hc : (Named.named (F := Ideal) κ "gelu_half_c" 0x3ECC422A#32 : Ideal .f32) = ((3989422804014327 / 10000000000000000 : ℝ) : EReal) :=
  IdealRules.named_const.ideal_named_scalar _ _ _ _ rfl
/-- The kernel's constant `3 c a / 2`. -/
theorem k_3hca : (Named.named (F := Ideal) κ "gelu_3_half_ca" 0x3D5B33B6#32 : Ideal .f32) = ((107032224408900379083 / 2000000000000000000000 : ℝ) : EReal) :=
  IdealRules.named_const.ideal_named_scalar _ _ _ _ rfl
/-- The reference's constant `c`. -/
theorem r_c : (Named.named (F := Ideal) Cert.DaRefIdeal.κ "gelu_c" 0x3F4C422A#32 : Ideal .f32) = ((3989422804014327 / 5000000000000000 : ℝ) : EReal) :=
  IdealRules.named_const.ideal_named_scalar _ _ _ _ rfl
/-- The reference's constant `a`. -/
theorem r_a : (Named.named (F := Ideal) Cert.DaRefIdeal.κ "gelu_a" 0x3D372713#32 : Ideal .f32) = ((8943 / 200000 : ℝ) : EReal) :=
  IdealRules.named_const.ideal_named_scalar _ _ _ _ rfl
/-- The reference's constant `3 a`. -/
theorem r_3a : (Named.named (F := Ideal) Cert.DaRefIdeal.κ "gelu_3a" 0x3E095D4F#32 : Ideal .f32) = ((26829 / 200000 : ℝ) : EReal) :=
  IdealRules.named_const.ideal_named_scalar _ _ _ _ rfl
/-- One half. -/
theorem half : Ideal.ofBits FTy.f32 0x3F000000#32 = ((1 / 2 : ℝ) : EReal) := by
  simp [Ideal.ofBits, Ideal.ieee, -EReal.coe_mul]; norm_num

/-- The two forms agree at every extended real. -/
theorem gg_eq_rg (v : EReal) : gg v = rg v := by
  unfold gg rg
  simp only [k_c, k_ca, k_hc, k_3hca, r_c, r_a, r_3a, half]
  induction v using EReal.rec with
  | bot =>
    have hc : (0 : ℝ) < 3989422804014327 / 5000000000000000 := by norm_num
    have hca : (0 : ℝ) < 35677408136300126361 / 1000000000000000000000 := by norm_num
    have ha : (0 : ℝ) < 8943 / 200000 := by norm_num
    have h1 : (⊥ : EReal) * (((3989422804014327 / 5000000000000000 : ℝ) : EReal) + ((35677408136300126361 / 1000000000000000000000 : ℝ) : EReal) * (⊥ * ⊥)) = ⊥ := by
      rw [EReal.bot_mul_bot, EReal.coe_mul_top_of_pos hca, EReal.coe_add_top, EReal.bot_mul_top]
    have h2 : ((3989422804014327 / 5000000000000000 : ℝ) : EReal) * (⊥ + ((((8943 / 200000 : ℝ) : EReal) * ⊥) * ⊥) * ⊥) = ⊥ := by
      rw [EReal.bot_add, EReal.coe_mul_bot_of_pos hc]
    have e : (1 : EReal) - (-1) * (-1) = 0 := by
      rw [neg_mul_neg, one_mul]; exact EReal.sub_self (by decide) (by decide)
    rw [h1, h2, Ideal.tanh_bot, e]
    simp only [zero_mul, mul_zero]
  | top =>
    have hc : (0 : ℝ) < 3989422804014327 / 5000000000000000 := by norm_num
    have hca : (0 : ℝ) < 35677408136300126361 / 1000000000000000000000 := by norm_num
    have ha : (0 : ℝ) < 8943 / 200000 := by norm_num
    have h1 : (⊤ : EReal) * (((3989422804014327 / 5000000000000000 : ℝ) : EReal) + ((35677408136300126361 / 1000000000000000000000 : ℝ) : EReal) * (⊤ * ⊤)) = ⊤ := by
      rw [EReal.top_mul_top, EReal.coe_mul_top_of_pos hca, EReal.coe_add_top, EReal.top_mul_top]
    have h2 : ((3989422804014327 / 5000000000000000 : ℝ) : EReal) * (⊤ + ((((8943 / 200000 : ℝ) : EReal) * ⊤) * ⊤) * ⊤) = ⊤ := by
      rw [EReal.coe_mul_top_of_pos ha, EReal.top_mul_top, EReal.top_mul_top, EReal.top_add_top, EReal.coe_mul_top_of_pos hc]
    have e : (1 : EReal) - 1 * 1 = 0 := by
      rw [one_mul]; exact EReal.sub_self (by decide) (by decide)
    rw [h1, h2, Ideal.tanh_top, e]
    simp only [zero_mul, mul_zero]
  | coe x =>
    have h1 : (x : EReal) * (((3989422804014327 / 5000000000000000 : ℝ) : EReal) + ((35677408136300126361 / 1000000000000000000000 : ℝ) : EReal) * ((x : EReal) * x))
        = ((x * (3989422804014327 / 5000000000000000 + 35677408136300126361 / 1000000000000000000000 * (x * x)) : ℝ) : EReal) := by
      simp only [EReal.coe_mul, EReal.coe_add]
    have h2 : ((3989422804014327 / 5000000000000000 : ℝ) : EReal) * ((x : EReal) + ((((8943 / 200000 : ℝ) : EReal) * x) * x) * x)
        = ((x * (3989422804014327 / 5000000000000000 + 35677408136300126361 / 1000000000000000000000 * (x * x)) : ℝ) : EReal) := by
      rw [show x * (3989422804014327 / 5000000000000000 + 35677408136300126361 / 1000000000000000000000 * (x * x))
        = 3989422804014327 / 5000000000000000 * (x + 8943 / 200000 * x * x * x) by ring]
      simp only [EReal.coe_mul, EReal.coe_add]
    rw [h1, h2, Ideal.tanh_coe]
    generalize Real.tanh (x * (3989422804014327 / 5000000000000000 + 35677408136300126361 / 1000000000000000000000 * (x * x))) = t
    simp only [← EReal.coe_mul, ← EReal.coe_add, ← EReal.coe_one, ← EReal.coe_sub]
    refine congrArg _ ?_
    ring

end Cert.DaIdeal.Hand
end
-- ==== Proof.DaRefValue.lean ====
/- The reference of the pre-activation's gradient leaves the same array. -/
module

public import proofs.«01_k».proof.Proof.Gen.DaRefIdeal.Value
public import proofs.«01_k».proof.Proof.DaValue
public import proofs.«01_k».proof.Proof.DaGelu

@[expose] public section

set_option maxRecDepth 16384

noncomputable section

open Idealize.ShloMosaic Idealize.ShloMosaic.TcCoe Idealize.SL.Sem
open Idealize.ShloMosaic.Pipeline (Dat)

namespace Cert.DaRefIdeal.ArrayValue

open Cert.DaRefIdeal Cert.DaRefIdeal.Gen Tokens

variable (m : (ℓ : Loc nD τ sig) → Buf (Elt Ideal) ℓ)

/-- Every window is its whole array at the one grid point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The reference's gradient codes, two dimensions. -/
theorem V0 (c : Dev nD) (k : Fin 5120) (d : Fin 3584) : V m c main_v0 (ix2 k d) = m ((c : Thread nD τ).loc main_arg0) (ix3 (tb k) (ts k) d) := by
  have h : V m c main_v0 = shapeCast S5120x3584 (m ((c : Thread nD τ).loc main_arg0)) shapeCasts_S5x1024x3584_S5120x3584 := by
    entry_read
    rfl
  rw [h]
  exact cast3 _ _ k d

/-- The reference's gradient scales, one column. -/
theorem V1 (c : Dev nD) (k : Fin 5120) (u : Fin 1) : V m c main_v1 (ix2 k u) = m ((c : Thread nD τ).loc main_arg1) (ix2 (tb k) (ts k)) := by
  have h : V m c main_v1 = shapeCast S5120x1 (m ((c : Thread nD τ).loc main_arg1)) shapeCasts_S5x1024_S5120x1 := by
    entry_read
    rfl
  rw [h]
  exact cast2 _ _ k u

/-- The reference's weight scales, one row. -/
theorem V2 (c : Dev nD) (d : Fin 3584) : V m c main_v2 (ix2 0 d) = m ((c : Thread nD τ).loc main_arg3) (ix1 d) := by
  have h : V m c main_v2 = shapeCast S1x3584 (m ((c : Thread nD τ).loc main_arg3)) shapeCasts_S3584_S1x3584 := by
    entry_read
    rfl
  rw [h]
  exact Cert.DaIdeal.Hand.castRow _ _ d

/-- The reference's pre-activation codes, two dimensions. -/
theorem V3 (c : Dev nD) (k : Fin 5120) (f : Fin 18944) : V m c main_v3 (ix2 k f) = m ((c : Thread nD τ).loc main_arg4) (ix3 (tb k) (ts k) f) := by
  have h : V m c main_v3 = shapeCast S5120x18944 (m ((c : Thread nD τ).loc main_arg4)) shapeCasts_S5x1024x18944_S5120x18944 := by
    entry_read
    rfl
  rw [h]
  exact cast3 _ _ k f

/-- The reference's pre-activation scales, one column. -/
theorem V4 (c : Dev nD) (k : Fin 5120) (u : Fin 1) : V m c main_v4 (ix2 k u) = m ((c : Thread nD τ).loc main_arg5) (ix2 (tb k) (ts k)) := by
  have h : V m c main_v4 = shapeCast S5120x1 (m ((c : Thread nD τ).loc main_arg5)) shapeCasts_S5x1024_S5120x1 := by
    entry_read
    rfl
  rw [h]
  exact cast2 _ _ k u

/-- The reference's product read at an index. -/
theorem product (w : Vec Ideal S18944x3584 .fp8e4m3) (s : Vec Ideal S1x3584 .f32) (dy : Vec Ideal S5120x3584 .fp8e5m2) (ds : Vec Ideal S5120x1 .f32)
    (y : S5120x18944.Idx) : k0_pay2 (F := Ideal) w s dy ds y
      = (∑ d : Fin 3584, (dy (ix2 (y 0) d) : EReal) * (w (ix2 (y 1) d) * s (ix2 0 d)) : EReal) * ds (ix2 (y 0) 0) := by
  pointwise [k0_pay2]

/-- The reference's dequantized pre-activation read at an index. -/
theorem preact (a : Vec Ideal S5120x18944 .fp8e4m3) (sa : Vec Ideal S5120x1 .f32) (y : S5120x18944.Idx) :
    k0_pay3 (F := Ideal) a sa y = (a y : EReal) * sa (ix2 (y 0) 0) := by
  pointwise [k0_pay3]

/-- The reference's result read at an index, in the pre-activation. -/
theorem result (g : FVec Ideal S5120x18944 .f32) (a : Vec Ideal S5120x18944 .fp8e4m3) (sa : Vec Ideal S5120x1 .f32) (y : S5120x18944.Idx) :
    k0_pay1 (F := Ideal) g (k0_pay3 a sa) (k0_pay5 a sa) (k0_pay6 a sa) (Named.named κ "gelu_c" 0x3F4C422A#32) y
      = (g y : EReal) * Cert.DaIdeal.Hand.rg (k0_pay3 (F := Ideal) a sa y) := by
  unfold Cert.DaIdeal.Hand.rg
  generalize hv : k0_pay3 (F := Ideal) a sa = v
  have h4 : k0_pay4 (F := Ideal) a sa y = Ideal.tanh ((Named.named (F := Ideal) κ "gelu_c" 0x3F4C422A#32 : Ideal .f32) * ((v y : EReal) + (((Named.named (F := Ideal) κ "gelu_a" 0x3D372713#32 : Ideal .f32) * v y) * v y) * v y)) := by
    unfold k0_pay4
    rw [hv]
    pointwise []
  rw [← h4]
  unfold k0_pay5 k0_pay6
  rw [hv]
  generalize k0_pay4 (F := Ideal) a sa = t
  pointwise [k0_pay1]

/-- What the reference leaves in its result is the kernel's array. -/
theorem final (c : Dev nD) : (dats m 0 c).arrAt 6 (cfgs 0).N
    = Cert.DaIdeal.Hand.G (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_covers 6 _ (by decide +kernel) fun t _ y => ?_
  blk_simp
  rw [after0_6]; frame_out
  have h6 : ((cfg0.win 6).blk t).view.emb y = y := by
    blk_ext [idx t]
  have h0 : ∀ (k : Fin 5120) (d : Fin 3584), iblk m c 0 t (ix2 k d) = m ((c : Thread nD τ).loc main_arg0) (ix3 (tb k) (ts k) d) := fun k d => by
    blk_simp [iblk]
    refine Eq.trans ?_ (V0 m c k d)
    blk_ext [idx t]
  have h1 : ∀ (k : Fin 5120) (u : Fin 1), iblk m c 1 t (ix2 k u) = m ((c : Thread nD τ).loc main_arg1) (ix2 (tb k) (ts k)) := fun k u => by
    blk_simp [iblk]
    refine Eq.trans ?_ (V1 m c k u)
    blk_ext [idx t]
  have h2 : ∀ (f : Fin 18944) (d : Fin 3584), iblk m c 2 t (ix2 f d) = m ((c : Thread nD τ).loc main_arg2) (ix2 f d) := fun f d => by
    blk_simp [iblk]
    refine Eq.trans ?_ (congrFun (V_main_arg2 m c) (ix2 f d))
    blk_ext [idx t]
  have h3 : ∀ d : Fin 3584, iblk m c 3 t (ix2 0 d) = m ((c : Thread nD τ).loc main_arg3) (ix1 d) := fun d => by
    blk_simp [iblk]
    refine Eq.trans ?_ (V2 m c d)
    blk_ext [idx t]
  have h4 : ∀ (k : Fin 5120) (f : Fin 18944), iblk m c 4 t (ix2 k f) = m ((c : Thread nD τ).loc main_arg4) (ix3 (tb k) (ts k) f) := fun k f => by
    blk_simp [iblk]
    refine Eq.trans ?_ (V3 m c k f)
    blk_ext [idx t]
  have h5 : ∀ (k : Fin 5120) (u : Fin 1), iblk m c 5 t (ix2 k u) = m ((c : Thread nD τ).loc main_arg5) (ix2 (tb k) (ts k)) := fun k u => by
    blk_simp [iblk]
    refine Eq.trans ?_ (V4 m c k u)
    blk_ext [idx t]
  refine Eq.trans ?_ (congrArg _ h6.symm)
  obtain ⟨k, f, rfl⟩ : ∃ (k : Fin 5120) (f : Fin 18944), y = ix2 k f := ⟨y 0, y 1, eq_ix2 y⟩
  refine (result _ _ _ (ix2 k f)).trans ?_
  unfold Cert.DaIdeal.Hand.G
  refine congrArg₂ (fun x y : EReal => x * y) ((product _ _ _ _ (ix2 k f)).trans (congrArg₂ (fun x y : EReal => x * y) ?_ (h1 k 0))) ?_
  · unfold Cert.DaIdeal.Hand.SG
    refine Finset.sum_congr rfl fun d _ => ?_
    refine (congrArg₂ (fun x y : EReal => x * y) (h0 k d) (congrArg₂ (fun x y : EReal => x * y) (h2 f d) (h3 d))).trans ?_
    show (_ : EReal) * (_ * _) = _ * _ * _
    ac_rfl
  · refine (Cert.DaIdeal.Hand.gg_eq_rg _).symm.trans (congrArg Cert.DaIdeal.Hand.gg ?_)
    exact (preact _ _ (ix2 k f)).trans (congrArg₂ (fun x y : EReal => x * y) (h4 k f) (h5 k 0))

end Cert.DaRefIdeal.ArrayValue
end
-- ==== Proof.LnIdealRun.lean ====
/- The frame of the layer-norm backward call (the kernel with the named constant, over any values). The two gain-gradient windows accumulate: each point of the
   grid reads back what the point before it left there, so the proof data names what they hold after every point. -/
module

public import proofs.«01_k».proof.Proof.Gen.LnIdeal.Launch
public import proofs.«01_k».proof.Proof.Gen.LnIdeal.Skeleton
public import proofs.«01_k».proof.Proof.Gen.LnIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.LnIdeal.Hand

open Cert.LnIdeal Cert.LnIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers when the pipeline starts: after the host reshapes. -/
abbrev V (c : Dev nD) (b : Ref sig .tc) : Buf (Elt F) ((c : Thread nD τ).loc b) := StableHlo.after hostOps0 (fun b => m (c, b)) b

/-- No host operation makes a buffer of its own. -/
theorem hostOps0_fresh : (hostOps0 : List (HloOp τ sig (Elt F))).Forall fun op => op.fresh = ∅ := by
  simp only [List.Forall]; repeat' constructor

set_option maxHeartbeats 800000 in
/-- The main program is its host operations, then the pipeline. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 1600000 in
/-- No host operation writes an argument: the pipeline finds each as launched. -/
theorem V_arg (c : Dev nD) : ∀ b ∈ ([main_arg0, main_arg1, main_arg2, main_arg3, main_arg4, main_arg5, main_arg6, main_arg7, main_arg8, main_arg9, main_arg10] : List (Ref sig .tc)), V m c b = m ((c : Thread nD τ).loc b) := by
  intro b hb
  refine StableHlo.after_of_forall_not_mem (b := Proc.devRef .tc b) _ _ (List.forall_iff_forall_mem.mp ?_)
  simp only [List.mem_cons, List.not_mem_nil, or_false] at hb
  simp only [hostOps0, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl | rfl | rfl | rfl | rfl | rfl | rfl <;> (repeat' apply And.intro) <;> exact StableHlo.devRef_ne_of_ne (by decide)

/-- Window `w`'s block at point `t`, of the array as the pipeline finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole of a block, as the body's loads and stores name it. -/
abbrev r0_0 : Rect S256x3584 := Rect.unit (s := S256x3584) ![0, 0] S256x3584.size inb_S256x3584_S256x3584_0_0
/-- Another block shape, whole. -/
abbrev r0_1 : Rect S256x128 := Rect.unit (s := S256x128) ![0, 0] S256x128.size inb_S256x128_S256x128_0_0
/-- Another block shape, whole. -/
abbrev r0_2 : Rect S1x3584 := Rect.unit (s := S1x3584) ![0, 0] S1x3584.size inb_S1x3584_S1x3584_0_0

/-- What the body leaves in the block of `dx`. -/
def out0_11 (x0 : Vec F S256x3584 .f32) (x1 : Vec F S256x128 .f32) (x2 : Vec F S256x3584 .f32) (x3 : Vec F S256x128 .f32) (x4 : Vec F S256x3584 .fp8e4m3) (x5 : Vec F S256x128 .f32) (x6 : Vec F S256x3584 .fp8e5m2) (x7 : Vec F S256x128 .f32) (x8 : Vec F S256x128 .f32) (x9 : Vec F S1x3584 .f32) (x10 : Vec F S1x3584 .f32) : Vec F S256x3584 .bf16 :=
  View.canon [⟨r0_0, k0_pay1 (k0_pay2 (View.ld x0 r0_0) (View.ld x1 r0_1)) (k0_pay3 (View.ld x2 r0_0) (View.ld x3 r0_1)) (k0_pay4 (View.ld x4 r0_0) (View.ld x5 r0_1)) (View.ld x9 r0_2) (View.ld x10 r0_2) (View.ld x8 r0_1) (View.ld x6 r0_0) (View.ld x7 r0_1)⟩]

/-- What the body leaves in the block of the attention gain's gradient, found at `x12`. -/
def out0_12 (i : grid0.Coords) (x2 : Vec F S256x3584 .f32) (x3 : Vec F S256x128 .f32) (x4 : Vec F S256x3584 .fp8e4m3) (x5 : Vec F S256x128 .f32) (x12 : Vec F S1x3584 .f32) : Vec F S1x3584 .f32 :=
  View.canon [⟨r0_2, k0_pay5 i (View.ld x2 r0_0) (View.ld x3 r0_1) (View.ld x4 r0_0) (View.ld x5 r0_1) (View.ld x12 r0_2)⟩]

/-- What the body leaves in the block of the other gain's gradient, found at `x13`. -/
def out0_13 (i : grid0.Coords) (x0 : Vec F S256x3584 .f32) (x1 : Vec F S256x128 .f32) (x4 : Vec F S256x3584 .fp8e4m3) (x5 : Vec F S256x128 .f32) (x13 : Vec F S1x3584 .f32) : Vec F S1x3584 .f32 :=
  View.canon [⟨r0_2, k0_pay6 i (View.ld x0 r0_0) (View.ld x1 r0_1) (View.ld x4 r0_0) (View.ld x5 r0_1) (View.ld x13 r0_2)⟩]

/-- The one store of a large block covers it. -/
theorem cover_big (p0 : Vec F S256x3584 .bf16) (y : S256x3584.Idx) :
    ∃ pc ∈ ([⟨r0_0, p0⟩] : List (View.Piece (Elt F) S256x3584 .bf16)), y ∈ pc.1.set :=
  View.cover_of_tiled [⟨r0_0, p0⟩] S256x3584.size (by rfl) y

/-- The one store of a row covers it. -/
theorem cover_row (p0 : Vec F S1x3584 .f32) (y : S1x3584.Idx) :
    ∃ pc ∈ ([⟨r0_2, p0⟩] : List (View.Piece (Elt F) S1x3584 .f32)), y ∈ pc.1.set :=
  View.cover_of_tiled [⟨r0_2, p0⟩] S1x3584.size (by rfl) y

/-- Point `t`'s grid index is `t`. -/
theorem coords_val : ∀ t : Fin cfg0.N, (grid0.coords t 0).val = t.val :=
  (by decide +kernel : ∀ t : Fin grid0.N, (grid0.coords t 0).val = t.val)

/-- At the first point the kernel's comparison of the grid index with zero holds. -/
theorem cmp_first (i : grid0.Coords) (h : (i 0).val = 0) : Scalar.cmpi .eq (BitVec.ofNat 32 (i 0).val) 0#32 = 1#1 := by
  rw [h]; rfl

/-- At the first point what the row held before does not matter. -/
theorem out0_12_first (i : grid0.Coords) (h : (i 0).val = 0) (x2 x3 x4 x5 x y) :
    out0_12 (F := F) i x2 x3 x4 x5 x = out0_12 i x2 x3 x4 x5 y := by
  unfold out0_12 k0_pay5; dsimp only; rw [cmp_first i h]; rfl

/-- At the first point what the row held before does not matter. -/
theorem out0_13_first (i : grid0.Coords) (h : (i 0).val = 0) (x0 x1 x4 x5 x y) :
    out0_13 (F := F) i x0 x1 x4 x5 x = out0_13 i x0 x1 x4 x5 y := by
  unfold out0_13 k0_pay6; dsimp only; rw [cmp_first i h]; rfl

set_option maxHeartbeats 2000000 in
/-- The body, on blocks at known contents, leaves the inputs as they were and each result at its `out0`. -/
theorem sound_kernel (c : Dev nD) (E : Set ℕ) (i : grid0.Coords) (arg1 : Memref sig .tc .vmem S256x3584 .f32) (harg1 : arg1.IsWhole) (arg2 : Memref sig .tc .vmem S256x128 .f32) (harg2 : arg2.IsWhole) (arg3 : Memref sig .tc .vmem S256x3584 .f32) (harg3 : arg3.IsWhole) (arg4 : Memref sig .tc .vmem S256x128 .f32) (harg4 : arg4.IsWhole) (arg5 : Memref sig .tc .vmem S256x3584 .fp8e4m3) (harg5 : arg5.IsWhole) (arg6 : Memref sig .tc .vmem S256x128 .f32) (harg6 : arg6.IsWhole) (arg7 : Memref sig .tc .vmem S256x3584 .fp8e5m2) (harg7 : arg7.IsWhole) (arg8 : Memref sig .tc .vmem S256x128 .f32) (harg8 : arg8.IsWhole) (arg9 : Memref sig .tc .vmem S256x128 .f32) (harg9 : arg9.IsWhole) (arg10 : Memref sig .tc .vmem S1x3584 .f32) (harg10 : arg10.IsWhole) (arg11 : Memref sig .tc .vmem S1x3584 .f32) (harg11 : arg11.IsWhole) (arg12 : Memref sig .tc .vmem S256x3584 .bf16) (harg12 : arg12.IsWhole) (arg13 : Memref sig .tc .vmem S1x3584 .f32) (harg13 : arg13.IsWhole) (arg14 : Memref sig .tc .vmem S1x3584 .f32) (harg14 : arg14.IsWhole)
    (x0 : Vec F S256x3584 .f32) (x1 : Vec F S256x128 .f32) (x2 : Vec F S256x3584 .f32) (x3 : Vec F S256x128 .f32) (x4 : Vec F S256x3584 .fp8e4m3) (x5 : Vec F S256x128 .f32) (x6 : Vec F S256x3584 .fp8e5m2) (x7 : Vec F S256x128 .f32) (x8 : Vec F S256x128 .f32) (x9 : Vec F S1x3584 .f32) (x10 : Vec F S1x3584 .f32) (x12 : Vec F S1x3584 .f32) (x13 : Vec F S1x3584 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare x12 ∗ owns (c : Thread nD τ) arg14 fullShare x13
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10) ∗ owns (c : Thread nD τ) arg13 fullShare (out0_12 i x2 x3 x4 x5 x12) ∗ owns (c : Thread nD τ) arg14 fullShare (out0_13 i x0 x1 x4 x5 x13)) -∗ K ⟨⟩))
      ⊢ wp frame (wpE (defs₀ (F := F)) Variants.none c none) E (cc0_ln i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_ln_eq_skeleton]; unfold cc0_ln_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, Hk⟩
  subst hf0 hf1 hf2 hf3 hf4 hf5 hf6 hf7 hf8 hf9 hf10 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (cover_big _)
  isplitl [H12]
  · iexists _; isplitr
    swap; · iexact H12
    ipureintro
    exact View.read_writes_eq_canon _ _ _ (cover_row _)
  iexists _; isplitr
  swap; · iexact H13
  ipureintro
  exact View.read_writes_eq_canon _ _ _ (cover_row _)

/-- What the attention gain's row holds after point `n`: each point adds to what the one before it left. -/
def acc12 (c : Dev nD) : (n : ℕ) → n < cfg0.N → Vec F S1x3584 .f32
  | 0, h => out0_12 (grid0.coords ⟨0, h⟩) (iblk m c 2 ⟨0, h⟩) (iblk m c 3 ⟨0, h⟩) (iblk m c 4 ⟨0, h⟩) (iblk m c 5 ⟨0, h⟩) (iblk m c 9 ⟨0, h⟩)
  | n + 1, h => out0_12 (grid0.coords ⟨n + 1, h⟩) (iblk m c 2 ⟨n + 1, h⟩) (iblk m c 3 ⟨n + 1, h⟩) (iblk m c 4 ⟨n + 1, h⟩) (iblk m c 5 ⟨n + 1, h⟩) (acc12 c n (Nat.lt_of_succ_lt h))

/-- What the other gain's row holds after point `n`: each point adds to what the one before it left. -/
def acc13 (c : Dev nD) : (n : ℕ) → n < cfg0.N → Vec F S1x3584 .f32
  | 0, h => out0_13 (grid0.coords ⟨0, h⟩) (iblk m c 0 ⟨0, h⟩) (iblk m c 1 ⟨0, h⟩) (iblk m c 4 ⟨0, h⟩) (iblk m c 5 ⟨0, h⟩) (iblk m c 9 ⟨0, h⟩)
  | n + 1, h => out0_13 (grid0.coords ⟨n + 1, h⟩) (iblk m c 0 ⟨n + 1, h⟩) (iblk m c 1 ⟨n + 1, h⟩) (iblk m c 4 ⟨n + 1, h⟩) (iblk m c 5 ⟨n + 1, h⟩) (acc13 c n (Nat.lt_of_succ_lt h))

/-- The proof data: after point `t` each input's block is as it was, `dx`'s is the body's result, and the two rows are the
    accumulated sums. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => acc12 m c t.val t.isLt
    | ⟨13, _⟩ => acc13 m c t.val t.isLt
  Φ _ := Pipeline.ΦA spec0 c
  q _ := fullShare
  owed _ := 0

/-- The proof data's arrays are those the pipeline finds. -/
theorem A_eq (c : Dev nD) (w : Fin cfg0.W) : (dats m 0 c).A w = V m c (Pipeline.arrRef spec0 w) := by
  dsimp only [dats]

/-- What each window's block holds after the body. -/
theorem after0_0 (c : Dev nD) (t : Fin cfg0.N) : (dats m 0 c).after 0 t = iblk m c 0 t := by dsimp only [dats]
/-- The same of window 1. -/
theorem after0_1 (c : Dev nD) (t : Fin cfg0.N) : (dats m 0 c).after 1 t = iblk m c 1 t := by dsimp only [dats]
/-- The same of window 2. -/
theorem after0_2 (c : Dev nD) (t : Fin cfg0.N) : (dats m 0 c).after 2 t = iblk m c 2 t := by dsimp only [dats]
/-- The same of window 3. -/
theorem after0_3 (c : Dev nD) (t : Fin cfg0.N) : (dats m 0 c).after 3 t = iblk m c 3 t := by dsimp only [dats]
/-- The same of window 4. -/
theorem after0_4 (c : Dev nD) (t : Fin cfg0.N) : (dats m 0 c).after 4 t = iblk m c 4 t := by dsimp only [dats]
/-- The same of window 5. -/
theorem after0_5 (c : Dev nD) (t : Fin cfg0.N) : (dats m 0 c).after 5 t = iblk m c 5 t := by dsimp only [dats]
/-- The same of window 6. -/
theorem after0_6 (c : Dev nD) (t : Fin cfg0.N) : (dats m 0 c).after 6 t = iblk m c 6 t := by dsimp only [dats]
/-- The same of window 7. -/
theorem after0_7 (c : Dev nD) (t : Fin cfg0.N) : (dats m 0 c).after 7 t = iblk m c 7 t := by dsimp only [dats]
/-- The same of window 8. -/
theorem after0_8 (c : Dev nD) (t : Fin cfg0.N) : (dats m 0 c).after 8 t = iblk m c 8 t := by dsimp only [dats]
/-- The same of window 9. -/
theorem after0_9 (c : Dev nD) (t : Fin cfg0.N) : (dats m 0 c).after 9 t = iblk m c 9 t := by dsimp only [dats]
/-- The same of window 10. -/
theorem after0_10 (c : Dev nD) (t : Fin cfg0.N) : (dats m 0 c).after 10 t = iblk m c 10 t := by dsimp only [dats]
/-- The same of window 11. -/
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
/-- The same of window 12. -/
theorem after0_12 (c : Dev nD) (t : Fin cfg0.N) : (dats m 0 c).after 12 t = acc12 m c t.val t.isLt := by dsimp only [dats]
/-- The same of window 13. -/
theorem after0_13 (c : Dev nD) (t : Fin cfg0.N) : (dats m 0 c).after 13 t = acc13 m c t.val t.isLt := by dsimp only [dats]

/-- What the body finds in each input's block: the array's block, fetched at this point or before. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- The same of window 1. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- The same of window 2. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- The same of window 3. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
/-- The same of window 4. -/
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
/-- The same of window 5. -/
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
/-- The same of window 6. -/
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
/-- The same of window 7. -/
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
/-- The same of window 8. -/
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
/-- The same of window 9. -/
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
/-- The same of window 10. -/
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)

/-- The row is written back at the last point alone. -/
theorem flush12 : ∀ t : Fin cfg0.N, t.val + 1 < cfg0.N → (cfg0.win 12).flush t = false :=
  (by decide +kernel : ∀ t : Fin grid0.N, t.val + 1 < grid0.N → win0_12.flush t = false)

/-- One step of the accumulation, from whatever the body finds in the row. -/
theorem acc12_step (c : Dev nD) (t : Fin cfg0.N) (d) : acc12 m c t.val t.isLt
    = out0_12 (grid0.coords t) (iblk m c 2 t) (iblk m c 3 t) (iblk m c 4 t) (iblk m c 5 t) ((dats m 0 c).before 12 t d) := by
  obtain ⟨n, hn⟩ := t
  cases n with
  | zero => exact out0_12_first _ (coords_val ⟨0, hn⟩) _ _ _ _ _ _
  | succ n =>
    rw [(dats m 0 c).before_out_kept 12 rfl ⟨n + 1, hn⟩ (Nat.succ_ne_zero n) (flush12 ⟨n, Nat.lt_of_succ_lt hn⟩ hn) (fun _ => rfl) (fun _ _ => rfl), after0_12]
    rfl

/-- The row is written back at the last point alone. -/
theorem flush13 : ∀ t : Fin cfg0.N, t.val + 1 < cfg0.N → (cfg0.win 13).flush t = false :=
  (by decide +kernel : ∀ t : Fin grid0.N, t.val + 1 < grid0.N → win0_13.flush t = false)

/-- One step of the accumulation, from whatever the body finds in the row. -/
theorem acc13_step (c : Dev nD) (t : Fin cfg0.N) (d) : acc13 m c t.val t.isLt
    = out0_13 (grid0.coords t) (iblk m c 0 t) (iblk m c 1 t) (iblk m c 4 t) (iblk m c 5 t) ((dats m 0 c).before 13 t d) := by
  obtain ⟨n, hn⟩ := t
  cases n with
  | zero => exact out0_13_first _ (coords_val ⟨0, hn⟩) _ _ _ _ _ _
  | succ n =>
    rw [(dats m 0 c).before_out_kept 13 rfl ⟨n + 1, hn⟩ (Nat.succ_ne_zero n) (flush13 ⟨n, Nat.lt_of_succ_lt hn⟩ hn) (fun _ => rfl) (fun _ _ => rfl), after0_13]
    rfl

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

/-- The body at point `t`, from what it finds to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  rw [acc12_step m c t d12, acc13_step m c t d13]
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 12 t d12) ((dats m 0 c).before 13 t d13) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [H13]; · iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The body's triple at every point, as the pipeline asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every array of the pipeline ends as the proof data computes it, every semaphore at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run an argument is as launched: no window stages it. -/
theorem kept {r : PUnit × MemSt nD τ sig (Elt F)} (h : Pipeline.FramePost cfgs (dats m) 0 (V m) r) (c : Dev nD) (b : Ref sig .tc)
    (hb : b ∈ ([main_arg0, main_arg1, main_arg2, main_arg3, main_arg4, main_arg5, main_arg6, main_arg7, main_arg8, main_arg9, main_arg10] : List (Ref sig .tc))) (hr : b ∈ Pipeline.restRefs sig spec0) :
    r.2.mem ((c : Thread nD τ).loc b) = m ((c : Thread nD τ).loc b) :=
  ((h c).2 b hr).trans (V_arg m c b hb)

/-- The eleven arguments end as launched. -/
abbrev Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)
  ∧ r.2.mem ((c.tc : Thread nD τ).loc main_arg10) = m ((c.tc : Thread nD τ).loc main_arg10)

/-- They do. -/
theorem kept_all {r : PUnit × MemSt nD τ sig (Elt F)} (h : Pipeline.FramePost cfgs (dats m) 0 (V m) r) (c : Dev nD) : Kept m r c := by
  refine ⟨?_, ?_, ?_, ?_, ?_, ?_, ?_, ?_, ?_, ?_, ?_⟩ <;>
    exact kept m h c _ (by simp only [List.mem_cons, true_or, or_true]) (Pipeline.mem_restRefs_of _ (by decide) (by decide))

/-- The frame claim: the run terminates, the arguments as launched, every semaphore at zero. -/
theorem frame : θ_run defs (onTc (τ := τ) (main (F := F))) ⟨m, fun _ => 0, ρ⟩ (fun r => (∀ c : Dev nD, Kept m r c)
      ∧ r.2.sem = fun _ => 0) :=
  (θ_run defs _ _).mono (fun _ h => ⟨fun c => kept_all m h.1 c, h.2⟩) (run_main m ρ)

/-- The run with the three results named, the arguments as launched. -/
theorem run_blocks : θ_run defs (onTc (τ := τ) (main (F := F))) ⟨m, fun _ => 0, ρ⟩ fun r => ∀ c : Dev nD,
      r.2.mem ((c : Thread nD τ).loc main_v16_0) = (dats m 0 c).arrAt 11 cfg0.N
      ∧ r.2.mem ((c : Thread nD τ).loc main_v16_1) = (dats m 0 c).arrAt 12 cfg0.N
      ∧ r.2.mem ((c : Thread nD τ).loc main_v16_2) = (dats m 0 c).arrAt 13 cfg0.N ∧ Kept m r c :=
  (θ_run defs _ _).mono (fun r h c => ⟨(h.1 c).1 11, (h.1 c).1 12, (h.1 c).1 13, kept_all m h.1 c⟩) (run_main m ρ)

end Cert.LnIdeal.Hand

end
-- ==== Proof.LnFrame.lean ====
/- The frame of `proofs.«01_k».proof.Ln`'s kernel at the machine's floats: with its named constant read as the value of
   its pattern, the program over the extended reals is the same program, so that one's frame, proved at any float
   values and any reading of the constant, serves. -/
module

public import proofs.«01_k».proof.Proof.LnIdealRun
public import proofs.«01_k».proof.Proof.Gen.Ln.Skeleton
public import proofs.«01_k».proof.Defs

@[expose] public section

set_option maxRecDepth 65536

noncomputable section

namespace Cert.LnIdeal.Plain

open Idealize.ShloMosaic

/-- Every named constant read as the value of its pattern. -/
abbrev plain {F : FTy → Type} [FloatOps F] : Named F := ⟨fun _ _ {φ} b => Scalar.ofBits φ b⟩

attribute [local instance] plain

set_option maxHeartbeats 4000000 in
/-- The kernel's body table is the one over the extended reals, its constant read as its pattern. -/
theorem tables : (Cert.Ln.defs₀ (F := Bits)) = Cert.LnIdeal.defs₀ (F := Bits) := by
  unfold Cert.Ln.defs₀ Cert.LnIdeal.defs₀
  refine congrArg Defs.onTc ?_
  funext l x
  match l with
  | ⟨0, _⟩ => rfl
  | ⟨k + 1, h⟩ => exact absurd h (Nat.not_lt.2 (Nat.le_add_left _ _))

set_option maxHeartbeats 4000000 in
/-- The frame claim of the kernel at the machine's floats. -/
theorem quiescent : @Cert.quiescent_Ln Cert.Ln.Gen.facts := by
  intro m g _
  have h := Cert.LnIdeal.Hand.frame (F := Bits) m g
  rw [show (Cert.LnIdeal.defs (F := Bits)) = Cert.Ln.defs (F := Bits) from congrArg (Pipeline.defs Cert.Ln.pcfgs) tables.symm] at h
  exact h

end Cert.LnIdeal.Plain

end
-- ==== Proof.LnSpec.lean ====
/- The layer-norm backward call over the extended reals: what its three results are, entry by entry, in the arguments. -/
module

public import proofs.«01_k».proof.Proof.Tokens
public import proofs.«01_k».proof.LnIdeal

@[expose] public section

noncomputable section

open Idealize.ShloMosaic Tokens

namespace Cert.LnIdeal.Hand

open Cert.LnIdeal

/-- A token array's entry at row `k` and column `d`, times its token's scale. -/
def B3 {e : FTy} (x : FVec Ideal S5x1024x3584 e) (s : FVec Ideal S5x1024 .f32) (k : Fin 5120) (d : Fin 3584) : EReal :=
  (x (ix3 (tb k) (ts k) d) : EReal) * s (ix2 (tb k) (ts k))

/-- The gradient of the normalized row: each branch's gradient times its gain, added. -/
def DXH (a b ga gm : Fin 3584 → EReal) (d : Fin 3584) : EReal := a d * ga d + b d * gm d

/-- The gradient of the layer norm's input at one entry of a row: the residual gradient `y`, plus the row's inverse deviation
    `r` times what is left of the normalized row's gradient when its mean and its projection on the row are taken off. -/
def LN (a b x ga gm : Fin 3584 → EReal) (r y : EReal) (d : Fin 3584) : EReal :=
  y + r * ((DXH a b ga gm d - (∑ e : Fin 3584, DXH a b ga gm e) * ((1 / 3584 : ℝ) : EReal))
    - x d * ((∑ e : Fin 3584, DXH a b ga gm e * x e) * ((1 / 3584 : ℝ) : EReal)))

/-- The gradient of the layer norm's input. -/
def G1 (dhm : FVec Ideal S5x1024x3584 .f32) (das : FVec Ideal S5x1024 .f32) (dha : FVec Ideal S5x1024x3584 .f32) (dqs : FVec Ideal S5x1024 .f32)
    (xh : FVec Ideal S5x1024x3584 .fp8e4m3) (xs : FVec Ideal S5x1024 .f32) (dy : FVec Ideal S5x1024x3584 .fp8e5m2) (ys rs : FVec Ideal S5x1024 .f32)
    (ga gm : FVec Ideal S3584 .f32) : FVec Ideal S5120x3584 .bf16 := fun i =>
  LN (B3 dha dqs (i 0)) (B3 dhm das (i 0)) (B3 xh xs (i 0)) (fun d => ga (ix1 d)) (fun d => gm (ix1 d)) (rs (ix2 (tb (i 0)) (ts (i 0)))) (B3 dy ys (i 0) (i 1)) (i 1)

/-- A token's part of a gain's gradient: the branch's gradient times the normalized row. -/
def PR (dh : FVec Ideal S5x1024x3584 .f32) (s : FVec Ideal S5x1024 .f32) (xh : FVec Ideal S5x1024x3584 .fp8e4m3) (xs : FVec Ideal S5x1024 .f32)
    (d : Fin 3584) (k : Fin 5120) : EReal := B3 dh s k d * B3 xh xs k d

/-- The gradient of a gain: the sum over all tokens. -/
def G2 (dh : FVec Ideal S5x1024x3584 .f32) (s : FVec Ideal S5x1024 .f32) (xh : FVec Ideal S5x1024x3584 .fp8e4m3) (xs : FVec Ideal S5x1024 .f32) :
    FVec Ideal S1x3584 .f32 := fun i => ∑ k : Fin 5120, PR dh s xh xs (i 1) k

end Cert.LnIdeal.Hand
end
-- ==== Proof.LnRefValue.lean ====
/- The reference of the layer-norm backward call leaves the same three arrays. -/
module

public import proofs.«01_k».proof.Proof.Gen.LnRefIdeal.Value
public import proofs.«01_k».proof.Proof.LnSpec
public import proofs.«01_k».proof.Proof.DaValue

@[expose] public section

set_option maxRecDepth 16384

noncomputable section

open Idealize.ShloMosaic Idealize.ShloMosaic.TcCoe Idealize.SL.Sem
open Idealize.ShloMosaic.Pipeline (Dat)

namespace Cert.LnRefIdeal.ArrayValue

open Cert.LnRefIdeal Cert.LnRefIdeal.Gen Tokens
open Cert.LnIdeal.Hand (B3 PR DXH LN G1 G2)

variable (m : (ℓ : Loc nD τ sig) → Buf (Elt Ideal) ℓ)

/-- Every window is its whole array at the one grid point. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] :=
  (by decide +kernel : ∀ t : Fin grid0.N, _)

/-- What the reference reads of its argument 0. -/
theorem rd0 (c : Dev nD) (t : Fin cfg0.N) (k : Fin 5120) (d : Fin 3584) : iblk m c 0 t (ix2 k d) = m ((c : Thread nD τ).loc main_arg0) (ix3 (tb k) (ts k) d) := by
  have h : V m c main_v0 = shapeCast S5120x3584 (m ((c : Thread nD τ).loc main_arg0)) shapeCasts_S5x1024x3584_S5120x3584 := by
    entry_read
    rfl
  blk_simp [iblk]
  refine Eq.trans ?_ ((congrFun h (ix2 k d)).trans (cast3 _ _ _ _))
  blk_ext [idx t]

/-- What the reference reads of its argument 1. -/
theorem rd1 (c : Dev nD) (t : Fin cfg0.N) (k : Fin 5120) (u : Fin 1) : iblk m c 1 t (ix2 k u) = m ((c : Thread nD τ).loc main_arg1) (ix2 (tb k) (ts k)) := by
  have h : V m c main_v1 = shapeCast S5120x1 (m ((c : Thread nD τ).loc main_arg1)) shapeCasts_S5x1024_S5120x1 := by
    entry_read
    rfl
  blk_simp [iblk]
  refine Eq.trans ?_ ((congrFun h (ix2 k u)).trans (cast2 _ _ _ _))
  blk_ext [idx t]

/-- What the reference reads of its argument 2. -/
theorem rd2 (c : Dev nD) (t : Fin cfg0.N) (k : Fin 5120) (d : Fin 3584) : iblk m c 2 t (ix2 k d) = m ((c : Thread nD τ).loc main_arg2) (ix3 (tb k) (ts k) d) := by
  have h : V m c main_v2 = shapeCast S5120x3584 (m ((c : Thread nD τ).loc main_arg2)) shapeCasts_S5x1024x3584_S5120x3584 := by
    entry_read
    rfl
  blk_simp [iblk]
  refine Eq.trans ?_ ((congrFun h (ix2 k d)).trans (cast3 _ _ _ _))
  blk_ext [idx t]

/-- What the reference reads of its argument 3. -/
theorem rd3 (c : Dev nD) (t : Fin cfg0.N) (k : Fin 5120) (u : Fin 1) : iblk m c 3 t (ix2 k u) = m ((c : Thread nD τ).loc main_arg3) (ix2 (tb k) (ts k)) := by
  have h : V m c main_v3 = shapeCast S5120x1 (m ((c : Thread nD τ).loc main_arg3)) shapeCasts_S5x1024_S5120x1 := by
    entry_read
    rfl
  blk_simp [iblk]
  refine Eq.trans ?_ ((congrFun h (ix2 k u)).trans (cast2 _ _ _ _))
  blk_ext [idx t]

/-- What the reference reads of its argument 4. -/
theorem rd4 (c : Dev nD) (t : Fin cfg0.N) (k : Fin 5120) (d : Fin 3584) : iblk m c 4 t (ix2 k d) = m ((c : Thread nD τ).loc main_arg4) (ix3 (tb k) (ts k) d) := by
  have h : V m c main_v4 = shapeCast S5120x3584 (m ((c : Thread nD τ).loc main_arg4)) shapeCasts_S5x1024x3584_S5120x3584 := by
    entry_read
    rfl
  blk_simp [iblk]
  refine Eq.trans ?_ ((congrFun h (ix2 k d)).trans (cast3 _ _ _ _))
  blk_ext [idx t]

/-- What the reference reads of its argument 5. -/
theorem rd5 (c : Dev nD) (t : Fin cfg0.N) (k : Fin 5120) (u : Fin 1) : iblk m c 5 t (ix2 k u) = m ((c : Thread nD τ).loc main_arg5) (ix2 (tb k) (ts k)) := by
  have h : V m c main_v5 = shapeCast S5120x1 (m ((c : Thread nD τ).loc main_arg5)) shapeCasts_S5x1024_S5120x1 := by
    entry_read
    rfl
  blk_simp [iblk]
  refine Eq.trans ?_ ((congrFun h (ix2 k u)).trans (cast2 _ _ _ _))
  blk_ext [idx t]

/-- What the reference reads of its argument 6. -/
theorem rd6 (c : Dev nD) (t : Fin cfg0.N) (k : Fin 5120) (d : Fin 3584) : iblk m c 6 t (ix2 k d) = m ((c : Thread nD τ).loc main_arg6) (ix3 (tb k) (ts k) d) := by
  have h : V m c main_v6 = shapeCast S5120x3584 (m ((c : Thread nD τ).loc main_arg6)) shapeCasts_S5x1024x3584_S5120x3584 := by
    entry_read
    rfl
  blk_simp [iblk]
  refine Eq.trans ?_ ((congrFun h (ix2 k d)).trans (cast3 _ _ _ _))
  blk_ext [idx t]

/-- What the reference reads of its argument 7. -/
theorem rd7 (c : Dev nD) (t : Fin cfg0.N) (k : Fin 5120) (u : Fin 1) : iblk m c 7 t (ix2 k u) = m ((c : Thread nD τ).loc main_arg7) (ix2 (tb k) (ts k)) := by
  have h : V m c main_v7 = shapeCast S5120x1 (m ((c : Thread nD τ).loc main_arg7)) shapeCasts_S5x1024_S5120x1 := by
    entry_read
    rfl
  blk_simp [iblk]
  refine Eq.trans ?_ ((congrFun h (ix2 k u)).trans (cast2 _ _ _ _))
  blk_ext [idx t]

/-- What the reference reads of its argument 8. -/
theorem rd8 (c : Dev nD) (t : Fin cfg0.N) (k : Fin 5120) (u : Fin 1) : iblk m c 8 t (ix2 k u) = m ((c : Thread nD τ).loc main_arg8) (ix2 (tb k) (ts k)) := by
  have h : V m c main_v8 = shapeCast S5120x1 (m ((c : Thread nD τ).loc main_arg8)) shapeCasts_S5x1024_S5120x1 := by
    entry_read
    rfl
  blk_simp [iblk]
  refine Eq.trans ?_ ((congrFun h (ix2 k u)).trans (cast2 _ _ _ _))
  blk_ext [idx t]

/-- What the reference reads of its argument 9. -/
theorem rd9 (c : Dev nD) (t : Fin cfg0.N) (d : Fin 3584) : iblk m c 9 t (ix2 0 d) = m ((c : Thread nD τ).loc main_arg9) (ix1 d) := by
  have h : V m c main_v9 = shapeCast S1x3584 (m ((c : Thread nD τ).loc main_arg9)) shapeCasts_S3584_S1x3584 := by
    entry_read
    rfl
  blk_simp [iblk]
  refine Eq.trans ?_ ((congrFun h (ix2 0 d)).trans (Cert.DaIdeal.Hand.castRow _ _ _))
  blk_ext [idx t]

/-- What the reference reads of its argument 10. -/
theorem rd10 (c : Dev nD) (t : Fin cfg0.N) (d : Fin 3584) : iblk m c 10 t (ix2 0 d) = m ((c : Thread nD τ).loc main_arg10) (ix1 d) := by
  have h : V m c main_v10 = shapeCast S1x3584 (m ((c : Thread nD τ).loc main_arg10)) shapeCasts_S3584_S1x3584 := by
    entry_read
    rfl
  blk_simp [iblk]
  refine Eq.trans ?_ ((congrFun h (ix2 0 d)).trans (Cert.DaIdeal.Hand.castRow _ _ _))
  blk_ext [idx t]

/-- The number the reference divides by. -/
theorem dim : Ideal.ofBits FTy.f32 0x45600000#32 = ((3584 : ℝ) : EReal) := by
  simp [Ideal.ofBits, Ideal.ieee, -EReal.coe_mul]; norm_num

/-- Dividing by it is multiplying by its inverse. -/
theorem div_dim (x : EReal) : Ideal.div x (Ideal.ofBits FTy.f32 0x45600000#32) = x * ((1 / 3584 : ℝ) : EReal) := by
  rw [dim, Ideal.div, if_neg (by exact_mod_cast (by norm_num : (3584 : ℝ) ≠ 0)), ← EReal.coe_inv, one_div]

/-- A branch's gradient. -/
theorem pay2_at (x : Vec Ideal S5120x3584 .f32) (s : Vec Ideal S5120x1 .f32) (k : Fin 5120) (d : Fin 3584) :
    k0_pay2 (F := Ideal) x s (ix2 k d) = (x (ix2 k d) : EReal) * s (ix2 k 0) := by
  pointwise [k0_pay2]

/-- The other branch's. -/
theorem pay3_at (x : Vec Ideal S5120x3584 .f32) (s : Vec Ideal S5120x1 .f32) (k : Fin 5120) (d : Fin 3584) :
    k0_pay3 (F := Ideal) x s (ix2 k d) = (x (ix2 k d) : EReal) * s (ix2 k 0) := by
  pointwise [k0_pay3]

/-- The normalized rows. -/
theorem pay4_at (x : Vec Ideal S5120x3584 .fp8e4m3) (s : Vec Ideal S5120x1 .f32) (k : Fin 5120) (d : Fin 3584) :
    k0_pay4 (F := Ideal) x s (ix2 k d) = (x (ix2 k d) : EReal) * s (ix2 k 0) := by
  pointwise [k0_pay4]

/-- The sum over the tokens. -/
theorem red_at (x y : FVec Ideal S5120x3584 .f32) (d : Fin 3584) :
    shapeCast S1x3584 (multiReduction (F := Ideal) .add [0] S3584 (mulf x y) 0x00000000#32 reduces_S5120x3584_S3584 (.inl rfl) rfl) shapeCasts_S3584_S1x3584 (ix2 0 d)
      = ∑ k : Fin 5120, ((x (ix2 k d) : EReal) * y (ix2 k d)) := by
  pointwise []

/-- The gradient of the normalized rows. -/
theorem pay7_at (b : Vec Ideal S5120x3584 .f32) (bs : Vec Ideal S5120x1 .f32) (a : Vec Ideal S5120x3584 .f32) (ac : Vec Ideal S5120x1 .f32)
    (g1 g2 : Vec Ideal S1x3584 .f32) (k : Fin 5120) (d : Fin 3584) :
    k0_pay7 (F := Ideal) b bs a ac g1 g2 (ix2 k d) = DXH (fun d => k0_pay3 (F := Ideal) a ac (ix2 k d)) (fun d => k0_pay2 (F := Ideal) b bs (ix2 k d))
      (fun d => g1 (ix2 0 d)) (fun d => g2 (ix2 0 d)) d := by
  unfold k0_pay7 DXH
  generalize k0_pay3 (F := Ideal) a ac = A
  generalize k0_pay2 (F := Ideal) b bs = B
  pointwise []

/-- The input's gradient, in that of the normalized rows. -/
theorem pay1_at (x h : FVec Ideal S5120x3584 .f32) (r : Vec Ideal S5120x1 .f32) (dy : Vec Ideal S5120x3584 .fp8e5m2) (ys : Vec Ideal S5120x1 .f32)
    (k : Fin 5120) (d : Fin 3584) :
    k0_pay1 (F := Ideal) x h r dy ys (ix2 k d) = (dy (ix2 k d) : EReal) * ys (ix2 k 0) + (r (ix2 k 0) : EReal)
      * (((h (ix2 k d) : EReal) - (∑ e : Fin 3584, (h (ix2 k e) : EReal)) * ((1 / 3584 : ℝ) : EReal))
        - (x (ix2 k d) : EReal) * ((∑ e : Fin 3584, (h (ix2 k e) : EReal) * x (ix2 k e)) * ((1 / 3584 : ℝ) : EReal))) := by
  rw [← div_dim, ← div_dim]
  pointwise [k0_pay1]

/-- What the reference leaves in a gain's gradient is the kernel's array. -/
theorem final12 (c : Dev nD) : (dats m 0 c).arrAt 12 cfg0.N = G2 (m ((c : Thread nD τ).loc main_arg2)) (m ((c : Thread nD τ).loc main_arg3)) (m ((c : Thread nD τ).loc main_arg4)) (m ((c : Thread nD τ).loc main_arg5)) := by
  refine (dats m 0 c).arrAt_eq_of_covers 12 _ (by decide +kernel) fun t _ y => ?_
  blk_simp
  rw [after0_12]; frame_out
  have hy : y = ix2 0 (y 1) := (eq_ix2 y).trans (congrArg (fun u => ix2 u (y 1)) (Subsingleton.elim _ _))
  refine Eq.trans (congrArg _ hy) (Eq.trans (b := G2 (m ((c : Thread nD τ).loc main_arg2)) (m ((c : Thread nD τ).loc main_arg3)) (m ((c : Thread nD τ).loc main_arg4)) (m ((c : Thread nD τ).loc main_arg5)) (ix2 0 (y 1))) ?_ (congrArg _ ?_))
  · refine (red_at _ _ (y 1)).trans (Finset.sum_congr rfl fun k _ => ?_)
    exact congrArg₂ (fun x y : EReal => x * y) ((pay3_at _ _ k (y 1)).trans (congrArg₂ (fun x y : EReal => x * y) (rd2 m c t k (y 1)) (rd3 m c t k 0)))
      ((pay4_at _ _ k (y 1)).trans (congrArg₂ (fun x y : EReal => x * y) (rd4 m c t k (y 1)) (rd5 m c t k 0)))
  · blk_ext [idx t]

/-- What the reference leaves in a gain's gradient is the kernel's array. -/
theorem final13 (c : Dev nD) : (dats m 0 c).arrAt 13 cfg0.N = G2 (m ((c : Thread nD τ).loc main_arg0)) (m ((c : Thread nD τ).loc main_arg1)) (m ((c : Thread nD τ).loc main_arg4)) (m ((c : Thread nD τ).loc main_arg5)) := by
  refine (dats m 0 c).arrAt_eq_of_covers 13 _ (by decide +kernel) fun t _ y => ?_
  blk_simp
  rw [after0_13]; frame_out
  have hy : y = ix2 0 (y 1) := (eq_ix2 y).trans (congrArg (fun u => ix2 u (y 1)) (Subsingleton.elim _ _))
  refine Eq.trans (congrArg _ hy) (Eq.trans (b := G2 (m ((c : Thread nD τ).loc main_arg0)) (m ((c : Thread nD τ).loc main_arg1)) (m ((c : Thread nD τ).loc main_arg4)) (m ((c : Thread nD τ).loc main_arg5)) (ix2 0 (y 1))) ?_ (congrArg _ ?_))
  · refine (red_at _ _ (y 1)).trans (Finset.sum_congr rfl fun k _ => ?_)
    exact congrArg₂ (fun x y : EReal => x * y) ((pay2_at _ _ k (y 1)).trans (congrArg₂ (fun x y : EReal => x * y) (rd0 m c t k (y 1)) (rd1 m c t k 0)))
      ((pay4_at _ _ k (y 1)).trans (congrArg₂ (fun x y : EReal => x * y) (rd4 m c t k (y 1)) (rd5 m c t k 0)))
  · blk_ext [idx t]

/-- What the reference leaves in the input's gradient, entry by entry. -/
theorem point11 (c : Dev nD) (t : Fin cfg0.N) (k : Fin 5120) (d : Fin 3584) :
    k0_pay1 (F := Ideal) (k0_pay4 (iblk m c 4 t) (iblk m c 5 t)) (k0_pay7 (iblk m c 0 t) (iblk m c 1 t) (iblk m c 2 t) (iblk m c 3 t) (iblk m c 9 t) (iblk m c 10 t))
      (iblk m c 8 t) (iblk m c 6 t) (iblk m c 7 t) (ix2 k d) = G1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 k d) := by
  refine (pay1_at _ _ _ _ _ k d).trans ?_
  have ea : (fun d => k0_pay3 (F := Ideal) (iblk m c 2 t) (iblk m c 3 t) (ix2 k d)) = B3 (e := .f32) (m ((c : Thread nD τ).loc main_arg2)) (m ((c : Thread nD τ).loc main_arg3)) k := funext fun d =>
    (pay3_at _ _ k d).trans (congrArg₂ (fun x y : EReal => x * y) (rd2 m c t k d) (rd3 m c t k 0))
  have eb : (fun d => k0_pay2 (F := Ideal) (iblk m c 0 t) (iblk m c 1 t) (ix2 k d)) = B3 (e := .f32) (m ((c : Thread nD τ).loc main_arg0)) (m ((c : Thread nD τ).loc main_arg1)) k := funext fun d =>
    (pay2_at _ _ k d).trans (congrArg₂ (fun x y : EReal => x * y) (rd0 m c t k d) (rd1 m c t k 0))
  have eh : ∀ d, k0_pay7 (F := Ideal) (iblk m c 0 t) (iblk m c 1 t) (iblk m c 2 t) (iblk m c 3 t) (iblk m c 9 t) (iblk m c 10 t) (ix2 k d)
      = DXH (B3 (e := .f32) (m ((c : Thread nD τ).loc main_arg2)) (m ((c : Thread nD τ).loc main_arg3)) k) (B3 (e := .f32) (m ((c : Thread nD τ).loc main_arg0)) (m ((c : Thread nD τ).loc main_arg1)) k) (fun d => m ((c : Thread nD τ).loc main_arg9) (ix1 d)) (fun d => m ((c : Thread nD τ).loc main_arg10) (ix1 d)) d := fun d => by
    refine (pay7_at _ _ _ _ _ _ k d).trans ?_
    rw [ea, eb, show (fun d => iblk m c 9 t (ix2 0 d)) = fun d => m ((c : Thread nD τ).loc main_arg9) (ix1 d) from funext (rd9 m c t),
      show (fun d => iblk m c 10 t (ix2 0 d)) = fun d => m ((c : Thread nD τ).loc main_arg10) (ix1 d) from funext (rd10 m c t)]
  have ex : ∀ d, k0_pay4 (F := Ideal) (iblk m c 4 t) (iblk m c 5 t) (ix2 k d) = B3 (e := .fp8e4m3) (m ((c : Thread nD τ).loc main_arg4)) (m ((c : Thread nD τ).loc main_arg5)) k d := fun d =>
    (pay4_at _ _ k d).trans (congrArg₂ (fun x y : EReal => x * y) (rd4 m c t k d) (rd5 m c t k 0))
  simp only [eh, ex]
  rw [rd6 m c t k d, rd7 m c t k 0, rd8 m c t k 0]
  rfl

/-- What the reference leaves in the input's gradient is the kernel's array. -/
theorem final11 (c : Dev nD) : (dats m 0 c).arrAt 11 cfg0.N = G1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t _ y => ?_
  blk_simp
  rw [after0_11]; frame_out
  refine Eq.trans (congrArg _ (eq_ix2 y)) ((point11 m c t (y 0) (y 1)).trans (congrArg _ ?_))
  blk_ext [idx t]

end Cert.LnRefIdeal.ArrayValue
end
-- ==== Proof.LnPay.lean ====
/- What the layer-norm backward body computes on a tile of 256 tokens, read over the extended reals. -/
module

public import proofs.«01_k».proof.Proof.Gen.LnIdeal.Skeleton
public import proofs.«01_k».proof.Proof.Gen.LnIdeal.Launch
public import proofs.«01_k».proof.Proof.LnSpec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.LnIdeal.Hand

open Cert.LnIdeal Cert.LnIdeal.Gen

/-- The lane of a scale block that column `d` reads: the block of 128 lanes is copied 28 times. -/
abbrev lane (d : Fin 3584) : Fin 128 := ⟨d.val % 128, Nat.mod_lt _ (by decide)⟩

/-- A scale block copied 28 times along the lanes. -/
def lanes28 (w : Vec Ideal S256x128 .f32) : FVec Ideal S256x3584 .f32 :=
  concatenate S256x3584 1 [⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩] concatenates_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x3584_d1

/-- It, read at row `k` and column `d`. -/
theorem rep28 (w : Vec Ideal S256x128 .f32) (k : Fin 256) (d : Fin 3584) : lanes28 w (ix2 k d) = w (ix2 k (lane d)) :=
  concatenate_replicate_apply (t := S256x3584) (1 : Fin 2) 28 w concatenates_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x3584_d1 rfl (ix2 k d)
    (ix2 k (lane d)) rfl
    (fun b hb => by
      match b, hb with
      | ⟨0, _⟩, _ => rfl
      | ⟨1, _⟩, hb => exact absurd rfl hb)

/-- A block times its tokens' scales. -/
def A1 {e : FTy} (x : FVec Ideal S256x3584 e) (s : Vec Ideal S256x128 .f32) (k : Fin 256) (d : Fin 3584) : EReal :=
  (x (ix2 k d) : EReal) * s (ix2 k (lane d))

/-- The product with the scales, the loads' reshapes changing nothing. -/
theorem mul_lanes (x : FVec Ideal S256x3584 .f32) (s : Vec Ideal S256x128 .f32) (k : Fin 256) (d : Fin 3584) :
    mulf x (lanes28 (shapeCast S256x128 s shapeCasts_S256x128_S256x128)) (ix2 k d) = A1 x s k d := by
  rw [shapeCast_self s]
  exact congrArg (fun y : EReal => (x (ix2 k d) : EReal) * y) (rep28 s k d)

/-- The MLP branch's gradient. -/
theorem pay2_at (x : Vec Ideal S256x3584 .f32) (s : Vec Ideal S256x128 .f32) (k : Fin 256) (d : Fin 3584) :
    k0_pay2 (F := Ideal) x s (ix2 k d) = A1 (e := .f32) x s k d := by
  refine (mul_lanes (shapeCast S256x3584 x shapeCasts_S256x3584_S256x3584) s k d).trans ?_
  rw [shapeCast_self x]

/-- The attention branch's gradient. -/
theorem pay3_at (x : Vec Ideal S256x3584 .f32) (s : Vec Ideal S256x128 .f32) (k : Fin 256) (d : Fin 3584) :
    k0_pay3 (F := Ideal) x s (ix2 k d) = A1 (e := .f32) x s k d := pay2_at x s k d

/-- The normalized rows. -/
theorem pay4_at (x : Vec Ideal S256x3584 .fp8e4m3) (s : Vec Ideal S256x128 .f32) (k : Fin 256) (d : Fin 3584) :
    k0_pay4 (F := Ideal) x s (ix2 k d) = A1 (e := .fp8e4m3) x s k d := by
  refine (mul_lanes (extf .f32 (shapeCast S256x3584 x shapeCasts_S256x3584_S256x3584) bitsLt_fp8e4m3_f32) s k d).trans ?_
  rw [shapeCast_self x]
  rfl

/-- The sum over a tile's tokens, as the body adds it to a row. -/
theorem red_at (x y : FVec Ideal S256x3584 .f32) (d : Fin 3584) :
    shapeCast S1x3584 (multiReduction (F := Ideal) .add [0] S3584 (mulf x y) 0x00000000#32 reduces_S256x3584_S3584 (.inl rfl) rfl) shapeCasts_S3584_S1x3584 (ix2 0 d)
      = ∑ k : Fin 256, ((x (ix2 k d) : EReal) * y (ix2 k d)) := by
  pointwise []

/-- What the first point leaves in a row. -/
theorem sel_first (i : grid0.Coords) (h : (i 0).val = 0) (p q : FVec Ideal S1x3584 .f32) :
    Scalar.select (Scalar.cmpi .eq (BitVec.ofNat 32 (i 0).val) 0#32) p q = p := by
  rw [h]; rfl

/-- What a later point leaves in a row. -/
theorem sel_later (i : grid0.Coords) (h : (i 0).val ≠ 0) (p q : FVec Ideal S1x3584 .f32) :
    Scalar.select (Scalar.cmpi .eq (BitVec.ofNat 32 (i 0).val) 0#32) p q = q := by
  have e : ∀ n : Fin 20, n.val ≠ 0 → Scalar.cmpi .eq (BitVec.ofNat 32 n.val) 0#32 = 0#1 := by decide +kernel
  rw [e ⟨(i 0).val, (i 0).isLt⟩ h]; rfl

/-- The inverse of the model dimension, as the kernel names it. -/
theorem k_inv : (Named.named (F := Ideal) κ "inv_d" 0x39924925#32 : Ideal .f32) = ((1 / 3584 : ℝ) : EReal) :=
  IdealRules.named_const.ideal_named_scalar _ _ _ _ rfl

/-- The input's gradient on a tile. -/
theorem pay1_at (b a x : FVec Ideal S256x3584 .f32) (g1 g2 : Vec Ideal S1x3584 .f32) (r : Vec Ideal S256x128 .f32) (dy : Vec Ideal S256x3584 .fp8e5m2)
    (ys : Vec Ideal S256x128 .f32) (k : Fin 256) (d : Fin 3584) :
    k0_pay1 (F := Ideal) b a x g1 g2 r dy ys (ix2 k d) = LN (fun d => a (ix2 k d)) (fun d => b (ix2 k d)) (fun d => x (ix2 k d))
      (fun d => g1 (ix2 0 d)) (fun d => g2 (ix2 0 d)) (r (ix2 k (lane d))) (A1 (e := .fp8e5m2) dy ys k d) d := by
  have fold : ∀ w : Vec Ideal S256x128 .f32, concatenate S256x3584 1 [⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩, ⟨S256x128, w⟩] concatenates_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x3584_d1 = lanes28 w := fun _ => rfl
  unfold k0_pay1 LN DXH A1
  dsimp only
  rw [fold, fold, shapeCast_self r, shapeCast_self ys, ← rep28 r k d, ← rep28 ys k d, ← k_inv]
  generalize lanes28 r = R
  generalize lanes28 ys = Y
  pointwise []

end Cert.LnIdeal.Hand
end
-- ==== Proof.LnValue.lean ====
/- The layer-norm backward call over the extended reals: each result array is the one `LnSpec` names. -/
module

public import proofs.«01_k».proof.Proof.LnIdealRun
public import proofs.«01_k».proof.Proof.LnPay
public import proofs.«01_k».proof.Proof.DaValue

@[expose] public section

set_option maxRecDepth 16384

noncomputable section

open Idealize.ShloMosaic Idealize.ShloMosaic.TcCoe Idealize.SL.Sem
open Idealize.ShloMosaic.Pipeline (Dat)

namespace Cert.LnIdeal.Hand

open Cert.LnIdeal Cert.LnIdeal.Gen Tokens

variable (m : (ℓ : Loc nD τ sig) → Buf (Elt Ideal) ℓ)

/-- The block index of each window at each point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_11.index t = ![t.val, 0] ∧ win0_9.index t = ![0, 0] ∧ win0_10.index t = ![0, 0] ∧ win0_12.index t = ![0, 0] ∧ win0_13.index t = ![0, 0] :=
  (by decide +kernel : ∀ t : Fin grid0.N, _)

/-- The token that row `k` of point `t`'s blocks is. -/
abbrev row (t : Fin cfg0.N) (k : Fin 256) : Fin 5120 := ⟨t.val * 256 + k.val, by
  have h : t.val < 20 := lt_of_lt_of_eq t.isLt (show cfg0.N = 20 from N_0)
  omega⟩

/-- The block of the MLP branch's gradient. -/
theorem rd0 (c : Dev nD) (t : Fin cfg0.N) (k : Fin 256) (d : Fin 3584) : iblk m c 0 t (ix2 k d) = m ((c : Thread nD τ).loc main_arg0) (ix3 (tb (row t k)) (ts (row t k)) d) := by
  have h : V m c main_v0 = shapeCast S5120x3584 (m ((c : Thread nD τ).loc main_arg0)) shapeCasts_S5x1024x3584_S5120x3584 := by
    entry_read
    rfl
  blk_simp [iblk]
  refine Eq.trans ?_ ((congrFun h (ix2 (row t k) d)).trans (cast3 _ _ _ _))
  blk_ext [idx t]

/-- The block of its scales. -/
theorem rd1 (c : Dev nD) (t : Fin cfg0.N) (k : Fin 256) (l : Fin 128) : iblk m c 1 t (ix2 k l) = m ((c : Thread nD τ).loc main_arg1) (ix2 (tb (row t k)) (ts (row t k))) := by
  have h : V m c main_v2 = broadcastInDim S5120x128 ![0, 1] bcast_S5120x1_S5120x128_0_1 (shapeCast S5120x1 (m ((c : Thread nD τ).loc main_arg1)) shapeCasts_S5x1024_S5120x1) := by
    entry_read
    rfl
  blk_simp [iblk]
  refine Eq.trans ?_ ((congrFun h (ix2 (row t k) l)).trans (lanes _ _ _ _ _))
  blk_ext [idx t]

/-- The block of the attention branch's gradient. -/
theorem rd2 (c : Dev nD) (t : Fin cfg0.N) (k : Fin 256) (d : Fin 3584) : iblk m c 2 t (ix2 k d) = m ((c : Thread nD τ).loc main_arg2) (ix3 (tb (row t k)) (ts (row t k)) d) := by
  have h : V m c main_v3 = shapeCast S5120x3584 (m ((c : Thread nD τ).loc main_arg2)) shapeCasts_S5x1024x3584_S5120x3584 := by
    entry_read
    rfl
  blk_simp [iblk]
  refine Eq.trans ?_ ((congrFun h (ix2 (row t k) d)).trans (cast3 _ _ _ _))
  blk_ext [idx t]

/-- The block of its scales. -/
theorem rd3 (c : Dev nD) (t : Fin cfg0.N) (k : Fin 256) (l : Fin 128) : iblk m c 3 t (ix2 k l) = m ((c : Thread nD τ).loc main_arg3) (ix2 (tb (row t k)) (ts (row t k))) := by
  have h : V m c main_v5 = broadcastInDim S5120x128 ![0, 1] bcast_S5120x1_S5120x128_0_1 (shapeCast S5120x1 (m ((c : Thread nD τ).loc main_arg3)) shapeCasts_S5x1024_S5120x1) := by
    entry_read
    rfl
  blk_simp [iblk]
  refine Eq.trans ?_ ((congrFun h (ix2 (row t k) l)).trans (lanes _ _ _ _ _))
  blk_ext [idx t]

/-- The block of the normalized codes. -/
theorem rd4 (c : Dev nD) (t : Fin cfg0.N) (k : Fin 256) (d : Fin 3584) : iblk m c 4 t (ix2 k d) = m ((c : Thread nD τ).loc main_arg4) (ix3 (tb (row t k)) (ts (row t k)) d) := by
  have h : V m c main_v6 = shapeCast S5120x3584 (m ((c : Thread nD τ).loc main_arg4)) shapeCasts_S5x1024x3584_S5120x3584 := by
    entry_read
    rfl
  blk_simp [iblk]
  refine Eq.trans ?_ ((congrFun h (ix2 (row t k) d)).trans (cast3 _ _ _ _))
  blk_ext [idx t]

/-- The block of their scales. -/
theorem rd5 (c : Dev nD) (t : Fin cfg0.N) (k : Fin 256) (l : Fin 128) : iblk m c 5 t (ix2 k l) = m ((c : Thread nD τ).loc main_arg5) (ix2 (tb (row t k)) (ts (row t k))) := by
  have h : V m c main_v8 = broadcastInDim S5120x128 ![0, 1] bcast_S5120x1_S5120x128_0_1 (shapeCast S5120x1 (m ((c : Thread nD τ).loc main_arg5)) shapeCasts_S5x1024_S5120x1) := by
    entry_read
    rfl
  blk_simp [iblk]
  refine Eq.trans ?_ ((congrFun h (ix2 (row t k) l)).trans (lanes _ _ _ _ _))
  blk_ext [idx t]

/-- The block of the residual gradient's codes. -/
theorem rd6 (c : Dev nD) (t : Fin cfg0.N) (k : Fin 256) (d : Fin 3584) : iblk m c 6 t (ix2 k d) = m ((c : Thread nD τ).loc main_arg6) (ix3 (tb (row t k)) (ts (row t k)) d) := by
  have h : V m c main_v9 = shapeCast S5120x3584 (m ((c : Thread nD τ).loc main_arg6)) shapeCasts_S5x1024x3584_S5120x3584 := by
    entry_read
    rfl
  blk_simp [iblk]
  refine Eq.trans ?_ ((congrFun h (ix2 (row t k) d)).trans (cast3 _ _ _ _))
  blk_ext [idx t]

/-- The block of their scales. -/
theorem rd7 (c : Dev nD) (t : Fin cfg0.N) (k : Fin 256) (l : Fin 128) : iblk m c 7 t (ix2 k l) = m ((c : Thread nD τ).loc main_arg7) (ix2 (tb (row t k)) (ts (row t k))) := by
  have h : V m c main_v11 = broadcastInDim S5120x128 ![0, 1] bcast_S5120x1_S5120x128_0_1 (shapeCast S5120x1 (m ((c : Thread nD τ).loc main_arg7)) shapeCasts_S5x1024_S5120x1) := by
    entry_read
    rfl
  blk_simp [iblk]
  refine Eq.trans ?_ ((congrFun h (ix2 (row t k) l)).trans (lanes _ _ _ _ _))
  blk_ext [idx t]

/-- The block of the inverse deviations. -/
theorem rd8 (c : Dev nD) (t : Fin cfg0.N) (k : Fin 256) (l : Fin 128) : iblk m c 8 t (ix2 k l) = m ((c : Thread nD τ).loc main_arg8) (ix2 (tb (row t k)) (ts (row t k))) := by
  have h : V m c main_v13 = broadcastInDim S5120x128 ![0, 1] bcast_S5120x1_S5120x128_0_1 (shapeCast S5120x1 (m ((c : Thread nD τ).loc main_arg8)) shapeCasts_S5x1024_S5120x1) := by
    entry_read
    rfl
  blk_simp [iblk]
  refine Eq.trans ?_ ((congrFun h (ix2 (row t k) l)).trans (lanes _ _ _ _ _))
  blk_ext [idx t]

/-- The block of the attention gain. -/
theorem rd9 (c : Dev nD) (t : Fin cfg0.N) (d : Fin 3584) : iblk m c 9 t (ix2 0 d) = m ((c : Thread nD τ).loc main_arg9) (ix1 d) := by
  have h : V m c main_v14 = shapeCast S1x3584 (m ((c : Thread nD τ).loc main_arg9)) shapeCasts_S3584_S1x3584 := by
    entry_read
    rfl
  blk_simp [iblk]
  refine Eq.trans ?_ ((congrFun h (ix2 0 d)).trans (Cert.DaIdeal.Hand.castRow _ _ _))
  blk_ext [idx t]

/-- The block of the MLP gain. -/
theorem rd10 (c : Dev nD) (t : Fin cfg0.N) (d : Fin 3584) : iblk m c 10 t (ix2 0 d) = m ((c : Thread nD τ).loc main_arg10) (ix1 d) := by
  have h : V m c main_v15 = shapeCast S1x3584 (m ((c : Thread nD τ).loc main_arg10)) shapeCasts_S3584_S1x3584 := by
    entry_read
    rfl
  blk_simp [iblk]
  refine Eq.trans ?_ ((congrFun h (ix2 0 d)).trans (Cert.DaIdeal.Hand.castRow _ _ _))
  blk_ext [idx t]

/-- A function of a token, at a number. -/
def PS (f : Fin 5120 → EReal) (k : ℕ) : EReal := if h : k < 5120 then f ⟨k, h⟩ else 0

/-- The function at a tile's row. -/
theorem PS_row (f : Fin 5120 → EReal) (t : Fin cfg0.N) (k : Fin 256) : PS f (t.val * 256 + k.val) = f (row t k) := by
  unfold PS
  rw [dif_pos (row t k).isLt]

/-- Over all tokens it sums to what the function does. -/
theorem PS_sum (f : Fin 5120 → EReal) : ∑ k ∈ Finset.range 5120, PS f k = ∑ k : Fin 5120, f k := by
  rw [Finset.sum_range]
  refine Finset.sum_congr rfl fun k _ => ?_
  unfold PS
  rw [dif_pos k.isLt]

/-- A tile's rows taken after the ones before. -/
theorem PS_add (f : Fin 5120 → EReal) (t : Fin cfg0.N) :
    ∑ k ∈ Finset.range (t.val * 256), PS f k + ∑ k : Fin 256, f (row t k) = ∑ k ∈ Finset.range ((t.val + 1) * 256), PS f k := by
  rw [show (t.val + 1) * 256 = t.val * 256 + 256 by omega, Finset.sum_range_add, Finset.sum_range (n := 256)]
  refine congrArg _ (Finset.sum_congr rfl fun k _ => (PS_row f t k).symm)

/-- A tile's part of the row. -/
theorem part12 (c : Dev nD) (t : Fin cfg0.N) (d : Fin 3584) :
    (∑ k : Fin 256, A1 (e := .f32) (iblk m c 2 t) (iblk m c 3 t) k d * A1 (e := .fp8e4m3) (iblk m c 4 t) (iblk m c 5 t) k d : EReal)
      = ∑ k : Fin 256, (PR (m ((c : Thread nD τ).loc main_arg2)) (m ((c : Thread nD τ).loc main_arg3)) (m ((c : Thread nD τ).loc main_arg4)) (m ((c : Thread nD τ).loc main_arg5)) d) (row t k) :=
  Finset.sum_congr rfl fun k _ => congrArg₂ (fun x y : EReal => x * y)
    (congrArg₂ (fun x y : EReal => x * y) (rd2 m c t k d) (rd3 m c t k (lane d))) (congrArg₂ (fun x y : EReal => x * y) (rd4 m c t k d) (rd5 m c t k (lane d)))

/-- What a point leaves in the row: at the first the tile's part, later that added to what was there. -/
theorem tile12 (c : Dev nD) (t : Fin cfg0.N) (x : Vec Ideal S1x3584 .f32) (d : Fin 3584) :
    out0_12 (F := Ideal) (grid0.coords t) (iblk m c 2 t) (iblk m c 3 t) (iblk m c 4 t) (iblk m c 5 t) x (ix2 0 d)
      = if t.val = 0 then ∑ k : Fin 256, (PR (m ((c : Thread nD τ).loc main_arg2)) (m ((c : Thread nD τ).loc main_arg3)) (m ((c : Thread nD τ).loc main_arg4)) (m ((c : Thread nD τ).loc main_arg5)) d) (row t k) else (x (ix2 0 d) : EReal) + ∑ k : Fin 256, (PR (m ((c : Thread nD τ).loc main_arg2)) (m ((c : Thread nD τ).loc main_arg3)) (m ((c : Thread nD τ).loc main_arg4)) (m ((c : Thread nD τ).loc main_arg5)) d) (row t k) := by
  unfold out0_12
  frame_out
  have e : shapeCast S1x3584 (multiReduction (F := Ideal) .add [0] S3584 (mulf (k0_pay3 (iblk m c 2 t) (iblk m c 3 t)) (k0_pay4 (iblk m c 4 t) (iblk m c 5 t))) 0x00000000#32 reduces_S256x3584_S3584 (.inl rfl) rfl) shapeCasts_S3584_S1x3584 (ix2 0 d)
      = ∑ k : Fin 256, (PR (m ((c : Thread nD τ).loc main_arg2)) (m ((c : Thread nD τ).loc main_arg3)) (m ((c : Thread nD τ).loc main_arg4)) (m ((c : Thread nD τ).loc main_arg5)) d) (row t k) :=
    ((red_at _ _ d).trans (Finset.sum_congr rfl fun k _ => congrArg₂ (fun x y : EReal => x * y) (pay3_at _ _ k d) (pay4_at _ _ k d))).trans (part12 m c t d)
  split
  · next h => exact (congrFun (sel_first (grid0.coords t) ((coords_val t).trans h) _ _) (ix2 0 d)).trans e
  · next h =>
    refine (congrFun (sel_later (grid0.coords t) (fun h' => h ((coords_val t).symm.trans h')) _ _) (ix2 0 d)).trans ?_
    refine congrArg₂ (fun x y : EReal => x + y) ?_ e
    rw [shapeCast_self x]

/-- The row after point `n`: the sum over the tokens of the tiles so far. -/
theorem acc12_at (c : Dev nD) (d : Fin 3584) : ∀ (n : ℕ) (h : n < cfg0.N),
    acc12 m c n h (ix2 0 d) = ∑ k ∈ Finset.range ((n + 1) * 256), PS (PR (m ((c : Thread nD τ).loc main_arg2)) (m ((c : Thread nD τ).loc main_arg3)) (m ((c : Thread nD τ).loc main_arg4)) (m ((c : Thread nD τ).loc main_arg5)) d) k
  | 0, h => by
    refine (tile12 m c ⟨0, h⟩ _ d).trans ?_
    rw [if_pos rfl, ← PS_add _ ⟨0, h⟩, show (⟨0, h⟩ : Fin cfg0.N).val * 256 = 0 from rfl, Finset.sum_range_zero, zero_add]
  | n + 1, h => by
    refine (tile12 m c ⟨n + 1, h⟩ _ d).trans ?_
    rw [if_neg (Nat.succ_ne_zero n), ← PS_add _ ⟨n + 1, h⟩, acc12_at c d n (Nat.lt_of_succ_lt h)]

/-- The row is written back at the last point. -/
theorem last12 : ∀ t : Fin cfg0.N, (cfg0.win 12).flush t = true → t.val = 19 :=
  (by decide +kernel : ∀ t : Fin grid0.N, win0_12.flush t = true → t.val = 19)

/-- The array the call leaves is the sum over all tokens. -/
theorem final12 (c : Dev nD) : (dats m 0 c).arrAt 12 cfg0.N = G2 (m ((c : Thread nD τ).loc main_arg2)) (m ((c : Thread nD τ).loc main_arg3)) (m ((c : Thread nD τ).loc main_arg4)) (m ((c : Thread nD τ).loc main_arg5)) := by
  refine (dats m 0 c).arrAt_eq_of_covers 12 _ (by decide +kernel) fun t hf y => ?_
  blk_simp
  rw [after0_12]
  have hy : y = ix2 0 (y 1) := (eq_ix2 y).trans (congrArg (fun u => ix2 u (y 1)) (Subsingleton.elim _ _))
  refine Eq.trans (congrArg _ hy) ((acc12_at m c (y 1) t.val t.isLt).trans ?_)
  rw [last12 t hf]
  refine (PS_sum _).trans ?_
  refine Eq.trans (b := G2 (m ((c : Thread nD τ).loc main_arg2)) (m ((c : Thread nD τ).loc main_arg3)) (m ((c : Thread nD τ).loc main_arg4)) (m ((c : Thread nD τ).loc main_arg5)) (ix2 0 (y 1))) rfl (congrArg _ ?_)
  blk_ext [idx t]

/-- A tile's part of the row. -/
theorem part13 (c : Dev nD) (t : Fin cfg0.N) (d : Fin 3584) :
    (∑ k : Fin 256, A1 (e := .f32) (iblk m c 0 t) (iblk m c 1 t) k d * A1 (e := .fp8e4m3) (iblk m c 4 t) (iblk m c 5 t) k d : EReal)
      = ∑ k : Fin 256, (PR (m ((c : Thread nD τ).loc main_arg0)) (m ((c : Thread nD τ).loc main_arg1)) (m ((c : Thread nD τ).loc main_arg4)) (m ((c : Thread nD τ).loc main_arg5)) d) (row t k) :=
  Finset.sum_congr rfl fun k _ => congrArg₂ (fun x y : EReal => x * y)
    (congrArg₂ (fun x y : EReal => x * y) (rd0 m c t k d) (rd1 m c t k (lane d))) (congrArg₂ (fun x y : EReal => x * y) (rd4 m c t k d) (rd5 m c t k (lane d)))

/-- What a point leaves in the row: at the first the tile's part, later that added to what was there. -/
theorem tile13 (c : Dev nD) (t : Fin cfg0.N) (x : Vec Ideal S1x3584 .f32) (d : Fin 3584) :
    out0_13 (F := Ideal) (grid0.coords t) (iblk m c 0 t) (iblk m c 1 t) (iblk m c 4 t) (iblk m c 5 t) x (ix2 0 d)
      = if t.val = 0 then ∑ k : Fin 256, (PR (m ((c : Thread nD τ).loc main_arg0)) (m ((c : Thread nD τ).loc main_arg1)) (m ((c : Thread nD τ).loc main_arg4)) (m ((c : Thread nD τ).loc main_arg5)) d) (row t k) else (x (ix2 0 d) : EReal) + ∑ k : Fin 256, (PR (m ((c : Thread nD τ).loc main_arg0)) (m ((c : Thread nD τ).loc main_arg1)) (m ((c : Thread nD τ).loc main_arg4)) (m ((c : Thread nD τ).loc main_arg5)) d) (row t k) := by
  unfold out0_13
  frame_out
  have e : shapeCast S1x3584 (multiReduction (F := Ideal) .add [0] S3584 (mulf (k0_pay2 (iblk m c 0 t) (iblk m c 1 t)) (k0_pay4 (iblk m c 4 t) (iblk m c 5 t))) 0x00000000#32 reduces_S256x3584_S3584 (.inl rfl) rfl) shapeCasts_S3584_S1x3584 (ix2 0 d)
      = ∑ k : Fin 256, (PR (m ((c : Thread nD τ).loc main_arg0)) (m ((c : Thread nD τ).loc main_arg1)) (m ((c : Thread nD τ).loc main_arg4)) (m ((c : Thread nD τ).loc main_arg5)) d) (row t k) :=
    ((red_at _ _ d).trans (Finset.sum_congr rfl fun k _ => congrArg₂ (fun x y : EReal => x * y) (pay2_at _ _ k d) (pay4_at _ _ k d))).trans (part13 m c t d)
  split
  · next h => exact (congrFun (sel_first (grid0.coords t) ((coords_val t).trans h) _ _) (ix2 0 d)).trans e
  · next h =>
    refine (congrFun (sel_later (grid0.coords t) (fun h' => h ((coords_val t).symm.trans h')) _ _) (ix2 0 d)).trans ?_
    refine congrArg₂ (fun x y : EReal => x + y) ?_ e
    rw [shapeCast_self x]

/-- The row after point `n`: the sum over the tokens of the tiles so far. -/
theorem acc13_at (c : Dev nD) (d : Fin 3584) : ∀ (n : ℕ) (h : n < cfg0.N),
    acc13 m c n h (ix2 0 d) = ∑ k ∈ Finset.range ((n + 1) * 256), PS (PR (m ((c : Thread nD τ).loc main_arg0)) (m ((c : Thread nD τ).loc main_arg1)) (m ((c : Thread nD τ).loc main_arg4)) (m ((c : Thread nD τ).loc main_arg5)) d) k
  | 0, h => by
    refine (tile13 m c ⟨0, h⟩ _ d).trans ?_
    rw [if_pos rfl, ← PS_add _ ⟨0, h⟩, show (⟨0, h⟩ : Fin cfg0.N).val * 256 = 0 from rfl, Finset.sum_range_zero, zero_add]
  | n + 1, h => by
    refine (tile13 m c ⟨n + 1, h⟩ _ d).trans ?_
    rw [if_neg (Nat.succ_ne_zero n), ← PS_add _ ⟨n + 1, h⟩, acc13_at c d n (Nat.lt_of_succ_lt h)]

/-- The row is written back at the last point. -/
theorem last13 : ∀ t : Fin cfg0.N, (cfg0.win 13).flush t = true → t.val = 19 :=
  (by decide +kernel : ∀ t : Fin grid0.N, win0_13.flush t = true → t.val = 19)

/-- The array the call leaves is the sum over all tokens. -/
theorem final13 (c : Dev nD) : (dats m 0 c).arrAt 13 cfg0.N = G2 (m ((c : Thread nD τ).loc main_arg0)) (m ((c : Thread nD τ).loc main_arg1)) (m ((c : Thread nD τ).loc main_arg4)) (m ((c : Thread nD τ).loc main_arg5)) := by
  refine (dats m 0 c).arrAt_eq_of_covers 13 _ (by decide +kernel) fun t hf y => ?_
  blk_simp
  rw [after0_13]
  have hy : y = ix2 0 (y 1) := (eq_ix2 y).trans (congrArg (fun u => ix2 u (y 1)) (Subsingleton.elim _ _))
  refine Eq.trans (congrArg _ hy) ((acc13_at m c (y 1) t.val t.isLt).trans ?_)
  rw [last13 t hf]
  refine (PS_sum _).trans ?_
  refine Eq.trans (b := G2 (m ((c : Thread nD τ).loc main_arg0)) (m ((c : Thread nD τ).loc main_arg1)) (m ((c : Thread nD τ).loc main_arg4)) (m ((c : Thread nD τ).loc main_arg5)) (ix2 0 (y 1))) rfl (congrArg _ ?_)
  blk_ext [idx t]

/-- One entry of the block of the input's gradient. -/
theorem point11 (c : Dev nD) (t : Fin cfg0.N) (k : Fin 256) (d : Fin 3584) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 k d) = G1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (row t k) d) := by
  unfold out0_11
  frame_out
  refine (pay1_at _ _ _ _ _ _ _ _ k d).trans ?_
  have ea : (fun d => k0_pay3 (F := Ideal) (iblk m c 2 t) (iblk m c 3 t) (ix2 k d)) = B3 (e := .f32) (m ((c : Thread nD τ).loc main_arg2)) (m ((c : Thread nD τ).loc main_arg3)) (row t k) := funext fun d =>
    (pay3_at _ _ k d).trans (congrArg₂ (fun x y : EReal => x * y) (rd2 m c t k d) (rd3 m c t k (lane d)))
  have eb : (fun d => k0_pay2 (F := Ideal) (iblk m c 0 t) (iblk m c 1 t) (ix2 k d)) = B3 (e := .f32) (m ((c : Thread nD τ).loc main_arg0)) (m ((c : Thread nD τ).loc main_arg1)) (row t k) := funext fun d =>
    (pay2_at _ _ k d).trans (congrArg₂ (fun x y : EReal => x * y) (rd0 m c t k d) (rd1 m c t k (lane d)))
  have ex : (fun d => k0_pay4 (F := Ideal) (iblk m c 4 t) (iblk m c 5 t) (ix2 k d)) = B3 (e := .fp8e4m3) (m ((c : Thread nD τ).loc main_arg4)) (m ((c : Thread nD τ).loc main_arg5)) (row t k) := funext fun d =>
    (pay4_at _ _ k d).trans (congrArg₂ (fun x y : EReal => x * y) (rd4 m c t k d) (rd5 m c t k (lane d)))
  have ey : A1 (e := .fp8e5m2) (iblk m c 6 t) (iblk m c 7 t) k d = B3 (e := .fp8e5m2) (m ((c : Thread nD τ).loc main_arg6)) (m ((c : Thread nD τ).loc main_arg7)) (row t k) d :=
    congrArg₂ (fun x y : EReal => x * y) (rd6 m c t k d) (rd7 m c t k (lane d))
  rw [ea, eb, ex, ey, rd8 m c t k (lane d), show (fun d => iblk m c 9 t (ix2 0 d)) = fun d => m ((c : Thread nD τ).loc main_arg9) (ix1 d) from funext (rd9 m c t),
    show (fun d => iblk m c 10 t (ix2 0 d)) = fun d => m ((c : Thread nD τ).loc main_arg10) (ix1 d) from funext (rd10 m c t)]
  rfl

/-- The array of the input's gradient. -/
theorem final11 (c : Dev nD) : (dats m 0 c).arrAt 11 cfg0.N = G1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t hf y => ?_
  blk_simp
  rw [after0_11]
  refine Eq.trans (congrArg (out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)) (eq_ix2 y)) ((point11 m c t (y 0) (y 1)).trans (congrArg _ ?_))
  blk_ext [idx t]

end Cert.LnIdeal.Hand
end
-- ==== Proof.DhSpec.lean ====
module

public import proofs.«01_k».proof.Proof.Tokens
public import Idealize.ShloMosaic.Lib.Pipeline.ValueKit
public import Idealize.ShloMosaic.Lib.Pointwise
public import Idealize.ShloMosaic.Lib.IdealHost

@[expose] public section
set_option maxRecDepth 65536
noncomputable section
open Idealize.ShloMosaic Idealize.ShloMosaic.TcCoe Idealize.SL.Sem

/-! The power-of-two scale of a row. The kernel counts the powers of two up to the row's magnitude and writes the
    count into the exponent field of a word; the reference takes the least power of two above. Over the extended
    reals they are one number, and the kernel's other word is its inverse. -/

namespace Cert.Dh

/-- The powers of two from `2⁻¹²⁶` to `2¹¹³`. -/
def P (n : ℕ) : EReal := (((2 : ℝ) ^ ((min n 239 : ℕ) - 126 : ℤ) : ℝ) : EReal)

/-- The kernel's count of them up to `a`, at most 255. -/
def cnt (a : Ideal .f32) : BitVec 32 :=
  IntOp.minsi (Finset.fold IntOp.addi 0#32 (fun n : Fin 256 =>
    if Ideal.ofBits FTy.f32 (IntOp.shli ArithUnit.vector (IntOp.minsi (IntOp.addi (BitVec.ofNat 32 n.val) 1#32) 240#32) 23#32) ≤ a then 1#32 else 0#32) Finset.univ) 255#32
/-- Its exponent, 0 where the count is 0 or 255. -/
def ex (a : Ideal .f32) : BitVec 32 :=
  Scalar.select (IntOp.ori (IntOp.cmpi CmpIPredicate.eq (cnt a) 0#32) (IntOp.cmpi CmpIPredicate.eq (cnt a) 255#32)) 0#32 (IntOp.subi (cnt a) 126#32)
/-- The kernel's scale, -/
def kscl (a : Ideal .f32) : Ideal .f32 := Ideal.ofBits FTy.f32 (IntOp.shli ArithUnit.vector (IntOp.addi 127#32 (ex a)) 23#32)
/-- and its inverse. -/
def kinv (a : Ideal .f32) : Ideal .f32 := Ideal.ofBits FTy.f32 (IntOp.shli ArithUnit.vector (IntOp.subi 127#32 (ex a)) 23#32)
/-- The reference's scale. -/
def rscl (a : Ideal .f32) : Ideal .f32 :=
  Scalar.select (IntOp.andi (BitVec.ofBool (decide (Ideal.ofBits FTy.f32 0x00800000#32 ≤ a))) (BitVec.ofBool (decide (a < Ideal.ofBits FTy.f32 0x78000000#32))))
    (Finset.fold min (Ideal.ofBits FTy.f32 0x7F800000#32) (fun n : Fin 256 =>
      if a < FloatOps.exp2 (F := Ideal) (FloatOps.sitofp (F := Ideal) FTy.f32 (IntOp.minsi (BitVec.ofNat 32 n.val) 239#32) - Ideal.ofBits FTy.f32 0x42FC0000#32)
      then FloatOps.exp2 (F := Ideal) (FloatOps.sitofp (F := Ideal) FTy.f32 (IntOp.minsi (BitVec.ofNat 32 n.val) 239#32) - Ideal.ofBits FTy.f32 0x42FC0000#32)
      else Ideal.ofBits FTy.f32 0x7F800000#32) Finset.univ) 1

/-- The fields of a word that has only an exponent. -/
theorem fields : ∀ k : Fin 256,
    (IntOp.shli ArithUnit.vector (BitVec.ofNat 32 k.val) 23#32).extractLsb' 31 1 = 0#1
      ∧ ((IntOp.shli ArithUnit.vector (BitVec.ofNat 32 k.val) 23#32).extractLsb' 23 8).toNat = k.val
      ∧ ((IntOp.shli ArithUnit.vector (BitVec.ofNat 32 k.val) 23#32).extractLsb' 0 23).toNat = 0 := by
  decide +kernel

/-- The number such a word is. -/
theorem pw (k : ℕ) (h1 : 1 ≤ k) (h2 : k ≤ 254) :
    Ideal.ofBits FTy.f32 (IntOp.shli ArithUnit.vector (BitVec.ofNat 32 k) 23#32) = (((2 : ℝ) ^ ((k : ℤ) - 127) : ℝ) : EReal) := by
  obtain ⟨f1, f2, f3⟩ := fields ⟨k, by omega⟩
  simp only at f1 f2 f3
  unfold Ideal.ofBits Ideal.ieee
  simp only [Nat.reduceAdd, f1, f2, f3]
  rw [if_neg (by norm_num; omega), if_neg (by omega)]
  refine congrArg (fun r : ℝ => (r : EReal)) ?_
  rw [if_neg (by decide), one_mul, Nat.add_zero]
  have e : ((2 : ℝ) ^ (23 : ℤ)) * (2 : ℝ) ^ ((k : ℤ) - 127 - 23) = (2 : ℝ) ^ ((k : ℤ) - 127) := by
    rw [← zpow_add₀ (by norm_num : (2 : ℝ) ≠ 0), show (23 : ℤ) + ((k : ℤ) - 127 - 23) = (k : ℤ) - 127 by ring]
  rw [← e]
  norm_num

/-- Infinity. -/
theorem top_word : Ideal.ofBits FTy.f32 0x7F800000#32 = ⊤ := by
  simp [Ideal.ofBits, Ideal.ieee]

/-- The kernel's word for the power `n`. -/
theorem wordK : ∀ n : Fin 256, IntOp.minsi (IntOp.addi (BitVec.ofNat 32 n.val) 1#32) 240#32 = BitVec.ofNat 32 (min n.val 239 + 1) := by
  decide +kernel
/-- The power it is. -/
theorem powK (n : Fin 256) : Ideal.ofBits FTy.f32 (IntOp.shli ArithUnit.vector (IntOp.minsi (IntOp.addi (BitVec.ofNat 32 n.val) 1#32) 240#32) 23#32) = P n.val := by
  rw [wordK, pw _ (by omega) (by omega)]
  unfold P
  congr 2
  push_cast; ring

/-- The reference's number for the power `n`. -/
theorem wordR : ∀ n : Fin 256, (IntOp.minsi (BitVec.ofNat 32 n.val) 239#32).toInt = (min n.val 239 : ℕ) := by
  decide +kernel
/-- The power it is. -/
theorem powR (n : Fin 256) : FloatOps.exp2 (F := Ideal) (FloatOps.sitofp (F := Ideal) FTy.f32 (IntOp.minsi (BitVec.ofNat 32 n.val) 239#32) - Ideal.ofBits FTy.f32 0x42FC0000#32) = P n.val := by
  have h126 : Ideal.ofBits FTy.f32 0x42FC0000#32 = ((126 : ℝ) : EReal) := by
    simp [Ideal.ofBits, Ideal.ieee, -EReal.coe_mul]; norm_num
  have hs : (FloatOps.sitofp (F := Ideal) FTy.f32 (IntOp.minsi (BitVec.ofNat 32 n.val) 239#32) : EReal) = (((min n.val 239 : ℕ) : ℝ) : EReal) := by
    show (((IntOp.minsi (BitVec.ofNat 32 n.val) 239#32).toInt : ℝ) : EReal) = _
    rw [wordR]; norm_cast
  show Ideal.exp2 _ = _
  rw [h126, hs, ← EReal.coe_sub]
  show (((2 : ℝ) ^ (((min n.val 239 : ℕ) : ℝ) - 126) : ℝ) : EReal) = _
  unfold P
  congr 1
  rw [← Real.rpow_intCast]
  push_cast; rfl

/-- The powers grow. -/
theorem P_mono {n k : ℕ} (h : n ≤ k) : P n ≤ P k := by
  unfold P
  exact EReal.coe_le_coe_iff.2 (zpow_le_zpow_right₀ (by norm_num) (by omega))

/-- Counting the numbers below `j`. -/
theorem count : ∀ j : Fin 257, Finset.fold IntOp.addi 0#32 (fun n : Fin 256 => if n.val < j.val then 1#32 else 0#32) Finset.univ = BitVec.ofNat 32 j.val := by
  decide +kernel

/-- The kernel's count, where the powers up to `a` are the first `j`. -/
theorem cnt_of (a : Ideal .f32) (j : ℕ) (hj : j ≤ 256) (h : ∀ n : Fin 256, P n.val ≤ a ↔ n.val < j) : cnt a = IntOp.minsi (BitVec.ofNat 32 j) 255#32 := by
  unfold cnt
  rw [← count ⟨j, by omega⟩]
  congr 2
  funext n
  rw [powK]
  exact if_congr (h n) rfl rfl

/-- Words of the exponent's arithmetic. -/
theorem words : ∀ j : Fin 240, 1 ≤ j.val →
    IntOp.addi 127#32 (Scalar.select (IntOp.ori (IntOp.cmpi CmpIPredicate.eq (IntOp.minsi (BitVec.ofNat 32 j.val) 255#32) 0#32) (IntOp.cmpi CmpIPredicate.eq (IntOp.minsi (BitVec.ofNat 32 j.val) 255#32) 255#32)) 0#32 (IntOp.subi (IntOp.minsi (BitVec.ofNat 32 j.val) 255#32) 126#32)) = BitVec.ofNat 32 (j.val + 1)
    ∧ IntOp.subi 127#32 (Scalar.select (IntOp.ori (IntOp.cmpi CmpIPredicate.eq (IntOp.minsi (BitVec.ofNat 32 j.val) 255#32) 0#32) (IntOp.cmpi CmpIPredicate.eq (IntOp.minsi (BitVec.ofNat 32 j.val) 255#32) 255#32)) 0#32 (IntOp.subi (IntOp.minsi (BitVec.ofNat 32 j.val) 255#32) 126#32)) = BitVec.ofNat 32 (253 - j.val) := by
  decide +kernel

/-- The reference's bounds. -/
theorem low : Ideal.ofBits FTy.f32 0x00800000#32 = P 0 := (pw 1 (by omega) (by omega)).trans (by unfold P; norm_num)
/-- The upper one. -/
theorem high : Ideal.ofBits FTy.f32 0x78000000#32 = P 239 := (pw 240 (by omega) (by omega)).trans (by unfold P; norm_num)
/-- One. -/
theorem one_word : Ideal.ofBits FTy.f32 (IntOp.shli ArithUnit.vector 127#32 23#32) = 1 := (pw 127 (by omega) (by omega)).trans (by norm_num)

/-- The inverse of a power of two. -/
theorem div_pow (z : ℤ) : Ideal.div 1 (((2 : ℝ) ^ z : ℝ) : EReal) = (((2 : ℝ) ^ (-z) : ℝ) : EReal) := by
  have h : (2 : ℝ) ^ z ≠ 0 := zpow_ne_zero _ (by norm_num)
  rw [Ideal.div, if_neg (by exact_mod_cast h), ← EReal.coe_inv, one_mul, zpow_neg]

/-- A selection on a true condition. -/
theorem sel_true (x y : Ideal .f32) : Scalar.select (IntOp.andi (BitVec.ofBool true) (BitVec.ofBool true)) x y = x := rfl

/-- The kernel's scale is the reference's, and the other word its inverse. -/
theorem scales (a : Ideal .f32) : kscl a = rscl a ∧ kinv a = Ideal.div 1 (rscl a) := by
  have d1 : Ideal.div 1 1 = 1 := by
    have := div_pow 0
    simpa using this
  by_cases h0 : P 0 ≤ a
  · by_cases h1 : a < P 239
    · -- between two powers
      have hex : ∃ k, a < P k := ⟨239, h1⟩
      classical
      obtain ⟨j, hj, hmin⟩ : ∃ j, a < P j ∧ ∀ n, n < j → P n ≤ a :=
        ⟨Nat.find hex, Nat.find_spec hex, fun n hn => not_lt.1 (Nat.find_min hex hn)⟩
      have j1 : 1 ≤ j := by
        rcases Nat.eq_zero_or_pos j with e | e
        · rw [e] at hj; exact absurd h0 (not_le.2 hj)
        · exact e
      have j2 : j ≤ 239 := by
        by_contra hc
        exact absurd h1 (not_lt.2 (hmin 239 (by omega)))
      have hc := cnt_of a j (by omega) fun n => ⟨fun hn => by
        by_contra hc
        exact absurd (lt_of_lt_of_le hj (P_mono (not_lt.1 hc))) (not_lt.2 hn), hmin n.val⟩
      obtain ⟨w1, w2⟩ := words ⟨j, by omega⟩ j1
      have hr : rscl a = P j := by
        unfold rscl
        rw [low, high, decide_eq_true h0, decide_eq_true h1]
        simp only [powR]
        rw [sel_true]
        apply le_antisymm
        · refine (Finset.fold_min_le _).2 (Or.inr ⟨⟨j, by omega⟩, Finset.mem_univ _, ?_⟩)
          rw [if_pos hj]
        · refine (Finset.le_fold_min _).2 ⟨?_, fun n _ => ?_⟩
          · rw [top_word]; exact le_top
          · split
            · next hn =>
              refine P_mono ?_
              by_contra hc
              exact absurd hn (not_lt.2 (hmin _ (not_le.1 hc)))
            · rw [top_word]; exact le_top
      have hP : P j = (((2 : ℝ) ^ ((j : ℤ) - 126) : ℝ) : EReal) := by
        unfold P; rw [Nat.min_eq_left j2]
      constructor
      · unfold kscl ex
        rw [hc, w1, pw _ (by omega) (by omega), hr, hP]
        rw [show ((j + 1 : ℕ) : ℤ) - 127 = (j : ℤ) - 126 by omega]
      · unfold kinv ex
        rw [hc, w2, pw _ (by omega) (by omega), hr, hP, div_pow]
        rw [show ((253 - j : ℕ) : ℤ) - 127 = -((j : ℤ) - 126) by omega]
    · have hc := cnt_of a 256 le_rfl fun n => ⟨fun _ => n.isLt, fun _ => le_trans (by
        unfold P; exact EReal.coe_le_coe_iff.2 (zpow_le_zpow_right₀ (by norm_num) (by omega))) (not_lt.1 h1)⟩
      have he : ex a = 0#32 := by unfold ex; rw [hc]; decide
      have hr : rscl a = 1 := by
        unfold rscl
        rw [low, high, decide_eq_false h1]
        cases decide (P 0 ≤ a) <;> rfl
      rw [hr, d1]
      unfold kscl kinv
      rw [he]
      exact ⟨one_word, one_word⟩
  · have hc := cnt_of a 0 (by omega) fun n => ⟨fun h => absurd (le_trans (P_mono (Nat.zero_le _)) h) h0, fun h => absurd h (Nat.not_lt_zero _)⟩
    have he : ex a = 0#32 := by unfold ex; rw [hc]; decide
    have hr : rscl a = 1 := by
      unfold rscl
      rw [low, high, decide_eq_false h0]
      cases decide (a < P 239) <;> rfl
    rw [hr, d1]
    unfold kscl kinv
    rw [he]
    exact ⟨one_word, one_word⟩

/-- A row's magnitude over the largest code. -/
def AM {n : ℕ} (x : FVec Ideal ⟨2, ![n, 128]⟩ .f32) (k : Fin n) : Ideal .f32 :=
  FloatOps.absf (F := Ideal) (φ := .f32) (Finset.fold max (Ideal.ofBits FTy.f32 0xFF800000#32) (fun l : Fin 128 => (x (ix2 k l) : EReal)) Finset.univ * Ideal.ofBits FTy.f32 0x37924925#32)
/-- The codes before rounding: a number over its row's scale, clipped. -/
def clip (x s : EReal) : EReal := min (Ideal.ofBits FTy.f32 0x47600000#32) (max (Ideal.ofBits FTy.f32 0xC7600000#32) (x * s))
/-- The scales, each copied along its row. -/
def SC (x : FVec Ideal ⟨2, ![5120, 128]⟩ .f32) : FVec Ideal ⟨2, ![5120, 128]⟩ .f32 := fun i => rscl (AM x (i 0))
/-- The codes. -/
def CO (da : FVec Ideal ⟨3, ![5, 1024, 18944]⟩ .f32) (x : FVec Ideal ⟨2, ![5120, 128]⟩ .f32) : FVec Ideal ⟨2, ![5120, 18944]⟩ .fp8e5m2 := fun i =>
  clip (da (ix3 (Tokens.tb (i 0)) (Tokens.ts (i 0)) (i 1))) (Ideal.div 1 (rscl (AM x (i 0))))

/-- One term of the first product: a code times the weight's scale times the weight. -/
def TRM (da : FVec Ideal ⟨3, ![5, 1024, 18944]⟩ .f32) (x : FVec Ideal ⟨2, ![5120, 128]⟩ .f32) (w : FVec Ideal ⟨2, ![3584, 18944]⟩ .fp8e4m3) (s : FVec Ideal ⟨1, ![18944]⟩ .f32)
    (k : Fin 5120) (d : Fin 3584) (f : Fin 18944) : EReal := (CO da x (ix2 k f) : EReal) * s (ix1 f) * w (ix2 d f)
/-- The first product: the codes against the dequantized weight. -/
def DM (da : FVec Ideal ⟨3, ![5, 1024, 18944]⟩ .f32) (x : FVec Ideal ⟨2, ![5120, 128]⟩ .f32) (w : FVec Ideal ⟨2, ![3584, 18944]⟩ .fp8e4m3) (s : FVec Ideal ⟨1, ![18944]⟩ .f32) : FVec Ideal ⟨2, ![5120, 3584]⟩ .f32 := fun i =>
  ∑ f : Fin 18944, TRM da x w s (i 0) (i 1) f
/-- A function of a column, at a number. -/
def FS (f : Fin 18944 → EReal) (k : ℕ) : EReal := if h : k < 18944 then f ⟨k, h⟩ else 0
/-- Over all columns it sums to what the function does. -/
theorem FS_sum (f : Fin 18944 → EReal) : ∑ k ∈ Finset.range 18944, FS f k = ∑ k : Fin 18944, f k := by
  rw [Finset.sum_range]
  refine Finset.sum_congr rfl fun k _ => ?_
  unfold FS
  rw [dif_pos k.isLt]
/-- A tile's columns taken after the ones before. -/
theorem FS_add (f : Fin 18944 → EReal) (j : ℕ) (hj : j < 37) :
    ∑ k ∈ Finset.range (j * 512), FS f k + ∑ k : Fin 512, f ⟨j * 512 + k.val, by omega⟩ = ∑ k ∈ Finset.range ((j + 1) * 512), FS f k := by
  rw [show (j + 1) * 512 = j * 512 + 512 by omega, Finset.sum_range_add, Finset.sum_range (n := 512)]
  refine congrArg _ (Finset.sum_congr rfl fun k _ => ?_)
  unfold FS
  rw [dif_pos (show j * 512 + k.val < 18944 by omega)]

end Cert.Dh
end
-- ==== Proof.DhDefs.lean ====
module

public import proofs.«01_k».proof.Proof.Gen.DhIdeal.Launch
public import proofs.«01_k».proof.Proof.Gen.DhIdeal.Skeleton
public import proofs.«01_k».proof.Proof.Gen.DhIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.ValueIdx

@[expose] public section

/-!
# The call that quantises `da`

The scratch, the arrays left in HBM, what the body computes, and what is held of a copy in flight.
-/

set_option maxRecDepth 16384

noncomputable section

namespace Cert.DhIdeal.Hand

open Cert.DhIdeal Cert.DhIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The scratch holding the inverse of the scale, lane by lane. -/
abbrev scI : Memref sig .tc .vmem S1024x128 .f32 := Memref.whole cc0_scratch0
/-- The accumulator of the first product. -/
abbrev scM : Memref sig .tc .vmem S1024x3584 .f32 := Memref.whole cc0_scratch1
/-- The accumulator of the second product. -/
abbrev scA : Memref sig .tc .vmem S1024x3584 .f32 := Memref.whole cc0_scratch2
/-- The first product's array, left in HBM. -/
abbrev hbM : Memref sig .tc .hbm S5120x3584 .f32 := Memref.whole main_v7_2
/-- The second product's array, left in HBM. -/
abbrev hbA : Memref sig .tc .hbm S5120x3584 .f32 := Memref.whole main_v7_3

/-- The inverse of the scale, from a block of magnitudes. -/
def INV (x1 : Vec F S1024x128 .f32) : FVec F S1024x128 .f32 := k0_pay2 (k0_pay10 x1) (k0_pay11 x1) k0_pay12
/-- The scale, from a block of magnitudes. -/
def SCL (x1 : Vec F S1024x128 .f32) : FVec F S1024x128 .f32 := k0_pay3 (k0_pay10 x1) (k0_pay11 x1) k0_pay12
/-- The codes, from a block of `da` and the inverse of the scale. -/
def COD (x0 : Vec F S1024x512 .f32) (z : Vec F S1024x128 .f32) : FVec F S1024x512 .fp8e5m2 := k0_pay5 x0 z

/-- An accumulator, its array and its semaphore when nothing is in flight. -/
def home (c : Dev nD) (s : Memref sig .tc .vmem S1024x3584 .f32) (h : Memref sig .tc .hbm S5120x3584 .f32) (q : SemLoc sig) : sProp 𝕄 :=
  iprop((∃ d, owns (c : Thread nD τ) s fullShare d) ∗ semVal ((c : Thread nD τ), q) 0 ∗ (∃ d, owns (c : Thread nD τ) h fullShare d))

/-- What a point holds: the seven inputs, the two outputs, the scratch of the inverse. -/
def held (c : Dev nD) (arg2 : Memref sig .tc .vmem S1024x512 .f32) (arg3 : Memref sig .tc .vmem S1024x128 .f32) (arg4 : Memref sig .tc .vmem S3584x512 .fp8e4m3) (arg5 : Memref sig .tc .vmem S1x512 .f32) (arg6 : Memref sig .tc .vmem S1x4x1024x128 .fp8e5m2) (arg7 : Memref sig .tc .vmem S4x3584x128 .fp8e4m3) (arg8 : Memref sig .tc .vmem S1x512 .f32)
    (x0 : Vec F S1024x512 .f32) (x1 : Vec F S1024x128 .f32) (x2 : Vec F S3584x512 .fp8e4m3) (x3 : Vec F S1x512 .f32) (x4 : Vec F S1x4x1024x128 .fp8e5m2) (x5 : Vec F S4x3584x128 .fp8e4m3) (x6 : Vec F S1x512 .f32)
    (arg9 : Memref sig .tc .vmem S1024x512 .fp8e5m2) (arg10 : Memref sig .tc .vmem S1024x128 .f32) (y7 : Vec F S1024x512 .fp8e5m2) (y8 z : Vec F S1024x128 .f32) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
    ∗ owns (c : Thread nD τ) arg9 fullShare y7 ∗ owns (c : Thread nD τ) arg10 fullShare y8 ∗ owns (c : Thread nD τ) scI fullShare z)

/-- The same three when the accumulator is being copied out: the copy in flight, which gives both buffers back. -/
def fly (c : Dev nD) (s : Memref sig .tc .vmem S1024x3584 .f32) (h : Memref sig .tc .hbm S5120x3584 .f32) (q : SemLoc sig) : sProp 𝕄 :=
  iprop(∃ (f : Buf (Elt F) (h.view.loc (c : Thread nD τ))) (d : Buf (Elt F) (s.view.loc (c : Thread nD τ))),
    Transfers.Flight (countersEmb (U := Pipeline.UD sig nD τ)) (c : Thread nD τ) q (default : Unit) 458752
      iprop((h.view.loc (c : Thread nD τ) ↦[h.view.set]{fullShare} f) ∗ (s.view.loc (c : Thread nD τ) ↦[s.view.set]{fullShare} d)))

/-- An accumulator at the value `a`, its array at the contents `g`, and its semaphore, when nothing is in flight. -/
def homeV (c : Dev nD) (s : Memref sig .tc .vmem S1024x3584 .f32) (h : Memref sig .tc .hbm S5120x3584 .f32) (q : SemLoc sig) (a : Vec F S1024x3584 .f32) (g : Vec F S5120x3584 .f32) : sProp 𝕄 :=
  iprop(owns (c : Thread nD τ) s fullShare a ∗ semVal ((c : Thread nD τ), q) 0 ∗ owns (c : Thread nD τ) h fullShare g)
/-- A copy in flight which gives the accumulator back at some value and its array at the contents `g`. -/
def flyV (c : Dev nD) (s : Memref sig .tc .vmem S1024x3584 .f32) (h : Memref sig .tc .hbm S5120x3584 .f32) (q : SemLoc sig) (g : Vec F S5120x3584 .f32) : sProp 𝕄 :=
  iprop(∃ (f : Buf (Elt F) (h.view.loc (c : Thread nD τ))) (d : Buf (Elt F) (s.view.loc (c : Thread nD τ))),
    ⌜h.view.read (Elt F) f = g⌝ ∗ Transfers.Flight (countersEmb (U := Pipeline.UD sig nD τ)) (c : Thread nD τ) q (default : Unit) 458752
      iprop((h.view.loc (c : Thread nD τ) ↦[h.view.set]{fullShare} f) ∗ (s.view.loc (c : Thread nD τ) ↦[s.view.set]{fullShare} d)))
/-- What a point of the first product leaves in its accumulator. -/
def MUL (x0 : Vec F S1024x512 .f32) (z : Vec F S1024x128 .f32) (x3 : Vec F S1x512 .f32) (a : Vec F S1024x3584 .f32) (x2 : Vec F S3584x512 .fp8e4m3) : Vec F S1024x3584 .f32 := k0_pay6 x0 z x3 a x2
/-- A product's array after an accumulator is copied to row tile `o`. -/
def PUT (o : ℕ) (a : Vec F S1024x3584 .f32) (g : Vec F S5120x3584 .f32) : Vec F S5120x3584 .f32 := fun y =>
  if h : o * 1024 ≤ (y (0 : Fin 2)).val ∧ (y (0 : Fin 2)).val < o * 1024 + 1024 then
    a (ValueIdx.ix2 ⟨(y (0 : Fin 2)).val - o * 1024, by omega⟩ (y (1 : Fin 2))) else g y

/-- Equal operands, equal accumulators. -/
theorem MUL_congr {x0 x0' : Vec F S1024x512 .f32} {z z' : Vec F S1024x128 .f32} {x3 x3' : Vec F S1x512 .f32} {a a' : Vec F S1024x3584 .f32} {x2 x2' : Vec F S3584x512 .fp8e4m3}
    (h0 : x0 = x0') (hz : z = z') (h3 : x3 = x3') (ha : a = a') (h2 : x2 = x2') : k0_pay6 x0 z x3 a x2 = MUL x0' z' x3' a' x2' := by
  subst h0 hz h3 ha h2; rfl
/-- The rows a grid row's copy is sent to. -/
theorem off3_eq : ∀ i : grid0.Coords, k0_off3 i = ![(i 0).val * 1024, 0] := by decide +kernel
/-- A product's array read after the copy of an accumulator to the row tile of a grid row. -/
theorem PUT_read (h : Memref sig .tc .hbm S5120x3584 .f32) (i : grid0.Coords) (inb : ∀ a : Fin 2, k0_off3 i a + (![1024, 3584] : Fin 2 → ℕ) a ≤ S5120x3584.size a)
    (f : h.view.ty.Contents (Elt F)) (w : (Rect.unit (s := S5120x3584) (k0_off3 i) ![1024, 3584] inb).shape.Idx → Elt F .f32) {a : Vec F S1024x3584 .f32} (hw : w = a) :
    h.view.read (Elt F) ((h.view.slice (Rect.unit (s := S5120x3584) (k0_off3 i) ![1024, 3584] inb)).write (Elt F) f w Finset.univ) = PUT (i 0).val a (h.view.read (Elt F) f) := by
  subst hw
  funext y
  have e0 : k0_off3 i 0 = (i 0).val * 1024 := congrFun (off3_eq i) 0
  have e1 : k0_off3 i 1 = 0 := congrFun (off3_eq i) 1
  unfold PUT
  split
  · rename_i hy
    have : y = (Rect.unit (s := S5120x3584) (k0_off3 i) ![1024, 3584] inb).emb (ValueIdx.ix2 (⟨(y (0 : Fin 2)).val - (i 0).val * 1024, by omega⟩ : Fin 1024) (y (1 : Fin 2))) := by
      funext d; refine Fin.ext ?_
      fin_cases d
      · show (y (0 : Fin 2)).val = k0_off3 i 0 + 1 * ((y (0 : Fin 2)).val - (i 0).val * 1024); omega
      · show (y (1 : Fin 2)).val = k0_off3 i 1 + 1 * (y (1 : Fin 2)).val; omega
    conv_lhs => rw [this]
    exact View.read_slice_write_emb _ _ _ (Finset.mem_univ _)
  · rename_i hy
    refine View.read_slice_write_of_not_mem _ _ _ _ ?_
    intro hm
    obtain ⟨x, -, hx⟩ := Finset.mem_map.mp hm
    refine hy ?_
    have hx0 : (y (0 : Fin 2)).val = k0_off3 i 0 + 1 * (x (0 : Fin 2)).val := congrArg (fun j => (j (0 : Fin 2)).val) hx.symm
    have := (x (0 : Fin 2)).isLt
    have hb : (x (0 : Fin 2)).val < 1024 := this
    omega

end Cert.DhIdeal.Hand

end
-- ==== Proof.DhRunA.lean ====
module

public import proofs.«01_k».proof.Proof.DhDefs

@[expose] public section

/-!
# The call that quantises `da`

The body at one kind of point: the first point of the first row tile.
-/

set_option maxRecDepth 16384

noncomputable section

namespace Cert.DhIdeal.Hand

open Cert.DhIdeal Cert.DhIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1744000 in
/-- The first point of the first row tile. -/
theorem runA (c : Dev nD) (i : grid0.Coords) (arg2 : Memref sig .tc .vmem S1024x512 .f32) (harg2 : arg2.IsWhole) (arg3 : Memref sig .tc .vmem S1024x128 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x4x1024x128 .fp8e5m2) (harg6 : arg6.IsWhole) (arg7 : Memref sig .tc .vmem S4x3584x128 .fp8e4m3) (harg7 : arg7.IsWhole) (arg8 : Memref sig .tc .vmem S1x512 .f32) (harg8 : arg8.IsWhole) (arg9 : Memref sig .tc .vmem S1024x512 .fp8e5m2) (harg9 : arg9.IsWhole) (arg10 : Memref sig .tc .vmem S1024x128 .f32) (harg10 : arg10.IsWhole)
    (x0 : Vec F S1024x512 .f32) (x1 : Vec F S1024x128 .f32) (x2 : Vec F S3584x512 .fp8e4m3) (x3 : Vec F S1x512 .f32) (x4 : Vec F S1x4x1024x128 .fp8e5m2) (x5 : Vec F S4x3584x128 .fp8e4m3) (x6 : Vec F S1x512 .f32) (y7 : Vec F S1024x512 .fp8e5m2) (y8 z : Vec F S1024x128 .f32) (a : Vec F S1024x3584 .f32) (g : Vec F S5120x3584 .f32)
     (h1 : k0_cond1 i = 1#1) (h2 : k0_cond2 i ≠ 1#1) (h3 : k0_cond3 i ≠ 1#1) (h5 : k0_cond5 i = 1#1) (h7 : k0_cond7 i ≠ 1#1) (h8 : k0_cond8 i ≠ 1#1) (h6 : Scalar.cmpi .ne (Scalar.extui (Scalar.cmpi .sge (BitVec.ofNat 32 (i 1).val) 37#32) : BitVec 32) 0#32 ≠ 1#1) (R : sProp 𝕄) (W : Waits sig Unit) (K : PUnit → sProp 𝕄) :
    iprop(held c arg2 arg3 arg4 arg5 arg6 arg7 arg8 x0 x1 x2 x3 x4 x5 x6 arg9 arg10 y7 y8 z ∗ homeV c scM hbM (SemLoc.dma 18) a g ∗ R ∗ owes (c : Thread nD τ) 0 W
        ∗ (iprop(held c arg2 arg3 arg4 arg5 arg6 arg7 arg8 x0 x1 x2 x3 x4 x5 x6 arg9 arg10 (COD x0 (INV x1)) (SCL x1) (INV x1) ∗ homeV c scM hbM (SemLoc.dma 18) (MUL x0 (INV x1) x3 k0_pay4 x2) g ∗ R ∗ (∃ W', owes (c : Thread nD τ) 0 W')) -∗ K ⟨⟩))
      ⊢ wp frame (wpE (defs₀ (F := F)) Variants.none c none) Set.univ (cc0_dh i arg2 harg2 arg3 harg3 arg4 harg4 arg5 harg5 arg6 harg6 arg7 harg7 arg8 harg8 arg9 harg9 arg10 harg10 hbM (Memref.isWhole_whole _) hbA (Memref.isWhole_whole _) scI (Memref.isWhole_whole _) scM (Memref.isWhole_whole _) scA (Memref.isWhole_whole _) cc0_scratch3) K := by
  simp only [cc0_dh_eq_skeleton]; unfold cc0_dh_skel
  simp only [k0_part1_eq_skeleton, k0_part2_eq_skeleton]
  unfold held homeV owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fI, %hfI, HI⟩⟩, ⟨⟨%fm, %hfm, HM⟩, HqM, ⟨%fhm, %hfhm, HhM⟩⟩, HR, HW, Hk⟩
  subst hf0 hf1 hf2 hf3 hf4 hf5 hf6 hf7 hf8 hfI hfhm hfm
  sl_exec (disch := first | sl_exact h1 | sl_exact h2 | sl_exact h3 | sl_exact h5 | sl_exact h6 | sl_exact h7 | sl_exact h8)
  sl_step
  iapply Hk
  isplitl [H0 H1 H2 H3 H4 H5 H6 H7 H8 HI]
  · isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; refine (View.read_writes_full (s := S1024x512) _ _ _ _ _).trans (congrArg₂ COD (View.readAt_full (s := S1024x512) _ _ _) ?_)
      unfold runA.sl.v20
      exact ((View.readAt_writes_full (s := S1024x128) _ _ _ _ _ _).trans (congrArg INV (View.readAt_full (s := S1024x128) _ _ _)))
    isplitl [H8]
    · iexists _; isplitr; swap; · iexact H8
      ipureintro; exact (View.read_writes_full (s := S1024x128) _ _ _ _ _).trans (congrArg SCL (View.readAt_full (s := S1024x128) _ _ _))
    iexists _; isplitr; swap; · iexact HI
    ipureintro; exact (View.read_writes_full (s := S1024x128) _ _ _ _ _).trans (congrArg INV (View.readAt_full (s := S1024x128) _ _ _))
  isplitl [HM HqM HhM]
  · isplitl [HM]
    · iexists _; isplitr; swap; · iexact HM
      ipureintro; refine (View.read_writes_full (s := S1024x3584) _ _ _ _ _).trans (MUL_congr (View.readAt_full (s := S1024x512) _ _ _) ?_ (View.readAt_full (s := S1x512) _ _ _) ?_ (View.readAt_full (s := S3584x512) _ _ _))
      · unfold runA.sl.v20
        exact ((View.readAt_writes_full (s := S1024x128) _ _ _ _ _ _).trans (congrArg INV (View.readAt_full (s := S1024x128) _ _ _)))
      · unfold runA.sl.v35
        exact View.readAt_writes_full (s := S1024x3584) _ _ _ _ _ _
    isplitl [HqM]; · iexact HqM
    iexists _; isplitr; swap; · iexact HhM
    ipureintro; rfl
  isplitl [HR]; · iexact HR
  iexists _; iexact HW

end Cert.DhIdeal.Hand

end
-- ==== Proof.DhRunB.lean ====
module

public import proofs.«01_k».proof.Proof.DhDefs

@[expose] public section

/-!
# The call that quantises `da`

The body at one kind of point: the first point of a later row tile: the first accumulator is waited for.
-/

set_option maxRecDepth 16384

noncomputable section

namespace Cert.DhIdeal.Hand

open Cert.DhIdeal Cert.DhIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1744000 in
/-- The first point of a later row tile: the first accumulator is waited for. -/
theorem runB (c : Dev nD) (i : grid0.Coords) (arg2 : Memref sig .tc .vmem S1024x512 .f32) (harg2 : arg2.IsWhole) (arg3 : Memref sig .tc .vmem S1024x128 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x4x1024x128 .fp8e5m2) (harg6 : arg6.IsWhole) (arg7 : Memref sig .tc .vmem S4x3584x128 .fp8e4m3) (harg7 : arg7.IsWhole) (arg8 : Memref sig .tc .vmem S1x512 .f32) (harg8 : arg8.IsWhole) (arg9 : Memref sig .tc .vmem S1024x512 .fp8e5m2) (harg9 : arg9.IsWhole) (arg10 : Memref sig .tc .vmem S1024x128 .f32) (harg10 : arg10.IsWhole)
    (x0 : Vec F S1024x512 .f32) (x1 : Vec F S1024x128 .f32) (x2 : Vec F S3584x512 .fp8e4m3) (x3 : Vec F S1x512 .f32) (x4 : Vec F S1x4x1024x128 .fp8e5m2) (x5 : Vec F S4x3584x128 .fp8e4m3) (x6 : Vec F S1x512 .f32) (y7 : Vec F S1024x512 .fp8e5m2) (y8 z : Vec F S1024x128 .f32) (g : Vec F S5120x3584 .f32)
     (h1 : k0_cond1 i = 1#1) (h2 : k0_cond2 i = 1#1) (h3 : k0_cond3 i ≠ 1#1) (h5 : k0_cond5 i = 1#1) (h7 : k0_cond7 i ≠ 1#1) (h8 : k0_cond8 i ≠ 1#1) (h6 : Scalar.cmpi .ne (Scalar.extui (Scalar.cmpi .sge (BitVec.ofNat 32 (i 1).val) 37#32) : BitVec 32) 0#32 ≠ 1#1) (R : sProp 𝕄) (W : Waits sig Unit) (K : PUnit → sProp 𝕄) :
    iprop(held c arg2 arg3 arg4 arg5 arg6 arg7 arg8 x0 x1 x2 x3 x4 x5 x6 arg9 arg10 y7 y8 z ∗ flyV c scM hbM (SemLoc.dma 18) g ∗ R ∗ owes (c : Thread nD τ) 0 W
        ∗ (iprop(held c arg2 arg3 arg4 arg5 arg6 arg7 arg8 x0 x1 x2 x3 x4 x5 x6 arg9 arg10 (COD x0 (INV x1)) (SCL x1) (INV x1) ∗ homeV c scM hbM (SemLoc.dma 18) (MUL x0 (INV x1) x3 k0_pay4 x2) g ∗ R ∗ (∃ W', owes (c : Thread nD τ) 0 W')) -∗ K ⟨⟩))
      ⊢ wp frame (wpE (defs₀ (F := F)) Variants.none c none) Set.univ (cc0_dh i arg2 harg2 arg3 harg3 arg4 harg4 arg5 harg5 arg6 harg6 arg7 harg7 arg8 harg8 arg9 harg9 arg10 harg10 hbM (Memref.isWhole_whole _) hbA (Memref.isWhole_whole _) scI (Memref.isWhole_whole _) scM (Memref.isWhole_whole _) scA (Memref.isWhole_whole _) cc0_scratch3) K := by
  simp only [cc0_dh_eq_skeleton]; unfold cc0_dh_skel
  simp only [k0_part1_eq_skeleton, k0_part2_eq_skeleton]
  unfold held homeV flyV owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fI, %hfI, HI⟩⟩, ⟨%fhm, %fm, %hfhm, HqM⟩, HR, HW, Hk⟩
  subst hf0 hf1 hf2 hf3 hf4 hf5 hf6 hf7 hf8 hfI hfhm
  sl_exec (disch := first | sl_exact h1 | sl_exact h2 | sl_exact h3 | sl_exact h5 | sl_exact h6 | sl_exact h7 | sl_exact h8)
  sl_step
  iapply Hk
  isplitl [H0 H1 H2 H3 H4 H5 H6 H7 H8 HI]
  · isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; refine (View.read_writes_full (s := S1024x512) _ _ _ _ _).trans (congrArg₂ COD (View.readAt_full (s := S1024x512) _ _ _) ?_)
      unfold runB.sl.v20
      exact ((View.readAt_writes_full (s := S1024x128) _ _ _ _ _ _).trans (congrArg INV (View.readAt_full (s := S1024x128) _ _ _)))
    isplitl [H8]
    · iexists _; isplitr; swap; · iexact H8
      ipureintro; exact (View.read_writes_full (s := S1024x128) _ _ _ _ _).trans (congrArg SCL (View.readAt_full (s := S1024x128) _ _ _))
    iexists _; isplitr; swap; · iexact HI
    ipureintro; exact (View.read_writes_full (s := S1024x128) _ _ _ _ _).trans (congrArg INV (View.readAt_full (s := S1024x128) _ _ _))
  isplitl [HqM_src HqM HqM_dst]
  · isplitl [HqM_src]
    · iexists _; isplitr; swap; · iexact HqM_src
      ipureintro; refine (View.read_writes_full (s := S1024x3584) _ _ _ _ _).trans (MUL_congr (View.readAt_full (s := S1024x512) _ _ _) ?_ (View.readAt_full (s := S1x512) _ _ _) ?_ (View.readAt_full (s := S3584x512) _ _ _))
      · unfold runB.sl.v20
        exact ((View.readAt_writes_full (s := S1024x128) _ _ _ _ _ _).trans (congrArg INV (View.readAt_full (s := S1024x128) _ _ _)))
      · unfold runB.sl.v35
        exact View.readAt_writes_full (s := S1024x3584) _ _ _ _ _ _
    isplitl [HqM]; · iexact HqM
    iexists _; isplitr; swap; · iexact HqM_dst
    ipureintro; rfl
  isplitl [HR]; · iexact HR
  iexists _; iexact HW

end Cert.DhIdeal.Hand

end
-- ==== Proof.DhRunC.lean ====
module

public import proofs.«01_k».proof.Proof.DhDefs

@[expose] public section

/-!
# The call that quantises `da`

The body at one kind of point: a point of the first product, neither its first nor its last.
-/

set_option maxRecDepth 16384

noncomputable section

namespace Cert.DhIdeal.Hand

open Cert.DhIdeal Cert.DhIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1744000 in
/-- A point of the first product, neither its first nor its last. -/
theorem runC (c : Dev nD) (i : grid0.Coords) (arg2 : Memref sig .tc .vmem S1024x512 .f32) (harg2 : arg2.IsWhole) (arg3 : Memref sig .tc .vmem S1024x128 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x4x1024x128 .fp8e5m2) (harg6 : arg6.IsWhole) (arg7 : Memref sig .tc .vmem S4x3584x128 .fp8e4m3) (harg7 : arg7.IsWhole) (arg8 : Memref sig .tc .vmem S1x512 .f32) (harg8 : arg8.IsWhole) (arg9 : Memref sig .tc .vmem S1024x512 .fp8e5m2) (harg9 : arg9.IsWhole) (arg10 : Memref sig .tc .vmem S1024x128 .f32) (harg10 : arg10.IsWhole)
    (x0 : Vec F S1024x512 .f32) (x1 : Vec F S1024x128 .f32) (x2 : Vec F S3584x512 .fp8e4m3) (x3 : Vec F S1x512 .f32) (x4 : Vec F S1x4x1024x128 .fp8e5m2) (x5 : Vec F S4x3584x128 .fp8e4m3) (x6 : Vec F S1x512 .f32) (y7 : Vec F S1024x512 .fp8e5m2) (y8 z : Vec F S1024x128 .f32) (a : Vec F S1024x3584 .f32) (g : Vec F S5120x3584 .f32)
     (h1 : k0_cond1 i ≠ 1#1) (h3 : k0_cond3 i ≠ 1#1) (h5 : k0_cond5 i = 1#1) (h7 : k0_cond7 i ≠ 1#1) (h8 : k0_cond8 i ≠ 1#1) (h6 : Scalar.cmpi .ne (Scalar.extui (Scalar.cmpi .sge (BitVec.ofNat 32 (i 1).val) 37#32) : BitVec 32) 0#32 ≠ 1#1) (R : sProp 𝕄) (W : Waits sig Unit) (K : PUnit → sProp 𝕄) :
    iprop(held c arg2 arg3 arg4 arg5 arg6 arg7 arg8 x0 x1 x2 x3 x4 x5 x6 arg9 arg10 y7 y8 z ∗ homeV c scM hbM (SemLoc.dma 18) a g ∗ R ∗ owes (c : Thread nD τ) 0 W
        ∗ (iprop(held c arg2 arg3 arg4 arg5 arg6 arg7 arg8 x0 x1 x2 x3 x4 x5 x6 arg9 arg10 (COD x0 z) y8 z ∗ homeV c scM hbM (SemLoc.dma 18) (MUL x0 z x3 a x2) g ∗ R ∗ (∃ W', owes (c : Thread nD τ) 0 W')) -∗ K ⟨⟩))
      ⊢ wp frame (wpE (defs₀ (F := F)) Variants.none c none) Set.univ (cc0_dh i arg2 harg2 arg3 harg3 arg4 harg4 arg5 harg5 arg6 harg6 arg7 harg7 arg8 harg8 arg9 harg9 arg10 harg10 hbM (Memref.isWhole_whole _) hbA (Memref.isWhole_whole _) scI (Memref.isWhole_whole _) scM (Memref.isWhole_whole _) scA (Memref.isWhole_whole _) cc0_scratch3) K := by
  simp only [cc0_dh_eq_skeleton]; unfold cc0_dh_skel
  simp only [k0_part1_eq_skeleton, k0_part2_eq_skeleton]
  unfold held homeV owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fI, %hfI, HI⟩⟩, ⟨⟨%fm, %hfm, HM⟩, HqM, ⟨%fhm, %hfhm, HhM⟩⟩, HR, HW, Hk⟩
  subst hf0 hf1 hf2 hf3 hf4 hf5 hf6 hf7 hf8 hfI hfhm hfm
  sl_exec (disch := first | sl_exact h1 | sl_exact h3 | sl_exact h5 | sl_exact h6 | sl_exact h7 | sl_exact h8)
  sl_step
  iapply Hk
  isplitl [H0 H1 H2 H3 H4 H5 H6 H7 H8 HI]
  · isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; exact (View.read_writes_full (s := S1024x512) _ _ _ _ _).trans (congrArg₂ COD (View.readAt_full (s := S1024x512) _ _ _) (View.readAt_full (s := S1024x128) _ _ _))
    isplitl [H8]
    · iexists _; isplitr; swap; · iexact H8
      ipureintro; rfl
    iexists _; isplitr; swap; · iexact HI
    ipureintro; rfl
  isplitl [HM HqM HhM]
  · isplitl [HM]
    · iexists _; isplitr; swap; · iexact HM
      ipureintro; exact (View.read_writes_full (s := S1024x3584) _ _ _ _ _).trans (MUL_congr (View.readAt_full (s := S1024x512) _ _ _) (View.readAt_full (s := S1024x128) _ _ _) (View.readAt_full (s := S1x512) _ _ _) (View.readAt_full (s := S1024x3584) _ _ _) (View.readAt_full (s := S3584x512) _ _ _))
    isplitl [HqM]; · iexact HqM
    iexists _; isplitr; swap; · iexact HhM
    ipureintro; rfl
  isplitl [HR]; · iexact HR
  iexists _; iexact HW

end Cert.DhIdeal.Hand

end
-- ==== Proof.DhRunD.lean ====
module

public import proofs.«01_k».proof.Proof.DhDefs

@[expose] public section

/-!
# The call that quantises `da`

The body at one kind of point: the last point of the first product: its accumulator is sent.
-/

set_option maxRecDepth 16384

noncomputable section

namespace Cert.DhIdeal.Hand

open Cert.DhIdeal Cert.DhIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1744000 in
/-- The last point of the first product: its accumulator is sent. -/
theorem runD (c : Dev nD) (i : grid0.Coords) (arg2 : Memref sig .tc .vmem S1024x512 .f32) (harg2 : arg2.IsWhole) (arg3 : Memref sig .tc .vmem S1024x128 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x4x1024x128 .fp8e5m2) (harg6 : arg6.IsWhole) (arg7 : Memref sig .tc .vmem S4x3584x128 .fp8e4m3) (harg7 : arg7.IsWhole) (arg8 : Memref sig .tc .vmem S1x512 .f32) (harg8 : arg8.IsWhole) (arg9 : Memref sig .tc .vmem S1024x512 .fp8e5m2) (harg9 : arg9.IsWhole) (arg10 : Memref sig .tc .vmem S1024x128 .f32) (harg10 : arg10.IsWhole)
    (x0 : Vec F S1024x512 .f32) (x1 : Vec F S1024x128 .f32) (x2 : Vec F S3584x512 .fp8e4m3) (x3 : Vec F S1x512 .f32) (x4 : Vec F S1x4x1024x128 .fp8e5m2) (x5 : Vec F S4x3584x128 .fp8e4m3) (x6 : Vec F S1x512 .f32) (y7 : Vec F S1024x512 .fp8e5m2) (y8 z : Vec F S1024x128 .f32) (a : Vec F S1024x3584 .f32) (g : Vec F S5120x3584 .f32)
     (h1 : k0_cond1 i ≠ 1#1) (h3 : k0_cond3 i ≠ 1#1) (h5 : k0_cond5 i = 1#1) (h7 : k0_cond7 i = 1#1) (h8 : k0_cond8 i ≠ 1#1) (h6 : Scalar.cmpi .ne (Scalar.extui (Scalar.cmpi .sge (BitVec.ofNat 32 (i 1).val) 37#32) : BitVec 32) 0#32 ≠ 1#1) (R : sProp 𝕄) (W : Waits sig Unit) (K : PUnit → sProp 𝕄) :
    iprop(held c arg2 arg3 arg4 arg5 arg6 arg7 arg8 x0 x1 x2 x3 x4 x5 x6 arg9 arg10 y7 y8 z ∗ homeV c scM hbM (SemLoc.dma 18) a g ∗ R ∗ owes (c : Thread nD τ) 0 W
        ∗ (iprop(held c arg2 arg3 arg4 arg5 arg6 arg7 arg8 x0 x1 x2 x3 x4 x5 x6 arg9 arg10 (COD x0 z) y8 z ∗ flyV c scM hbM (SemLoc.dma 18) (PUT (i 0).val (MUL x0 z x3 a x2) g) ∗ R ∗ (∃ W', owes (c : Thread nD τ) 0 W')) -∗ K ⟨⟩))
      ⊢ wp frame (wpE (defs₀ (F := F)) Variants.none c none) Set.univ (cc0_dh i arg2 harg2 arg3 harg3 arg4 harg4 arg5 harg5 arg6 harg6 arg7 harg7 arg8 harg8 arg9 harg9 arg10 harg10 hbM (Memref.isWhole_whole _) hbA (Memref.isWhole_whole _) scI (Memref.isWhole_whole _) scM (Memref.isWhole_whole _) scA (Memref.isWhole_whole _) cc0_scratch3) K := by
  simp only [cc0_dh_eq_skeleton]; unfold cc0_dh_skel
  simp only [k0_part1_eq_skeleton, k0_part2_eq_skeleton]
  unfold held homeV flyV owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fI, %hfI, HI⟩⟩, ⟨⟨%fm, %hfm, HM⟩, HqM, ⟨%fhm, %hfhm, HhM⟩⟩, HR, HW, Hk⟩
  subst hf0 hf1 hf2 hf3 hf4 hf5 hf6 hf7 hf8 hfI hfhm hfm
  sl_exec (disch := first | sl_exact h1 | sl_exact h3 | sl_exact h5 | sl_exact h6 | sl_exact h7 | sl_exact h8)
  sl_step
  iapply Hk
  isplitl [H0 H1 H2 H3 H4 H5 H6 H7 H8 HI]
  · isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; exact (View.read_writes_full (s := S1024x512) _ _ _ _ _).trans (congrArg₂ COD (View.readAt_full (s := S1024x512) _ _ _) (View.readAt_full (s := S1024x128) _ _ _))
    isplitl [H8]
    · iexists _; isplitr; swap; · iexact H8
      ipureintro; rfl
    iexists _; isplitr; swap; · iexact HI
    ipureintro; rfl
  isplitl [HqM]
  · iexists _, _; isplitr; swap; · iexact HqM
    ipureintro; unfold runD.sl.HhM_w0; refine PUT_read _ _ _ _ _ ?_
    unfold runD.sl.dma9
    exact (View.read_writes_full (s := S1024x3584) _ _ _ _ _).trans (MUL_congr (View.readAt_full (s := S1024x512) _ _ _) (View.readAt_full (s := S1024x128) _ _ _) (View.readAt_full (s := S1x512) _ _ _) (View.readAt_full (s := S1024x3584) _ _ _) (View.readAt_full (s := S3584x512) _ _ _))
  isplitl [HR]; · iexact HR
  iexists _; iexact HW

end Cert.DhIdeal.Hand

end
-- ==== Proof.DhRunE.lean ====
module

public import proofs.«01_k».proof.Proof.DhDefs

@[expose] public section

/-!
# The call that quantises `da`

The body at one kind of point: the first point of the second product, in the first row tile.
-/

set_option maxRecDepth 16384

noncomputable section

namespace Cert.DhIdeal.Hand

open Cert.DhIdeal Cert.DhIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1744000 in
/-- The first point of the second product, in the first row tile. -/
theorem runE (c : Dev nD) (i : grid0.Coords) (arg2 : Memref sig .tc .vmem S1024x512 .f32) (harg2 : arg2.IsWhole) (arg3 : Memref sig .tc .vmem S1024x128 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x4x1024x128 .fp8e5m2) (harg6 : arg6.IsWhole) (arg7 : Memref sig .tc .vmem S4x3584x128 .fp8e4m3) (harg7 : arg7.IsWhole) (arg8 : Memref sig .tc .vmem S1x512 .f32) (harg8 : arg8.IsWhole) (arg9 : Memref sig .tc .vmem S1024x512 .fp8e5m2) (harg9 : arg9.IsWhole) (arg10 : Memref sig .tc .vmem S1024x128 .f32) (harg10 : arg10.IsWhole)
    (x0 : Vec F S1024x512 .f32) (x1 : Vec F S1024x128 .f32) (x2 : Vec F S3584x512 .fp8e4m3) (x3 : Vec F S1x512 .f32) (x4 : Vec F S1x4x1024x128 .fp8e5m2) (x5 : Vec F S4x3584x128 .fp8e4m3) (x6 : Vec F S1x512 .f32) (y7 : Vec F S1024x512 .fp8e5m2) (y8 z : Vec F S1024x128 .f32)
     (h1 : k0_cond1 i ≠ 1#1) (h3 : k0_cond3 i = 1#1) (h4 : k0_cond4 i ≠ 1#1) (h5 : k0_cond5 i ≠ 1#1) (h7 : k0_cond7 i ≠ 1#1) (h8 : k0_cond8 i ≠ 1#1) (h6 : Scalar.cmpi .ne (Scalar.extui (Scalar.cmpi .sge (BitVec.ofNat 32 (i 1).val) 37#32) : BitVec 32) 0#32 = 1#1) (R : sProp 𝕄) (W : Waits sig Unit) (K : PUnit → sProp 𝕄) :
    iprop(held c arg2 arg3 arg4 arg5 arg6 arg7 arg8 x0 x1 x2 x3 x4 x5 x6 arg9 arg10 y7 y8 z ∗ R ∗ home c scA hbA (SemLoc.dma 19) ∗ owes (c : Thread nD τ) 0 W
        ∗ (iprop(held c arg2 arg3 arg4 arg5 arg6 arg7 arg8 x0 x1 x2 x3 x4 x5 x6 arg9 arg10 y7 y8 z ∗ R ∗ home c scA hbA (SemLoc.dma 19) ∗ (∃ W', owes (c : Thread nD τ) 0 W')) -∗ K ⟨⟩))
      ⊢ wp frame (wpE (defs₀ (F := F)) Variants.none c none) Set.univ (cc0_dh i arg2 harg2 arg3 harg3 arg4 harg4 arg5 harg5 arg6 harg6 arg7 harg7 arg8 harg8 arg9 harg9 arg10 harg10 hbM (Memref.isWhole_whole _) hbA (Memref.isWhole_whole _) scI (Memref.isWhole_whole _) scM (Memref.isWhole_whole _) scA (Memref.isWhole_whole _) cc0_scratch3) K := by
  simp only [cc0_dh_eq_skeleton]; unfold cc0_dh_skel
  simp only [k0_part1_eq_skeleton, k0_part2_eq_skeleton]
  unfold held home owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fI, %hfI, HI⟩⟩, HR, ⟨⟨%da, %fa, -, HA⟩, HqA, ⟨%dha, %fha, -, HhA⟩⟩, HW, Hk⟩
  subst hf0 hf1 hf2 hf3 hf4 hf5 hf6 hf7 hf8 hfI
  sl_exec (disch := first | sl_exact h1 | sl_exact h3 | sl_exact h4 | sl_exact h5 | sl_exact h6 | sl_exact h7 | sl_exact h8)
  sl_step
  iapply Hk
  isplitl [H0 H1 H2 H3 H4 H5 H6 H7 H8 HI]
  · isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    iexists _; isplitr; swap; · iexact HI
    ipureintro; rfl
  isplitl [HR]; · iexact HR
  isplitl [HA HqA HhA]
  · isplitl [HA]
    · iexists _, _; isplitr; swap; · iexact HA
      ipureintro; rfl
    isplitl [HqA]; · iexact HqA
    iexists _, _; isplitr; swap; · iexact HhA
    ipureintro; rfl
  iexists _; iexact HW

end Cert.DhIdeal.Hand

end
-- ==== Proof.DhRunF.lean ====
module

public import proofs.«01_k».proof.Proof.DhDefs

@[expose] public section

/-!
# The call that quantises `da`

The body at one kind of point: the first point of the second product, later: its accumulator is waited for.
-/

set_option maxRecDepth 16384

noncomputable section

namespace Cert.DhIdeal.Hand

open Cert.DhIdeal Cert.DhIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1744000 in
/-- The first point of the second product, later: its accumulator is waited for. -/
theorem runF (c : Dev nD) (i : grid0.Coords) (arg2 : Memref sig .tc .vmem S1024x512 .f32) (harg2 : arg2.IsWhole) (arg3 : Memref sig .tc .vmem S1024x128 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x4x1024x128 .fp8e5m2) (harg6 : arg6.IsWhole) (arg7 : Memref sig .tc .vmem S4x3584x128 .fp8e4m3) (harg7 : arg7.IsWhole) (arg8 : Memref sig .tc .vmem S1x512 .f32) (harg8 : arg8.IsWhole) (arg9 : Memref sig .tc .vmem S1024x512 .fp8e5m2) (harg9 : arg9.IsWhole) (arg10 : Memref sig .tc .vmem S1024x128 .f32) (harg10 : arg10.IsWhole)
    (x0 : Vec F S1024x512 .f32) (x1 : Vec F S1024x128 .f32) (x2 : Vec F S3584x512 .fp8e4m3) (x3 : Vec F S1x512 .f32) (x4 : Vec F S1x4x1024x128 .fp8e5m2) (x5 : Vec F S4x3584x128 .fp8e4m3) (x6 : Vec F S1x512 .f32) (y7 : Vec F S1024x512 .fp8e5m2) (y8 z : Vec F S1024x128 .f32)
     (h1 : k0_cond1 i ≠ 1#1) (h3 : k0_cond3 i = 1#1) (h4 : k0_cond4 i = 1#1) (h5 : k0_cond5 i ≠ 1#1) (h7 : k0_cond7 i ≠ 1#1) (h8 : k0_cond8 i ≠ 1#1) (h6 : Scalar.cmpi .ne (Scalar.extui (Scalar.cmpi .sge (BitVec.ofNat 32 (i 1).val) 37#32) : BitVec 32) 0#32 = 1#1) (R : sProp 𝕄) (W : Waits sig Unit) (K : PUnit → sProp 𝕄) :
    iprop(held c arg2 arg3 arg4 arg5 arg6 arg7 arg8 x0 x1 x2 x3 x4 x5 x6 arg9 arg10 y7 y8 z ∗ R ∗ fly c scA hbA (SemLoc.dma 19) ∗ owes (c : Thread nD τ) 0 W
        ∗ (iprop(held c arg2 arg3 arg4 arg5 arg6 arg7 arg8 x0 x1 x2 x3 x4 x5 x6 arg9 arg10 y7 y8 z ∗ R ∗ home c scA hbA (SemLoc.dma 19) ∗ (∃ W', owes (c : Thread nD τ) 0 W')) -∗ K ⟨⟩))
      ⊢ wp frame (wpE (defs₀ (F := F)) Variants.none c none) Set.univ (cc0_dh i arg2 harg2 arg3 harg3 arg4 harg4 arg5 harg5 arg6 harg6 arg7 harg7 arg8 harg8 arg9 harg9 arg10 harg10 hbM (Memref.isWhole_whole _) hbA (Memref.isWhole_whole _) scI (Memref.isWhole_whole _) scM (Memref.isWhole_whole _) scA (Memref.isWhole_whole _) cc0_scratch3) K := by
  simp only [cc0_dh_eq_skeleton]; unfold cc0_dh_skel
  simp only [k0_part1_eq_skeleton, k0_part2_eq_skeleton]
  unfold held home fly owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fI, %hfI, HI⟩⟩, HR, ⟨%fha, %fa, HqA⟩, HW, Hk⟩
  subst hf0 hf1 hf2 hf3 hf4 hf5 hf6 hf7 hf8 hfI
  sl_exec (disch := first | sl_exact h1 | sl_exact h3 | sl_exact h4 | sl_exact h5 | sl_exact h6 | sl_exact h7 | sl_exact h8)
  sl_step
  iapply Hk
  isplitl [H0 H1 H2 H3 H4 H5 H6 H7 H8 HI]
  · isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    iexists _; isplitr; swap; · iexact HI
    ipureintro; rfl
  isplitl [HR]; · iexact HR
  isplitl [HqA_src HqA HqA_dst]
  · isplitl [HqA_src]
    · iexists _, _; isplitr; swap; · iexact HqA_src
      ipureintro; rfl
    isplitl [HqA]; · iexact HqA
    iexists _, _; isplitr; swap; · iexact HqA_dst
    ipureintro; rfl
  iexists _; iexact HW

end Cert.DhIdeal.Hand

end
-- ==== Proof.DhRunG.lean ====
module

public import proofs.«01_k».proof.Proof.DhDefs

@[expose] public section

/-!
# The call that quantises `da`

The body at one kind of point: a point of the second product, neither its first nor its last.
-/

set_option maxRecDepth 16384

noncomputable section

namespace Cert.DhIdeal.Hand

open Cert.DhIdeal Cert.DhIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1744000 in
/-- A point of the second product, neither its first nor its last. -/
theorem runG (c : Dev nD) (i : grid0.Coords) (arg2 : Memref sig .tc .vmem S1024x512 .f32) (harg2 : arg2.IsWhole) (arg3 : Memref sig .tc .vmem S1024x128 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x4x1024x128 .fp8e5m2) (harg6 : arg6.IsWhole) (arg7 : Memref sig .tc .vmem S4x3584x128 .fp8e4m3) (harg7 : arg7.IsWhole) (arg8 : Memref sig .tc .vmem S1x512 .f32) (harg8 : arg8.IsWhole) (arg9 : Memref sig .tc .vmem S1024x512 .fp8e5m2) (harg9 : arg9.IsWhole) (arg10 : Memref sig .tc .vmem S1024x128 .f32) (harg10 : arg10.IsWhole)
    (x0 : Vec F S1024x512 .f32) (x1 : Vec F S1024x128 .f32) (x2 : Vec F S3584x512 .fp8e4m3) (x3 : Vec F S1x512 .f32) (x4 : Vec F S1x4x1024x128 .fp8e5m2) (x5 : Vec F S4x3584x128 .fp8e4m3) (x6 : Vec F S1x512 .f32) (y7 : Vec F S1024x512 .fp8e5m2) (y8 z : Vec F S1024x128 .f32)
     (h1 : k0_cond1 i ≠ 1#1) (h3 : k0_cond3 i ≠ 1#1) (h5 : k0_cond5 i ≠ 1#1) (h7 : k0_cond7 i ≠ 1#1) (h8 : k0_cond8 i ≠ 1#1) (h6 : Scalar.cmpi .ne (Scalar.extui (Scalar.cmpi .sge (BitVec.ofNat 32 (i 1).val) 37#32) : BitVec 32) 0#32 = 1#1) (R : sProp 𝕄) (W : Waits sig Unit) (K : PUnit → sProp 𝕄) :
    iprop(held c arg2 arg3 arg4 arg5 arg6 arg7 arg8 x0 x1 x2 x3 x4 x5 x6 arg9 arg10 y7 y8 z ∗ R ∗ home c scA hbA (SemLoc.dma 19) ∗ owes (c : Thread nD τ) 0 W
        ∗ (iprop(held c arg2 arg3 arg4 arg5 arg6 arg7 arg8 x0 x1 x2 x3 x4 x5 x6 arg9 arg10 y7 y8 z ∗ R ∗ home c scA hbA (SemLoc.dma 19) ∗ (∃ W', owes (c : Thread nD τ) 0 W')) -∗ K ⟨⟩))
      ⊢ wp frame (wpE (defs₀ (F := F)) Variants.none c none) Set.univ (cc0_dh i arg2 harg2 arg3 harg3 arg4 harg4 arg5 harg5 arg6 harg6 arg7 harg7 arg8 harg8 arg9 harg9 arg10 harg10 hbM (Memref.isWhole_whole _) hbA (Memref.isWhole_whole _) scI (Memref.isWhole_whole _) scM (Memref.isWhole_whole _) scA (Memref.isWhole_whole _) cc0_scratch3) K := by
  simp only [cc0_dh_eq_skeleton]; unfold cc0_dh_skel
  simp only [k0_part1_eq_skeleton, k0_part2_eq_skeleton]
  unfold held home owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fI, %hfI, HI⟩⟩, HR, ⟨⟨%da, %fa, -, HA⟩, HqA, ⟨%dha, %fha, -, HhA⟩⟩, HW, Hk⟩
  subst hf0 hf1 hf2 hf3 hf4 hf5 hf6 hf7 hf8 hfI
  sl_exec (disch := first | sl_exact h1 | sl_exact h3 | sl_exact h5 | sl_exact h6 | sl_exact h7 | sl_exact h8)
  sl_step
  iapply Hk
  isplitl [H0 H1 H2 H3 H4 H5 H6 H7 H8 HI]
  · isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    iexists _; isplitr; swap; · iexact HI
    ipureintro; rfl
  isplitl [HR]; · iexact HR
  isplitl [HA HqA HhA]
  · isplitl [HA]
    · iexists _, _; isplitr; swap; · iexact HA
      ipureintro; rfl
    isplitl [HqA]; · iexact HqA
    iexists _, _; isplitr; swap; · iexact HhA
    ipureintro; rfl
  iexists _; iexact HW

end Cert.DhIdeal.Hand

end
-- ==== Proof.DhRunH.lean ====
module

public import proofs.«01_k».proof.Proof.DhDefs

@[expose] public section

/-!
# The call that quantises `da`

The body at one kind of point: the last point of a row tile that is not the last: the second accumulator is sent.
-/

set_option maxRecDepth 16384

noncomputable section

namespace Cert.DhIdeal.Hand

open Cert.DhIdeal Cert.DhIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1744000 in
/-- The last point of a row tile that is not the last: the second accumulator is sent. -/
theorem runH (c : Dev nD) (i : grid0.Coords) (arg2 : Memref sig .tc .vmem S1024x512 .f32) (harg2 : arg2.IsWhole) (arg3 : Memref sig .tc .vmem S1024x128 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x4x1024x128 .fp8e5m2) (harg6 : arg6.IsWhole) (arg7 : Memref sig .tc .vmem S4x3584x128 .fp8e4m3) (harg7 : arg7.IsWhole) (arg8 : Memref sig .tc .vmem S1x512 .f32) (harg8 : arg8.IsWhole) (arg9 : Memref sig .tc .vmem S1024x512 .fp8e5m2) (harg9 : arg9.IsWhole) (arg10 : Memref sig .tc .vmem S1024x128 .f32) (harg10 : arg10.IsWhole)
    (x0 : Vec F S1024x512 .f32) (x1 : Vec F S1024x128 .f32) (x2 : Vec F S3584x512 .fp8e4m3) (x3 : Vec F S1x512 .f32) (x4 : Vec F S1x4x1024x128 .fp8e5m2) (x5 : Vec F S4x3584x128 .fp8e4m3) (x6 : Vec F S1x512 .f32) (y7 : Vec F S1024x512 .fp8e5m2) (y8 z : Vec F S1024x128 .f32)
     (h1 : k0_cond1 i ≠ 1#1) (h3 : k0_cond3 i ≠ 1#1) (h5 : k0_cond5 i ≠ 1#1) (h7 : k0_cond7 i ≠ 1#1) (h8 : k0_cond8 i = 1#1) (h9 : k0_cond9 i ≠ 1#1) (h6 : Scalar.cmpi .ne (Scalar.extui (Scalar.cmpi .sge (BitVec.ofNat 32 (i 1).val) 37#32) : BitVec 32) 0#32 = 1#1) (R : sProp 𝕄) (W : Waits sig Unit) (K : PUnit → sProp 𝕄) :
    iprop(held c arg2 arg3 arg4 arg5 arg6 arg7 arg8 x0 x1 x2 x3 x4 x5 x6 arg9 arg10 y7 y8 z ∗ R ∗ home c scA hbA (SemLoc.dma 19) ∗ owes (c : Thread nD τ) 0 W
        ∗ (iprop(held c arg2 arg3 arg4 arg5 arg6 arg7 arg8 x0 x1 x2 x3 x4 x5 x6 arg9 arg10 y7 y8 z ∗ R ∗ fly c scA hbA (SemLoc.dma 19) ∗ (∃ W', owes (c : Thread nD τ) 0 W')) -∗ K ⟨⟩))
      ⊢ wp frame (wpE (defs₀ (F := F)) Variants.none c none) Set.univ (cc0_dh i arg2 harg2 arg3 harg3 arg4 harg4 arg5 harg5 arg6 harg6 arg7 harg7 arg8 harg8 arg9 harg9 arg10 harg10 hbM (Memref.isWhole_whole _) hbA (Memref.isWhole_whole _) scI (Memref.isWhole_whole _) scM (Memref.isWhole_whole _) scA (Memref.isWhole_whole _) cc0_scratch3) K := by
  simp only [cc0_dh_eq_skeleton]; unfold cc0_dh_skel
  simp only [k0_part1_eq_skeleton, k0_part2_eq_skeleton]
  unfold held home fly owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fI, %hfI, HI⟩⟩, HR, ⟨⟨%da, %fa, -, HA⟩, HqA, ⟨%dha, %fha, -, HhA⟩⟩, HW, Hk⟩
  subst hf0 hf1 hf2 hf3 hf4 hf5 hf6 hf7 hf8 hfI
  sl_exec (disch := first | sl_exact h1 | sl_exact h3 | sl_exact h5 | sl_exact h6 | sl_exact h7 | sl_exact h8 | sl_exact h9)
  sl_step
  iapply Hk
  isplitl [H0 H1 H2 H3 H4 H5 H6 H7 H8 HI]
  · isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    iexists _; isplitr; swap; · iexact HI
    ipureintro; rfl
  isplitl [HR]; · iexact HR
  isplitl [HqA]; · iexists _, _; iexact HqA
  iexists _; iexact HW

end Cert.DhIdeal.Hand

end
-- ==== Proof.DhRunI.lean ====
module

public import proofs.«01_k».proof.Proof.DhDefs

@[expose] public section

/-!
# The call that quantises `da`

The body at one kind of point: the last point: the second accumulator is sent and both copies are waited for.
-/

set_option maxRecDepth 16384

noncomputable section

namespace Cert.DhIdeal.Hand

open Cert.DhIdeal Cert.DhIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1744000 in
/-- The last point: the second accumulator is sent and both copies are waited for. -/
theorem runI (c : Dev nD) (i : grid0.Coords) (arg2 : Memref sig .tc .vmem S1024x512 .f32) (harg2 : arg2.IsWhole) (arg3 : Memref sig .tc .vmem S1024x128 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x4x1024x128 .fp8e5m2) (harg6 : arg6.IsWhole) (arg7 : Memref sig .tc .vmem S4x3584x128 .fp8e4m3) (harg7 : arg7.IsWhole) (arg8 : Memref sig .tc .vmem S1x512 .f32) (harg8 : arg8.IsWhole) (arg9 : Memref sig .tc .vmem S1024x512 .fp8e5m2) (harg9 : arg9.IsWhole) (arg10 : Memref sig .tc .vmem S1024x128 .f32) (harg10 : arg10.IsWhole)
    (x0 : Vec F S1024x512 .f32) (x1 : Vec F S1024x128 .f32) (x2 : Vec F S3584x512 .fp8e4m3) (x3 : Vec F S1x512 .f32) (x4 : Vec F S1x4x1024x128 .fp8e5m2) (x5 : Vec F S4x3584x128 .fp8e4m3) (x6 : Vec F S1x512 .f32) (y7 : Vec F S1024x512 .fp8e5m2) (y8 z : Vec F S1024x128 .f32) (g : Vec F S5120x3584 .f32)
     (h1 : k0_cond1 i ≠ 1#1) (h3 : k0_cond3 i ≠ 1#1) (h5 : k0_cond5 i ≠ 1#1) (h7 : k0_cond7 i ≠ 1#1) (h8 : k0_cond8 i = 1#1) (h9 : k0_cond9 i = 1#1) (h6 : Scalar.cmpi .ne (Scalar.extui (Scalar.cmpi .sge (BitVec.ofNat 32 (i 1).val) 37#32) : BitVec 32) 0#32 = 1#1) (W : Waits sig Unit) (K : PUnit → sProp 𝕄) :
    iprop(held c arg2 arg3 arg4 arg5 arg6 arg7 arg8 x0 x1 x2 x3 x4 x5 x6 arg9 arg10 y7 y8 z ∗ flyV c scM hbM (SemLoc.dma 18) g ∗ home c scA hbA (SemLoc.dma 19) ∗ owes (c : Thread nD τ) 0 W
        ∗ (iprop(held c arg2 arg3 arg4 arg5 arg6 arg7 arg8 x0 x1 x2 x3 x4 x5 x6 arg9 arg10 y7 y8 z ∗ (∃ a, homeV c scM hbM (SemLoc.dma 18) a g) ∗ home c scA hbA (SemLoc.dma 19) ∗ (∃ W', owes (c : Thread nD τ) 0 W')) -∗ K ⟨⟩))
      ⊢ wp frame (wpE (defs₀ (F := F)) Variants.none c none) Set.univ (cc0_dh i arg2 harg2 arg3 harg3 arg4 harg4 arg5 harg5 arg6 harg6 arg7 harg7 arg8 harg8 arg9 harg9 arg10 harg10 hbM (Memref.isWhole_whole _) hbA (Memref.isWhole_whole _) scI (Memref.isWhole_whole _) scM (Memref.isWhole_whole _) scA (Memref.isWhole_whole _) cc0_scratch3) K := by
  simp only [cc0_dh_eq_skeleton]; unfold cc0_dh_skel
  simp only [k0_part1_eq_skeleton, k0_part2_eq_skeleton]
  unfold held homeV flyV home owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fI, %hfI, HI⟩⟩, ⟨%fhm, %fm, %hfhm, HqM⟩, ⟨⟨%da, %fa, -, HA⟩, HqA, ⟨%dha, %fha, -, HhA⟩⟩, HW, Hk⟩
  subst hf0 hf1 hf2 hf3 hf4 hf5 hf6 hf7 hf8 hfI hfhm
  sl_exec (disch := first | sl_exact h1 | sl_exact h3 | sl_exact h5 | sl_exact h6 | sl_exact h7 | sl_exact h8 | sl_exact h9)
  sl_step
  iapply Hk
  isplitl [H0 H1 H2 H3 H4 H5 H6 H7 H8 HI]
  · isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    iexists _; isplitr; swap; · iexact HI
    ipureintro; rfl
  isplitl [HqM_src HqM HqM_dst]
  · iexists _
    isplitl [HqM_src]
    · iexists _; isplitr; swap; · iexact HqM_src
      ipureintro; rfl
    isplitl [HqM]; · iexact HqM
    iexists _; isplitr; swap; · iexact HqM_dst
    ipureintro; rfl
  isplitl [HA HqA HhA]
  · isplitl [HA]
    · iexists _, _; isplitr; swap; · iexact HA
      ipureintro; rfl
    isplitl [HqA]; · iexact HqA
    iexists _, _; isplitr; swap; · iexact HhA
    ipureintro; rfl
  iexists _; iexact HW

end Cert.DhIdeal.Hand

end
-- ==== Proof.DhFrame.lean ====
module

public import proofs.«01_k».proof.Proof.DhRunA
public import proofs.«01_k».proof.Proof.DhRunB
public import proofs.«01_k».proof.Proof.DhRunC
public import proofs.«01_k».proof.Proof.DhRunD
public import proofs.«01_k».proof.Proof.DhRunE
public import proofs.«01_k».proof.Proof.DhRunF
public import proofs.«01_k».proof.Proof.DhRunG
public import proofs.«01_k».proof.Proof.DhRunH
public import proofs.«01_k».proof.Proof.DhRunI
public import proofs.«01_k».proof.Proof.Gen.DhIdeal.Frame
public import Idealize.ShloMosaic.Lib.Claim
public import Idealize.ShloMosaic.Lib.Pipeline.FrameValue

@[expose] public section

/-!
# The call that quantises `da`

The proof data (what every buffer holds at every point, which copies are in flight), the body obligation, and the run.
-/

set_option maxRecDepth 16384

noncomputable section

namespace Cert.DhIdeal.Hand

open Cert.DhIdeal Cert.DhIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- @main up to the region: the host operations, then the region. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## What is in flight at a point -/

/-- The first accumulator after the point before `n`. -/
def ACC (c : Dev nD) : ℕ → Vec F S1024x3584 .f32
  | 0 => k0_pay4
  | n + 1 => if h : n < cfg0.N then
      MUL (iblk m c 0 ⟨n, h⟩) (INV (iblk m c 1 ⟨n, h⟩)) (iblk m c 3 ⟨n, h⟩) (if n % 58 = 0 then k0_pay4 else ACC c n) (iblk m c 2 ⟨n, h⟩)
    else k0_pay4
/-- It, after a point. -/
theorem ACC_succ (c : Dev nD) (t : Fin cfg0.N) : ACC m c (t.val + 1)
    = MUL (iblk m c 0 t) (INV (iblk m c 1 t)) (iblk m c 3 t) (if t.val % 58 = 0 then k0_pay4 else ACC m c t.val) (iblk m c 2 t) := by
  rw [ACC, dif_pos t.isLt]
/-- The first product's array before point `n`: the rows of every row tile whose product is over. -/
def ARR (c : Dev nD) (n : ℕ) (g : Vec F S5120x3584 .f32) : Prop :=
  ∀ (o : ℕ) (ho : o < 5), o * 58 + 37 ≤ n → ∀ (k : Fin 1024) (d : Fin 3584), g (ValueIdx.ix2 (⟨o * 1024 + k.val, by omega⟩ : Fin 5120) d) = ACC m c (o * 58 + 37) (ValueIdx.ix2 k d)
/-- A point that sends nothing leaves it. -/
theorem ARR_succ (c : Dev nD) (n : ℕ) (h : n % 58 ≠ 36) (g : Vec F S5120x3584 .f32) : ARR m c n g ↔ ARR m c (n + 1) g :=
  ⟨fun H o ho hn => H o ho (by omega), fun H o ho hn => H o ho (by omega)⟩
/-- A point that sends adds its row tile. -/
theorem ARR_put (c : Dev nD) (n : ℕ) (h : n % 58 = 36) (g : Vec F S5120x3584 .f32) (H : ARR m c n g) : ARR m c (n + 1) (PUT (n / 58) (ACC m c (n + 1)) g) := by
  intro o ho hn k d
  unfold PUT
  by_cases e : o = n / 58
  · subst e
    rw [dif_pos ⟨by show n / 58 * 1024 ≤ n / 58 * 1024 + k.val; omega, by show n / 58 * 1024 + k.val < n / 58 * 1024 + 1024; omega⟩, show n / 58 * 58 + 37 = n + 1 by omega]
    congr 1
    refine congrArg (fun j : Fin 1024 => ValueIdx.ix2 j d) (Fin.ext ?_)
    show n / 58 * 1024 + k.val - n / 58 * 1024 = k.val
    omega
  · rw [dif_neg (by
      rintro ⟨h1, h2⟩
      have h1 : n / 58 * 1024 ≤ o * 1024 + k.val := h1
      have h2 : o * 1024 + k.val < n / 58 * 1024 + 1024 := h2
      omega)]
    exact H o ho (by omega) k d
/-- The first accumulator and its array before point `n`, nothing in flight. -/
def MH (c : Dev nD) (n : ℕ) : sProp 𝕄 :=
  iprop(∃ x : Vec F S1024x3584 .f32 × Vec F S5120x3584 .f32, ⌜(0 < n % 58 → n % 58 < 37 → x.1 = ACC m c n) ∧ ARR m c n x.2⌝ ∗ homeV c scM hbM (SemLoc.dma 18) x.1 x.2)
/-- The same, the accumulator being copied out. -/
def MF (c : Dev nD) (n : ℕ) : sProp 𝕄 :=
  iprop(∃ g : Vec F S5120x3584 .f32, ⌜ARR m c n g⌝ ∗ flyV c scM hbM (SemLoc.dma 18) g)
/-- Nothing in flight, -/
theorem MH_intro (c : Dev nD) (n : ℕ) (a : Vec F S1024x3584 .f32) (g : Vec F S5120x3584 .f32) (h : (0 < n % 58 → n % 58 < 37 → a = ACC m c n) ∧ ARR m c n g) :
    homeV c scM hbM (SemLoc.dma 18) a g ⊢ MH m c n := by
  unfold MH
  iintro H
  iexists (a, g); isplitr; · ipureintro; exact h
  iexact H
/-- or not. -/
theorem MF_intro (c : Dev nD) (n : ℕ) (g : Vec F S5120x3584 .f32) (h : ARR m c n g) :
    flyV c scM hbM (SemLoc.dma 18) g ⊢ MF m c n := by
  unfold MF
  iintro H
  iexists g; isplitr; · ipureintro; exact h
  iexact H
/-- The copy in flight is the same before a point that sends nothing and after. -/
theorem MF_succ (c : Dev nD) (n : ℕ) (h : n % 58 ≠ 36) : MF m c (n + 1) = MF (F := F) m c n := by
  unfold MF
  simp only [ARR_succ m c n h]
/-- A run from each value the accumulator and its array may have. -/
theorem from_home (c : Dev nD) (n : ℕ) {H H' R O O' k G X : sProp 𝕄} (B : Vec F S1024x3584 .f32 → Vec F S5120x3584 .f32 → sProp 𝕄)
    (hB : ∀ a g, (0 < n % 58 → n % 58 < 37 → a = ACC m c n) → ARR m c n g → B a g ⊢ X)
    (h : ∀ a g, iprop(H ∗ homeV c scM hbM (SemLoc.dma 18) a g ∗ R ∗ O ∗ (iprop(H' ∗ B a g ∗ R ∗ O') -∗ k)) ⊢ G) :
    iprop(H ∗ MH m c n ∗ R ∗ O ∗ (iprop(H' ∗ X ∗ R ∗ O') -∗ k)) ⊢ G := by
  unfold MH
  iintro ⟨HH, ⟨%x, %hx, HM⟩, HR, HO, Hk⟩
  iapply (h x.1 x.2)
  isplitl [HH]; · iexact HH
  isplitl [HM]; · iexact HM
  isplitl [HR]; · iexact HR
  isplitl [HO]; · iexact HO
  iintro ⟨HH, HM, HR, HO⟩
  iapply Hk
  isplitl [HH]; · iexact HH
  isplitl [HM]; · iapply (hB x.1 x.2 hx.1 hx.2); iexact HM
  isplitl [HR]; · iexact HR
  iexact HO
/-- A run from each contents the array may be given back at. -/
theorem from_fly (c : Dev nD) (n : ℕ) {H H' R O O' k G X : sProp 𝕄} (B : Vec F S5120x3584 .f32 → sProp 𝕄)
    (hB : ∀ g, ARR m c n g → B g ⊢ X)
    (h : ∀ g, iprop(H ∗ flyV c scM hbM (SemLoc.dma 18) g ∗ R ∗ O ∗ (iprop(H' ∗ B g ∗ R ∗ O') -∗ k)) ⊢ G) :
    iprop(H ∗ MF m c n ∗ R ∗ O ∗ (iprop(H' ∗ X ∗ R ∗ O') -∗ k)) ⊢ G := by
  unfold MF
  iintro ⟨HH, ⟨%g, %hg, HM⟩, HR, HO, Hk⟩
  iapply (h g)
  isplitl [HH]; · iexact HH
  isplitl [HM]; · iexact HM
  isplitl [HR]; · iexact HR
  isplitl [HO]; · iexact HO
  iintro ⟨HH, HM, HR, HO⟩
  iapply Hk
  isplitl [HH]; · iexact HH
  isplitl [HM]; · iapply (hB g hg); iexact HM
  isplitl [HR]; · iexact HR
  iexact HO
/-- The first accumulator is in flight from the point after it is sent until the next row tile begins. -/
def Mst (c : Dev nD) (n : ℕ) : sProp 𝕄 :=
  if (37 ≤ n % 58 ∨ (n % 58 = 0 ∧ 58 ≤ n)) ∧ n < 290 then MF m c n else MH m c n
/-- The second accumulator is in flight from the end of a row tile until the second product of the next begins. -/
def Ast (c : Dev nD) (n : ℕ) : sProp 𝕄 :=
  if 58 ≤ n ∧ n % 58 ≤ 37 ∧ n < 290 then fly c scA hbA (SemLoc.dma 19) else home c scA hbA (SemLoc.dma 19)
/-- Inside a row tile, the scratch of the inverse holds the inverse of the row tile's scale. -/
def Ist (c : Dev nD) (n : ℕ) : sProp 𝕄 :=
  iprop(∃ z, ⌜n % 58 ≠ 0 → ∀ t : Fin cfg0.N, t.val = n → z = INV (iblk m c 1 t)⌝ ∗ owns (c : Thread nD τ) scI fullShare z)

/-- The body's own semaphores. -/
abbrev osem0 : Fin 2 → SemLoc sig := fun j => (![SemLoc.dma 18, SemLoc.dma 19] : Fin 2 → SemLoc sig) j
/-- They are none of the pipeline's. -/
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 18) 0 ∗ semVal ((c : Thread nD τ), SemLoc.dma 19) 0) := by
  rw [Pipeline.ownSems0_eq_of_list c osem0 [0, 1] (by decide) (by decide)]; rfl
/-- The body reads no array left in HBM. -/
def H0 : Finset (Ref sig .tc) := ∅
/-- They are none of the windows' arrays. -/
theorem H0_sub : H0 ⊆ Pipeline.restRefs sig spec0 := by decide
/-- The two products' arrays, which the body writes itself. -/
def R0 : Finset (Ref sig .tc) := {main_v7_2, main_v7_3}
/-- They are none of the windows' arrays. -/
theorem R0_sub : R0 ⊆ Pipeline.restRefs sig spec0 \ H0 := by decide
/-- The arrays the body reads: none. -/
theorem hbmPts0_eq (c : Dev nD) :
    (bigSep H0 (fun b => ((c : Thread nD τ).loc b) ↦{fullShare} V m c b) : sProp 𝕄) = iprop(emp) := by
  unfold H0; exact bigSep_empty
/-- The products' arrays, each whole at some contents. -/
theorem ownedPts0_eq (c : Dev nD) :
    (Pipeline.owned R0 c : sProp 𝕄)
      = iprop((∃ f, (hbM.view.loc (c : Thread nD τ)) ↦{fullShare} f) ∗ (∃ f, (hbA.view.loc (c : Thread nD τ)) ↦{fullShare} f)) := by
  unfold Pipeline.owned; rw [BI.bigSep_eq_bigSepL_of_eq [main_v7_2, main_v7_3] (by decide) (by decide)]; rfl
/-- What the region begins and ends with, conjunct by conjunct. -/
theorem PhiDR0_eq (c : Dev nD) :
    (Pipeline.ΦDR osem0 spec0 H0 R0 (V m) c : sProp 𝕄)
      = iprop(iprop((∃ d, owns (c : Thread nD τ) scI fullShare d) ∗ (∃ d, owns (c : Thread nD τ) scM fullShare d) ∗ (∃ d, owns (c : Thread nD τ) scA fullShare d))
          ∗ (∃ r, prngReg c r)
          ∗ iprop(semVal ((c : Thread nD τ), SemLoc.dma 18) 0 ∗ semVal ((c : Thread nD τ), SemLoc.dma 19) 0)
          ∗ iprop(emp)
          ∗ iprop((∃ d, owns (c : Thread nD τ) hbM fullShare d) ∗ (∃ d, owns (c : Thread nD τ) hbA fullShare d))) := by
  rw [Pipeline.ΦDR_eq, scopedRest0_eq, ownSems00_eq, hbmPts0_eq, ownedPts0_eq]
  simp only [scI, scM, scA, hbM, hbA, owns_whole]; try rfl

/-! ## The proof data -/

/-- What every buffer holds after the body at each point, and what is held between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => COD (iblk m c 0 t) (INV (iblk m c 1 t))
    | ⟨8, _⟩ => SCL (iblk m c 1 t)
  Φ t := iprop(Ist m c t.val ∗ Mst m c t.val ∗ Ast c t.val ∗ (∃ r, prngReg c r))
  q _ := fullShare
  owed _ := 0

/-- The arrays are the region-entry contents. -/
theorem A_eq (c : Dev nD) (w : Fin cfg0.W) : (dats m 0 c).A w = V m c (Pipeline.arrRef spec0 w) := by
  dsimp only [dats]
/-- Window 0 is left as its block, -/
theorem after0_0 (c : Dev nD) (t : Fin cfg0.N) : (dats m 0 c).after 0 t = iblk m c 0 t := by dsimp only [dats]
/-- and holds it at every point. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- Window 1 is left as its block, -/
theorem after0_1 (c : Dev nD) (t : Fin cfg0.N) : (dats m 0 c).after 1 t = iblk m c 1 t := by dsimp only [dats]
/-- and holds it at every point. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- Window 2 is left as its block, -/
theorem after0_2 (c : Dev nD) (t : Fin cfg0.N) : (dats m 0 c).after 2 t = iblk m c 2 t := by dsimp only [dats]
/-- and holds it at every point. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- Window 3 is left as its block, -/
theorem after0_3 (c : Dev nD) (t : Fin cfg0.N) : (dats m 0 c).after 3 t = iblk m c 3 t := by dsimp only [dats]
/-- and holds it at every point. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
/-- Window 4 is left as its block, -/
theorem after0_4 (c : Dev nD) (t : Fin cfg0.N) : (dats m 0 c).after 4 t = iblk m c 4 t := by dsimp only [dats]
/-- and holds it at every point. -/
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
/-- Window 5 is left as its block, -/
theorem after0_5 (c : Dev nD) (t : Fin cfg0.N) : (dats m 0 c).after 5 t = iblk m c 5 t := by dsimp only [dats]
/-- and holds it at every point. -/
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
/-- Window 6 is left as its block, -/
theorem after0_6 (c : Dev nD) (t : Fin cfg0.N) : (dats m 0 c).after 6 t = iblk m c 6 t := by dsimp only [dats]
/-- and holds it at every point. -/
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
/-- The codes' block. -/
theorem after0_7 (c : Dev nD) (t : Fin cfg0.N) : (dats m 0 c).after 7 t = COD (iblk m c 0 t) (INV (iblk m c 1 t)) := by dsimp only [dats]
/-- The scales' block. -/
theorem after0_8 (c : Dev nD) (t : Fin cfg0.N) : (dats m 0 c).after 8 t = SCL (iblk m c 1 t) := by dsimp only [dats]
/-- Points of one block of window 0 read the same block. -/
theorem iblk0_congr (c : Dev nD) {t t' : Fin cfg0.N} (h : (cfg0.win 0).index t = (cfg0.win 0).index t') (d : (cfg0.win 0).block.Idx → Elt F (cfg0.win 0).elt) : iblk m c 0 t = iblk m c 0 t' :=
  ((before0_0 m c t d).symm.trans ((dats m 0 c).before_in_eq_fetched 0 rfl (fun _ => rfl) (fun _ _ _ => rfl) (fun t => by rw [after0_0]; unfold Dat.blockOf iblk; rw [A_eq]; try rfl) t d)).trans
    (((dats m 0 c).fetched_congr 0 h rfl d).trans (((dats m 0 c).before_in_eq_fetched 0 rfl (fun _ => rfl) (fun _ _ _ => rfl) (fun t => by rw [after0_0]; unfold Dat.blockOf iblk; rw [A_eq]; try rfl) t' d).symm.trans (before0_0 m c t' d)))
/-- Points of one block of window 1 read the same block. -/
theorem iblk1_congr (c : Dev nD) {t t' : Fin cfg0.N} (h : (cfg0.win 1).index t = (cfg0.win 1).index t') (d : (cfg0.win 1).block.Idx → Elt F (cfg0.win 1).elt) : iblk m c 1 t = iblk m c 1 t' :=
  ((before0_1 m c t d).symm.trans ((dats m 0 c).before_in_eq_fetched 1 rfl (fun _ => rfl) (fun _ _ _ => rfl) (fun t => by rw [after0_1]; unfold Dat.blockOf iblk; rw [A_eq]; try rfl) t d)).trans
    (((dats m 0 c).fetched_congr 1 h rfl d).trans (((dats m 0 c).before_in_eq_fetched 1 rfl (fun _ => rfl) (fun _ _ _ => rfl) (fun t => by rw [after0_1]; unfold Dat.blockOf iblk; rw [A_eq]; try rfl) t' d).symm.trans (before0_1 m c t' d)))

/-! ## The grid -/

/-- The body's condition 1, by the point's number. -/
theorem hc1 : ∀ t : Fin cfg0.N, k0_cond1 (grid0.coords t) = 1#1 ↔ t.val % 58 = 0 :=
  (by decide +kernel : ∀ t : Fin grid0.N, k0_cond1 (grid0.coords t) = 1#1 ↔ t.val % 58 = 0)
/-- The body's condition 2, by the point's number. -/
theorem hc2 : ∀ t : Fin cfg0.N, k0_cond2 (grid0.coords t) = 1#1 ↔ 58 ≤ t.val :=
  (by decide +kernel : ∀ t : Fin grid0.N, k0_cond2 (grid0.coords t) = 1#1 ↔ 58 ≤ t.val)
/-- The body's condition 3, by the point's number. -/
theorem hc3 : ∀ t : Fin cfg0.N, k0_cond3 (grid0.coords t) = 1#1 ↔ t.val % 58 = 37 :=
  (by decide +kernel : ∀ t : Fin grid0.N, k0_cond3 (grid0.coords t) = 1#1 ↔ t.val % 58 = 37)
/-- The body's condition 4, by the point's number. -/
theorem hc4 : ∀ t : Fin cfg0.N, k0_cond4 (grid0.coords t) = 1#1 ↔ 58 ≤ t.val :=
  (by decide +kernel : ∀ t : Fin grid0.N, k0_cond4 (grid0.coords t) = 1#1 ↔ 58 ≤ t.val)
/-- The body's condition 5, by the point's number. -/
theorem hc5 : ∀ t : Fin cfg0.N, k0_cond5 (grid0.coords t) = 1#1 ↔ t.val % 58 < 37 :=
  (by decide +kernel : ∀ t : Fin grid0.N, k0_cond5 (grid0.coords t) = 1#1 ↔ t.val % 58 < 37)
/-- The body's condition 6, by the point's number. -/
theorem hc6 : ∀ t : Fin cfg0.N, (Scalar.cmpi .ne (Scalar.extui (Scalar.cmpi .sge (BitVec.ofNat 32 (grid0.coords t 1).val) 37#32) : BitVec 32) 0#32) = 1#1 ↔ 37 ≤ t.val % 58 :=
  (by decide +kernel : ∀ t : Fin grid0.N, (Scalar.cmpi .ne (Scalar.extui (Scalar.cmpi .sge (BitVec.ofNat 32 (grid0.coords t 1).val) 37#32) : BitVec 32) 0#32) = 1#1 ↔ 37 ≤ t.val % 58)
/-- The body's condition 7, by the point's number. -/
theorem hc7 : ∀ t : Fin cfg0.N, k0_cond7 (grid0.coords t) = 1#1 ↔ t.val % 58 = 36 :=
  (by decide +kernel : ∀ t : Fin grid0.N, k0_cond7 (grid0.coords t) = 1#1 ↔ t.val % 58 = 36)
/-- The body's condition 8, by the point's number. -/
theorem hc8 : ∀ t : Fin cfg0.N, k0_cond8 (grid0.coords t) = 1#1 ↔ t.val % 58 = 57 :=
  (by decide +kernel : ∀ t : Fin grid0.N, k0_cond8 (grid0.coords t) = 1#1 ↔ t.val % 58 = 57)
/-- The body's condition 9, by the point's number. -/
theorem hc9 : ∀ t : Fin cfg0.N, k0_cond9 (grid0.coords t) = 1#1 ↔ 232 ≤ t.val :=
  (by decide +kernel : ∀ t : Fin grid0.N, k0_cond9 (grid0.coords t) = 1#1 ↔ 232 ≤ t.val)
/-- The point before `t`. -/
abbrev prv (t : Fin cfg0.N) : Fin cfg0.N := ⟨t.val - 1, Nat.lt_of_le_of_lt (Nat.sub_le _ _) t.isLt⟩
/-- Where the first product is over, the block of `da` stays, -/
theorem idx0 : ∀ t : Fin cfg0.N, 37 ≤ t.val % 58 → (cfg0.win 0).index (prv t) = (cfg0.win 0).index t :=
  (by decide +kernel : ∀ t : Fin grid0.N, 37 ≤ t.val % 58 → win0_0.index ⟨t.val - 1, Nat.lt_of_le_of_lt (Nat.sub_le _ _) t.isLt⟩ = win0_0.index t)
/-- and the codes are not written back before. -/
theorem flush7 : ∀ t : Fin cfg0.N, 37 ≤ t.val % 58 → (cfg0.win 7).flush (prv t) = false :=
  (by decide +kernel : ∀ t : Fin grid0.N, 37 ≤ t.val % 58 → win0_7.flush ⟨t.val - 1, Nat.lt_of_le_of_lt (Nat.sub_le _ _) t.isLt⟩ = false)
/-- Inside a row tile, the block of magnitudes stays, -/
theorem idx1 : ∀ t : Fin cfg0.N, t.val % 58 ≠ 0 → (cfg0.win 1).index (prv t) = (cfg0.win 1).index t :=
  (by decide +kernel : ∀ t : Fin grid0.N, t.val % 58 ≠ 0 → win0_1.index ⟨t.val - 1, Nat.lt_of_le_of_lt (Nat.sub_le _ _) t.isLt⟩ = win0_1.index t)
/-- and the scales are not written back before. -/
theorem flush8 : ∀ t : Fin cfg0.N, t.val % 58 ≠ 0 → (cfg0.win 8).flush (prv t) = false :=
  (by decide +kernel : ∀ t : Fin grid0.N, t.val % 58 ≠ 0 → win0_8.flush ⟨t.val - 1, Nat.lt_of_le_of_lt (Nat.sub_le _ _) t.isLt⟩ = false)

/-- An output window's buffer keeps what it must hold through points that leave it. -/
theorem before_keep (w : Fin cfg0.W) (hw : (cfg0.win w).isOut = true) (hclip : ∀ (i : cfg0.grid.Coords) a, (cfg0.win w).clip i a = none) (c : Dev nD) (P : ℕ → Prop)
    (hP : ∀ t : Fin cfg0.N, P t.val → t.val ≠ 0 ∧ (cfg0.win w).flush (prv t) = false ∧ (dats (F := F) m 0 c).after w (prv t) = (dats m 0 c).after w t)
    (hi : ∀ t : Fin cfg0.N, cfg0.idle w (cfg0.grid.coords t) = true → P t.val) (d) :
    ∀ (n : ℕ) (t : Fin cfg0.N), t.val = n → P t.val → (dats m 0 c).before w t d = (dats m 0 c).after w t
  | 0, t, hn, h => absurd hn (hP t h).1
  | n + 1, t, hn, h => by
    obtain ⟨h0, hf, ha⟩ := hP t h
    rw [(dats m 0 c).before_of_pos w t h0 ((cfg0.win w).fetch_out hw t), hf, if_neg Bool.false_ne_true, ← ha]
    unfold Dat.left
    cases hc : cfg0.idle w (cfg0.grid.coords (prv t)) with
    | true => exact before_keep w hw hclip c P hP hi d n (prv t) (by show t.val - 1 = n; omega) (hi _ hc)
    | false =>
      show (dats m 0 c).kept w (prv t) d = _
      unfold Dat.kept
      rw [Pipeline.fill_of_clip_none w _ (hclip _) d ((dats m 0 c).after w _), Window.fill_cut]

/-- The codes are left alone after the first product, -/
theorem idle7 : ∀ t : Fin cfg0.N, cfg0.idle 7 (cfg0.grid.coords t) = true → 37 ≤ t.val % 58 :=
  (by decide +kernel : ∀ t : Fin grid0.N, idle0 7 (grid0.coords t) = true → 37 ≤ t.val % 58)
/-- and the scales past the first point of a row tile. -/
theorem idle8 : ∀ t : Fin cfg0.N, cfg0.idle 8 (cfg0.grid.coords t) = true → t.val % 58 ≠ 0 :=
  (by decide +kernel : ∀ t : Fin grid0.N, idle0 8 (grid0.coords t) = true → t.val % 58 ≠ 0)

/-- After the first product, the body finds the codes as it must leave them. -/
theorem before0_7 (c : Dev nD) (t : Fin cfg0.N) (h : 37 ≤ t.val % 58) (d0 : (cfg0.win 0).block.Idx → Elt F (cfg0.win 0).elt) (d1 : (cfg0.win 1).block.Idx → Elt F (cfg0.win 1).elt) (d) : (dats m 0 c).before 7 t d = (dats m 0 c).after 7 t :=
  before_keep m 7 rfl (fun _ _ => rfl) c (fun n => 37 ≤ n % 58)
    (fun t h => ⟨fun e => by rw [e] at h; omega, flush7 t h, by
      rw [after0_7, after0_7, iblk0_congr m c (idx0 t h) d0, iblk1_congr m c (idx1 t (by omega)) d1]⟩) idle7 d _ t rfl h
/-- Past the first point of a row tile, the body finds the scales as it must leave them. -/
theorem before0_8 (c : Dev nD) (t : Fin cfg0.N) (h : t.val % 58 ≠ 0) (d1 : (cfg0.win 1).block.Idx → Elt F (cfg0.win 1).elt) (d) : (dats m 0 c).before 8 t d = (dats m 0 c).after 8 t :=
  before_keep m 8 rfl (fun _ _ => rfl) c (fun n => n % 58 ≠ 0)
    (fun t h => ⟨fun e => h (by rw [e]), flush8 t h, by
      rw [after0_8, after0_8, iblk1_congr m c (idx1 t h) d1]⟩) idle8 d _ t rfl h

/-- What a point must leave of an output, from its buffer as named. -/
theorem post_of (w : Fin cfg0.W) (c : Dev nD) (t : Fin cfg0.N) (h : cfg0.idle w (cfg0.grid.coords t) = true → ∃ d, (dats (F := F) m 0 c).before w t d = (dats m 0 c).after w t) :
    owns (c : Thread nD τ) ((cfg0.win w).stage (cfg0.slots t w)) fullShare ((dats m 0 c).after w t) ⊢ (dats m 0 c).leavesExact w t := by
  unfold Dat.leavesExact
  cases hi : cfg0.idle w (cfg0.grid.coords t) with
  | false => exact .rfl
  | true =>
    cases hf : (cfg0.win w).flush t with
    | true => exact .rfl
    | false =>
      obtain ⟨d, hd⟩ := h hi
      show _ ⊢ iprop(∃ d, owns (c : Thread nD τ) ((cfg0.win w).stage (cfg0.slots t w)) fullShare ((dats m 0 c).before w t d))
      rw [← hd]
      iintro H
      iexists d
      iexact H

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d))
    ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d))
    ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t)
    ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t)
    ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t))

/-- What a point holds, at its staging buffers and blocks. -/
abbrev heldAt (c : Dev nD) (t : Fin cfg0.N) (y7 : Vec F S1024x512 .fp8e5m2) (y8 z : Vec F S1024x128 .f32) : sProp 𝕄 :=
  held c (st0_0 t) (st0_1 t) (st0_2 t) (st0_3 t) (st0_4 t) (st0_5 t) (st0_6 t) (iblk m c 0 t) (iblk m c 1 t) (iblk m c 2 t) (iblk m c 3 t) (iblk m c 4 t) (iblk m c 5 t) (iblk m c 6 t) (st0_7 t) (st0_8 t) y7 y8 z

/-- The body obligation at a point, from a run of the body there which writes the codes, the scales and the inverse as they must be. -/
theorem step (c : Dev nD) (t : Fin cfg0.N)
    (H : ∀ y7 y8 z, (37 ≤ t.val % 58 → y7 = (dats m 0 c).after 7 t) → (t.val % 58 ≠ 0 → y8 = SCL (iblk m c 1 t) ∧ z = INV (iblk m c 1 t)) → ∀ (W : Waits sig Unit) (K : PUnit → sProp 𝕄),
      iprop(heldAt m c t y7 y8 z ∗ Mst m c t.val ∗ Ast c t.val ∗ owes (c : Thread nD τ) 0 W
        ∗ (iprop(heldAt m c t ((dats m 0 c).after 7 t) (SCL (iblk m c 1 t)) (INV (iblk m c 1 t)) ∗ Mst m c (t.val + 1) ∗ Ast c (t.val + 1) ∗ (∃ W', owes (c : Thread nD τ) 0 W')) -∗ K ⟨⟩))
      ⊢ wp frame (wpE (defs₀ (F := F)) Variants.none c none) Set.univ (bodyAt0 t) K) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, after0_0, after0_1, after0_2, after0_3, after0_4, after0_5, after0_6, after0_8]
  rw [show (dats m 0 c).Φ t.castSucc = iprop(Ist m c t.val ∗ Mst m c t.val ∗ Ast c t.val ∗ (∃ r, prngReg c r)) from rfl,
    show (dats m 0 c).Φ t.succ = iprop(Ist m c (t.val + 1) ∗ Mst m c (t.val + 1) ∗ Ast c (t.val + 1) ∗ (∃ r, prngReg c r)) from rfl]
  unfold Dat.owesAt Pipeline.owesWithin Ist
  rw [show (dats m 0 c).owed t.castSucc = 0 from rfl, show (dats m 0 c).owed t.succ = 0 from rfl]
  iintro ⟨⟨⟨%z, %hz, HI⟩, HM, HA, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (H _ _ z (fun h => before0_7 m c t h d0 d1 d7) (fun h => ⟨(before0_8 m c t h d1 d8).trans (after0_8 m c t), hz h t rfl⟩) W _)
  unfold heldAt held
  isplitl [H0 H1 H2 H3 H4 H5 H6 H7 H8 HI]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HI
  isplitl [HM]; · iexact HM
  isplitl [HA]; · iexact HA
  isplitl [HW]; · iexact HW
  iintro ⟨⟨H0, H1, H2, H3, H4, H5, H6, H7, H8, HI⟩, HM, HA, ⟨%W', HW⟩⟩
  isplitl [HI HM HA Hg]
  · isplitl [HI]
    · iexists _; isplitr; swap; · iexact HI
      ipureintro
      intro h t' ht'
      have e : prv t' = t := Fin.ext (by show t'.val - 1 = t.val; omega)
      have hb := iblk1_congr m c (idx1 t' (by omega)) d1
      rw [e] at hb
      exact congrArg INV hb
    isplitl [HM]; · iexact HM
    isplitl [HA]; · iexact HA
    iexact Hg
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- In flight, -/
theorem Mst_fly (c : Dev nD) {n : ℕ} (h : (37 ≤ n % 58 ∨ (n % 58 = 0 ∧ 58 ≤ n)) ∧ n < 290) : Mst (F := F) m c n = MF m c n := if_pos h
/-- or not, the first accumulator; -/
theorem Mst_home (c : Dev nD) {n : ℕ} (h : ¬((37 ≤ n % 58 ∨ (n % 58 = 0 ∧ 58 ≤ n)) ∧ n < 290)) : Mst (F := F) m c n = MH m c n := if_neg h
/-- in flight, -/
theorem Ast_fly (c : Dev nD) {n : ℕ} (h : 58 ≤ n ∧ n % 58 ≤ 37 ∧ n < 290) : Ast (F := F) c n = fly c scA hbA (SemLoc.dma 19) := if_pos h
/-- or not, the second. -/
theorem Ast_home (c : Dev nD) {n : ℕ} (h : ¬(58 ≤ n ∧ n % 58 ≤ 37 ∧ n < 290)) : Ast (F := F) c n = home c scA hbA (SemLoc.dma 19) := if_neg h

/-- The row tile of a point. -/
theorem coord0 : ∀ t : Fin cfg0.N, (grid0.coords t 0).val = t.val / 58 :=
  (by decide +kernel : ∀ t : Fin grid0.N, (grid0.coords t 0).val = t.val / 58)
/-- The accumulator after a point that is not a row tile's first. -/
theorem ACC_last (c : Dev nD) (t : Fin cfg0.N) (h : ¬t.val % 58 = 0) : ACC m c (t.val + 1)
    = MUL (iblk m c 0 t) (INV (iblk m c 1 t)) (iblk m c 3 t) (ACC m c t.val) (iblk m c 2 t) := by
  rw [ACC_succ, if_neg h]

/-- The body obligation at every point: nine kinds of point. -/
theorem sound_body (c : Dev nD) (t : Fin cfg0.N) :
    bodyPre m c t ⊢ wp frame (wpE (defs₀ (F := F)) Variants.none c none) Set.univ (bodyAt0 t) (fun _ => bodyPost m c t) := by
  have hN : t.val < 290 := lt_of_lt_of_eq t.isLt (show cfg0.N = 290 from N_0)
  refine step m c t ?_
  intro y7 y8 z h7 h8 W K
  by_cases c0 : t.val % 58 = 0
  · by_cases i0 : t.val < 58
    · rw [after0_7]
      by_cases ha : 58 ≤ t.val
      · rw [Mst_home m c (n := t.val) (by omega), Mst_home m c (n := t.val + 1) (by omega), Ast_fly c (n := t.val) (by omega), Ast_fly c (n := t.val + 1) (by omega)]
        exact from_home m c t.val _ (fun a g ha hg => MH_intro m c _ _ g ⟨fun _ _ => by rw [ACC_succ, if_pos c0], (ARR_succ m c _ (by omega) g).mp hg⟩) (fun a g => runA c (grid0.coords t) _ _ _ _ _ _ _ _ _ _ _ _ _ _ _ _ _ _ _ _ _ _ _ _ _ _ _ _ a g ((hc1 t).mpr (by omega)) (fun h => absurd ((hc2 t).mp h) (by omega)) (fun h => absurd ((hc3 t).mp h) (by omega)) ((hc5 t).mpr (by omega)) (fun h => absurd ((hc7 t).mp h) (by omega)) (fun h => absurd ((hc8 t).mp h) (by omega)) (fun h => absurd ((hc6 t).mp h) (by omega)) _ W K)
      · rw [Mst_home m c (n := t.val) (by omega), Mst_home m c (n := t.val + 1) (by omega), Ast_home c (n := t.val) (by omega), Ast_home c (n := t.val + 1) (by omega)]
        exact from_home m c t.val _ (fun a g ha hg => MH_intro m c _ _ g ⟨fun _ _ => by rw [ACC_succ, if_pos c0], (ARR_succ m c _ (by omega) g).mp hg⟩) (fun a g => runA c (grid0.coords t) _ _ _ _ _ _ _ _ _ _ _ _ _ _ _ _ _ _ _ _ _ _ _ _ _ _ _ _ a g ((hc1 t).mpr (by omega)) (fun h => absurd ((hc2 t).mp h) (by omega)) (fun h => absurd ((hc3 t).mp h) (by omega)) ((hc5 t).mpr (by omega)) (fun h => absurd ((hc7 t).mp h) (by omega)) (fun h => absurd ((hc8 t).mp h) (by omega)) (fun h => absurd ((hc6 t).mp h) (by omega)) _ W K)
    · rw [after0_7]
      by_cases ha : 58 ≤ t.val
      · rw [Mst_fly m c (n := t.val) (by omega), Mst_home m c (n := t.val + 1) (by omega), Ast_fly c (n := t.val) (by omega), Ast_fly c (n := t.val + 1) (by omega)]
        exact from_fly m c t.val _ (fun g hg => MH_intro m c _ _ g ⟨fun _ _ => by rw [ACC_succ, if_pos c0], (ARR_succ m c _ (by omega) g).mp hg⟩) (fun g => runB c (grid0.coords t) _ _ _ _ _ _ _ _ _ _ _ _ _ _ _ _ _ _ _ _ _ _ _ _ _ _ _ _ g ((hc1 t).mpr (by omega)) ((hc2 t).mpr (by omega)) (fun h => absurd ((hc3 t).mp h) (by omega)) ((hc5 t).mpr (by omega)) (fun h => absurd ((hc7 t).mp h) (by omega)) (fun h => absurd ((hc8 t).mp h) (by omega)) (fun h => absurd ((hc6 t).mp h) (by omega)) _ W K)
      · rw [Mst_fly m c (n := t.val) (by omega), Mst_home m c (n := t.val + 1) (by omega), Ast_home c (n := t.val) (by omega), Ast_home c (n := t.val + 1) (by omega)]
        exact from_fly m c t.val _ (fun g hg => MH_intro m c _ _ g ⟨fun _ _ => by rw [ACC_succ, if_pos c0], (ARR_succ m c _ (by omega) g).mp hg⟩) (fun g => runB c (grid0.coords t) _ _ _ _ _ _ _ _ _ _ _ _ _ _ _ _ _ _ _ _ _ _ _ _ _ _ _ _ g ((hc1 t).mpr (by omega)) ((hc2 t).mpr (by omega)) (fun h => absurd ((hc3 t).mp h) (by omega)) ((hc5 t).mpr (by omega)) (fun h => absurd ((hc7 t).mp h) (by omega)) (fun h => absurd ((hc8 t).mp h) (by omega)) (fun h => absurd ((hc6 t).mp h) (by omega)) _ W K)
  by_cases c36 : t.val % 58 < 36
  · obtain ⟨rfl, rfl⟩ := h8 (by omega)
    rw [after0_7]
    by_cases ha : 58 ≤ t.val
    · rw [Mst_home m c (n := t.val) (by omega), Mst_home m c (n := t.val + 1) (by omega), Ast_fly c (n := t.val) (by omega), Ast_fly c (n := t.val + 1) (by omega)]
      exact from_home m c t.val _ (fun a g ha hg => MH_intro m c _ _ g ⟨fun _ _ => by rw [ACC_succ, if_neg c0, ha (by omega) (by omega)], (ARR_succ m c _ (by omega) g).mp hg⟩) (fun a g => runC c (grid0.coords t) _ _ _ _ _ _ _ _ _ _ _ _ _ _ _ _ _ _ _ _ _ _ _ _ _ _ _ _ a g (fun h => absurd ((hc1 t).mp h) (by omega)) (fun h => absurd ((hc3 t).mp h) (by omega)) ((hc5 t).mpr (by omega)) (fun h => absurd ((hc7 t).mp h) (by omega)) (fun h => absurd ((hc8 t).mp h) (by omega)) (fun h => absurd ((hc6 t).mp h) (by omega)) _ W K)
    · rw [Mst_home m c (n := t.val) (by omega), Mst_home m c (n := t.val + 1) (by omega), Ast_home c (n := t.val) (by omega), Ast_home c (n := t.val + 1) (by omega)]
      exact from_home m c t.val _ (fun a g ha hg => MH_intro m c _ _ g ⟨fun _ _ => by rw [ACC_succ, if_neg c0, ha (by omega) (by omega)], (ARR_succ m c _ (by omega) g).mp hg⟩) (fun a g => runC c (grid0.coords t) _ _ _ _ _ _ _ _ _ _ _ _ _ _ _ _ _ _ _ _ _ _ _ _ _ _ _ _ a g (fun h => absurd ((hc1 t).mp h) (by omega)) (fun h => absurd ((hc3 t).mp h) (by omega)) ((hc5 t).mpr (by omega)) (fun h => absurd ((hc7 t).mp h) (by omega)) (fun h => absurd ((hc8 t).mp h) (by omega)) (fun h => absurd ((hc6 t).mp h) (by omega)) _ W K)
  by_cases c36 : t.val % 58 = 36
  · obtain ⟨rfl, rfl⟩ := h8 (by omega)
    rw [after0_7]
    by_cases ha : 58 ≤ t.val
    · rw [Mst_home m c (n := t.val) (by omega), Mst_fly m c (n := t.val + 1) (by omega), Ast_fly c (n := t.val) (by omega), Ast_fly c (n := t.val + 1) (by omega)]
      exact from_home m c t.val _ (fun a g ha hg => MF_intro m c _ _ (by rw [coord0, ha (by omega) (by omega), ← ACC_last m c t c0]; exact ARR_put m c _ c36 g hg)) (fun a g => runD c (grid0.coords t) _ _ _ _ _ _ _ _ _ _ _ _ _ _ _ _ _ _ _ _ _ _ _ _ _ _ _ _ a g (fun h => absurd ((hc1 t).mp h) (by omega)) (fun h => absurd ((hc3 t).mp h) (by omega)) ((hc5 t).mpr (by omega)) ((hc7 t).mpr (by omega)) (fun h => absurd ((hc8 t).mp h) (by omega)) (fun h => absurd ((hc6 t).mp h) (by omega)) _ W K)
    · rw [Mst_home m c (n := t.val) (by omega), Mst_fly m c (n := t.val + 1) (by omega), Ast_home c (n := t.val) (by omega), Ast_home c (n := t.val + 1) (by omega)]
      exact from_home m c t.val _ (fun a g ha hg => MF_intro m c _ _ (by rw [coord0, ha (by omega) (by omega), ← ACC_last m c t c0]; exact ARR_put m c _ c36 g hg)) (fun a g => runD c (grid0.coords t) _ _ _ _ _ _ _ _ _ _ _ _ _ _ _ _ _ _ _ _ _ _ _ _ _ _ _ _ a g (fun h => absurd ((hc1 t).mp h) (by omega)) (fun h => absurd ((hc3 t).mp h) (by omega)) ((hc5 t).mpr (by omega)) ((hc7 t).mpr (by omega)) (fun h => absurd ((hc8 t).mp h) (by omega)) (fun h => absurd ((hc6 t).mp h) (by omega)) _ W K)
  by_cases c37 : t.val % 58 = 37
  · by_cases i0 : t.val < 58
    · obtain ⟨rfl, rfl⟩ := h8 (by omega)
      cases h7 (by omega)
      rw [Ast_home c (n := t.val) (by omega), Ast_home c (n := t.val + 1) (by omega), Mst_fly m c (n := t.val) (by omega), Mst_fly m c (n := t.val + 1) (by omega), MF_succ m c t.val (by omega)]
      exact runE c (grid0.coords t) _ _ _ _ _ _ _ _ _ _ _ _ _ _ _ _ _ _ _ _ _ _ _ _ _ _ _ _ (fun h => absurd ((hc1 t).mp h) (by omega)) ((hc3 t).mpr (by omega)) (fun h => absurd ((hc4 t).mp h) (by omega)) (fun h => absurd ((hc5 t).mp h) (by omega)) (fun h => absurd ((hc7 t).mp h) (by omega)) (fun h => absurd ((hc8 t).mp h) (by omega)) ((hc6 t).mpr (by omega)) _ W K
    · obtain ⟨rfl, rfl⟩ := h8 (by omega)
      cases h7 (by omega)
      rw [Ast_fly c (n := t.val) (by omega), Ast_home c (n := t.val + 1) (by omega), Mst_fly m c (n := t.val) (by omega), Mst_fly m c (n := t.val + 1) (by omega), MF_succ m c t.val (by omega)]
      exact runF c (grid0.coords t) _ _ _ _ _ _ _ _ _ _ _ _ _ _ _ _ _ _ _ _ _ _ _ _ _ _ _ _ (fun h => absurd ((hc1 t).mp h) (by omega)) ((hc3 t).mpr (by omega)) ((hc4 t).mpr (by omega)) (fun h => absurd ((hc5 t).mp h) (by omega)) (fun h => absurd ((hc7 t).mp h) (by omega)) (fun h => absurd ((hc8 t).mp h) (by omega)) ((hc6 t).mpr (by omega)) _ W K
  by_cases c57 : t.val % 58 < 57
  · obtain ⟨rfl, rfl⟩ := h8 (by omega)
    cases h7 (by omega)
    rw [Ast_home c (n := t.val) (by omega), Ast_home c (n := t.val + 1) (by omega), Mst_fly m c (n := t.val) (by omega), Mst_fly m c (n := t.val + 1) (by omega), MF_succ m c t.val (by omega)]
    exact runG c (grid0.coords t) _ _ _ _ _ _ _ _ _ _ _ _ _ _ _ _ _ _ _ _ _ _ _ _ _ _ _ _ (fun h => absurd ((hc1 t).mp h) (by omega)) (fun h => absurd ((hc3 t).mp h) (by omega)) (fun h => absurd ((hc5 t).mp h) (by omega)) (fun h => absurd ((hc7 t).mp h) (by omega)) (fun h => absurd ((hc8 t).mp h) (by omega)) ((hc6 t).mpr (by omega)) _ W K
  by_cases i4 : t.val < 232
  · obtain ⟨rfl, rfl⟩ := h8 (by omega)
    cases h7 (by omega)
    rw [Ast_home c (n := t.val) (by omega), Ast_fly c (n := t.val + 1) (by omega), Mst_fly m c (n := t.val) (by omega), Mst_fly m c (n := t.val + 1) (by omega), MF_succ m c t.val (by omega)]
    exact runH c (grid0.coords t) _ _ _ _ _ _ _ _ _ _ _ _ _ _ _ _ _ _ _ _ _ _ _ _ _ _ _ _ (fun h => absurd ((hc1 t).mp h) (by omega)) (fun h => absurd ((hc3 t).mp h) (by omega)) (fun h => absurd ((hc5 t).mp h) (by omega)) (fun h => absurd ((hc7 t).mp h) (by omega)) ((hc8 t).mpr (by omega)) (fun h => absurd ((hc9 t).mp h) (by omega)) ((hc6 t).mpr (by omega)) _ W K
  · obtain ⟨rfl, rfl⟩ := h8 (by omega)
    cases h7 (by omega)
    rw [Mst_fly m c (n := t.val) (by omega), Mst_home m c (n := t.val + 1) (by omega), Ast_home c (n := t.val) (by omega), Ast_home c (n := t.val + 1) (by omega)]
    exact from_fly m c t.val _ (fun g hg => exists_elim fun a => MH_intro m c _ a g ⟨fun h => absurd h (by omega), (ARR_succ m c _ (by omega) g).mp hg⟩) (fun g => runI c (grid0.coords t) _ _ _ _ _ _ _ _ _ _ _ _ _ _ _ _ _ _ _ _ _ _ _ _ _ _ _ _ g (fun h => absurd ((hc1 t).mp h) (by omega)) (fun h => absurd ((hc3 t).mp h) (by omega)) (fun h => absurd ((hc5 t).mp h) (by omega)) (fun h => absurd ((hc7 t).mp h) (by omega)) ((hc8 t).mpr (by omega)) ((hc9 t).mpr (by omega)) ((hc6 t).mpr (by omega)) W K)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => sep_mono_r (sep_mono_r (sep_mono_r (sep_mono_r (sep_mono_r (sep_mono_r (sep_mono_r (sep_mono_r (sep_mono_r
    (Idealize.SL.BI.BIClass.sep_mono (post_of m 7 c t fun h => ⟨(dats m 0 c).after 7 t, before0_7 m c t (idle7 t h) (iblk m c 0 t) (iblk m c 1 t) _⟩) (post_of m 8 c t fun h => ⟨(dats m 0 c).after 8 t, before0_8 m c t (idle8 t h) (iblk m c 1 t) _⟩))))))))))

/-! ## The run and the frame -/

/-- The region begins with nothing in flight, -/
theorem hin (c : Dev nD) : Pipeline.ΦDR osem0 spec0 H0 R0 (V m) c ⊢ (dats (F := F) m 0 c).Φ 0 := by
  rw [PhiDR0_eq, show (dats m 0 c).Φ 0 = iprop(Ist m c 0 ∗ Mst m c 0 ∗ Ast c 0 ∗ (∃ r, prngReg c r)) from rfl, Mst_home m c (by decide), Ast_home c (by decide)]
  unfold Ist home MH homeV
  iintro ⟨⟨⟨%z, HI⟩, ⟨%a, HM⟩, HA⟩, Hg, ⟨Hq0, Hq1⟩, -, ⟨⟨%g, HhM⟩, HhA⟩⟩
  isplitl [HI]
  · iexists z; isplitr; · ipureintro; exact fun h => absurd rfl h
    iexact HI
  isplitl [HM Hq0 HhM]
  · iexists (a, g); isplitr; · ipureintro; exact ⟨fun h => absurd h (by decide), fun o ho h => absurd h (by omega)⟩
    isplitl [HM]; · iexact HM
    isplitl [Hq0]; · iexact Hq0
    iexact HhM
  isplitl [HA Hq1 HhA]
  · isplitl [HA]; · iexact HA
    isplitl [Hq1]; · iexact Hq1
    iexact HhA
  iexact Hg
/-- What the products' arrays end as: the first product's rows, row tile by row tile. -/
def PG (c : Dev nD) (W : (b : Ref sig .tc) → Buf (Elt F) ((c.tc : Thread nD τ).loc b)) : Prop := ARR m c 290 (W main_v7_2)
/-- Contents of the two arrays, together. -/
def both (c : Dev nD) (g a : Vec F S5120x3584 .f32) (b : Ref sig .tc) : Buf (Elt F) ((c.tc : Thread nD τ).loc b) :=
  if e : b = main_v7_2 then e ▸ g else if e' : b = main_v7_3 then e' ▸ a else V m c b
/-- Both arrays, each at its own. -/
theorem both_eq (c : Dev nD) (g a : Vec F S5120x3584 .f32) :
    (bigSep R0 fun b => ((c.tc : Thread nD τ).loc b ↦{fullShare} both m c g a b) : sProp 𝕄)
      = iprop((hbM.view.loc (c : Thread nD τ) ↦{fullShare} g) ∗ (hbA.view.loc (c : Thread nD τ) ↦{fullShare} a)) := by
  rw [BI.bigSep_eq_bigSepL_of_eq [main_v7_2, main_v7_3] (by decide) (by decide)]; rfl
/-- Some contents of each array are contents of both. -/
theorem sat_intro (c : Dev nD) (g a : Vec F S5120x3584 .f32) (h : ARR m c 290 g) :
    iprop((hbM.view.loc (c : Thread nD τ) ↦{fullShare} g) ∗ (hbA.view.loc (c : Thread nD τ) ↦{fullShare} a)) ⊢ (Pipeline.routedSat R0 c (PG m c) : sProp 𝕄) := by
  unfold Pipeline.routedSat Pipeline.routed
  iintro H
  iexists (both m c g a)
  isplitr
  · ipureintro; exact h
  rw [both_eq]
  iexact H
/-- and ends so. -/
theorem hout (c : Dev nD) : (dats (F := F) m 0 c).Φ (Fin.last _) ⊢ iprop(Pipeline.ΦD osem0 spec0 H0 (V m) c ∗ Pipeline.routedSat R0 c (PG m c)) := by
  rw [Pipeline.ΦD_eq, scopedRest0_eq, ownSems00_eq, hbmPts0_eq, show (dats m 0 c).Φ (Fin.last _) = iprop(Ist m c cfg0.N ∗ Mst m c cfg0.N ∗ Ast c cfg0.N ∗ (∃ r, prngReg c r)) from rfl, show cfg0.N = 290 from N_0, Mst_home m c (by decide), Ast_home c (by decide)]
  unfold Ist home MH homeV
  simp only [scI, scM, scA, hbM, hbA, owns_whole]
  iintro ⟨⟨%z, -, HI⟩, ⟨%x, %hx, HM, Hq0, HhM⟩, ⟨HA, Hq1, ⟨%a, HhA⟩⟩, Hg⟩
  isplitr [HhM HhA]
  · isplitl [HI HM HA]
    · isplitl [HI]; · iexists z; iexact HI
      isplitl [HM]; · iexists x.1; iexact HM
      iexact HA
    isplitl [Hg]; · iexact Hg
    isplitl [Hq0 Hq1]
    · isplitl [Hq0]; · iexact Hq0
      iexact Hq1
    iempintro
  iapply (sat_intro m c x.2 a hx.2)
  isplitl [HhM]; · iexact HhM
  iexact HhA

set_option backward.isDefEq.respectTransparency.types false in
/-- The launch, with the first product's array named: every window's array ends as the proof data say, the rest unchanged but for the two products' arrays, the first product's rows in its array, and every counter at zero. -/
theorem run_value : θ_run defs (onTc (τ := τ) (main (F := F))) (s₀ m ρ) (fun r => (Pipeline.FramePostR cfgs (dats m) 0 R0 (V m) r
      ∧ ∀ c : Dev nD, ARR m c 290 (r.2.mem ((c.tc : Thread nD τ).loc main_v7_2))) ∧ r.2.sem = fun _ => 0) :=
  have hrest : Pipeline.restRefs sig spec0 ⊆ Pipeline.restRefsP sig Pipeline.Prefetch.none spec0 :=
    fun b hb => Finset.mem_sdiff.mpr ⟨hb, fun h => ((Finset.mem_image.mp h).elim fun k _ => k.elim0)⟩
  Pipeline.RDat.θ_run_frameP_dmaRSat_shared (fun q => (cfgs q).toPCfg (Val := Elt F)) (fun q => (cfgs q).toPCfg_adm) (0 : Fin 1) launch0.toP.to₀ osem0 defs₀ Variants.none
    (fun c => (dats m 0 c).toR) ownSemFacts0 H0 R0 (H0_sub.trans hrest) (R0_sub.trans (Finset.sdiff_subset_sdiff hrest subset_rfl)) m ρ main
    (fun c => (body_obligation m c).loose.toR)
    (fun c w hw => ((dats m 0 c).toR).q_eq_shareOf_of_share_full (launch0.toP (Val := Elt F)).win.arr_inj (fun w => (dats m 0 c).share_full (fun _ => rfl) w) w hw)
    (fun _ _ => rfl) (V m) (hmainD m Variants.none) (A_eq m) (fun _ k => k.elim0) (PG m)
    (fun c => (show _ ⊢ Pipeline.ΦDRG osem0 spec0 H0 R0 (V m) (V m) c from by iintro ⟨H, -⟩; iexact H).trans ((Pipeline.ΦDRG_ΦDR osem0 spec0 H0 R0 (V m) (V m) c).trans (hin m c)))
    (hout m) _ (fun r h => ⟨⟨Pipeline.RDat.FramePostR.toDat cfgs (dats m) 0 R0 (V m) r h.1.1, fun c => by
      obtain ⟨W, hW, hr⟩ := h.1.2 c
      rw [hr main_v7_2 (by decide)]
      exact hW⟩, h.2⟩)

/-- The launch: every window's array ends as the proof data say, the rest unchanged but for the two products' arrays, and every counter at zero. -/
theorem run_main : θ_run defs (onTc (τ := τ) (main (F := F))) (s₀ m ρ) (fun r => Pipeline.FramePostR cfgs (dats m) 0 R0 (V m) r ∧ r.2.sem = fun _ => 0) :=
  (θ_run defs _ _).mono (fun r h => ⟨h.1.1, h.2⟩) (run_value m ρ)

/-- The arguments and the counters, from the launch's conclusion. -/
theorem args_of (r) (h : Pipeline.FramePostR cfgs (dats (F := F) m) 0 R0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Finset.mem_sdiff.mpr ⟨Pipeline.mem_restRefs_of main_arg0 (by decide) (by decide), by decide⟩)).trans (V_main_arg0 m c),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Finset.mem_sdiff.mpr ⟨Pipeline.mem_restRefs_of main_arg3 (by decide) (by decide), by decide⟩)).trans (V_main_arg3 m c),
    ((h c).2 main_arg4 (Finset.mem_sdiff.mpr ⟨Pipeline.mem_restRefs_of main_arg4 (by decide) (by decide), by decide⟩)).trans (V_main_arg4 m c),
    ((h c).2 main_arg5 (Finset.mem_sdiff.mpr ⟨Pipeline.mem_restRefs_of main_arg5 (by decide) (by decide), by decide⟩)).trans (V_main_arg5 m c),
    ((h c).2 main_arg6 (Finset.mem_sdiff.mpr ⟨Pipeline.mem_restRefs_of main_arg6 (by decide) (by decide), by decide⟩)).trans (V_main_arg6 m c)⟩

/-- The frame: the program terminates without fault, every argument ends as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨args_of m r h.1, h.2⟩) (run_main m ρ)

end Cert.DhIdeal.Hand

end
-- ==== Proof.DhValue.lean ====
module

public import proofs.«01_k».proof.Proof.DhSpec
public import proofs.«01_k».proof.Proof.DhFrame

@[expose] public section
set_option maxRecDepth 16384
noncomputable section
open Idealize.ShloMosaic Idealize.ShloMosaic.TcCoe Idealize.SL.Sem

/-! What the call `dh` leaves in its first three results. -/

namespace Cert.DhIdeal.Hand

open Cert.DhIdeal Cert.DhIdeal.Gen Cert.Dh Tokens

variable (m : (ℓ : Loc nD τ sig) → Buf (Elt Ideal) ℓ)

/-- Where the windows' blocks lie. -/
theorem idx : ∀ t : Fin cfg0.N, win0_0.index t = ![t.val / 58, min (t.val % 58) 36] ∧ win0_1.index t = ![t.val / 58, 0]
    ∧ win0_7.index t = ![t.val / 58, min (t.val % 58) 36] ∧ win0_8.index t = ![t.val / 58, 0] :=
  (by decide +kernel : ∀ t : Fin grid0.N, _)

/-- A vector as a single row. -/
theorem castRowF {α : Type} (x : S18944.Idx → α) (h : S18944.ShapeCasts S1x18944) (d : Fin 18944) : shapeCast S1x18944 x h (ix2 0 d) = x (ix1 d) := by
  unfold shapeCast
  refine congrArg x (Shape.reshapeEquiv_eq_of_rowMajor h ?_)
  rw [Shape.rowMajor_val_one, Shape.rowMajor_val_two]
  show d.val = 0 * 18944 + d.val
  omega

/-- The gradient, two dimensions. -/
theorem V0 (c : Dev nD) (k : Fin 5120) (f : Fin 18944) : V m c main_v4 (ix2 k f) = m ((c : Thread nD τ).loc main_arg0) (ix3 (tb k) (ts k) f) := by
  have h : V m c main_v4 = shapeCast S5120x18944 (m ((c : Thread nD τ).loc main_arg0)) shapeCasts_S5x1024x18944_S5120x18944 := by
    entry_read
    rfl
  rw [h]
  exact cast3 _ _ k f

/-- The row of the arrays that row `k` of point `t`'s blocks is, -/
abbrev rw' (t : Fin cfg0.N) (k : Fin 1024) : Fin 5120 := ⟨t.val / 58 * 1024 + k.val, by
  have : t.val < 290 := lt_of_lt_of_eq t.isLt (show cfg0.N = 290 from N_0)
  omega⟩
/-- and the column. -/
abbrev cl (t : Fin cfg0.N) (f : Fin 512) : Fin 18944 := ⟨min (t.val % 58) 36 * 512 + f.val, by omega⟩

/-- The inverse of a row's scale, copied along the row, -/
theorem INV_at (x : Vec Ideal S1024x128 .f32) (k : Fin 1024) (d : Fin 128) : INV (F := Ideal) x (ix2 k d) = kinv (AM x k) := by
  unfold INV
  pointwise [k0_pay2, k0_pay10, k0_pay11, k0_pay12, k0_pay9, k0_pay1]
  rfl
/-- and the scale. -/
theorem SCL_at (x : Vec Ideal S1024x128 .f32) (k : Fin 1024) (d : Fin 128) : SCL (F := Ideal) x (ix2 k d) = kscl (AM x k) := by
  unfold SCL
  pointwise [k0_pay3, k0_pay10, k0_pay11, k0_pay12, k0_pay9, k0_pay1]
  rfl
/-- One code, where the inverse is the same along the row. -/
theorem COD_at (x : Vec Ideal S1024x512 .f32) (z : Vec Ideal S1024x128 .f32) (k : Fin 1024) (d : Fin 512) (v : EReal)
    (hz : ∀ l : Fin 128, z (ix2 k l) = v) : COD (F := Ideal) x z (ix2 k d) = clip (x (ix2 k d)) v := by
  unfold COD
  pointwise [k0_pay5]
  unfold clip
  simp only [hz, dite_eq_ite, ite_self]

/-- The block of the gradient. -/
theorem rd0 (c : Dev nD) (t : Fin cfg0.N) (k : Fin 1024) (f : Fin 512) :
    iblk m c 0 t (ix2 k f) = m ((c : Thread nD τ).loc main_arg0) (ix3 (tb (rw' t k)) (ts (rw' t k)) (cl t f)) := by
  blk_simp [iblk]
  refine Eq.trans ?_ (V0 m c (rw' t k) (cl t f))
  blk_ext [idx t]
/-- The block of magnitudes. -/
theorem rd1 (c : Dev nD) (t : Fin cfg0.N) (k : Fin 1024) (l : Fin 128) :
    iblk m c 1 t (ix2 k l) = m ((c : Thread nD τ).loc main_arg1) (ix2 (rw' t k) l) := by
  blk_simp [iblk]
  refine Eq.trans ?_ (congrFun (V_main_arg1 m c) (ix2 (rw' t k) l))
  blk_ext [idx t]
/-- The magnitude of a row. -/
theorem am (c : Dev nD) (t : Fin cfg0.N) (k : Fin 1024) : AM (iblk m c 1 t) k = AM (m ((c : Thread nD τ).loc main_arg1)) (rw' t k) := by
  unfold AM
  rw [show (fun l : Fin 128 => (iblk m c 1 t (ix2 k l) : EReal)) = fun l => m ((c : Thread nD τ).loc main_arg1) (ix2 (rw' t k) l) from funext (rd1 m c t k)]

/-- One code of a block, -/
theorem point7 (c : Dev nD) (t : Fin cfg0.N) (k : Fin 1024) (f : Fin 512) :
    COD (F := Ideal) (iblk m c 0 t) (INV (iblk m c 1 t)) (ix2 k f) = CO (m ((c : Thread nD τ).loc main_arg0)) (m ((c : Thread nD τ).loc main_arg1)) (ix2 (rw' t k) (cl t f)) := by
  refine (COD_at _ _ k f (kinv (AM (iblk m c 1 t) k)) fun l => INV_at _ k l).trans ?_
  rw [am, (scales _).2]
  exact congrArg (fun x : EReal => clip x _) (rd0 m c t k f)
/-- and one scale. -/
theorem point8 (c : Dev nD) (t : Fin cfg0.N) (k : Fin 1024) (l : Fin 128) :
    SCL (F := Ideal) (iblk m c 1 t) (ix2 k l) = SC (m ((c : Thread nD τ).loc main_arg1)) (ix2 (rw' t k) l) := by
  refine (SCL_at _ k l).trans ?_
  rw [am, (scales _).1]
  rfl

/-- The codes the call leaves. -/
theorem final7 (c : Dev nD) : (dats m 0 c).arrAt 7 cfg0.N = CO (m ((c : Thread nD τ).loc main_arg0)) (m ((c : Thread nD τ).loc main_arg1)) := by
  refine (dats m 0 c).arrAt_eq_of_covers 7 _ (by decide +kernel) fun t hf y => ?_
  blk_simp
  rw [after0_7]
  refine Eq.trans (congrArg (COD (iblk m c 0 t) (INV (iblk m c 1 t))) (eq_ix2 y)) ((point7 m c t (y 0) (y 1)).trans (congrArg _ ?_))
  blk_ext [idx t]

/-- The scales the call leaves. -/
theorem final8 (c : Dev nD) : (dats m 0 c).arrAt 8 cfg0.N = SC (m ((c : Thread nD τ).loc main_arg1)) := by
  refine (dats m 0 c).arrAt_eq_of_covers 8 _ (by decide +kernel) fun t hf y => ?_
  blk_simp
  rw [after0_8]
  refine Eq.trans (congrArg (SCL (iblk m c 1 t)) (eq_ix2 y)) ((point8 m c t (y 0) (y 1)).trans (congrArg _ ?_))
  blk_ext [idx t]

/-- Where the weight's blocks lie. -/
theorem idxW : ∀ t : Fin cfg0.N, win0_2.index t = ![0, min (t.val % 58) 36] ∧ win0_3.index t = ![0, min (t.val % 58) 36] :=
  (by decide +kernel : ∀ t : Fin grid0.N, _)
/-- The weight's scales, one row. -/
theorem V3 (c : Dev nD) (f : Fin 18944) : V m c main_v5 (ix2 0 f) = m ((c : Thread nD τ).loc main_arg3) (ix1 f) := by
  have h : V m c main_v5 = shapeCast S1x18944 (m ((c : Thread nD τ).loc main_arg3)) shapeCasts_S18944_S1x18944 := by
    entry_read
    rfl
  rw [h]
  exact castRowF _ _ f
/-- The block of the weight. -/
theorem rd2 (c : Dev nD) (t : Fin cfg0.N) (d : Fin 3584) (f : Fin 512) :
    iblk m c 2 t (ix2 d f) = m ((c : Thread nD τ).loc main_arg2) (ix2 d (cl t f)) := by
  blk_simp [iblk]
  refine Eq.trans ?_ (congrFun (V_main_arg2 m c) (ix2 d (cl t f)))
  blk_ext [idxW t]
/-- The block of its scales. -/
theorem rd3 (c : Dev nD) (t : Fin cfg0.N) (f : Fin 512) :
    iblk m c 3 t (ix2 0 f) = m ((c : Thread nD τ).loc main_arg3) (ix1 (cl t f)) := by
  blk_simp [iblk]
  refine Eq.trans ?_ (V3 m c (cl t f))
  blk_ext [idxW t]
/-- One entry of the accumulator after a point: a tile's terms added. -/
theorem MUL_at (x0 : Vec Ideal S1024x512 .f32) (z : Vec Ideal S1024x128 .f32) (x3 : Vec Ideal S1x512 .f32) (a : Vec Ideal S1024x3584 .f32) (x2 : Vec Ideal S3584x512 .fp8e4m3)
    (k : Fin 1024) (d : Fin 3584) :
    MUL (F := Ideal) x0 z x3 a x2 (ix2 k d) = (a (ix2 k d) : EReal) + ∑ f : Fin 512, ((COD (F := Ideal) x0 z (ix2 k f) : EReal) * x3 (ix2 0 f)) * x2 (ix2 d f) := by
  unfold MUL COD
  generalize h : k0_pay5 (F := Ideal) x0 z = y
  pointwise [k0_pay6, h]
/-- The accumulator begins at zero. -/
theorem zero_at (k : Fin 1024) (d : Fin 3584) : (k0_pay4 (F := Ideal) (ix2 k d) : EReal) = 0 := by
  unfold k0_pay4
  simp only [shapeCast_self]
  exact Ideal.ofBits_zero_f32
/-- The terms of row `k` of row tile `o`. -/
abbrev terms (c : Dev nD) (k : Fin 5120) (d : Fin 3584) : Fin 18944 → EReal :=
  TRM (m ((c : Thread nD τ).loc main_arg0)) (m ((c : Thread nD τ).loc main_arg1)) (m ((c : Thread nD τ).loc main_arg2)) (m ((c : Thread nD τ).loc main_arg3)) k d
/-- A point's part. -/
theorem part (c : Dev nD) (t : Fin cfg0.N) (h : t.val % 58 < 37) (a : Vec Ideal S1024x3584 .f32) (k : Fin 1024) (d : Fin 3584) :
    MUL (F := Ideal) (iblk m c 0 t) (INV (iblk m c 1 t)) (iblk m c 3 t) a (iblk m c 2 t) (ix2 k d)
      = (a (ix2 k d) : EReal) + ∑ f : Fin 512, terms m c (rw' t k) d ⟨t.val % 58 * 512 + f.val, by omega⟩ := by
  refine (MUL_at _ _ _ _ _ k d).trans (congrArg (fun x : EReal => (a (ix2 k d) : EReal) + x) (Finset.sum_congr rfl fun f _ => ?_))
  have e : (⟨t.val % 58 * 512 + f.val, by omega⟩ : Fin 18944) = cl t f := Fin.ext (by show t.val % 58 * 512 + f.val = min (t.val % 58) 36 * 512 + f.val; omega)
  rw [e]
  exact congrArg₂ (fun x y : EReal => x * y) (congrArg₂ (fun x y : EReal => x * y) (point7 m c t k f) (rd3 m c t f)) (rd2 m c t d f)
/-- The accumulator of row tile `o` after `j` points: the sum over the columns of the tiles so far. -/
theorem ACC_at (c : Dev nD) (o : ℕ) (ho : o < 5) (k : Fin 1024) (d : Fin 3584) : ∀ j : ℕ, j < 37 →
      (ACC m c (o * 58 + j + 1) (ix2 k d) : EReal) = ∑ f ∈ Finset.range ((j + 1) * 512), FS (terms m c ⟨o * 1024 + k.val, by omega⟩ d) f := by
    intro j
    induction j using Nat.strong_induction_on with | _ j ih
    intro hj
    have hN : o * 58 + j < cfg0.N := by rw [show cfg0.N = 290 from N_0]; omega
    have hm : (o * 58 + j) % 58 = j := by omega
    have er : rw' ⟨o * 58 + j, hN⟩ k = ⟨o * 1024 + k.val, by omega⟩ := Fin.ext (by show (o * 58 + j) / 58 * 1024 + k.val = o * 1024 + k.val; omega)
    have es : ∑ f : Fin 512, terms m c (rw' ⟨o * 58 + j, hN⟩ k) d ⟨(o * 58 + j) % 58 * 512 + f.val, by omega⟩
        = ∑ f : Fin 512, terms m c ⟨o * 1024 + k.val, by omega⟩ d ⟨j * 512 + f.val, by omega⟩ := by
      rw [er]
      refine Finset.sum_congr rfl fun f _ => congrArg _ (Fin.ext ?_)
      show (o * 58 + j) % 58 * 512 + f.val = j * 512 + f.val
      rw [hm]
    rw [← FS_add _ j hj]
    refine (congrFun (ACC_succ m c ⟨o * 58 + j, hN⟩) (ix2 k d)).trans ((part m c ⟨o * 58 + j, hN⟩ (by show (o * 58 + j) % 58 < 37; omega) _ k d).trans (congrArg₂ (fun x y : EReal => x + y) ?_ es))
    by_cases hz : j = 0
    · rw [if_pos (show (⟨o * 58 + j, hN⟩ : Fin cfg0.N).val % 58 = 0 by show (o * 58 + j) % 58 = 0; omega), zero_at, hz, Nat.zero_mul, Finset.sum_range_zero]
    · rw [if_neg (show ¬(⟨o * 58 + j, hN⟩ : Fin cfg0.N).val % 58 = 0 by show ¬(o * 58 + j) % 58 = 0; omega)]
      obtain ⟨i, rfl⟩ : ∃ i, j = i + 1 := ⟨j - 1, by omega⟩
      exact ih i (by omega) (by omega)
/-- The first product's array, where the last row tile's product is over. -/
theorem finalM (c : Dev nD) (g : Vec Ideal S5120x3584 .f32) (h : ARR m c 290 g) :
    g = DM (m ((c : Thread nD τ).loc main_arg0)) (m ((c : Thread nD τ).loc main_arg1)) (m ((c : Thread nD τ).loc main_arg2)) (m ((c : Thread nD τ).loc main_arg3)) := by
  funext y
  obtain ⟨r, d, rfl⟩ : ∃ (r : Fin 5120) (d : Fin 3584), y = ix2 r d := ⟨y 0, y 1, eq_ix2 y⟩
  have ho : r.val / 1024 < 5 := by omega
  have e : r = (⟨r.val / 1024 * 1024 + (⟨r.val % 1024, by omega⟩ : Fin 1024).val, by show r.val / 1024 * 1024 + r.val % 1024 < 5120; omega⟩ : Fin 5120) :=
    Fin.ext (by show r.val = r.val / 1024 * 1024 + r.val % 1024; omega)
  have h1 := h (r.val / 1024) ho (by omega) ⟨r.val % 1024, by omega⟩ d
  rw [← e] at h1
  refine h1.trans ((ACC_at m c (r.val / 1024) ho ⟨r.val % 1024, by omega⟩ d 36 (by omega)).trans ?_)
  rw [← e]
  exact FS_sum _

end Cert.DhIdeal.Hand
end
-- ==== Proof.DhRefValue.lean ====
module

public import proofs.«01_k».proof.Proof.DhSpec
public import proofs.«01_k».proof.Proof.Gen.DhRefIdeal.Frame

@[expose] public section
set_option maxRecDepth 16384
noncomputable section
open Idealize.ShloMosaic Idealize.ShloMosaic.TcCoe Idealize.SL.Sem

/-! What the reference of the call `dh` leaves in its results. -/

namespace Cert.DhRefIdeal.ArrayValue

open Cert.DhRefIdeal Cert.DhRefIdeal.Gen Cert.Dh Tokens

variable (m : (ℓ : Loc nD τ sig) → Buf (Elt Ideal) ℓ)

/-- Every window is its whole array at the one grid point. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

/-- The gradient, two dimensions. -/
theorem V0 (c : Dev nD) (k : Fin 5120) (f : Fin 18944) : V m c main_v0 (ix2 k f) = m ((c : Thread nD τ).loc main_arg0) (ix3 (tb k) (ts k) f) := by
  have h : V m c main_v0 = shapeCast S5120x18944 (m ((c : Thread nD τ).loc main_arg0)) shapeCasts_S5x1024x18944_S5120x18944 := by
    entry_read
    rfl
  rw [h]
  exact cast3 _ _ k f

/-- The scale of a row. -/
theorem pay3_at (x : Vec Ideal S5120x128 .f32) (k : Fin 5120) : k0_pay3 (F := Ideal) x (ix2 k 0) = rscl (AM x k) := by
  pointwise [k0_pay3]
  rfl
/-- The scale, copied along the row. -/
theorem pay1_at (v : Vec Ideal S5120x1 .f32) (y : S5120x128.Idx) : k0_pay1 (F := Ideal) v y = v (ix2 (y 0) 0) := by
  pointwise [k0_pay1]
/-- One code. -/
theorem pay4_at (x : Vec Ideal S5120x128 .f32) (d : Vec Ideal S5120x18944 .f32) (y : S5120x18944.Idx) :
    k0_pay4 (F := Ideal) x d y = clip (d y) (Ideal.div 1 (k0_pay3 (F := Ideal) x (ix2 (y 0) 0))) := by
  unfold k0_pay4
  generalize k0_pay3 (F := Ideal) x = s
  pointwise []
  rfl

/-- The block of magnitudes. -/
theorem h1 (c : Dev nD) (t : Fin cfg0.N) (k : Fin 5120) (f : Fin 128) : iblk m c 1 t (ix2 k f) = m ((c : Thread nD τ).loc main_arg1) (ix2 k f) := by
  blk_simp [iblk]
  refine Eq.trans ?_ (congrFun (V_main_arg1 m c) (ix2 k f))
  blk_ext [idx t]

/-- A row's scale. -/
theorem sc (c : Dev nD) (t : Fin cfg0.N) (k : Fin 5120) : k0_pay3 (F := Ideal) (iblk m c 1 t) (ix2 k 0) = rscl (AM (m ((c : Thread nD τ).loc main_arg1)) k) := by
  refine (pay3_at _ k).trans (congrArg rscl ?_)
  unfold AM
  rw [show (fun l : Fin 128 => (iblk m c 1 t (ix2 k l) : EReal)) = fun l => m ((c : Thread nD τ).loc main_arg1) (ix2 k l) from funext (h1 m c t k)]

/-- The codes the reference leaves. -/
theorem final4 (c : Dev nD) : (dats m 0 c).arrAt 4 (cfgs 0).N = CO (m ((c : Thread nD τ).loc main_arg0)) (m ((c : Thread nD τ).loc main_arg1)) := by
  refine (dats m 0 c).arrAt_eq_of_covers 4 _ (by decide +kernel) fun t _ y => ?_
  blk_simp
  rw [after0_4]; frame_out
  have h2 : ((cfg0.win 4).blk t).view.emb y = y := by
    blk_ext [idx t]
  have h0 : ∀ (k : Fin 5120) (f : Fin 18944), iblk m c 0 t (ix2 k f) = m ((c : Thread nD τ).loc main_arg0) (ix3 (tb k) (ts k) f) := fun k f => by
    blk_simp [iblk]
    refine Eq.trans ?_ (V0 m c k f)
    blk_ext [idx t]
  refine Eq.trans ?_ (congrArg _ h2.symm)
  obtain ⟨k, f, rfl⟩ : ∃ (k : Fin 5120) (f : Fin 18944), y = ix2 k f := ⟨y 0, y 1, eq_ix2 y⟩
  refine (pay4_at _ _ (ix2 k f)).trans ?_
  exact congrArg₂ clip (h0 k f) (congrArg (Ideal.div 1) (sc m c t k))

/-- The scales the reference leaves. -/
theorem final5 (c : Dev nD) : (dats m 0 c).arrAt 5 (cfgs 0).N = SC (m ((c : Thread nD τ).loc main_arg1)) := by
  refine (dats m 0 c).arrAt_eq_of_covers 5 _ (by decide +kernel) fun t _ y => ?_
  blk_simp
  rw [after0_5]; frame_out
  have h3 : ((cfg0.win 5).blk t).view.emb y = y := by
    blk_ext [idx t]
  refine Eq.trans ?_ (congrArg _ h3.symm)
  exact (pay1_at _ y).trans (sc m c t (y 0))

/-- A vector as a single row. -/
theorem castRowF {α : Type} (x : S18944.Idx → α) (h : S18944.ShapeCasts S1x18944) (d : Fin 18944) : shapeCast S1x18944 x h (ix2 0 d) = x (ix1 d) := by
  unfold shapeCast
  refine congrArg x (Shape.reshapeEquiv_eq_of_rowMajor h ?_)
  rw [Shape.rowMajor_val_one, Shape.rowMajor_val_two]
  show d.val = 0 * 18944 + d.val
  omega
/-- The weight's scales, one row. -/
theorem V3 (c : Dev nD) (f : Fin 18944) : V m c main_v1 (ix2 0 f) = m ((c : Thread nD τ).loc main_arg3) (ix1 f) := by
  have h : V m c main_v1 = shapeCast S1x18944 (m ((c : Thread nD τ).loc main_arg3)) shapeCasts_S18944_S1x18944 := by
    entry_read
    rfl
  rw [h]
  exact castRowF _ _ f
/-- One entry of the product. -/
theorem pay2_at (v : Vec Ideal S5120x18944 .fp8e5m2) (w : Vec Ideal S3584x18944 .fp8e4m3) (s : Vec Ideal S1x18944 .f32) (k : Fin 5120) (d : Fin 3584) :
    k0_pay2 (F := Ideal) v w s (ix2 k d) = (∑ f : Fin 18944, (v (ix2 k f) : EReal) * ((w (ix2 d f) : EReal) * s (ix2 0 f)) : EReal) := by
  pointwise [k0_pay2]
/-- The block of the weight. -/
theorem h2 (c : Dev nD) (t : Fin cfg0.N) (d : Fin 3584) (f : Fin 18944) : iblk m c 2 t (ix2 d f) = m ((c : Thread nD τ).loc main_arg2) (ix2 d f) := by
  blk_simp [iblk]
  refine Eq.trans ?_ (congrFun (V_main_arg2 m c) (ix2 d f))
  blk_ext [idx t]
/-- The block of its scales. -/
theorem h3 (c : Dev nD) (t : Fin cfg0.N) (f : Fin 18944) : iblk m c 3 t (ix2 0 f) = m ((c : Thread nD τ).loc main_arg3) (ix1 f) := by
  blk_simp [iblk]
  refine Eq.trans ?_ (V3 m c f)
  blk_ext [idx t]
/-- One code of the block. -/
theorem code (c : Dev nD) (t : Fin cfg0.N) (k : Fin 5120) (f : Fin 18944) : k0_pay4 (F := Ideal) (iblk m c 1 t) (iblk m c 0 t) (ix2 k f)
    = CO (m ((c : Thread nD τ).loc main_arg0)) (m ((c : Thread nD τ).loc main_arg1)) (ix2 k f) := by
  have h0 : iblk m c 0 t (ix2 k f) = m ((c : Thread nD τ).loc main_arg0) (ix3 (tb k) (ts k) f) := by
    blk_simp [iblk]
    refine Eq.trans ?_ (V0 m c k f)
    blk_ext [idx t]
  refine (pay4_at _ _ (ix2 k f)).trans ?_
  exact congrArg₂ clip h0 (congrArg (Ideal.div 1) (sc m c t k))
/-- The product the reference leaves. -/
theorem final6 (c : Dev nD) : (dats m 0 c).arrAt 6 (cfgs 0).N
    = DM (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]; frame_out
  have h6 : ((cfg0.win 6).blk t).view.emb y = y := by
    blk_ext [idx t]
  refine Eq.trans ?_ (congrArg _ h6.symm)
  obtain ⟨k, d, rfl⟩ : ∃ (k : Fin 5120) (d : Fin 3584), y = ix2 k d := ⟨y 0, y 1, eq_ix2 y⟩
  refine (pay2_at _ _ _ k d).trans (Finset.sum_congr rfl fun f _ => ?_)
  refine (congrArg₂ (fun x y : EReal => x * y) (code m c t k f) (congrArg₂ (fun x y : EReal => x * y) (h2 m c t d f) (h3 m c t f))).trans ?_
  unfold TRM
  show (_ : EReal) * (_ * _) = _ * _ * _
  ac_rfl

end Cert.DhRefIdeal.ArrayValue
end
-- ==== Proof.lean ====
/-
# The claims, put together

For each call: its program, its program over the extended reals and the reference's run to the end with every
counter at zero and the arguments unchanged; its program over the extended reals is the same program; and it
and the reference leave the same array.
-/
module

public import proofs.«01_k».proof.Defs
public import proofs.«01_k».proof.Proof.Gen.DwOut.Frame
public import proofs.«01_k».proof.Proof.Gen.DwOutIdeal.Value
public import proofs.«01_k».proof.Proof.Gen.DwOutRefIdeal.Value
public import proofs.«01_k».proof.Proof.DwOutRefValue
public import proofs.«01_k».proof.Proof.DwInFrame
public import proofs.«01_k».proof.Proof.DwInValue
public import proofs.«01_k».proof.Proof.DwInRefValue
public import proofs.«01_k».proof.Proof.DwQkvFrame
public import proofs.«01_k».proof.Proof.DwQkvValue
public import proofs.«01_k».proof.Proof.DwQkvRefValue
public import proofs.«01_k».proof.Proof.DaFrame
public import proofs.«01_k».proof.Proof.DaValue
public import proofs.«01_k».proof.Proof.Gen.DaRef.Frame
public import proofs.«01_k».proof.Proof.DaRefValue
public import proofs.«01_k».proof.Proof.LnFrame
public import proofs.«01_k».proof.Proof.LnRefValue
public import proofs.«01_k».proof.Proof.LnValue
public import proofs.«01_k».proof.Proof.Gen.Dh.Skeleton
public import proofs.«01_k».proof.Proof.DhValue
public import proofs.«01_k».proof.Proof.Gen.DhRefIdeal.Value
public import proofs.«01_k».proof.Proof.DhRefValue
public import Idealize.ShloMosaic.Adequacy
public import Idealize.ShloMosaic.Init

@[expose] public section

noncomputable section

namespace Cert.Proof

open Idealize.ShloMosaic Idealize.SL.Sem

/-- The kernel and the reference leave the same MLP output weight gradient. -/
theorem dwOut_algebraic : @algebraic_DwOutIdeal_DwOutRefIdeal Cert.DwOutIdeal.Gen.facts Cert.DwOutRefIdeal.Gen.facts := by
  intro m g m' g' _ hm
  refine ⟨fun c => Cert.DwOutIdeal.ArrayValue.G (m ((c.tc : Thread Cert.DwOutIdeal.nD Cert.DwOutIdeal.τ).loc Cert.DwOutIdeal.main_arg0)) (m ((c.tc : Thread Cert.DwOutIdeal.nD Cert.DwOutIdeal.τ).loc Cert.DwOutIdeal.main_arg1)) (m ((c.tc : Thread Cert.DwOutIdeal.nD Cert.DwOutIdeal.τ).loc Cert.DwOutIdeal.main_arg2)) (m ((c.tc : Thread Cert.DwOutIdeal.nD Cert.DwOutIdeal.τ).loc Cert.DwOutIdeal.main_arg3)), ?_, ?_⟩
  · refine (θ_run _ _ _).mono (fun r h c => ?_) (Cert.DwOutIdeal.Value.run_blocks m g)
    obtain ⟨h0, h⟩ := h c
    exact ⟨h0.trans (Cert.DwOutIdeal.ArrayValue.final m c), h⟩
  · refine (θ_run _ _ _).mono (fun r h c => ?_) (Cert.DwOutRefIdeal.Value.run_blocks m' g')
    obtain ⟨h0, h⟩ := h c
    obtain ⟨e0, e1, e2, e3⟩ := hm c
    refine ⟨(h0.trans (Cert.DwOutRefIdeal.ArrayValue.final m' c)).trans ?_, h⟩
    rw [e0, e1, e2, e3]

/-- The kernel and the reference leave the same MLP input weight gradient. -/
theorem dwIn_algebraic : @algebraic_DwInIdeal_DwInRefIdeal Cert.DwInIdeal.Gen.facts Cert.DwInRefIdeal.Gen.facts := by
  intro m g m' g' _ hm
  refine ⟨fun c => Cert.DwInIdeal.Hand.G (m ((c.tc : Thread Cert.DwInIdeal.nD Cert.DwInIdeal.τ).loc Cert.DwInIdeal.main_arg0)) (m ((c.tc : Thread Cert.DwInIdeal.nD Cert.DwInIdeal.τ).loc Cert.DwInIdeal.main_arg1)) (m ((c.tc : Thread Cert.DwInIdeal.nD Cert.DwInIdeal.τ).loc Cert.DwInIdeal.main_arg2)) (m ((c.tc : Thread Cert.DwInIdeal.nD Cert.DwInIdeal.τ).loc Cert.DwInIdeal.main_arg3)) (m ((c.tc : Thread Cert.DwInIdeal.nD Cert.DwInIdeal.τ).loc Cert.DwInIdeal.main_arg4)), ?_, ?_⟩
  · refine (θ_run _ _ _).mono (fun r h c => ?_) (Cert.DwInIdeal.Hand.run_blocks m g)
    obtain ⟨h0, h⟩ := h c
    exact ⟨h0.trans (Cert.DwInIdeal.Hand.final m c), h⟩
  · refine (θ_run _ _ _).mono (fun r h c => ?_) (Cert.DwInRefIdeal.Value.run_blocks m' g')
    obtain ⟨h0, h⟩ := h c
    obtain ⟨e0, e1, e2, e3, e4⟩ := hm c
    refine ⟨(h0.trans (Cert.DwInRefIdeal.ArrayValue.final m' c)).trans ?_, h⟩
    rw [e0, e1, e2, e3, e4]

/-- The kernel and the reference leave the same attention weight gradient. -/
theorem dwQkv_algebraic : @algebraic_DwQkvIdeal_DwQkvRefIdeal Cert.DwQkvIdeal.Gen.facts Cert.DwQkvRefIdeal.Gen.facts := by
  intro m g m' g' _ hm
  refine ⟨fun c => Cert.DwQkvIdeal.Hand.G (m ((c.tc : Thread Cert.DwQkvIdeal.nD Cert.DwQkvIdeal.τ).loc Cert.DwQkvIdeal.main_arg0)) (m ((c.tc : Thread Cert.DwQkvIdeal.nD Cert.DwQkvIdeal.τ).loc Cert.DwQkvIdeal.main_arg1)) (m ((c.tc : Thread Cert.DwQkvIdeal.nD Cert.DwQkvIdeal.τ).loc Cert.DwQkvIdeal.main_arg2)) (m ((c.tc : Thread Cert.DwQkvIdeal.nD Cert.DwQkvIdeal.τ).loc Cert.DwQkvIdeal.main_arg3)) (m ((c.tc : Thread Cert.DwQkvIdeal.nD Cert.DwQkvIdeal.τ).loc Cert.DwQkvIdeal.main_arg4)), ?_, ?_⟩
  · refine (θ_run _ _ _).mono (fun r h c => ?_) (Cert.DwQkvIdeal.Hand.run_blocks m g)
    obtain ⟨h0, h⟩ := h c
    exact ⟨h0.trans (Cert.DwQkvIdeal.Hand.final m c), h⟩
  · refine (θ_run _ _ _).mono (fun r h c => ?_) (Cert.DwQkvRefIdeal.Value.run m' g')
    obtain ⟨h0, h⟩ := h c
    obtain ⟨e0, e1, e2, e3, e4⟩ := hm c
    refine ⟨(h0.trans (Cert.DwQkvRefIdeal.ArrayValue.final m' c)).trans ?_, h⟩
    rw [e0, e1, e2, e3, e4]

/-- The kernel and the reference leave the same gradient of the MLP activations. -/
theorem da_algebraic : @algebraic_DaIdeal_DaRefIdeal Cert.DaIdeal.Gen.facts Cert.DaRefIdeal.Gen.facts := by
  intro m g m' g' _ hm
  refine ⟨fun c => Cert.DaIdeal.Hand.G (m ((c.tc : Thread Cert.DaIdeal.nD Cert.DaIdeal.τ).loc Cert.DaIdeal.main_arg0)) (m ((c.tc : Thread Cert.DaIdeal.nD Cert.DaIdeal.τ).loc Cert.DaIdeal.main_arg1)) (m ((c.tc : Thread Cert.DaIdeal.nD Cert.DaIdeal.τ).loc Cert.DaIdeal.main_arg2)) (m ((c.tc : Thread Cert.DaIdeal.nD Cert.DaIdeal.τ).loc Cert.DaIdeal.main_arg3)) (m ((c.tc : Thread Cert.DaIdeal.nD Cert.DaIdeal.τ).loc Cert.DaIdeal.main_arg4)) (m ((c.tc : Thread Cert.DaIdeal.nD Cert.DaIdeal.τ).loc Cert.DaIdeal.main_arg5)), ?_, ?_⟩
  · refine (θ_run _ _ _).mono (fun r h c => ?_) (Cert.DaIdeal.Hand.run_blocks m g)
    obtain ⟨h0, h⟩ := h c
    exact ⟨h0.trans (Cert.DaIdeal.Hand.final m c), h⟩
  · refine (θ_run _ _ _).mono (fun r h c => ?_) (Cert.DaRefIdeal.Value.run_blocks m' g')
    obtain ⟨h0, h⟩ := h c
    obtain ⟨e0, e1, e2, e3, e4, e5⟩ := hm c
    refine ⟨(h0.trans (Cert.DaRefIdeal.ArrayValue.final m' c)).trans ?_, h⟩
    rw [e0, e1, e2, e3, e4, e5]

/-- The kernel of the pre-activation's gradient over the extended reals is the same program, with its four gelu
    constants read as the constants they round. -/
theorem da_preserves : preserves_Da_DaIdeal :=
  ⟨IdealRules.named_const.statement Cert.DaIdeal.κ "gelu_ca" .f32 0x3D122279#32 ((35677408136300126361 / 1000000000000000000000 : ℝ) : EReal) rfl,
   IdealRules.named_const.statement Cert.DaIdeal.κ "gelu_c" .f32 0x3F4C422A#32 ((3989422804014327 / 5000000000000000 : ℝ) : EReal) rfl,
   IdealRules.named_const.statement Cert.DaIdeal.κ "gelu_3_half_ca" .f32 0x3D5B33B6#32 ((107032224408900379083 / 2000000000000000000000 : ℝ) : EReal) rfl,
   IdealRules.named_const.statement Cert.DaIdeal.κ "gelu_half_c" .f32 0x3ECC422A#32 ((3989422804014327 / 10000000000000000 : ℝ) : EReal) rfl⟩

/-- The reference of the pre-activation's gradient over the extended reals is the same program, with its three gelu
    constants read as the constants they round. -/
theorem daRef_preserves : preserves_DaRef_DaRefIdeal :=
  ⟨IdealRules.named_const.statement Cert.DaRefIdeal.κ "gelu_a" .f32 0x3D372713#32 ((8943 / 200000 : ℝ) : EReal) rfl,
   IdealRules.named_const.statement Cert.DaRefIdeal.κ "gelu_c" .f32 0x3F4C422A#32 ((3989422804014327 / 5000000000000000 : ℝ) : EReal) rfl,
   IdealRules.named_const.statement Cert.DaRefIdeal.κ "gelu_3a" .f32 0x3E095D4F#32 ((26829 / 200000 : ℝ) : EReal) rfl⟩

/-- The layer-norm call over the extended reals is the layer-norm call, its named constant being 1/3584. -/
theorem ln_preserves : preserves_Ln_LnIdeal :=
  IdealRules.named_const.statement Cert.LnIdeal.κ "inv_d" .f32 0x39924925#32 ((1 / 3584 : ℝ) : EReal) rfl

/-- The kernel and the reference leave the same gradients of the input and of the two gains. -/
theorem ln_algebraic : @algebraic_LnIdeal_LnRefIdeal Cert.LnIdeal.Gen.facts Cert.LnRefIdeal.Gen.facts := by
  intro m g m' g' _ hm
  refine ⟨fun c => Cert.LnIdeal.Hand.G1 (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3)) (m ((c.tc : Thread Cert.LnIdeal.nD Cert.LnIdeal.τ).loc Cert.LnIdeal.main_arg4)) (m ((c.tc : Thread Cert.LnIdeal.nD Cert.LnIdeal.τ).loc Cert.LnIdeal.main_arg5)) (m ((c.tc : Thread Cert.LnIdeal.nD Cert.LnIdeal.τ).loc Cert.LnIdeal.main_arg6)) (m ((c.tc : Thread Cert.LnIdeal.nD Cert.LnIdeal.τ).loc Cert.LnIdeal.main_arg7)) (m ((c.tc : Thread Cert.LnIdeal.nD Cert.LnIdeal.τ).loc Cert.LnIdeal.main_arg8)) (m ((c.tc : Thread Cert.LnIdeal.nD Cert.LnIdeal.τ).loc Cert.LnIdeal.main_arg9)) (m ((c.tc : Thread Cert.LnIdeal.nD Cert.LnIdeal.τ).loc Cert.LnIdeal.main_arg10)),
    fun c => Cert.LnIdeal.Hand.G2 (m ((c.tc : Thread Cert.LnIdeal.nD Cert.LnIdeal.τ).loc Cert.LnIdeal.main_arg2)) (m ((c.tc : Thread Cert.LnIdeal.nD Cert.LnIdeal.τ).loc Cert.LnIdeal.main_arg3)) (m ((c.tc : Thread Cert.LnIdeal.nD Cert.LnIdeal.τ).loc Cert.LnIdeal.main_arg4)) (m ((c.tc : Thread Cert.LnIdeal.nD Cert.LnIdeal.τ).loc Cert.LnIdeal.main_arg5)),
    fun c => Cert.LnIdeal.Hand.G2 (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg4)) (m ((c.tc : Thread Cert.LnIdeal.nD Cert.LnIdeal.τ).loc Cert.LnIdeal.main_arg5)), ?_, ?_⟩
  · refine (θ_run _ _ _).mono (fun r h c => ?_) (Cert.LnIdeal.Hand.run_blocks m g)
    obtain ⟨h0, h1, h2, h⟩ := h c
    exact ⟨h0.trans (Cert.LnIdeal.Hand.final11 m c), h1.trans (Cert.LnIdeal.Hand.final12 m c), h2.trans (Cert.LnIdeal.Hand.final13 m c), h⟩
  · refine (θ_run _ _ _).mono (fun r h c => ?_) (Cert.LnRefIdeal.Value.run_blocks m' g')
    obtain ⟨h0, h1, h2, h⟩ := h c
    obtain ⟨e0, e1, e2, e3, e4, e5, e6, e7, e8, e9, e10⟩ := hm c
    refine ⟨(h0.trans (Cert.LnRefIdeal.ArrayValue.final11 m' c)).trans ?_, (h1.trans (Cert.LnRefIdeal.ArrayValue.final12 m' c)).trans ?_,
      (h2.trans (Cert.LnRefIdeal.ArrayValue.final13 m' c)).trans ?_, h⟩
    · rw [e0, e1, e2, e3, e4, e5, e6, e7, e8, e9, e10]
    · rw [e2, e3, e4, e5]
    · rw [e0, e1, e4, e5]

/-- The body table of the call of the two input-gradient products is the one over the extended reals. -/
theorem dh_tables {F : FTy → Type} [FloatOps F] : (Cert.Dh.defs₀ (F := F)) = Cert.DhIdeal.defs₀ (F := F) := by
  unfold Cert.Dh.defs₀ Cert.DhIdeal.defs₀
  refine congrArg Defs.onTc ?_
  funext l x
  match l with
  | ⟨0, _⟩ => rfl
  | ⟨k + 1, h⟩ => exact absurd h (Nat.not_lt.2 (Nat.le_add_left _ _))

/-- The frame of the call of the two input-gradient products at the machine's floats. -/
theorem dh_quiescent : @Cert.quiescent_Dh Cert.Dh.Gen.facts := by
  intro m g _
  have h := Cert.DhIdeal.Hand.frame (F := Bits) m g
  rw [show (Cert.DhIdeal.defs (F := Bits)) = Cert.Dh.defs (F := Bits) from congrArg (Pipeline.defs Cert.Dh.pcfgs) dh_tables.symm] at h
  exact h

/-- The kernel and the reference leave the same codes, the same scales and the same first product. -/
theorem dh_algebraic : @algebraic_DhIdeal_DhRefIdeal Cert.DhIdeal.Gen.facts Cert.DhRefIdeal.Gen.facts := by
  intro m g m' g' _ hm
  refine ⟨fun c => Cert.Dh.CO (m ((c.tc : Thread Cert.DhIdeal.nD Cert.DhIdeal.τ).loc Cert.DhIdeal.main_arg0)) (m ((c.tc : Thread Cert.DhIdeal.nD Cert.DhIdeal.τ).loc Cert.DhIdeal.main_arg1)),
    fun c => Cert.Dh.SC (m ((c.tc : Thread Cert.DhIdeal.nD Cert.DhIdeal.τ).loc Cert.DhIdeal.main_arg1)),
    fun c => Cert.Dh.DM (m ((c.tc : Thread Cert.DhIdeal.nD Cert.DhIdeal.τ).loc Cert.DhIdeal.main_arg0)) (m ((c.tc : Thread Cert.DhIdeal.nD Cert.DhIdeal.τ).loc Cert.DhIdeal.main_arg1))
      (m ((c.tc : Thread Cert.DhIdeal.nD Cert.DhIdeal.τ).loc Cert.DhIdeal.main_arg2)) (m ((c.tc : Thread Cert.DhIdeal.nD Cert.DhIdeal.τ).loc Cert.DhIdeal.main_arg3)), ?_, ?_⟩
  · refine (θ_run _ _ _).mono (fun r h c => ?_) (Cert.DhIdeal.Hand.run_value m g)
    exact ⟨((h.1.1 c).1 7).trans (Cert.DhIdeal.Hand.final7 m c), ((h.1.1 c).1 8).trans (Cert.DhIdeal.Hand.final8 m c), Cert.DhIdeal.Hand.finalM m c _ (h.1.2 c),
      Cert.DhIdeal.Hand.args_of m r h.1.1 c⟩
  · refine (θ_run _ _ _).mono (fun r h c => ?_) (Cert.DhRefIdeal.Value.run_blocks m' g')
    obtain ⟨h0, h1, h2, h⟩ := h c
    obtain ⟨e0, e1, e2, e3, e4, e5, e6⟩ := hm c
    refine ⟨(h0.trans (Cert.DhRefIdeal.ArrayValue.final4 m' c)).trans ?_, (h1.trans (Cert.DhRefIdeal.ArrayValue.final5 m' c)).trans ?_,
      (h2.trans (Cert.DhRefIdeal.ArrayValue.final6 m' c)).trans ?_, h⟩
    · rw [e0, e1]
    · rw [e1]
    · rw [e0, e1, e2, e3]
/-- Everything claimed. -/
theorem claim : Cert.Claim := ⟨Cert.DwOut.Gen.facts, Cert.DwOutIdeal.Gen.facts, Cert.DwOutRefIdeal.Gen.facts, Cert.DwIn.Gen.facts, Cert.DwInIdeal.Gen.facts, Cert.DwInRefIdeal.Gen.facts, Cert.DwQkv.Gen.facts, Cert.DwQkvIdeal.Gen.facts, Cert.DwQkvRefIdeal.Gen.facts, Cert.Da.Gen.facts, Cert.DaIdeal.Gen.facts, Cert.DaRefIdeal.Gen.facts, Cert.DaRef.Gen.facts, Cert.Ln.Gen.facts, Cert.LnIdeal.Gen.facts, Cert.LnRefIdeal.Gen.facts, Cert.Dh.Gen.facts, Cert.DhIdeal.Gen.facts, Cert.DhRefIdeal.Gen.facts, by
  refine ⟨fun m g _ => Cert.DwOut.Gen.frame m g, fun m g _ => Cert.DwOutIdeal.Gen.frame m g, fun m g _ => Cert.DwOutRefIdeal.Gen.frame m g, Cert.DwInIdeal.Plain.quiescent, fun m g _ => Cert.DwInIdeal.Hand.frame m g, fun m g _ => Cert.DwInRefIdeal.Gen.frame m g, Cert.DwQkvIdeal.Plain.quiescent, fun m g _ => Cert.DwQkvIdeal.Hand.frame m g, fun m g _ => Cert.DwQkvRefIdeal.Gen.frame m g, Cert.DaIdeal.Plain.quiescent, fun m g _ => Cert.DaIdeal.Hand.frame m g, fun m g _ => Cert.DaRefIdeal.Gen.frame m g, fun m g _ => Cert.DaRef.Gen.frame m g, Cert.LnIdeal.Plain.quiescent, fun m g _ => Cert.LnIdeal.Hand.frame m g, fun m g _ => Cert.LnRefIdeal.Gen.frame m g, dh_quiescent, fun m g _ => Cert.DhIdeal.Hand.frame m g, fun m g _ => Cert.DhRefIdeal.Gen.frame m g, ?_⟩
  exact ⟨trivial, dwOut_algebraic, trivial, dwIn_algebraic, trivial, dwQkv_algebraic, da_preserves, da_algebraic, daRef_preserves, ln_preserves, ln_algebraic, trivial, dh_algebraic⟩⟩

end Cert.Proof

end
